-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel13 [hPre_chip_named : Cert.Pre_chip_named.Facts] (m : (ℓ : Loc Cert.Kernel13.nD Cert.Kernel13.τ Cert.Kernel13.sig) → Buf (Elt Bits) ℓ) : Prop :=
  ∀ c : Dev Cert.Kernel13.nD,
    (Cert.Pre_chip_named.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5)) (m ((c.tc : Thread Cert.Kernel13.nD Cert.Kernel13.τ).loc Cert.Kernel13.main_arg6)) (m ((c.tc : Thread Cert.Kernel13.nD Cert.Kernel13.τ).loc Cert.Kernel13.main_arg7)) (m ((c.tc : Thread Cert.Kernel13.nD Cert.Kernel13.τ).loc Cert.Kernel13.main_arg8)) (m ((c.tc : Thread Cert.Kernel13.nD Cert.Kernel13.τ).loc Cert.Kernel13.main_arg9)) (m ((c.tc : Thread Cert.Kernel13.nD Cert.Kernel13.τ).loc Cert.Kernel13.main_arg10)) (m ((c.tc : Thread Cert.Kernel13.nD Cert.Kernel13.τ).loc Cert.Kernel13.main_arg11)) (m ((c.tc : Thread Cert.Kernel13.nD Cert.Kernel13.τ).loc Cert.Kernel13.main_arg12)) (m ((c.tc : Thread Cert.Kernel13.nD Cert.Kernel13.τ).loc Cert.Kernel13.main_arg13)) (m ((c.tc : Thread Cert.Kernel13.nD Cert.Kernel13.τ).loc Cert.Kernel13.main_arg14)) (m ((c.tc : Thread Cert.Kernel13.nD Cert.Kernel13.τ).loc Cert.Kernel13.main_arg15)) (m ((c.tc : Thread Cert.Kernel13.nD Cert.Kernel13.τ).loc Cert.Kernel13.main_arg16)) (m ((c.tc : Thread Cert.Kernel13.nD Cert.Kernel13.τ).loc Cert.Kernel13.main_arg17)) (m ((c.tc : Thread Cert.Kernel13.nD Cert.Kernel13.τ).loc Cert.Kernel13.main_arg18)) (m ((c.tc : Thread Cert.Kernel13.nD Cert.Kernel13.τ).loc Cert.Kernel13.main_arg19)) (m ((c.tc : Thread Cert.Kernel13.nD Cert.Kernel13.τ).loc Cert.Kernel13.main_arg20)) (m ((c.tc : Thread Cert.Kernel13.nD Cert.Kernel13.τ).loc Cert.Kernel13.main_arg21)) (m ((c.tc : Thread Cert.Kernel13.nD Cert.Kernel13.τ).loc Cert.Kernel13.main_arg22)) (m ((c.tc : Thread Cert.Kernel13.nD Cert.Kernel13.τ).loc Cert.Kernel13.main_arg23))) = (fun _ => 1#1)

def Pre_Kernel13Ideal [hPre_chip_named : Cert.Pre_chip_named.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_chip_named.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9)) (m ((c.tc : Thread Cert.Kernel13Ideal.nD Cert.Kernel13Ideal.τ).loc Cert.Kernel13Ideal.main_arg10)) (m ((c.tc : Thread Cert.Kernel13Ideal.nD Cert.Kernel13Ideal.τ).loc Cert.Kernel13Ideal.main_arg11)) (m ((c.tc : Thread Cert.Kernel13Ideal.nD Cert.Kernel13Ideal.τ).loc Cert.Kernel13Ideal.main_arg12)) (m ((c.tc : Thread Cert.Kernel13Ideal.nD Cert.Kernel13Ideal.τ).loc Cert.Kernel13Ideal.main_arg13)) (m ((c.tc : Thread Cert.Kernel13Ideal.nD Cert.Kernel13Ideal.τ).loc Cert.Kernel13Ideal.main_arg14)) (m ((c.tc : Thread Cert.Kernel13Ideal.nD Cert.Kernel13Ideal.τ).loc Cert.Kernel13Ideal.main_arg15)) (m ((c.tc : Thread Cert.Kernel13Ideal.nD Cert.Kernel13Ideal.τ).loc Cert.Kernel13Ideal.main_arg16)) (m ((c.tc : Thread Cert.Kernel13Ideal.nD Cert.Kernel13Ideal.τ).loc Cert.Kernel13Ideal.main_arg17)) (m ((c.tc : Thread Cert.Kernel13Ideal.nD Cert.Kernel13Ideal.τ).loc Cert.Kernel13Ideal.main_arg18)) (m ((c.tc : Thread Cert.Kernel13Ideal.nD Cert.Kernel13Ideal.τ).loc Cert.Kernel13Ideal.main_arg19)) (m ((c.tc : Thread Cert.Kernel13Ideal.nD Cert.Kernel13Ideal.τ).loc Cert.Kernel13Ideal.main_arg20)) (m ((c.tc : Thread Cert.Kernel13Ideal.nD Cert.Kernel13Ideal.τ).loc Cert.Kernel13Ideal.main_arg21)) (m ((c.tc : Thread Cert.Kernel13Ideal.nD Cert.Kernel13Ideal.τ).loc Cert.Kernel13Ideal.main_arg22)) (m ((c.tc : Thread Cert.Kernel13Ideal.nD Cert.Kernel13Ideal.τ).loc Cert.Kernel13Ideal.main_arg23))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_chip_named [hPre_chip_named : Cert.Pre_chip_named.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_chip_named.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7)) (m ((c.tc : Thread Cert.Reference13Ideal.nD Cert.Reference13Ideal.τ).loc Cert.Reference13Ideal.main_arg8)) (m ((c.tc : Thread Cert.Reference13Ideal.nD Cert.Reference13Ideal.τ).loc Cert.Reference13Ideal.main_arg9)) (m ((c.tc : Thread Cert.Reference13Ideal.nD Cert.Reference13Ideal.τ).loc Cert.Reference13Ideal.main_arg10)) (m ((c.tc : Thread Cert.Reference13Ideal.nD Cert.Reference13Ideal.τ).loc Cert.Reference13Ideal.main_arg11)) (m ((c.tc : Thread Cert.Reference13Ideal.nD Cert.Reference13Ideal.τ).loc Cert.Reference13Ideal.main_arg12)) (m ((c.tc : Thread Cert.Reference13Ideal.nD Cert.Reference13Ideal.τ).loc Cert.Reference13Ideal.main_arg13)) (m ((c.tc : Thread Cert.Reference13Ideal.nD Cert.Reference13Ideal.τ).loc Cert.Reference13Ideal.main_arg14)) (m ((c.tc : Thread Cert.Reference13Ideal.nD Cert.Reference13Ideal.τ).loc Cert.Reference13Ideal.main_arg15)) (m ((c.tc : Thread Cert.Reference13Ideal.nD Cert.Reference13Ideal.τ).loc Cert.Reference13Ideal.main_arg16)) (m ((c.tc : Thread Cert.Reference13Ideal.nD Cert.Reference13Ideal.τ).loc Cert.Reference13Ideal.main_arg17)) (m ((c.tc : Thread Cert.Reference13Ideal.nD Cert.Reference13Ideal.τ).loc Cert.Reference13Ideal.main_arg18)) (m ((c.tc : Thread Cert.Reference13Ideal.nD Cert.Reference13Ideal.τ).loc Cert.Reference13Ideal.main_arg19)) (m ((c.tc : Thread Cert.Reference13Ideal.nD Cert.Reference13Ideal.τ).loc Cert.Reference13Ideal.main_arg20)) (m ((c.tc : Thread Cert.Reference13Ideal.nD Cert.Reference13Ideal.τ).loc Cert.Reference13Ideal.main_arg21)) (m ((c.tc : Thread Cert.Reference13Ideal.nD Cert.Reference13Ideal.τ).loc Cert.Reference13Ideal.main_arg22)) (m ((c.tc : Thread Cert.Reference13Ideal.nD Cert.Reference13Ideal.τ).loc Cert.Reference13Ideal.main_arg23))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel13 [hKernel13 : Cert.Kernel13.Facts] [hPre_chip_named : Cert.Pre_chip_named.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15)
      ∧ r.2.mem ((c.tc : Thread Cert.Kernel13.nD Cert.Kernel13.τ).loc Cert.Kernel13.main_arg16) = m ((c.tc : Thread Cert.Kernel13.nD Cert.Kernel13.τ).loc Cert.Kernel13.main_arg16)
      ∧ r.2.mem ((c.tc : Thread Cert.Kernel13.nD Cert.Kernel13.τ).loc Cert.Kernel13.main_arg17) = m ((c.tc : Thread Cert.Kernel13.nD Cert.Kernel13.τ).loc Cert.Kernel13.main_arg17)
      ∧ r.2.mem ((c.tc : Thread Cert.Kernel13.nD Cert.Kernel13.τ).loc Cert.Kernel13.main_arg18) = m ((c.tc : Thread Cert.Kernel13.nD Cert.Kernel13.τ).loc Cert.Kernel13.main_arg18)
      ∧ r.2.mem ((c.tc : Thread Cert.Kernel13.nD Cert.Kernel13.τ).loc Cert.Kernel13.main_arg19) = m ((c.tc : Thread Cert.Kernel13.nD Cert.Kernel13.τ).loc Cert.Kernel13.main_arg19)
      ∧ r.2.mem ((c.tc : Thread Cert.Kernel13.nD Cert.Kernel13.τ).loc Cert.Kernel13.main_arg20) = m ((c.tc : Thread Cert.Kernel13.nD Cert.Kernel13.τ).loc Cert.Kernel13.main_arg20)
      ∧ r.2.mem ((c.tc : Thread Cert.Kernel13.nD Cert.Kernel13.τ).loc Cert.Kernel13.main_arg21) = m ((c.tc : Thread Cert.Kernel13.nD Cert.Kernel13.τ).loc Cert.Kernel13.main_arg21)
      ∧ r.2.mem ((c.tc : Thread Cert.Kernel13.nD Cert.Kernel13.τ).loc Cert.Kernel13.main_arg22) = m ((c.tc : Thread Cert.Kernel13.nD Cert.Kernel13.τ).loc Cert.Kernel13.main_arg22)
      ∧ r.2.mem ((c.tc : Thread Cert.Kernel13.nD Cert.Kernel13.τ).loc Cert.Kernel13.main_arg23) = m ((c.tc : Thread Cert.Kernel13.nD Cert.Kernel13.τ).loc Cert.Kernel13.main_arg23))
      ∧ r.2.sem = fun _ => 0)

def quiescent_Kernel13Ideal [hKernel13Ideal : Cert.Kernel13Ideal.Facts] [hPre_chip_named : Cert.Pre_chip_named.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
      ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
      ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
      ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
      ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
      ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
      ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
      ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
      ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15)
      ∧ r.2.mem ((c.tc : Thread Cert.Reference13Ideal.nD Cert.Reference13Ideal.τ).loc Cert.Reference13Ideal.main_arg16) = m ((c.tc : Thread Cert.Reference13Ideal.nD Cert.Reference13Ideal.τ).loc Cert.Reference13Ideal.main_arg16)
      ∧ r.2.mem ((c.tc : Thread Cert.Reference13Ideal.nD Cert.Reference13Ideal.τ).loc Cert.Reference13Ideal.main_arg17) = m ((c.tc : Thread Cert.Reference13Ideal.nD Cert.Reference13Ideal.τ).loc Cert.Reference13Ideal.main_arg17)
      ∧ r.2.mem ((c.tc : Thread Cert.Reference13Ideal.nD Cert.Reference13Ideal.τ).loc Cert.Reference13Ideal.main_arg18) = m ((c.tc : Thread Cert.Reference13Ideal.nD Cert.Reference13Ideal.τ).loc Cert.Reference13Ideal.main_arg18)
      ∧ r.2.mem ((c.tc : Thread Cert.Reference13Ideal.nD Cert.Reference13Ideal.τ).loc Cert.Reference13Ideal.main_arg19) = m ((c.tc : Thread Cert.Reference13Ideal.nD Cert.Reference13Ideal.τ).loc Cert.Reference13Ideal.main_arg19)
      ∧ r.2.mem ((c.tc : Thread Cert.Reference13Ideal.nD Cert.Reference13Ideal.τ).loc Cert.Reference13Ideal.main_arg20) = m ((c.tc : Thread Cert.Reference13Ideal.nD Cert.Reference13Ideal.τ).loc Cert.Reference13Ideal.main_arg20)
      ∧ r.2.mem ((c.tc : Thread Cert.Reference13Ideal.nD Cert.Reference13Ideal.τ).loc Cert.Reference13Ideal.main_arg21) = m ((c.tc : Thread Cert.Reference13Ideal.nD Cert.Reference13Ideal.τ).loc Cert.Reference13Ideal.main_arg21)
      ∧ r.2.mem ((c.tc : Thread Cert.Reference13Ideal.nD Cert.Reference13Ideal.τ).loc Cert.Reference13Ideal.main_arg22) = m ((c.tc : Thread Cert.Reference13Ideal.nD Cert.Reference13Ideal.τ).loc Cert.Reference13Ideal.main_arg22)
      ∧ r.2.mem ((c.tc : Thread Cert.Reference13Ideal.nD Cert.Reference13Ideal.τ).loc Cert.Reference13Ideal.main_arg23) = m ((c.tc : Thread Cert.Reference13Ideal.nD Cert.Reference13Ideal.τ).loc Cert.Reference13Ideal.main_arg23))
      ∧ r.2.sem = fun _ => 0)

def quiescent_Reference13Ideal_pre_chip_named [hReference13Ideal : Cert.Reference13Ideal.Facts] [hPre_chip_named : Cert.Pre_chip_named.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_chip_named m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15)
      ∧ r.2.mem ((c.tc : Thread Cert.Reference13Ideal.nD Cert.Reference13Ideal.τ).loc Cert.Reference13Ideal.main_arg16) = m ((c.tc : Thread Cert.Reference13Ideal.nD Cert.Reference13Ideal.τ).loc Cert.Reference13Ideal.main_arg16)
      ∧ r.2.mem ((c.tc : Thread Cert.Reference13Ideal.nD Cert.Reference13Ideal.τ).loc Cert.Reference13Ideal.main_arg17) = m ((c.tc : Thread Cert.Reference13Ideal.nD Cert.Reference13Ideal.τ).loc Cert.Reference13Ideal.main_arg17)
      ∧ r.2.mem ((c.tc : Thread Cert.Reference13Ideal.nD Cert.Reference13Ideal.τ).loc Cert.Reference13Ideal.main_arg18) = m ((c.tc : Thread Cert.Reference13Ideal.nD Cert.Reference13Ideal.τ).loc Cert.Reference13Ideal.main_arg18)
      ∧ r.2.mem ((c.tc : Thread Cert.Reference13Ideal.nD Cert.Reference13Ideal.τ).loc Cert.Reference13Ideal.main_arg19) = m ((c.tc : Thread Cert.Reference13Ideal.nD Cert.Reference13Ideal.τ).loc Cert.Reference13Ideal.main_arg19)
      ∧ r.2.mem ((c.tc : Thread Cert.Reference13Ideal.nD Cert.Reference13Ideal.τ).loc Cert.Reference13Ideal.main_arg20) = m ((c.tc : Thread Cert.Reference13Ideal.nD Cert.Reference13Ideal.τ).loc Cert.Reference13Ideal.main_arg20)
      ∧ r.2.mem ((c.tc : Thread Cert.Reference13Ideal.nD Cert.Reference13Ideal.τ).loc Cert.Reference13Ideal.main_arg21) = m ((c.tc : Thread Cert.Reference13Ideal.nD Cert.Reference13Ideal.τ).loc Cert.Reference13Ideal.main_arg21)
      ∧ r.2.mem ((c.tc : Thread Cert.Reference13Ideal.nD Cert.Reference13Ideal.τ).loc Cert.Reference13Ideal.main_arg22) = m ((c.tc : Thread Cert.Reference13Ideal.nD Cert.Reference13Ideal.τ).loc Cert.Reference13Ideal.main_arg22)
      ∧ r.2.mem ((c.tc : Thread Cert.Reference13Ideal.nD Cert.Reference13Ideal.τ).loc Cert.Reference13Ideal.main_arg23) = m ((c.tc : Thread Cert.Reference13Ideal.nD Cert.Reference13Ideal.τ).loc Cert.Reference13Ideal.main_arg23))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v39_0)) (v1 : (c : Dev Cert.Kernel2Ideal.nD) → Buf (Elt Ideal) ((c.tc : Thread Cert.Kernel2Ideal.nD Cert.Kernel2Ideal.τ).loc Cert.Kernel2Ideal.main_v39_1)) (v2 : (c : Dev Cert.Kernel2Ideal.nD) → Buf (Elt Ideal) ((c.tc : Thread Cert.Kernel2Ideal.nD Cert.Kernel2Ideal.τ).loc Cert.Kernel2Ideal.main_v39_2)) (v3 : (c : Dev Cert.Kernel2Ideal.nD) → Buf (Elt Ideal) ((c.tc : Thread Cert.Kernel2Ideal.nD Cert.Kernel2Ideal.τ).loc Cert.Kernel2Ideal.main_v39_3)) (v4 : (c : Dev Cert.Kernel2Ideal.nD) → Buf (Elt Ideal) ((c.tc : Thread Cert.Kernel2Ideal.nD Cert.Kernel2Ideal.τ).loc Cert.Kernel2Ideal.main_v39_4)) (v5 : (c : Dev Cert.Kernel2Ideal.nD) → Buf (Elt Ideal) ((c.tc : Thread Cert.Kernel2Ideal.nD Cert.Kernel2Ideal.τ).loc Cert.Kernel2Ideal.main_v39_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39_0) = v0 c
          ∧ r.2.mem ((c.tc : Thread Cert.Kernel2Ideal.nD Cert.Kernel2Ideal.τ).loc Cert.Kernel2Ideal.main_v39_1) = v1 c
          ∧ r.2.mem ((c.tc : Thread Cert.Kernel2Ideal.nD Cert.Kernel2Ideal.τ).loc Cert.Kernel2Ideal.main_v39_2) = v2 c
          ∧ r.2.mem ((c.tc : Thread Cert.Kernel2Ideal.nD Cert.Kernel2Ideal.τ).loc Cert.Kernel2Ideal.main_v39_3) = v3 c
          ∧ r.2.mem ((c.tc : Thread Cert.Kernel2Ideal.nD Cert.Kernel2Ideal.τ).loc Cert.Kernel2Ideal.main_v39_4) = v4 c
          ∧ r.2.mem ((c.tc : Thread Cert.Kernel2Ideal.nD Cert.Kernel2Ideal.τ).loc Cert.Kernel2Ideal.main_v39_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_v78) = v4 c
          ∧ r.2.mem ((c.tc : Thread Cert.Reference2Ideal.nD Cert.Reference2Ideal.τ).loc Cert.Reference2Ideal.main_v80) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v28)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v28) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)) (v3 : (c : Dev Cert.Kernel7Ideal.nD) → Buf (Elt Ideal) ((c.tc : Thread Cert.Kernel7Ideal.nD Cert.Kernel7Ideal.τ).loc Cert.Kernel7Ideal.main_v8_3)) (v4 : (c : Dev Cert.Kernel7Ideal.nD) → Buf (Elt Ideal) ((c.tc : Thread Cert.Kernel7Ideal.nD Cert.Kernel7Ideal.τ).loc Cert.Kernel7Ideal.main_v8_4)) (v5 : (c : Dev Cert.Kernel7Ideal.nD) → Buf (Elt Ideal) ((c.tc : Thread Cert.Kernel7Ideal.nD Cert.Kernel7Ideal.τ).loc Cert.Kernel7Ideal.main_v8_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_v8_3) = v3 c
          ∧ r.2.mem ((c.tc : Thread Cert.Kernel7Ideal.nD Cert.Kernel7Ideal.τ).loc Cert.Kernel7Ideal.main_v8_4) = v4 c
          ∧ r.2.mem ((c.tc : Thread Cert.Kernel7Ideal.nD Cert.Kernel7Ideal.τ).loc Cert.Kernel7Ideal.main_v8_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_v64) = v1 c
          ∧ r.2.mem ((c.tc : Thread Cert.Reference7Ideal.nD Cert.Reference7Ideal.τ).loc Cert.Reference7Ideal.main_v66) = v2 c
          ∧ r.2.mem ((c.tc : Thread Cert.Reference7Ideal.nD Cert.Reference7Ideal.τ).loc Cert.Reference7Ideal.main_v68) = v3 c
          ∧ r.2.mem ((c.tc : Thread Cert.Reference7Ideal.nD Cert.Reference7Ideal.τ).loc Cert.Reference7Ideal.main_v70) = v4 c
          ∧ r.2.mem ((c.tc : Thread Cert.Reference7Ideal.nD Cert.Reference7Ideal.τ).loc Cert.Reference7Ideal.main_v72) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg1) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)) (v3 : (c : Dev Cert.Kernel12Ideal.nD) → Buf (Elt Ideal) ((c.tc : Thread Cert.Kernel12Ideal.nD Cert.Kernel12Ideal.τ).loc Cert.Kernel12Ideal.main_v2_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_v2_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v8) = v2 c
          ∧ r.2.mem ((c.tc : Thread Cert.Reference12Ideal.nD Cert.Reference12Ideal.τ).loc Cert.Reference12Ideal.main_v14) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v1) = v1 c
          ∧ r.2.mem ((c.tc : Thread Cert.Reference14Ideal.nD Cert.Reference14Ideal.τ).loc Cert.Reference14Ideal.main_v3) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel13_Kernel13Ideal : Prop :=
  True

def algebraic_Kernel13Ideal_Reference13Ideal [hKernel13Ideal : Cert.Kernel13Ideal.Facts] [hReference13Ideal : Cert.Reference13Ideal.Facts] [hPre_chip_named : Cert.Pre_chip_named.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)
      ∧ m' ((c.tc : Thread Cert.Reference13Ideal.nD Cert.Reference13Ideal.τ).loc Cert.Reference13Ideal.main_arg16) = m ((c.tc : Thread Cert.Kernel13Ideal.nD Cert.Kernel13Ideal.τ).loc Cert.Kernel13Ideal.main_arg16)
      ∧ m' ((c.tc : Thread Cert.Reference13Ideal.nD Cert.Reference13Ideal.τ).loc Cert.Reference13Ideal.main_arg17) = m ((c.tc : Thread Cert.Kernel13Ideal.nD Cert.Kernel13Ideal.τ).loc Cert.Kernel13Ideal.main_arg17)
      ∧ m' ((c.tc : Thread Cert.Reference13Ideal.nD Cert.Reference13Ideal.τ).loc Cert.Reference13Ideal.main_arg18) = m ((c.tc : Thread Cert.Kernel13Ideal.nD Cert.Kernel13Ideal.τ).loc Cert.Kernel13Ideal.main_arg18)
      ∧ m' ((c.tc : Thread Cert.Reference13Ideal.nD Cert.Reference13Ideal.τ).loc Cert.Reference13Ideal.main_arg19) = m ((c.tc : Thread Cert.Kernel13Ideal.nD Cert.Kernel13Ideal.τ).loc Cert.Kernel13Ideal.main_arg19)
      ∧ m' ((c.tc : Thread Cert.Reference13Ideal.nD Cert.Reference13Ideal.τ).loc Cert.Reference13Ideal.main_arg20) = m ((c.tc : Thread Cert.Kernel13Ideal.nD Cert.Kernel13Ideal.τ).loc Cert.Kernel13Ideal.main_arg20)
      ∧ m' ((c.tc : Thread Cert.Reference13Ideal.nD Cert.Reference13Ideal.τ).loc Cert.Reference13Ideal.main_arg21) = m ((c.tc : Thread Cert.Kernel13Ideal.nD Cert.Kernel13Ideal.τ).loc Cert.Kernel13Ideal.main_arg21)
      ∧ m' ((c.tc : Thread Cert.Reference13Ideal.nD Cert.Reference13Ideal.τ).loc Cert.Reference13Ideal.main_arg22) = m ((c.tc : Thread Cert.Kernel13Ideal.nD Cert.Kernel13Ideal.τ).loc Cert.Kernel13Ideal.main_arg22)
      ∧ m' ((c.tc : Thread Cert.Reference13Ideal.nD Cert.Reference13Ideal.τ).loc Cert.Reference13Ideal.main_arg23) = m ((c.tc : Thread Cert.Kernel13Ideal.nD Cert.Kernel13Ideal.τ).loc Cert.Kernel13Ideal.main_arg23)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)) (v5 : (c : Dev Cert.Kernel13Ideal.nD) → Buf (Elt Ideal) ((c.tc : Thread Cert.Kernel13Ideal.nD Cert.Kernel13Ideal.τ).loc Cert.Kernel13Ideal.main_v0_5)) (v6 : (c : Dev Cert.Kernel13Ideal.nD) → Buf (Elt Ideal) ((c.tc : Thread Cert.Kernel13Ideal.nD Cert.Kernel13Ideal.τ).loc Cert.Kernel13Ideal.main_v0_6)) (v7 : (c : Dev Cert.Kernel13Ideal.nD) → Buf (Elt Ideal) ((c.tc : Thread Cert.Kernel13Ideal.nD Cert.Kernel13Ideal.τ).loc Cert.Kernel13Ideal.main_v0_7)) (v8 : (c : Dev Cert.Kernel13Ideal.nD) → Buf (Elt Ideal) ((c.tc : Thread Cert.Kernel13Ideal.nD Cert.Kernel13Ideal.τ).loc Cert.Kernel13Ideal.main_v0_8)) (v9 : (c : Dev Cert.Kernel13Ideal.nD) → Buf (Elt Ideal) ((c.tc : Thread Cert.Kernel13Ideal.nD Cert.Kernel13Ideal.τ).loc Cert.Kernel13Ideal.main_v0_9)) (v10 : (c : Dev Cert.Kernel13Ideal.nD) → Buf (Elt Ideal) ((c.tc : Thread Cert.Kernel13Ideal.nD Cert.Kernel13Ideal.τ).loc Cert.Kernel13Ideal.main_v0_10)) (v11 : (c : Dev Cert.Kernel13Ideal.nD) → Buf (Elt Ideal) ((c.tc : Thread Cert.Kernel13Ideal.nD Cert.Kernel13Ideal.τ).loc Cert.Kernel13Ideal.main_v0_11)) (v12 : (c : Dev Cert.Kernel13Ideal.nD) → Buf (Elt Ideal) ((c.tc : Thread Cert.Kernel13Ideal.nD Cert.Kernel13Ideal.τ).loc Cert.Kernel13Ideal.main_v0_12)) (v13 : (c : Dev Cert.Kernel13Ideal.nD) → Buf (Elt Ideal) ((c.tc : Thread Cert.Kernel13Ideal.nD Cert.Kernel13Ideal.τ).loc Cert.Kernel13Ideal.main_v0_13)) (v14 : (c : Dev Cert.Kernel13Ideal.nD) → Buf (Elt Ideal) ((c.tc : Thread Cert.Kernel13Ideal.nD Cert.Kernel13Ideal.τ).loc Cert.Kernel13Ideal.main_v0_14)) (v15 : (c : Dev Cert.Kernel13Ideal.nD) → Buf (Elt Ideal) ((c.tc : Thread Cert.Kernel13Ideal.nD Cert.Kernel13Ideal.τ).loc Cert.Kernel13Ideal.main_v0_15)) (v16 : (c : Dev Cert.Kernel13Ideal.nD) → Buf (Elt Ideal) ((c.tc : Thread Cert.Kernel13Ideal.nD Cert.Kernel13Ideal.τ).loc Cert.Kernel13Ideal.main_v0_16)) (v17 : (c : Dev Cert.Kernel13Ideal.nD) → Buf (Elt Ideal) ((c.tc : Thread Cert.Kernel13Ideal.nD Cert.Kernel13Ideal.τ).loc Cert.Kernel13Ideal.main_v0_17)) (v18 : (c : Dev Cert.Kernel13Ideal.nD) → Buf (Elt Ideal) ((c.tc : Thread Cert.Kernel13Ideal.nD Cert.Kernel13Ideal.τ).loc Cert.Kernel13Ideal.main_v0_18)) (v19 : (c : Dev Cert.Kernel13Ideal.nD) → Buf (Elt Ideal) ((c.tc : Thread Cert.Kernel13Ideal.nD Cert.Kernel13Ideal.τ).loc Cert.Kernel13Ideal.main_v0_19)) (v20 : (c : Dev Cert.Kernel13Ideal.nD) → Buf (Elt Ideal) ((c.tc : Thread Cert.Kernel13Ideal.nD Cert.Kernel13Ideal.τ).loc Cert.Kernel13Ideal.main_v0_20)) (v21 : (c : Dev Cert.Kernel13Ideal.nD) → Buf (Elt Ideal) ((c.tc : Thread Cert.Kernel13Ideal.nD Cert.Kernel13Ideal.τ).loc Cert.Kernel13Ideal.main_v0_21)) (v22 : (c : Dev Cert.Kernel13Ideal.nD) → Buf (Elt Ideal) ((c.tc : Thread Cert.Kernel13Ideal.nD Cert.Kernel13Ideal.τ).loc Cert.Kernel13Ideal.main_v0_22)) (v23 : (c : Dev Cert.Kernel13Ideal.nD) → Buf (Elt Ideal) ((c.tc : Thread Cert.Kernel13Ideal.nD Cert.Kernel13Ideal.τ).loc Cert.Kernel13Ideal.main_v0_23)) (v24 : (c : Dev Cert.Kernel13Ideal.nD) → Buf (Elt Ideal) ((c.tc : Thread Cert.Kernel13Ideal.nD Cert.Kernel13Ideal.τ).loc Cert.Kernel13Ideal.main_v0_24)) (v25 : (c : Dev Cert.Kernel13Ideal.nD) → Buf (Elt Ideal) ((c.tc : Thread Cert.Kernel13Ideal.nD Cert.Kernel13Ideal.τ).loc Cert.Kernel13Ideal.main_v0_25)) (v26 : (c : Dev Cert.Kernel13Ideal.nD) → Buf (Elt Ideal) ((c.tc : Thread Cert.Kernel13Ideal.nD Cert.Kernel13Ideal.τ).loc Cert.Kernel13Ideal.main_v0_26)) (v27 : (c : Dev Cert.Kernel13Ideal.nD) → Buf (Elt Ideal) ((c.tc : Thread Cert.Kernel13Ideal.nD Cert.Kernel13Ideal.τ).loc Cert.Kernel13Ideal.main_v0_27)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_v0_5) = v5 c
          ∧ r.2.mem ((c.tc : Thread Cert.Kernel13Ideal.nD Cert.Kernel13Ideal.τ).loc Cert.Kernel13Ideal.main_v0_6) = v6 c
          ∧ r.2.mem ((c.tc : Thread Cert.Kernel13Ideal.nD Cert.Kernel13Ideal.τ).loc Cert.Kernel13Ideal.main_v0_7) = v7 c
          ∧ r.2.mem ((c.tc : Thread Cert.Kernel13Ideal.nD Cert.Kernel13Ideal.τ).loc Cert.Kernel13Ideal.main_v0_8) = v8 c
          ∧ r.2.mem ((c.tc : Thread Cert.Kernel13Ideal.nD Cert.Kernel13Ideal.τ).loc Cert.Kernel13Ideal.main_v0_9) = v9 c
          ∧ r.2.mem ((c.tc : Thread Cert.Kernel13Ideal.nD Cert.Kernel13Ideal.τ).loc Cert.Kernel13Ideal.main_v0_10) = v10 c
          ∧ r.2.mem ((c.tc : Thread Cert.Kernel13Ideal.nD Cert.Kernel13Ideal.τ).loc Cert.Kernel13Ideal.main_v0_11) = v11 c
          ∧ r.2.mem ((c.tc : Thread Cert.Kernel13Ideal.nD Cert.Kernel13Ideal.τ).loc Cert.Kernel13Ideal.main_v0_12) = v12 c
          ∧ r.2.mem ((c.tc : Thread Cert.Kernel13Ideal.nD Cert.Kernel13Ideal.τ).loc Cert.Kernel13Ideal.main_v0_13) = v13 c
          ∧ r.2.mem ((c.tc : Thread Cert.Kernel13Ideal.nD Cert.Kernel13Ideal.τ).loc Cert.Kernel13Ideal.main_v0_14) = v14 c
          ∧ r.2.mem ((c.tc : Thread Cert.Kernel13Ideal.nD Cert.Kernel13Ideal.τ).loc Cert.Kernel13Ideal.main_v0_15) = v15 c
          ∧ r.2.mem ((c.tc : Thread Cert.Kernel13Ideal.nD Cert.Kernel13Ideal.τ).loc Cert.Kernel13Ideal.main_v0_16) = v16 c
          ∧ r.2.mem ((c.tc : Thread Cert.Kernel13Ideal.nD Cert.Kernel13Ideal.τ).loc Cert.Kernel13Ideal.main_v0_17) = v17 c
          ∧ r.2.mem ((c.tc : Thread Cert.Kernel13Ideal.nD Cert.Kernel13Ideal.τ).loc Cert.Kernel13Ideal.main_v0_18) = v18 c
          ∧ r.2.mem ((c.tc : Thread Cert.Kernel13Ideal.nD Cert.Kernel13Ideal.τ).loc Cert.Kernel13Ideal.main_v0_19) = v19 c
          ∧ r.2.mem ((c.tc : Thread Cert.Kernel13Ideal.nD Cert.Kernel13Ideal.τ).loc Cert.Kernel13Ideal.main_v0_20) = v20 c
          ∧ r.2.mem ((c.tc : Thread Cert.Kernel13Ideal.nD Cert.Kernel13Ideal.τ).loc Cert.Kernel13Ideal.main_v0_21) = v21 c
          ∧ r.2.mem ((c.tc : Thread Cert.Kernel13Ideal.nD Cert.Kernel13Ideal.τ).loc Cert.Kernel13Ideal.main_v0_22) = v22 c
          ∧ r.2.mem ((c.tc : Thread Cert.Kernel13Ideal.nD Cert.Kernel13Ideal.τ).loc Cert.Kernel13Ideal.main_v0_23) = v23 c
          ∧ r.2.mem ((c.tc : Thread Cert.Kernel13Ideal.nD Cert.Kernel13Ideal.τ).loc Cert.Kernel13Ideal.main_v0_24) = v24 c
          ∧ r.2.mem ((c.tc : Thread Cert.Kernel13Ideal.nD Cert.Kernel13Ideal.τ).loc Cert.Kernel13Ideal.main_v0_25) = v25 c
          ∧ r.2.mem ((c.tc : Thread Cert.Kernel13Ideal.nD Cert.Kernel13Ideal.τ).loc Cert.Kernel13Ideal.main_v0_26) = v26 c
          ∧ r.2.mem ((c.tc : Thread Cert.Kernel13Ideal.nD Cert.Kernel13Ideal.τ).loc Cert.Kernel13Ideal.main_v0_27) = v27 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
          ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
          ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
          ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
          ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
          ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
          ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
          ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
          ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg2) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v9) = v3 c
          ∧ r.2.mem ((c.tc : Thread Cert.Reference13Ideal.nD Cert.Reference13Ideal.τ).loc Cert.Reference13Ideal.main_v10) = v4 c
          ∧ r.2.mem ((c.tc : Thread Cert.Reference13Ideal.nD Cert.Reference13Ideal.τ).loc Cert.Reference13Ideal.main_v18) = v5 c
          ∧ r.2.mem ((c.tc : Thread Cert.Reference13Ideal.nD Cert.Reference13Ideal.τ).loc Cert.Reference13Ideal.main_v21) = v6 c
          ∧ r.2.mem ((c.tc : Thread Cert.Reference13Ideal.nD Cert.Reference13Ideal.τ).loc Cert.Reference13Ideal.main_v45) = v7 c
          ∧ r.2.mem ((c.tc : Thread Cert.Reference13Ideal.nD Cert.Reference13Ideal.τ).loc Cert.Reference13Ideal.main_v69) = v8 c
          ∧ r.2.mem ((c.tc : Thread Cert.Reference13Ideal.nD Cert.Reference13Ideal.τ).loc Cert.Reference13Ideal.main_v93) = v9 c
          ∧ r.2.mem ((c.tc : Thread Cert.Reference13Ideal.nD Cert.Reference13Ideal.τ).loc Cert.Reference13Ideal.main_v117) = v10 c
          ∧ r.2.mem ((c.tc : Thread Cert.Reference13Ideal.nD Cert.Reference13Ideal.τ).loc Cert.Reference13Ideal.main_v141) = v11 c
          ∧ r.2.mem ((c.tc : Thread Cert.Reference13Ideal.nD Cert.Reference13Ideal.τ).loc Cert.Reference13Ideal.main_v165) = v12 c
          ∧ r.2.mem ((c.tc : Thread Cert.Reference13Ideal.nD Cert.Reference13Ideal.τ).loc Cert.Reference13Ideal.main_v189) = v13 c
          ∧ r.2.mem ((c.tc : Thread Cert.Reference13Ideal.nD Cert.Reference13Ideal.τ).loc Cert.Reference13Ideal.main_v26) = v14 c
          ∧ r.2.mem ((c.tc : Thread Cert.Reference13Ideal.nD Cert.Reference13Ideal.τ).loc Cert.Reference13Ideal.main_v50) = v15 c
          ∧ r.2.mem ((c.tc : Thread Cert.Reference13Ideal.nD Cert.Reference13Ideal.τ).loc Cert.Reference13Ideal.main_v74) = v16 c
          ∧ r.2.mem ((c.tc : Thread Cert.Reference13Ideal.nD Cert.Reference13Ideal.τ).loc Cert.Reference13Ideal.main_v98) = v17 c
          ∧ r.2.mem ((c.tc : Thread Cert.Reference13Ideal.nD Cert.Reference13Ideal.τ).loc Cert.Reference13Ideal.main_v122) = v18 c
          ∧ r.2.mem ((c.tc : Thread Cert.Reference13Ideal.nD Cert.Reference13Ideal.τ).loc Cert.Reference13Ideal.main_v146) = v19 c
          ∧ r.2.mem ((c.tc : Thread Cert.Reference13Ideal.nD Cert.Reference13Ideal.τ).loc Cert.Reference13Ideal.main_v170) = v20 c
          ∧ r.2.mem ((c.tc : Thread Cert.Reference13Ideal.nD Cert.Reference13Ideal.τ).loc Cert.Reference13Ideal.main_v32) = v21 c
          ∧ r.2.mem ((c.tc : Thread Cert.Reference13Ideal.nD Cert.Reference13Ideal.τ).loc Cert.Reference13Ideal.main_v56) = v22 c
          ∧ r.2.mem ((c.tc : Thread Cert.Reference13Ideal.nD Cert.Reference13Ideal.τ).loc Cert.Reference13Ideal.main_v80) = v23 c
          ∧ r.2.mem ((c.tc : Thread Cert.Reference13Ideal.nD Cert.Reference13Ideal.τ).loc Cert.Reference13Ideal.main_v104) = v24 c
          ∧ r.2.mem ((c.tc : Thread Cert.Reference13Ideal.nD Cert.Reference13Ideal.τ).loc Cert.Reference13Ideal.main_v128) = v25 c
          ∧ r.2.mem ((c.tc : Thread Cert.Reference13Ideal.nD Cert.Reference13Ideal.τ).loc Cert.Reference13Ideal.main_v152) = v26 c
          ∧ r.2.mem ((c.tc : Thread Cert.Reference13Ideal.nD Cert.Reference13Ideal.τ).loc Cert.Reference13Ideal.main_v176) = v27 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15)
          ∧ r.2.mem ((c.tc : Thread Cert.Reference13Ideal.nD Cert.Reference13Ideal.τ).loc Cert.Reference13Ideal.main_arg16) = m' ((c.tc : Thread Cert.Reference13Ideal.nD Cert.Reference13Ideal.τ).loc Cert.Reference13Ideal.main_arg16)
          ∧ r.2.mem ((c.tc : Thread Cert.Reference13Ideal.nD Cert.Reference13Ideal.τ).loc Cert.Reference13Ideal.main_arg17) = m' ((c.tc : Thread Cert.Reference13Ideal.nD Cert.Reference13Ideal.τ).loc Cert.Reference13Ideal.main_arg17)
          ∧ r.2.mem ((c.tc : Thread Cert.Reference13Ideal.nD Cert.Reference13Ideal.τ).loc Cert.Reference13Ideal.main_arg18) = m' ((c.tc : Thread Cert.Reference13Ideal.nD Cert.Reference13Ideal.τ).loc Cert.Reference13Ideal.main_arg18)
          ∧ r.2.mem ((c.tc : Thread Cert.Reference13Ideal.nD Cert.Reference13Ideal.τ).loc Cert.Reference13Ideal.main_arg19) = m' ((c.tc : Thread Cert.Reference13Ideal.nD Cert.Reference13Ideal.τ).loc Cert.Reference13Ideal.main_arg19)
          ∧ r.2.mem ((c.tc : Thread Cert.Reference13Ideal.nD Cert.Reference13Ideal.τ).loc Cert.Reference13Ideal.main_arg20) = m' ((c.tc : Thread Cert.Reference13Ideal.nD Cert.Reference13Ideal.τ).loc Cert.Reference13Ideal.main_arg20)
          ∧ r.2.mem ((c.tc : Thread Cert.Reference13Ideal.nD Cert.Reference13Ideal.τ).loc Cert.Reference13Ideal.main_arg21) = m' ((c.tc : Thread Cert.Reference13Ideal.nD Cert.Reference13Ideal.τ).loc Cert.Reference13Ideal.main_arg21)
          ∧ r.2.mem ((c.tc : Thread Cert.Reference13Ideal.nD Cert.Reference13Ideal.τ).loc Cert.Reference13Ideal.main_arg22) = m' ((c.tc : Thread Cert.Reference13Ideal.nD Cert.Reference13Ideal.τ).loc Cert.Reference13Ideal.main_arg22)
          ∧ r.2.mem ((c.tc : Thread Cert.Reference13Ideal.nD Cert.Reference13Ideal.τ).loc Cert.Reference13Ideal.main_arg23) = m' ((c.tc : Thread Cert.Reference13Ideal.nD Cert.Reference13Ideal.τ).loc Cert.Reference13Ideal.main_arg23))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel13 : Cert.Kernel13.Facts) (hKernel13Ideal : Cert.Kernel13Ideal.Facts) (hReference13Ideal : Cert.Reference13Ideal.Facts) (hPre_finite2 : Cert.Pre_finite2.Facts) (hPre_finite7 : Cert.Pre_finite7.Facts) (hPre_chip_named : Cert.Pre_chip_named.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel13 (hKernel13 := hKernel13) (hPre_chip_named := hPre_chip_named)
    ∧ quiescent_Kernel13Ideal (hKernel13Ideal := hKernel13Ideal) (hPre_chip_named := hPre_chip_named)
    ∧ quiescent_Reference13Ideal (hReference13Ideal := hReference13Ideal)
    ∧ quiescent_Reference13Ideal_pre_chip_named (hReference13Ideal := hReference13Ideal) (hPre_chip_named := hPre_chip_named)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel14_Kernel14Ideal
    ∧ algebraic_Kernel14Ideal_Reference14Ideal (hKernel14Ideal := hKernel14Ideal) (hReference14Ideal := hReference14Ideal)
    ∧ preserves_Kernel13_Kernel13Ideal
    ∧ algebraic_Kernel13Ideal_Reference13Ideal (hKernel13Ideal := hKernel13Ideal) (hReference13Ideal := hReference13Ideal) (hPre_chip_named := hPre_chip_named)
-- ==== Pre_chip_named.lean ====
abbrev S3 : Shape := ⟨1, ![3]⟩
abbrev S40x512 : Shape := ⟨2, ![40, 512]⟩
abbrev S1x6144 : Shape := ⟨2, ![1, 6144]⟩
abbrev S31x128 : Shape := ⟨2, ![31, 128]⟩
abbrev S1x512 : Shape := ⟨2, ![1, 512]⟩
abbrev S3x128 : Shape := ⟨2, ![3, 128]⟩
abbrev S1x1024 : Shape := ⟨2, ![1, 1024]⟩
abbrev S1 : Shape := ⟨1, ![1]⟩
abbrev S_ : Shape := ⟨0, ![]⟩

class Facts : Prop where
  slices_S3_S1_0 : S3.Slices ![0] S1
  bcast_S_S1 : S_.BroadcastsInDim S1 (![] : Fin 0 → Fin S1.rank)

variable [Facts]

def fn {F : FTy → Type} [FloatOps F] (main_arg0 : IVec S3 32) (main_arg1 : FVec F S40x512 .f32) (main_arg2 : FVec F S1x6144 .f32) (main_arg3 : FVec F S1x6144 .f32) (main_arg4 : FVec F S31x128 .f32) (main_arg5 : FVec F S1x512 .f32) (main_arg6 : FVec F S1x512 .f32) (main_arg7 : FVec F S1x512 .f32) (main_arg8 : FVec F S3x128 .f32) (main_arg9 : FVec F S1x1024 .f32) (main_arg10 : FVec F S1x6144 .f32) (main_arg11 : FVec F S31x128 .f32) (main_arg12 : FVec F S1x512 .f32) (main_arg13 : FVec F S1x512 .f32) (main_arg14 : FVec F S1x512 .f32) (main_arg15 : FVec F S3x128 .f32) (main_arg16 : FVec F S1x1024 .f32) (main_arg17 : FVec F S1x6144 .f32) (main_arg18 : FVec F S31x128 .f32) (main_arg19 : FVec F S1x512 .f32) (main_arg20 : FVec F S1x512 .f32) (main_arg21 : FVec F S1x512 .f32) (main_arg22 : FVec F S3x128 .f32) (main_arg23 : FVec F S1x1024 .f32) : IVec S1 1 :=
  let main_v0 : IVec S1 32 := (extractStridedSlice S1 ![0] · slices_S3_S1_0) main_arg0
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![0] · slices_S3_S1_0) main_arg0
  let main_c_0 : IVec S_ 32 := constantI S_ 32 3#32
  let main_v4 : IVec S1 32 := broadcastInDim S1 ![] bcast_S_S1 main_c_0
  let main_v5 : IVec S1 1 := cmpi .sle main_v3 main_v4
  let main_v6 : IVec S1 1 := andi main_v2 main_v5
  main_v6
-- ==== Pre_finite2.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S_ : Shape := ⟨0, ![]⟩

class Facts : Prop where
  bcast_S_S2x4096x1024 : S_.BroadcastsInDim S2x4096x1024 (![] : Fin 0 → Fin S2x4096x1024.rank)
  bcast_S_S2x6144 : S_.BroadcastsInDim S2x6144 (![] : Fin 0 → Fin S2x6144.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S2x4096x1024 .f32) (main_arg1 : FVec F S2x4096x1024 .f32) (main_arg2 : FVec F S2x4096x1024 .f32) (main_arg3 : FVec F S2x6144 .f32) (main_arg4 : FVec F S1024x4096 .f32) (main_arg5 : FVec F S4096x1024 .f32) : IVec S2x4096x1024 1 × IVec S2x4096x1024 1 × IVec S2x6144 1 × IVec S1024x4096 1 × IVec S4096x1024 1 :=
  let main_v0 : FVec F S2x4096x1024 .f32 := subf main_arg0 main_arg0
  let main_cst : FVec F S_ .f32 := constant S_ .f32 0x00000000#32
  let main_v1 : FVec F S2x4096x1024 .f32 := broadcastInDim S2x4096x1024 ![] bcast_S_S2x4096x1024 main_cst
  let main_v2 : IVec S2x4096x1024 1 := cmpf .oeq main_v0 main_v1
  let main_v3 : FVec F S2x4096x1024 .f32 := subf main_arg2 main_arg2
  let main_cst_0 : FVec F S_ .f32 := constant S_ .f32 0x00000000#32
  let main_v4 : FVec F S2x4096x1024 .f32 := broadcastInDim S2x4096x1024 ![] bcast_S_S2x4096x1024 main_cst_0
  let main_v5 : IVec S2x4096x1024 1 := cmpf .oeq main_v3 main_v4
  let main_v6 : FVec F S2x6144 .f32 := subf main_arg3 main_arg3
  let main_cst_1 : FVec F S_ .f32 := constant S_ .f32 0x00000000#32
  let main_v7 : FVec F S2x6144 .f32 := broadcastInDim S2x6144 ![] bcast_S_S2x6144 main_cst_1
  let main_v8 : IVec S2x6144 1 := cmpf .oeq main_v6 main_v7
  let main_v9 : FVec F S1024x4096 .f32 := subf main_arg4 main_arg4
  let main_cst_2 : FVec F S_ .f32 := constant S_ .f32 0x00000000#32
  let main_v10 : FVec F S1024x4096 .f32 := broadcastInDim S1024x4096 ![] bcast_S_S1024x4096 main_cst_2
  let main_v11 : IVec S1024x4096 1 := cmpf .oeq main_v9 main_v10
  let main_v12 : FVec F S4096x1024 .f32 := subf main_arg5 main_arg5
  let main_cst_3 : FVec F S_ .f32 := constant S_ .f32 0x00000000#32
  let main_v13 : FVec F S4096x1024 .f32 := broadcastInDim S4096x1024 ![] bcast_S_S4096x1024 main_cst_3
  let main_v14 : IVec S4096x1024 1 := cmpf .oeq main_v12 main_v13
  (main_v2, main_v5, main_v8, main_v11, main_v14)
-- ==== Pre_finite7.lean ====
abbrev S2x4096x1024 : Shape := ⟨3, ![2, 4096, 1024]⟩
abbrev S2x6144 : Shape := ⟨2, ![2, 6144]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S2x4096x1024 : S_.BroadcastsInDim S2x4096x1024 (![] : Fin 0 → Fin S2x4096x1024.rank)
  bcast_S_S2x6144 : S_.BroadcastsInDim S2x6144 (![] : Fin 0 → Fin S2x6144.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn_part1 {F : FTy → Type} [FloatOps F] (main_arg6 : FVec F S4096x1024 .f32) (main_v2 : IVec S2x4096x1024 1) (main_v5 : IVec S2x4096x1024 1) (main_v8 : IVec S2x4096x1024 1) (main_v11 : IVec S2x6144 1) (main_v14 : IVec S1024 1) (main_v17 : IVec S1024x4096 1) : IVec S2x4096x1024 1 × IVec S2x4096x1024 1 × IVec S2x4096x1024 1 × IVec S2x6144 1 × IVec S1024 1 × IVec S1024x4096 1 × IVec S4096x1024 1 :=
  let main_v18 : FVec F S4096x1024 .f32 := subf main_arg6 main_arg6
  let main_cst_5 : FVec F S_ .f32 := constant S_ .f32 0x00000000#32
  let main_v19 : FVec F S4096x1024 .f32 := broadcastInDim S4096x1024 ![] bcast_S_S4096x1024 main_cst_5
  let main_v20 : IVec S4096x1024 1 := cmpf .oeq main_v18 main_v19
  (main_v2, main_v5, main_v8, main_v11, main_v14, main_v17, main_v20)

def fn {F : FTy → Type} [FloatOps F] (main_arg0 : FVec F S2x4096x1024 .f32) (main_arg1 : FVec F S2x4096x1024 .f32) (main_arg2 : FVec F S2x4096x1024 .f32) (main_arg3 : FVec F S2x6144 .f32) (main_arg4 : FVec F S1024 .f32) (main_arg5 : FVec F S1024x4096 .f32) (main_arg6 : FVec F S4096x1024 .f32) : IVec S2x4096x1024 1 × IVec S2x4096x1024 1 × IVec S2x4096x1024 1 × IVec S2x6144 1 × IVec S1024 1 × IVec S1024x4096 1 × IVec S4096x1024 1 :=
  let main_v0 : FVec F S2x4096x1024 .f32 := subf main_arg0 main_arg0
  let main_cst : FVec F S_ .f32 := constant S_ .f32 0x00000000#32
  let main_v1 : FVec F S2x4096x1024 .f32 := broadcastInDim S2x4096x1024 ![] bcast_S_S2x4096x1024 main_cst
  let main_v2 : IVec S2x4096x1024 1 := cmpf .oeq main_v0 main_v1
  let main_v3 : FVec F S2x4096x1024 .f32 := subf main_arg1 main_arg1
  let main_cst_0 : FVec F S_ .f32 := constant S_ .f32 0x00000000#32
  let main_v4 : FVec F S2x4096x1024 .f32 := broadcastInDim S2x4096x1024 ![] bcast_S_S2x4096x1024 main_cst_0
  let main_v5 : IVec S2x4096x1024 1 := cmpf .oeq main_v3 main_v4
  let main_v6 : FVec F S2x4096x1024 .f32 := subf main_arg2 main_arg2
  let main_cst_1 : FVec F S_ .f32 := constant S_ .f32 0x00000000#32
  let main_v7 : FVec F S2x4096x1024 .f32 := broadcastInDim S2x4096x1024 ![] bcast_S_S2x4096x1024 main_cst_1
  let main_v8 : IVec S2x4096x1024 1 := cmpf .oeq main_v6 main_v7
  let main_v9 : FVec F S2x6144 .f32 := subf main_arg3 main_arg3
  let main_cst_2 : FVec F S_ .f32 := constant S_ .f32 0x00000000#32
  let main_v10 : FVec F S2x6144 .f32 := broadcastInDim S2x6144 ![] bcast_S_S2x6144 main_cst_2
  let main_v11 : IVec S2x6144 1 := cmpf .oeq main_v9 main_v10
  let main_v12 : FVec F S1024 .f32 := subf main_arg4 main_arg4
  let main_cst_3 : FVec F S_ .f32 := constant S_ .f32 0x00000000#32
  let main_v13 : FVec F S1024 .f32 := broadcastInDim S1024 ![] bcast_S_S1024 main_cst_3
  let main_v14 : IVec S1024 1 := cmpf .oeq main_v12 main_v13
  let main_v15 : FVec F S1024x4096 .f32 := subf main_arg5 main_arg5
  let main_cst_4 : FVec F S_ .f32 := constant S_ .f32 0x00000000#32
  let main_v16 : FVec F S1024x4096 .f32 := broadcastInDim S1024x4096 ![] bcast_S_S1024x4096 main_cst_4
  let main_v17 : IVec S1024x4096 1 := cmpf .oeq main_v15 main_v16
  fn_part1 (F := F) main_arg6 main_v2 main_v5 main_v8 main_v11 main_v14 main_v17
-- ==== Kernel2.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x4096 : Shape := ⟨3, ![2, 4096, 4096]⟩
abbrev S8192x1024 : Shape := ⟨2, ![8192, 1024]⟩
abbrev S8192x4096 : Shape := ⟨2, ![8192, 4096]⟩
abbrev S2x1x6144 : Shape := ⟨3, ![2, 1, 6144]⟩
abbrev S2x8x1024 : Shape := ⟨3, ![2, 8, 1024]⟩
abbrev S512x1024 : Shape := ⟨2, ![512, 1024]⟩
abbrev S512x4096 : Shape := ⟨2, ![512, 4096]⟩
abbrev S1x1x6144 : Shape := ⟨3, ![1, 1, 6144]⟩
abbrev S1x8x1024 : Shape := ⟨3, ![1, 8, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S32x8x1024 : Shape := ⟨3, ![32, 8, 1024]⟩
abbrev S8x1024 : Shape := ⟨2, ![8, 1024]⟩

abbrev nBuf : Space → Nat
  | .hbm => 55
  | .vmem => 26
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x6144, .f32⟩
  | .hbm, ⟨4, _⟩ => ⟨S1024x4096, .f32⟩
  | .hbm, ⟨5, _⟩ => ⟨S4096x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x4096x1024, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1, .f32⟩
  | .hbm, ⟨23, _⟩ => ⟨S2x4096x1024, .f32⟩
  | .hbm, ⟨24, _⟩ => ⟨S2x4096x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x4096x1024, .f32⟩
  | .hbm, ⟨30, _⟩ => ⟨S2x4096x1024, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S2x4096x4096, .f32⟩
  | .hbm, ⟨35, _⟩ => ⟨S2x1x1024, .f32⟩
  | .hbm, ⟨36, _⟩ => ⟨S2x4096x1024, .f32⟩
  | .hbm, ⟨37, _⟩ => ⟨S2x4096x1024, .f32⟩
  | .hbm, ⟨38, _⟩ => ⟨S8192x1024, .f32⟩
  | .hbm, ⟨39, _⟩ => ⟨S8192x1024, .bf16⟩
  | .hbm, ⟨40, _⟩ => ⟨S8192x4096, .f32⟩
  | .hbm, ⟨41, _⟩ => ⟨S8192x4096, .bf16⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | .hbm, ⟨46, _⟩ => ⟨S2x1x6144, .f32⟩
  | .hbm, ⟨47, _⟩ => ⟨S1024x4096, .bf16⟩
  | .hbm, ⟨48, _⟩ => ⟨S4096x1024, .bf16⟩
  | .hbm, ⟨49, _⟩ => ⟨S8192x4096, .bf16⟩
  | .hbm, ⟨50, _⟩ => ⟨S8192x1024, .f32⟩
  | .hbm, ⟨51, _⟩ => ⟨S8192x1024, .bf16⟩
  | .hbm, ⟨52, _⟩ => ⟨S2x8x1024, .f32⟩
  | .hbm, ⟨53, _⟩ => ⟨S2x8x1024, .f32⟩
  | .hbm, ⟨54, _⟩ => ⟨S2x8x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1x6144, .f32⟩
  | .local _ .vmem, ⟨11, _⟩ => ⟨S1x1x6144, .f32⟩
  | .local _ .vmem, ⟨12, _⟩ => ⟨S1024x4096, .bf16⟩
  | .local _ .vmem, ⟨13, _⟩ => ⟨S4096x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x8x1024, .f32⟩
  | .local _ .vmem, ⟨21, _⟩ => ⟨S1x8x1024, .f32⟩
  | .local _ .vmem, ⟨22, _⟩ => ⟨S1x8x1024, .f32⟩
  | .local _ .vmem, ⟨23, _⟩ => ⟨S1x8x1024, .f32⟩
  | .local _ .vmem, ⟨24, _⟩ => ⟨S1x8x1024, .f32⟩
  | .local _ .vmem, ⟨25, _⟩ => ⟨S1x8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39_0 : Ref sig .tc := ⟨.hbm, 49, rfl⟩
abbrev main_v39_1 : Ref sig .tc := ⟨.hbm, 50, rfl⟩
abbrev main_v39_2 : Ref sig .tc := ⟨.hbm, 51, rfl⟩
abbrev main_v39_3 : Ref sig .tc := ⟨.hbm, 52, rfl⟩
abbrev main_v39_4 : Ref sig .tc := ⟨.hbm, 53, rfl⟩
abbrev main_v39_5 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v254 : BitVec 32 := Scalar.extui v10
  let c0_i32_149 : BitVec 32 := 0#32
  let v255 : BitVec 1 := Scalar.cmpi .ne v254 c0_i32_149
  v255

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v256 : BitVec 1 := Scalar.xori v10 v_true
  let v257 : BitVec 32 := Scalar.extui v256
  let c0_i32_150 : BitVec 32 := 0#32
  let v258 : BitVec 1 := Scalar.cmpi .ne v257 c0_i32_150
  v258

def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v259 : BitVec 32 := Scalar.extui v10
  let c0_i32_151 : BitVec 32 := 0#32
  let v260 : BitVec 1 := Scalar.cmpi .ne v259 c0_i32_151
  v260

def k0_cond4 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_152 : BitVec 1 := 1#1
  let v261 : BitVec 1 := Scalar.xori v10 true_152
  let v262 : BitVec 32 := Scalar.extui v261
  let c0_i32_153 : BitVec 32 := 0#32
  let v263 : BitVec 1 := Scalar.cmpi .ne v262 c0_i32_153
  v263

def k0_cond5 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v264 : BitVec 32 := Scalar.extui v10
  let c0_i32_154 : BitVec 32 := 0#32
  let v265 : BitVec 1 := Scalar.cmpi .ne v264 c0_i32_154
  v265

def k0_cond6 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_155 : BitVec 1 := 1#1
  let v266 : BitVec 1 := Scalar.xori v10 true_155
  let v267 : BitVec 32 := Scalar.extui v266
  let c0_i32_156 : BitVec 32 := 0#32
  let v268 : BitVec 1 := Scalar.cmpi .ne v267 c0_i32_156
  v268

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x4096x1024 : Shape := ⟨3, ![2, 4096, 1024]⟩
abbrev S2x6144 : Shape := ⟨2, ![2, 6144]⟩
abbrev S1024x4096 : Shape := ⟨2, ![1024, 4096]⟩
abbrev S4096x1024 : Shape := ⟨2, ![4096, 1024]⟩
abbrev S2x1024 : Shape := ⟨2, ![2, 1024]⟩
abbrev S2x1x1024 : Shape := ⟨3, ![2, 1, 1024]⟩
abbrev S_ : Shape := ⟨0, ![]⟩
abbrev S2x4096 : Shape := ⟨2, ![2, 4096]⟩
abbrev S2x4096x1 : Shape := ⟨3, ![2, 4096, 1]⟩
abbrev S2x4096x4096 : Shape := ⟨3, ![2, 4096, 4096]⟩
abbrev S8192x4096 : Shape := ⟨2, ![8192, 4096]⟩
abbrev S8192x1024 : Shape := ⟨2, ![8192, 1024]⟩
abbrev S2x512x8x1024 : Shape := ⟨4, ![2, 512, 8, 1024]⟩
abbrev S2x8x1024 : Shape := ⟨3, ![2, 8, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x6144, .f32⟩
  | .hbm, ⟨4, _⟩ => ⟨S1024x4096, .f32⟩
  | .hbm, ⟨5, _⟩ => ⟨S4096x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1x1024, .f32⟩
  | .hbm, ⟨13, _⟩ => ⟨S2x4096x1024, .f32⟩
  | .hbm, ⟨14, _⟩ => ⟨S2x1x1024, .f32⟩
  | .hbm, ⟨15, _⟩ => ⟨S2x4096x1024, .f32⟩
  | .hbm, ⟨16, _⟩ => ⟨S2x1x1024, .f32⟩
  | .hbm, ⟨17, _⟩ => ⟨S2x4096x1024, .f32⟩
  | .hbm, ⟨18, _⟩ => ⟨S2x1x1024, .f32⟩
  | .hbm, ⟨19, _⟩ => ⟨S2x4096x1024, .f32⟩
  | .hbm, ⟨20, _⟩ => ⟨S2x1x1024, .f32⟩
  | .hbm, ⟨21, _⟩ => ⟨S2x4096x1024, .f32⟩
  | .hbm, ⟨22, _⟩ => ⟨S2x1x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | .hbm, ⟨41, _⟩ => ⟨S_, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x4096, .f32⟩
  | .hbm, ⟨47, _⟩ => ⟨S_, .f32⟩
  | .hbm, ⟨48, _⟩ => ⟨S2x4096x4096, .f32⟩
  | .hbm, ⟨49, _⟩ => ⟨S2x4096x4096, .f32⟩
  | .hbm, ⟨50, _⟩ => ⟨S_, .f32⟩
  | .hbm, ⟨51, _⟩ => ⟨S2x4096x4096, .f32⟩
  | .hbm, ⟨52, _⟩ => ⟨S2x4096x4096, .i1⟩
  | .hbm, ⟨53, _⟩ => ⟨S_, .f32⟩
  | .hbm, ⟨54, _⟩ => ⟨S2x4096x4096, .f32⟩
  | .hbm, ⟨55, _⟩ => ⟨S2x4096x4096, .f32⟩
  | .hbm, ⟨56, _⟩ => ⟨S_, .f32⟩
  | .hbm, ⟨57, _⟩ => ⟨S2x4096x4096, .f32⟩
  | .hbm, ⟨58, _⟩ => ⟨S2x4096x4096, .f32⟩
  | .hbm, ⟨59, _⟩ => ⟨S2x4096x1024, .f32⟩
  | .hbm, ⟨60, _⟩ => ⟨S2x4096x1024, .f32⟩
  | .hbm, ⟨61, _⟩ => ⟨S2x4096x4096, .f32⟩
  | .hbm, ⟨62, _⟩ => ⟨S2x4096x4096, .f32⟩
  | .hbm, ⟨63, _⟩ => ⟨S_, .f32⟩
  | .hbm, ⟨64, _⟩ => ⟨S2x4096x4096, .f32⟩
  | .hbm, ⟨65, _⟩ => ⟨S2x4096x4096, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S_, .f32⟩
  | .hbm, ⟨71, _⟩ => ⟨S2x4096, .f32⟩
  | .hbm, ⟨72, _⟩ => ⟨S2x4096x1, .f32⟩
  | .hbm, ⟨73, _⟩ => ⟨S2x4096x1024, .f32⟩
  | .hbm, ⟨74, _⟩ => ⟨S2x4096x1024, .f32⟩
  | .hbm, ⟨75, _⟩ => ⟨S2x4096x1, .f32⟩
  | .hbm, ⟨76, _⟩ => ⟨S_, .f32⟩
  | .hbm, ⟨77, _⟩ => ⟨S2x4096x1, .f32⟩
  | .hbm, ⟨78, _⟩ => ⟨S2x4096x1, .f32⟩
  | .hbm, ⟨79, _⟩ => ⟨S_, .f32⟩
  | .hbm, ⟨80, _⟩ => ⟨S2x4096, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S2x4096x1024, .f32⟩
  | .hbm, ⟨89, _⟩ => ⟨S2x4096x1024, .f32⟩
  | .hbm, ⟨90, _⟩ => ⟨S8192x4096, .f32⟩
  | .hbm, ⟨91, _⟩ => ⟨S8192x4096, .bf16⟩
  | .hbm, ⟨92, _⟩ => ⟨S8192x1024, .f32⟩
  | .hbm, ⟨93, _⟩ => ⟨S8192x1024, .f32⟩
  | .hbm, ⟨94, _⟩ => ⟨S8192x1024, .bf16⟩
  | .hbm, ⟨95, _⟩ => ⟨S2x512x8x1024, .f32⟩
  | .hbm, ⟨96, _⟩ => ⟨S_, .f32⟩
  | .hbm, ⟨97, _⟩ => ⟨S2x8x1024, .f32⟩
  | .hbm, ⟨98, _⟩ => ⟨S2x512x8x1024, .f32⟩
  | .hbm, ⟨99, _⟩ => ⟨S_, .f32⟩
  | .hbm, ⟨100, _⟩ => ⟨S2x8x1024, .f32⟩
  | .hbm, ⟨101, _⟩ => ⟨S2x512x8x1024, .f32⟩
  | .hbm, ⟨102, _⟩ => ⟨S_, .f32⟩
  | .hbm, ⟨103, _⟩ => ⟨S2x8x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_cst : Ref sig .tc := ⟨.hbm, 47, rfl⟩
abbrev main_call0_v0 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_11 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_v78 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== Kernel3.lean ====
abbrev S2x4096x1024 : Shape := ⟨3, ![2, 4096, 1024]⟩
abbrev S2x6144 : Shape := ⟨2, ![2, 6144]⟩
abbrev S1024x4096 : Shape := ⟨2, ![1024, 4096]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x4096 : Shape := ⟨3, ![2, 4096, 4096]⟩
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 38
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024x4096, .f32⟩
  | .hbm, ⟨3, _⟩ => ⟨S2x4096x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x4096x1024, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x1024, .f32⟩
  | .hbm, ⟨22, _⟩ => ⟨S2x4096x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x4096x1024, .f32⟩
  | .hbm, ⟨28, _⟩ => ⟨S2x4096x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S2x4096x4096, .f32⟩
  | .hbm, ⟨33, _⟩ => ⟨S8192x4096, .f32⟩
  | .hbm, ⟨34, _⟩ => ⟨S8192x4096, .bf16⟩
  | .hbm, ⟨35, _⟩ => ⟨S8192x1024, .f32⟩
  | .hbm, ⟨36, _⟩ => ⟨S8192x1024, .bf16⟩
  | .hbm, ⟨37, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32 : BitVec 32 := 0#32
  let v8 : BitVec 1 := Scalar.cmpi .eq arg2 c0_i32
  let v_true : BitVec 1 := 1#1
  let v11 : BitVec 1 := Scalar.xori v8 v_true
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x4096x1024 : Shape := ⟨3, ![2, 4096, 1024]⟩
abbrev S2x6144 : Shape := ⟨2, ![2, 6144]⟩
abbrev S1024x4096 : Shape := ⟨2, ![1024, 4096]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S2x4096x4096 : Shape := ⟨3, ![2, 4096, 4096]⟩
abbrev S4096x1024 : Shape := ⟨2, ![4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S1024x4096, .f32⟩
  | .hbm, ⟨3, _⟩ => ⟨S2x4096x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x4096x1024, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x1024, .f32⟩
  | .hbm, ⟨22, _⟩ => ⟨S2x4096x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x4096x1024, .f32⟩
  | .hbm, ⟨28, _⟩ => ⟨S2x4096x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S2x4096x4096, .f32⟩
  | .hbm, ⟨33, _⟩ => ⟨S_, .f32⟩
  | .hbm, ⟨34, _⟩ => ⟨S4096x1024, .f32⟩
  | .hbm, ⟨35, _⟩ => ⟨S_, .f32⟩
  | .hbm, ⟨36, _⟩ => ⟨S2x4096x4096, .f32⟩
  | .hbm, ⟨37, _⟩ => ⟨S2x4096x4096, .f32⟩
  | .hbm, ⟨38, _⟩ => ⟨S2x4096x4096, .f32⟩
  | .hbm, ⟨39, _⟩ => ⟨S2x4096x1024, .f32⟩
  | .hbm, ⟨40, _⟩ => ⟨S1024x4096, .f32⟩
  | .hbm, ⟨41, _⟩ => ⟨S4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel4.lean ====
abbrev S2x4096x1024 : Shape := ⟨3, ![2, 4096, 1024]⟩
abbrev S2x6144 : Shape := ⟨2, ![2, 6144]⟩
abbrev S2x4096x4096 : Shape := ⟨3, ![2, 4096, 4096]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S8192x1024 : Shape := ⟨2, ![8192, 1024]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 36
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S2x4096x4096, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x4096x1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x1024, .f32⟩
  | .hbm, ⟨21, _⟩ => ⟨S2x4096x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x4096x1024, .f32⟩
  | .hbm, ⟨27, _⟩ => ⟨S2x4096x1024, .f32⟩
  | .hbm, ⟨28, _⟩ => ⟨S2x1x1024, .f32⟩
  | .hbm, ⟨29, _⟩ => ⟨S2x4096x1024, .f32⟩
  | .hbm, ⟨30, _⟩ => ⟨S2x4096x1024, .f32⟩
  | .hbm, ⟨31, _⟩ => ⟨S8192x1024, .f32⟩
  | .hbm, ⟨32, _⟩ => ⟨S8192x1024, .bf16⟩
  | .hbm, ⟨33, _⟩ => ⟨S8192x4096, .f32⟩
  | .hbm, ⟨34, _⟩ => ⟨S8192x4096, .bf16⟩
  | .hbm, ⟨35, _⟩ => ⟨S1024x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x1024 : Shape := ⟨3, ![2, 4096, 1024]⟩
abbrev S2x6144 : Shape := ⟨2, ![2, 6144]⟩
abbrev S2x4096x4096 : Shape := ⟨3, ![2, 4096, 4096]⟩
abbrev S2x1024 : Shape := ⟨2, ![2, 1024]⟩
abbrev S_ : Shape := ⟨0, ![]⟩
abbrev S1024x4096 : Shape := ⟨2, ![1024, 4096]⟩
abbrev S2x4096 : Shape := ⟨2, ![2, 4096]⟩
abbrev S2x4096x1 : Shape := ⟨3, ![2, 4096, 1]⟩
abbrev S2x1x1024 : Shape := ⟨3, ![2, 1, 1024]⟩
abbrev S4096x1024 : Shape := ⟨2, ![4096, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S2x4096x4096, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S1024x4096, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S2x1x1024, .f32⟩
  | .hbm, ⟨31, _⟩ => ⟨S2x4096x1024, .f32⟩
  | .hbm, ⟨32, _⟩ => ⟨S2x4096x1024, .f32⟩
  | .hbm, ⟨33, _⟩ => ⟨S2x4096x4096, .f32⟩
  | .hbm, ⟨34, _⟩ => ⟨S4096x1024, .f32⟩
  | .hbm, ⟨35, _⟩ => ⟨S1024x4096, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel5.lean ====
abbrev S2x4096x1024 : Shape := ⟨3, ![2, 4096, 1024]⟩
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S2x4096x1024 : Shape := ⟨3, ![2, 4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S_, .f32⟩
  | .hbm, ⟨3, _⟩ => ⟨S1024x1024, .f32⟩
  | .hbm, ⟨4, _⟩ => ⟨S2x4096x1024, .f32⟩
  | .hbm, ⟨5, _⟩ => ⟨S1024x1024, .f32⟩
  | .hbm, ⟨6, _⟩ => ⟨S1024x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S2x4096x1024 : Shape := ⟨3, ![2, 4096, 1024]⟩
abbrev S2x6144 : Shape := ⟨2, ![2, 6144]⟩
abbrev S2x4096x2560 : Shape := ⟨3, ![2, 4096, 2560]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S2x1x1024 : Shape := ⟨3, ![2, 1, 1024]⟩
abbrev S8192x1024 : Shape := ⟨2, ![8192, 1024]⟩
abbrev S8192x2560 : Shape := ⟨2, ![8192, 2560]⟩
abbrev S1024x2560 : Shape := ⟨2, ![1024, 2560]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 36
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S2x4096x2560, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x4096x1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x1024, .f32⟩
  | .hbm, ⟨21, _⟩ => ⟨S2x4096x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x4096x1024, .f32⟩
  | .hbm, ⟨27, _⟩ => ⟨S2x4096x1024, .f32⟩
  | .hbm, ⟨28, _⟩ => ⟨S2x1x1024, .f32⟩
  | .hbm, ⟨29, _⟩ => ⟨S2x4096x1024, .f32⟩
  | .hbm, ⟨30, _⟩ => ⟨S2x4096x1024, .f32⟩
  | .hbm, ⟨31, _⟩ => ⟨S8192x1024, .f32⟩
  | .hbm, ⟨32, _⟩ => ⟨S8192x1024, .bf16⟩
  | .hbm, ⟨33, _⟩ => ⟨S8192x2560, .f32⟩
  | .hbm, ⟨34, _⟩ => ⟨S8192x2560, .bf16⟩
  | .hbm, ⟨35, _⟩ => ⟨S1024x2560, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v5 : BitVec 1 := Scalar.cmpi .eq arg2 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x4096x1024 : Shape := ⟨3, ![2, 4096, 1024]⟩
abbrev S2x6144 : Shape := ⟨2, ![2, 6144]⟩
abbrev S2x4096x2560 : Shape := ⟨3, ![2, 4096, 2560]⟩
abbrev S2x1024 : Shape := ⟨2, ![2, 1024]⟩
abbrev S_ : Shape := ⟨0, ![]⟩
abbrev S1024x2560 : Shape := ⟨2, ![1024, 2560]⟩
abbrev S2x4096 : Shape := ⟨2, ![2, 4096]⟩
abbrev S2x4096x1 : Shape := ⟨3, ![2, 4096, 1]⟩
abbrev S2x1x1024 : Shape := ⟨3, ![2, 1, 1024]⟩
abbrev S2560x1024 : Shape := ⟨2, ![2560, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x6144, .f32⟩
  | .hbm, ⟨2, _⟩ => ⟨S2x4096x2560, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S1024x2560, .f32⟩
  | .hbm, ⟨11, _⟩ => ⟨S2x4096x1024, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S2x1x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S2x1x1024, .f32⟩
  | .hbm, ⟨31, _⟩ => ⟨S2x4096x1024, .f32⟩
  | .hbm, ⟨32, _⟩ => ⟨S2x4096x1024, .f32⟩
  | .hbm, ⟨33, _⟩ => ⟨S2x4096x2560, .f32⟩
  | .hbm, ⟨34, _⟩ => ⟨S2560x1024, .f32⟩
  | .hbm, ⟨35, _⟩ => ⟨S1024x2560, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel7.lean ====
abbrev S2x4096x1024 : Shape := ⟨3, ![2, 4096, 1024]⟩
abbrev S2x6144 : Shape := ⟨2, ![2, 6144]⟩
abbrev S1024 : Shape := ⟨1, ![1024]⟩
abbrev S1024x4096 : Shape := ⟨2, ![1024, 4096]⟩
abbrev S4096x1024 : Shape := ⟨2, ![4096, 1024]⟩
abbrev S8192x1024 : Shape := ⟨2, ![8192, 1024]⟩
abbrev S2x1x6144 : Shape := ⟨3, ![2, 1, 6144]⟩
abbrev S1x1024 : Shape := ⟨2, ![1, 1024]⟩
abbrev S8192x4096 : Shape := ⟨2, ![8192, 4096]⟩
abbrev S2x8x1024 : Shape := ⟨3, ![2, 8, 1024]⟩
abbrev S8x1024 : Shape := ⟨2, ![8, 1024]⟩
abbrev S512x1024 : Shape := ⟨2, ![512, 1024]⟩
abbrev S1x1x6144 : Shape := ⟨3, ![1, 1, 6144]⟩
abbrev S512x4096 : Shape := ⟨2, ![512, 4096]⟩
abbrev S1x8x1024 : Shape := ⟨3, ![1, 8, 1024]⟩
abbrev S1x1x1024 : Shape := ⟨3, ![1, 1, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x6144, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S2x1x6144, .f32⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S8192x4096, .bf16⟩
  | .hbm, ⟨16, _⟩ => ⟨S8192x1024, .f32⟩
  | .hbm, ⟨17, _⟩ => ⟨S8192x1024, .bf16⟩
  | .hbm, ⟨18, _⟩ => ⟨S2x8x1024, .f32⟩
  | .hbm, ⟨19, _⟩ => ⟨S8x1024, .f32⟩
  | .hbm, ⟨20, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x8x1024, .f32⟩
  | .local _ .vmem, ⟨18, _⟩ => ⟨S1x8x1024, .f32⟩
  | .local _ .vmem, ⟨19, _⟩ => ⟨S8x1024, .f32⟩
  | .local _ .vmem, ⟨20, _⟩ => ⟨S8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v213 : BitVec 1 := Scalar.cmpi .eq c8_i32 c0_i32
  let c1_i32 : BitVec 32 := 1#32
  let v214 : BitVec 32 := Scalar.select v213 c1_i32 c8_i32
  let v215 : BitVec 32 := Scalar.remsi arg0 v214
  let c0_i32_111 : BitVec 32 := 0#32
  let v217 : BitVec 1 := Scalar.cmpi .slt v215 c0_i32_111
  let c0_i32_112 : BitVec 32 := 0#32
  let v218 : BitVec 1 := Scalar.cmpi .slt v214 c0_i32_112
  let v219 : BitVec 1 := Scalar.xori v217 v218
  let c0_i32_110 : BitVec 32 := 0#32
  let v216 : BitVec 1 := Scalar.cmpi .ne v215 c0_i32_110
  let v220 : BitVec 1 := Scalar.andi v219 v216
  let v221 : BitVec 32 := Scalar.addi v215 v214
  let v222 : BitVec 32 := Scalar.select v220 v221 v215
  let c0_i32_113 : BitVec 32 := 0#32
  let v223 : BitVec 1 := Scalar.cmpi .eq v222 c0_i32_113
  let v224 : BitVec 32 := Scalar.extui v223
  let c0_i32_114 : BitVec 32 := 0#32
  let v225 : BitVec 1 := Scalar.cmpi .ne v224 c0_i32_114
  v225

def k0_cond2 (i : grid0.Coords) : BitVec 1 :=
  let arg0 : BitVec 32 := BitVec.ofNat 32 (i 0).val
  let c8_i32 : BitVec 32 := 8#32
  let c0_i32 : BitVec 32 := 0#32
  let v213 : BitVec 1 := Scalar.cmpi .eq c8_i32 c0_i32
  let c1_i32 : BitVec 32 := 1#32
  let v214 : BitVec 32 := Scalar.select v213 c1_i32 c8_i32
  let v215 : BitVec 32 := Scalar.remsi arg0 v214
  let c0_i32_111 : BitVec 32 := 0#32
  let v217 : BitVec 1 := Scalar.cmpi .slt v215 c0_i32_111
  let c0_i32_112 : BitVec 32 := 0#32
  let v218 : BitVec 1 := Scalar.cmpi .slt v214 c0_i32_112
  let v219 : BitVec 1 := Scalar.xori v217 v218
  let c0_i32_110 : BitVec 32 := 0#32
  let v216 : BitVec 1 := Scalar.cmpi .ne v215 c0_i32_110
  let v220 : BitVec 1 := Scalar.andi v219 v216
  let v221 : BitVec 32 := Scalar.addi v215 v214
  let v222 : BitVec 32 := Scalar.select v220 v221 v215
  let c0_i32_113 : BitVec 32 := 0#32
  let v223 : BitVec 1 := Scalar.cmpi .eq v222 c0_i32_113
  let v_true : BitVec 1 := 1#1
  let v226 : BitVec 1 := Scalar.xori v223 v_true
  let v227 : BitVec 32 := Scalar.extui v226
  let c0_i32_115 : BitVec 32 := 0#32
  let v228 : BitVec 1 := Scalar.cmpi .ne v227 c0_i32_115
  v228

def k0_cond3 (i : grid0.Coords) : BitVec 1 :=
  let arg0 : BitVec 32 := BitVec.ofNat 32 (i 0).val
  let c0_i32_116 : BitVec 32 := 0#32
  let v229 : BitVec 1 := Scalar.cmpi .eq arg0 c0_i32_116
  let v230 : BitVec 32 := Scalar.extui v229
  let c0_i32_117 : BitVec 32 := 0#32
  let v231 : BitVec 1 := Scalar.cmpi .ne v230 c0_i32_117
  v231

def k0_cond4 (i : grid0.Coords) : BitVec 1 :=
  let arg0 : BitVec 32 := BitVec.ofNat 32 (i 0).val
  let c0_i32_116 : BitVec 32 := 0#32
  let v229 : BitVec 1 := Scalar.cmpi .eq arg0 c0_i32_116
  let true_118 : BitVec 1 := 1#1
  let v232 : BitVec 1 := Scalar.xori v229 true_118
  let v233 : BitVec 32 := Scalar.extui v232
  let c0_i32_119 : BitVec 32 := 0#32
  let v234 : BitVec 1 := Scalar.cmpi .ne v233 c0_i32_119
  v234

def k0_cond5 (i : grid0.Coords) : BitVec 1 :=
  let arg0 : BitVec 32 := BitVec.ofNat 32 (i 0).val
  let c0_i32_120 : BitVec 32 := 0#32
  let v235 : BitVec 1 := Scalar.cmpi .eq arg0 c0_i32_120
  let v236 : BitVec 32 := Scalar.extui v235
  let c0_i32_121 : BitVec 32 := 0#32
  let v237 : BitVec 1 := Scalar.cmpi .ne v236 c0_i32_121
  v237

def k0_cond6 (i : grid0.Coords) : BitVec 1 :=
  let arg0 : BitVec 32 := BitVec.ofNat 32 (i 0).val
  let c0_i32_120 : BitVec 32 := 0#32
  let v235 : BitVec 1 := Scalar.cmpi .eq arg0 c0_i32_120
  let true_122 : BitVec 1 := 1#1
  let v238 : BitVec 1 := Scalar.xori v235 true_122
  let v239 : BitVec 32 := Scalar.extui v238
  let c0_i32_123 : BitVec 32 := 0#32
  let v240 : BitVec 1 := Scalar.cmpi .ne v239 c0_i32_123
  v240

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference7Ideal.lean ====
abbrev S2x4096x1024 : Shape := ⟨3, ![2, 4096, 1024]⟩
abbrev S2x6144 : Shape := ⟨2, ![2, 6144]⟩
abbrev S1024 : Shape := ⟨1, ![1024]⟩
abbrev S1024x4096 : Shape := ⟨2, ![1024, 4096]⟩
abbrev S4096x1024 : Shape := ⟨2, ![4096, 1024]⟩
abbrev S2x1024 : Shape := ⟨2, ![2, 1024]⟩
abbrev S2x4096x4096 : Shape := ⟨3, ![2, 4096, 4096]⟩
abbrev S_ : Shape := ⟨0, ![]⟩
abbrev S2x1x1024 : Shape := ⟨3, ![2, 1, 1024]⟩
abbrev S2x4096 : Shape := ⟨2, ![2, 4096]⟩
abbrev S2x4096x1 : Shape := ⟨3, ![2, 4096, 1]⟩
abbrev S8192x4096 : Shape := ⟨2, ![8192, 4096]⟩
abbrev S8192x1024 : Shape := ⟨2, ![8192, 1024]⟩
abbrev S2x512x8x1024 : Shape := ⟨4, ![2, 512, 8, 1024]⟩
abbrev S2x8x1024 : Shape := ⟨3, ![2, 8, 1024]⟩
abbrev S1024x8x1024 : Shape := ⟨3, ![1024, 8, 1024]⟩
abbrev S8x1024 : Shape := ⟨2, ![8, 1024]⟩

abbrev nBuf : Space → Nat
  | .hbm => 100
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x6144, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x4096x4096, .f32⟩
  | .hbm, ⟨14, _⟩ => ⟨S_, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x1024, .f32⟩
  | .hbm, ⟨19, _⟩ => ⟨S2x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x1, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S_, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S2x4096, .f32⟩
  | .hbm, ⟨49, _⟩ => ⟨S_, .f32⟩
  | .hbm, ⟨50, _⟩ => ⟨S2x4096, .f32⟩
  | .hbm, ⟨51, _⟩ => ⟨S2x4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x4096, .f32⟩
  | .hbm, ⟨60, _⟩ => ⟨S_, .f32⟩
  | .hbm, ⟨61, _⟩ => ⟨S2x4096, .f32⟩
  | .hbm, ⟨62, _⟩ => ⟨S2x4096, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S2x4096x1024, .f32⟩
  | .hbm, ⟨67, _⟩ => ⟨S2x4096x1024, .f32⟩
  | .hbm, ⟨68, _⟩ => ⟨S_, .f32⟩
  | .hbm, ⟨69, _⟩ => ⟨S2x4096, .f32⟩
  | .hbm, ⟨70, _⟩ => ⟨S2x4096x1, .f32⟩
  | .hbm, ⟨71, _⟩ => ⟨S2x4096x1024, .f32⟩
  | .hbm, ⟨72, _⟩ => ⟨S2x4096x1024, .f32⟩
  | .hbm, ⟨73, _⟩ => ⟨S2x4096x1, .f32⟩
  | .hbm, ⟨74, _⟩ => ⟨S_, .f32⟩
  | .hbm, ⟨75, _⟩ => ⟨S2x4096x1, .f32⟩
  | .hbm, ⟨76, _⟩ => ⟨S2x4096x1, .f32⟩
  | .hbm, ⟨77, _⟩ => ⟨S_, .f32⟩
  | .hbm, ⟨78, _⟩ => ⟨S2x4096, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S2x4096x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S8192x4096, .f32⟩
  | .hbm, ⟨87, _⟩ => ⟨S8192x4096, .bf16⟩
  | .hbm, ⟨88, _⟩ => ⟨S8192x1024, .f32⟩
  | .hbm, ⟨89, _⟩ => ⟨S8192x1024, .f32⟩
  | .hbm, ⟨90, _⟩ => ⟨S8192x1024, .bf16⟩
  | .hbm, ⟨91, _⟩ => ⟨S2x512x8x1024, .f32⟩
  | .hbm, ⟨92, _⟩ => ⟨S_, .f32⟩
  | .hbm, ⟨93, _⟩ => ⟨S2x8x1024, .f32⟩
  | .hbm, ⟨94, _⟩ => ⟨S1024x8x1024, .f32⟩
  | .hbm, ⟨95, _⟩ => ⟨S_, .f32⟩
  | .hbm, ⟨96, _⟩ => ⟨S8x1024, .f32⟩
  | .hbm, ⟨97, _⟩ => ⟨S1024x8x1024, .f32⟩
  | .hbm, ⟨98, _⟩ => ⟨S_, .f32⟩
  | .hbm, ⟨99, _⟩ => ⟨S8x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_cst_16 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Kernel8.lean ====
abbrev S1024x640 : Shape := ⟨2, ![1024, 640]⟩
abbrev S256x640 : Shape := ⟨2, ![256, 640]⟩

abbrev nBuf : Space → Nat
  | .hbm => 8
  | .vmem => 16
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S1024x640 : Shape := ⟨2, ![1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S16x1024 : Shape := ⟨2, ![16, 1024]⟩
abbrev S16x1536 : Shape := ⟨2, ![16, 1536]⟩
abbrev S1024x1536 : Shape := ⟨2, ![1024, 1536]⟩
abbrev S_ : Shape := ⟨0, ![]⟩
abbrev S1024x16 : Shape := ⟨2, ![1024, 16]⟩
abbrev S256x16 : Shape := ⟨2, ![256, 16]⟩
abbrev S256x1536 : Shape := ⟨2, ![256, 1536]⟩

abbrev nBuf : Space → Nat
  | .hbm => 19
  | .vmem => 17
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S1024x16, .f32⟩
  | .hbm, ⟨15, _⟩ => ⟨S1024x1536, .f32⟩
  | .hbm, ⟨16, _⟩ => ⟨S1024x1536, .f32⟩
  | .hbm, ⟨17, _⟩ => ⟨S1024x1536, .f32⟩
  | .hbm, ⟨18, _⟩ => ⟨S1024x1536, .f32⟩
  | .local _ .vmem, ⟨0, _⟩ => ⟨S256x16, .f32⟩
  | .local _ .vmem, ⟨1, _⟩ => ⟨S256x16, .f32⟩
  | .local _ .vmem, ⟨2, _⟩ => ⟨S16x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S16x1024 : Shape := ⟨2, ![16, 1024]⟩
abbrev S16x1536 : Shape := ⟨2, ![16, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1536, .f32⟩
  | .hbm, ⟨15, _⟩ => ⟨S1536x1024, .f32⟩
  | .hbm, ⟨16, _⟩ => ⟨S1024x1536, .f32⟩
  | .hbm, ⟨17, _⟩ => ⟨S_, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | .hbm, ⟨46, _⟩ => ⟨S1024x1536, .f32⟩
  | .hbm, ⟨47, _⟩ => ⟨S_, .f32⟩
  | .hbm, ⟨48, _⟩ => ⟨S1024x1536, .f32⟩
  | .hbm, ⟨49, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel14.lean ====
abbrev S8x40x512 : Shape := ⟨3, ![8, 40, 512]⟩
abbrev S8x8x1536 : Shape := ⟨3, ![8, 8, 1536]⟩
abbrev S_ : Shape := ⟨0, ![]⟩
abbrev S8x128 : Shape := ⟨2, ![8, 128]⟩
abbrev S40x512 : Shape := ⟨2, ![40, 512]⟩
abbrev S16x6144 : Shape := ⟨2, ![16, 6144]⟩
abbrev S1x6144 : Shape := ⟨2, ![1, 6144]⟩
abbrev S1x40x512 : Shape := ⟨3, ![1, 40, 512]⟩
abbrev S1x1536 : Shape := ⟨2, ![1, 1536]⟩
abbrev S1x1x1536 : Shape := ⟨3, ![1, 1, 1536]⟩

abbrev nBuf : Space → Nat
  | .hbm => 7
  | .vmem => 5
  | .smem => 0
  | _ => 0

abbrev bufTy : (tb : Table) → Fin (tcTables nBuf tb) → BufTy
  | .hbm, ⟨0, _⟩ => ⟨S8x40x512, .f32⟩
  | .hbm, ⟨1, _⟩ => ⟨S8x8x1536, .f32⟩
  | .hbm, ⟨2, _⟩ => ⟨S_, .f32⟩
  | .hbm, ⟨3, _⟩ => ⟨S8x128, .f32⟩
  | .hbm, ⟨4, _⟩ => ⟨S40x512, .f32⟩
  | .hbm, ⟨5, _⟩ => ⟨S16x6144, .f32⟩
  | .hbm, ⟨6, _⟩ => ⟨S1x6144, .f32⟩
  | .local _ .vmem, ⟨0, _⟩ => ⟨S8x40x512, .f32⟩
  | .local _ .vmem, ⟨1, _⟩ => ⟨S8x8x1536, .f32⟩
  | .local _ .vmem, ⟨2, _⟩ => ⟨S40x512, .f32⟩
  | .local _ .vmem, ⟨3, _⟩ => ⟨S16x6144, .f32⟩
  | .local _ .vmem, ⟨4, _⟩ => ⟨S1x6144, .f32⟩
  | _, _ => ⟨S8x40x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x40x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference14Ideal.lean ====
abbrev S8x40x512 : Shape := ⟨3, ![8, 40, 512]⟩
abbrev S8x8x1536 : Shape := ⟨3, ![8, 8, 1536]⟩
abbrev S_ : Shape := ⟨0, ![]⟩
abbrev S40x512 : Shape := ⟨2, ![40, 512]⟩
abbrev S16x6144 : Shape := ⟨2, ![16, 6144]⟩
abbrev S6144 : Shape := ⟨1, ![6144]⟩
abbrev S1x6144 : Shape := ⟨2, ![1, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8x40x512, .f32⟩
  | .hbm, ⟨1, _⟩ => ⟨S8x8x1536, .f32⟩
  | .hbm, ⟨2, _⟩ => ⟨S_, .f32⟩
  | .hbm, ⟨3, _⟩ => ⟨S40x512, .f32⟩
  | .hbm, ⟨4, _⟩ => ⟨S16x6144, .f32⟩
  | .hbm, ⟨5, _⟩ => ⟨S_, .f32⟩
  | .hbm, ⟨6, _⟩ => ⟨S6144, .f32⟩
  | .hbm, ⟨7, _⟩ => ⟨S1x6144, .f32⟩
  | _, _ => ⟨S8x40x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel13.lean ====
abbrev S3 : Shape := ⟨1, ![3]⟩
abbrev S40x512 : Shape := ⟨2, ![40, 512]⟩
abbrev S1x6144 : Shape := ⟨2, ![1, 6144]⟩
abbrev S31x128 : Shape := ⟨2, ![31, 128]⟩
abbrev S1x512 : Shape := ⟨2, ![1, 512]⟩
abbrev S3x128 : Shape := ⟨2, ![3, 128]⟩
abbrev S1x1024 : Shape := ⟨2, ![1, 1024]⟩
abbrev S1 : Shape := ⟨1, ![1]⟩

abbrev nBuf : Space → Nat
  | .hbm => 51
  | .vmem => 51
  | .smem => 1
  | _ => 0

abbrev bufTy : (tb : Table) → Fin (tcTables nBuf tb) → BufTy
  | .hbm, ⟨0, _⟩ => ⟨S40x512, .f32⟩
  | .hbm, ⟨1, _⟩ => ⟨S1x6144, .f32⟩
  | .hbm, ⟨2, _⟩ => ⟨S1x6144, .f32⟩
  | .hbm, ⟨3, _⟩ => ⟨S31x128, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S3x128, .f32⟩
  | .hbm, ⟨8, _⟩ => ⟨S1x1024, .f32⟩
  | .hbm, ⟨9, _⟩ => ⟨S1x6144, .f32⟩
  | .hbm, ⟨10, _⟩ => ⟨S31x128, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S3x128, .f32⟩
  | .hbm, ⟨15, _⟩ => ⟨S1x1024, .f32⟩
  | .hbm, ⟨16, _⟩ => ⟨S1x6144, .f32⟩
  | .hbm, ⟨17, _⟩ => ⟨S31x128, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S3x128, .f32⟩
  | .hbm, ⟨22, _⟩ => ⟨S1x1024, .f32⟩
  | .hbm, ⟨23, _⟩ => ⟨S1x6144, .f32⟩
  | .hbm, ⟨24, _⟩ => ⟨S31x128, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S3x128, .f32⟩
  | .hbm, ⟨29, _⟩ => ⟨S1x1024, .f32⟩
  | .hbm, ⟨30, _⟩ => ⟨S1x6144, .f32⟩
  | .hbm, ⟨31, _⟩ => ⟨S31x128, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S3x128, .f32⟩
  | .hbm, ⟨36, _⟩ => ⟨S1x1024, .f32⟩
  | .hbm, ⟨37, _⟩ => ⟨S1x6144, .f32⟩
  | .hbm, ⟨38, _⟩ => ⟨S31x128, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S3x128, .f32⟩
  | .hbm, ⟨43, _⟩ => ⟨S1x1024, .f32⟩
  | .hbm, ⟨44, _⟩ => ⟨S1x6144, .f32⟩
  | .hbm, ⟨45, _⟩ => ⟨S31x128, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S3x128, .f32⟩
  | .hbm, ⟨50, _⟩ => ⟨S1x1024, .f32⟩
  | .local _ .vmem, ⟨0, _⟩ => ⟨S40x512, .f32⟩
  | .local _ .vmem, ⟨1, _⟩ => ⟨S1x6144, .f32⟩
  | .local _ .vmem, ⟨2, _⟩ => ⟨S1x6144, .f32⟩
  | .local _ .vmem, ⟨3, _⟩ => ⟨S31x128, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S3x128, .f32⟩
  | .local _ .vmem, ⟨8, _⟩ => ⟨S1x1024, .f32⟩
  | .local _ .vmem, ⟨9, _⟩ => ⟨S1x6144, .f32⟩
  | .local _ .vmem, ⟨10, _⟩ => ⟨S31x128, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S3x128, .f32⟩
  | .local _ .vmem, ⟨15, _⟩ => ⟨S1x1024, .f32⟩
  | .local _ .vmem, ⟨16, _⟩ => ⟨S1x6144, .f32⟩
  | .local _ .vmem, ⟨17, _⟩ => ⟨S31x128, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S3x128, .f32⟩
  | .local _ .vmem, ⟨22, _⟩ => ⟨S1x1024, .f32⟩
  | .local _ .vmem, ⟨23, _⟩ => ⟨S1x6144, .f32⟩
  | .local _ .vmem, ⟨24, _⟩ => ⟨S31x128, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S3x128, .f32⟩
  | .local _ .vmem, ⟨29, _⟩ => ⟨S1x1024, .f32⟩
  | .local _ .vmem, ⟨30, _⟩ => ⟨S1x6144, .f32⟩
  | .local _ .vmem, ⟨31, _⟩ => ⟨S31x128, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S3x128, .f32⟩
  | .local _ .vmem, ⟨36, _⟩ => ⟨S1x1024, .f32⟩
  | .local _ .vmem, ⟨37, _⟩ => ⟨S1x6144, .f32⟩
  | .local _ .vmem, ⟨38, _⟩ => ⟨S31x128, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S3x128, .f32⟩
  | .local _ .vmem, ⟨43, _⟩ => ⟨S1x1024, .f32⟩
  | .local _ .vmem, ⟨44, _⟩ => ⟨S1x6144, .f32⟩
  | .local _ .vmem, ⟨45, _⟩ => ⟨S31x128, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S3x128, .f32⟩
  | .local _ .vmem, ⟨50, _⟩ => ⟨S1x1024, .f32⟩
  | .local _ .smem, ⟨0, _⟩ => ⟨S3, .i32⟩
  | _, _ => ⟨S40x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_arg16 : Ref sig .tc := ⟨.hbm, 15, rfl⟩
abbrev main_arg17 : Ref sig .tc := ⟨.hbm, 16, rfl⟩
abbrev main_arg18 : Ref sig .tc := ⟨.hbm, 17, rfl⟩
abbrev main_arg19 : Ref sig .tc := ⟨.hbm, 18, rfl⟩
abbrev main_arg20 : Ref sig .tc := ⟨.hbm, 19, rfl⟩
abbrev main_arg21 : Ref sig .tc := ⟨.hbm, 20, rfl⟩
abbrev main_arg22 : Ref sig .tc := ⟨.hbm, 21, rfl⟩
abbrev main_arg23 : Ref sig .tc := ⟨.hbm, 22, rfl⟩
abbrev main_v0_0 : Ref sig .tc := ⟨.hbm, 23, rfl⟩
abbrev main_v0_1 : Ref sig .tc := ⟨.hbm, 24, rfl⟩
abbrev main_v0_2 : Ref sig .tc := ⟨.hbm, 25, rfl⟩
abbrev main_v0_3 : Ref sig .tc := ⟨.hbm, 26, rfl⟩
abbrev main_v0_4 : Ref sig .tc := ⟨.hbm, 27, rfl⟩
abbrev main_v0_5 : Ref sig .tc := ⟨.hbm, 28, rfl⟩
abbrev main_v0_6 : Ref sig .tc := ⟨.hbm, 29, rfl⟩
abbrev main_v0_7 : Ref sig .tc := ⟨.hbm, 30, rfl⟩
abbrev main_v0_8 : Ref sig .tc := ⟨.hbm, 31, rfl⟩
abbrev main_v0_9 : Ref sig .tc := ⟨.hbm, 32, rfl⟩
abbrev main_v0_10 : Ref sig .tc := ⟨.hbm, 33, rfl⟩
abbrev main_v0_11 : Ref sig .tc := ⟨.hbm, 34, rfl⟩
abbrev main_v0_12 : Ref sig .tc := ⟨.hbm, 35, rfl⟩
abbrev main_v0_13 : Ref sig .tc := ⟨.hbm, 36, rfl⟩
abbrev main_v0_14 : Ref sig .tc := ⟨.hbm, 37, rfl⟩
abbrev main_v0_15 : Ref sig .tc := ⟨.hbm, 38, rfl⟩
abbrev main_v0_16 : Ref sig .tc := ⟨.hbm, 39, rfl⟩
abbrev main_v0_17 : Ref sig .tc := ⟨.hbm, 40, rfl⟩
abbrev main_v0_18 : Ref sig .tc := ⟨.hbm, 41, rfl⟩
abbrev main_v0_19 : Ref sig .tc := ⟨.hbm, 42, rfl⟩
abbrev main_v0_20 : Ref sig .tc := ⟨.hbm, 43, rfl⟩
abbrev main_v0_21 : Ref sig .tc := ⟨.hbm, 44, rfl⟩
abbrev main_v0_22 : Ref sig .tc := ⟨.hbm, 45, rfl⟩
abbrev main_v0_23 : Ref sig .tc := ⟨.hbm, 46, rfl⟩
abbrev main_v0_24 : Ref sig .tc := ⟨.hbm, 47, rfl⟩
abbrev main_v0_25 : Ref sig .tc := ⟨.hbm, 48, rfl⟩
abbrev main_v0_26 : Ref sig .tc := ⟨.hbm, 49, rfl⟩
abbrev main_v0_27 : Ref sig .tc := ⟨.hbm, 50, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_mult1 (v0 : BitVec 32) : BitVec 32 :=
  let c128_i32 : BitVec 32 := 128#32
  let v1 : BitVec 32 := Scalar.muli v0 c128_i32
  v1

def k0_off1 (v0 : BitVec 32) : Fin 2 → Nat :=
  let c0_2 : Index := 0#32
  let c128_i32 : BitVec 32 := 128#32
  let v1 : BitVec 32 := Scalar.muli v0 c128_i32
  let v2 : BitVec 32 := v1
  let v4 : Index := Scalar.indexCast v2
  ![0, v4.toNat]
def k0_off2 (v0 : BitVec 32) : Fin 2 → Nat :=
  let c34 : Index := 34#32
  let c128_i32 : BitVec 32 := 128#32
  let v1 : BitVec 32 := Scalar.muli v0 c128_i32
  let v2 : BitVec 32 := v1
  let v9 : Index := Scalar.indexCast v2
  ![34, v9.toNat]

def k0_chk1 (v0 : BitVec 32) : Prop :=
  (128 ∣ (k0_mult1 v0).toNat) ∧
  (∀ a, (k0_off1 v0) a + S31x128.size a ≤ S40x512.size a) ∧
  (∀ a, (k0_off2 v0) a + S3x128.size a ≤ S40x512.size a)
theorem k0_mult1_dvd : ∀ (v0 : BitVec 32) (k0_hw1 : k0_chk1 v0), 128 ∣ (k0_mult1 v0).toNat := fun v0 k0_hw1 => k0_hw1.1
theorem k0_off1_inb : ∀ (v0 : BitVec 32) (k0_hw1 : k0_chk1 v0), ∀ a, (k0_off1 v0) a + S31x128.size a ≤ S40x512.size a := fun v0 k0_hw1 => k0_hw1.2.1
theorem k0_off2_inb : ∀ (v0 : BitVec 32) (k0_hw1 : k0_chk1 v0), ∀ a, (k0_off2 v0) a + S3x128.size a ≤ S40x512.size a := fun v0 k0_hw1 => k0_hw1.2.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_48 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_49 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_50 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S31x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x6144 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S31x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S3x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x6144 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S31x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S3x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x6144 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S31x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S3x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S1x6144 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S31x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S1x512 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S1x512 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S3x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S1x6144 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S31x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 1 → Memref sig .tc .vmem S1x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
abbrev reads0_47 : Fin grid0.rank → Bool := ![false]

abbrev stage0_48 : Fin 1 → Memref sig .tc .vmem S1x512 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))
abbrev reads0_48 : Fin grid0.rank → Bool := ![false]

abbrev stage0_49 : Fin 1 → Memref sig .tc .vmem S3x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))
abbrev reads0_49 : Fin grid0.rank → Bool := ![false]

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))
abbrev reads0_50 : Fin grid0.rank → Bool := ![false]
-- ==== Reference13Ideal.lean ====
abbrev S3 : Shape := ⟨1, ![3]⟩
abbrev S40x512 : Shape := ⟨2, ![40, 512]⟩
abbrev S1x6144 : Shape := ⟨2, ![1, 6144]⟩
abbrev S31x128 : Shape := ⟨2, ![31, 128]⟩
abbrev S1x512 : Shape := ⟨2, ![1, 512]⟩
abbrev S3x128 : Shape := ⟨2, ![3, 128]⟩
abbrev S1x1024 : Shape := ⟨2, ![1, 1024]⟩
abbrev S31x512 : Shape := ⟨2, ![31, 512]⟩
abbrev S1 : Shape := ⟨1, ![1]⟩
abbrev S_ : Shape := ⟨0, ![]⟩
abbrev S3x512 : Shape := ⟨2, ![3, 512]⟩

abbrev nBuf : Space → Nat
  | .hbm => 285
  | .vmem => 0
  | .smem => 0
  | _ => 0

abbrev hbmTy0_0 (i : Nat) : BufTy := match i % 128 with
  | 0 => ⟨S3, .i32⟩
  | 1 => ⟨S40x512, .f32⟩
  | 2 => ⟨S1x6144, .f32⟩
  | 3 => ⟨S1x6144, .f32⟩
  | 4 => ⟨S31x128, .f32⟩
  | 5 => ⟨S1x512, .f32⟩
  | 6 => ⟨S1x512, .f32⟩
  | 7 => ⟨S1x512, .f32⟩
  | 8 => ⟨S3x128, .f32⟩
  | 9 => ⟨S1x1024, .f32⟩
  | 10 => ⟨S1x6144, .f32⟩
  | 11 => ⟨S31x128, .f32⟩
  | 12 => ⟨S1x512, .f32⟩
  | 13 => ⟨S1x512, .f32⟩
  | 14 => ⟨S1x512, .f32⟩
  | 15 => ⟨S3x128, .f32⟩
  | 16 => ⟨S1x1024, .f32⟩
  | 17 => ⟨S1x6144, .f32⟩
  | 18 => ⟨S31x128, .f32⟩
  | 19 => ⟨S1x512, .f32⟩
  | 20 => ⟨S1x512, .f32⟩
  | 21 => ⟨S1x512, .f32⟩
  | 22 => ⟨S3x128, .f32⟩
  | 23 => ⟨S1x1024, .f32⟩
  | 24 => ⟨S31x512, .f32⟩
  | 25 => ⟨S1, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S31x128, .f32⟩
  | 36 => ⟨S1x512, .f32⟩
  | 37 => ⟨S1x512, .f32⟩
  | 38 => ⟨S1x512, .f32⟩
  | 39 => ⟨S3x512, .f32⟩
  | 40 => ⟨S1, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S3x128, .f32⟩
  | 51 => ⟨S1x512, .f32⟩
  | 52 => ⟨S1x512, .f32⟩
  | 53 => ⟨S1x1024, .f32⟩
  | 54 => ⟨S_, .f32⟩
  | 55 => ⟨S1x6144, .f32⟩
  | 56 => ⟨S1x6144, .f32⟩
  | 57 => ⟨S_, .f32⟩
  | 58 => ⟨S1x6144, .f32⟩
  | 59 => ⟨S1x6144, .f32⟩
  | 60 => ⟨S1x6144, .f32⟩
  | 61 => ⟨S_, .f32⟩
  | 62 => ⟨S1x6144, .f32⟩
  | 63 => ⟨S1x6144, .f32⟩
  | 64 => ⟨S1x6144, .f32⟩
  | 65 => ⟨S_, .f32⟩
  | 66 => ⟨S1x6144, .f32⟩
  | 67 => ⟨S1x6144, .f32⟩
  | 68 => ⟨S1x6144, .f32⟩
  | 69 => ⟨S_, .f32⟩
  | 70 => ⟨S1x6144, .f32⟩
  | 71 => ⟨S1x6144, .f32⟩
  | 72 => ⟨S_, .f32⟩
  | 73 => ⟨S1x6144, .f32⟩
  | 74 => ⟨S1x6144, .f32⟩
  | 75 => ⟨S1x6144, .f32⟩
  | 76 => ⟨S_, .f32⟩
  | 77 => ⟨S1x6144, .f32⟩
  | 78 => ⟨S1x6144, .f32⟩
  | 79 => ⟨S1x6144, .f32⟩
  | 80 => ⟨S_, .f32⟩
  | 81 => ⟨S1x6144, .f32⟩
  | 82 => ⟨S1x6144, .f32⟩
  | 83 => ⟨S1x6144, .f32⟩
  | 84 => ⟨S_, .f32⟩
  | 85 => ⟨S1x6144, .f32⟩
  | 86 => ⟨S1x6144, .f32⟩
  | 87 => ⟨S_, .f32⟩
  | 88 => ⟨S31x128, .f32⟩
  | 89 => ⟨S31x128, .f32⟩
  | 90 => ⟨S_, .f32⟩
  | 91 => ⟨S31x128, .f32⟩
  | 92 => ⟨S31x128, .f32⟩
  | 93 => ⟨S31x128, .f32⟩
  | 94 => ⟨S_, .f32⟩
  | 95 => ⟨S31x128, .f32⟩
  | 96 => ⟨S31x128, .f32⟩
  | 97 => ⟨S31x128, .f32⟩
  | 98 => ⟨S_, .f32⟩
  | 99 => ⟨S31x128, .f32⟩
  | 100 => ⟨S31x128, .f32⟩
  | 101 => ⟨S31x128, .f32⟩
  | 102 => ⟨S_, .f32⟩
  | 103 => ⟨S31x128, .f32⟩
  | 104 => ⟨S31x128, .f32⟩
  | 105 => ⟨S_, .f32⟩
  | 106 => ⟨S31x128, .f32⟩
  | 107 => ⟨S31x128, .f32⟩
  | 108 => ⟨S31x128, .f32⟩
  | 109 => ⟨S_, .f32⟩
  | 110 => ⟨S31x128, .f32⟩
  | 111 => ⟨S31x128, .f32⟩
  | 112 => ⟨S31x128, .f32⟩
  | 113 => ⟨S_, .f32⟩
  | 114 => ⟨S31x128, .f32⟩
  | 115 => ⟨S31x128, .f32⟩
  | 116 => ⟨S31x128, .f32⟩
  | 117 => ⟨S_, .f32⟩
  | 118 => ⟨S31x128, .f32⟩
  | 119 => ⟨S31x128, .f32⟩
  | 120 => ⟨S_, .f32⟩
  | 121 => ⟨S1x512, .f32⟩
  | 122 => ⟨S1x512, .f32⟩
  | 123 => ⟨S_, .f32⟩
  | 124 => ⟨S1x512, .f32⟩
  | 125 => ⟨S1x512, .f32⟩
  | 126 => ⟨S1x512, .f32⟩
  | 127 => ⟨S_, .f32⟩
  | _ => ⟨S3, .i32⟩

abbrev hbmTy0_1 (i : Nat) : BufTy := match i % 128 with
  | 0 => ⟨S1x512, .f32⟩
  | 1 => ⟨S1x512, .f32⟩
  | 2 => ⟨S1x512, .f32⟩
  | 3 => ⟨S_, .f32⟩
  | 4 => ⟨S1x512, .f32⟩
  | 5 => ⟨S1x512, .f32⟩
  | 6 => ⟨S1x512, .f32⟩
  | 7 => ⟨S_, .f32⟩
  | 8 => ⟨S1x512, .f32⟩
  | 9 => ⟨S1x512, .f32⟩
  | 10 => ⟨S_, .f32⟩
  | 11 => ⟨S1x512, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S_, .f32⟩
  | 29 => ⟨S1x512, .f32⟩
  | 30 => ⟨S1x512, .f32⟩
  | 31 => ⟨S1x512, .f32⟩
  | 32 => ⟨S_, .f32⟩
  | 33 => ⟨S1x512, .f32⟩
  | 34 => ⟨S1x512, .f32⟩
  | 35 => ⟨S1x512, .f32⟩
  | 36 => ⟨S_, .f32⟩
  | 37 => ⟨S1x512, .f32⟩
  | 38 => ⟨S1x512, .f32⟩
  | 39 => ⟨S1x512, .f32⟩
  | 40 => ⟨S_, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S_, .f32⟩
  | 62 => ⟨S1x512, .f32⟩
  | 63 => ⟨S1x512, .f32⟩
  | 64 => ⟨S1x512, .f32⟩
  | 65 => ⟨S_, .f32⟩
  | 66 => ⟨S1x512, .f32⟩
  | 67 => ⟨S1x512, .f32⟩
  | 68 => ⟨S1x512, .f32⟩
  | 69 => ⟨S_, .f32⟩
  | 70 => ⟨S1x512, .f32⟩
  | 71 => ⟨S1x512, .f32⟩
  | 72 => ⟨S1x512, .f32⟩
  | 73 => ⟨S_, .f32⟩
  | 74 => ⟨S1x512, .f32⟩
  | 75 => ⟨S1x512, .f32⟩
  | 76 => ⟨S_, .f32⟩
  | 77 => ⟨S1x512, .f32⟩
  | 78 => ⟨S1x512, .f32⟩
  | 79 => ⟨S1x512, .f32⟩
  | 80 => ⟨S_, .f32⟩
  | 81 => ⟨S1x512, .f32⟩
  | 82 => ⟨S1x512, .f32⟩
  | 83 => ⟨S1x512, .f32⟩
  | 84 => ⟨S_, .f32⟩
  | 85 => ⟨S1x512, .f32⟩
  | 86 => ⟨S1x512, .f32⟩
  | 87 => ⟨S1x512, .f32⟩
  | 88 => ⟨S_, .f32⟩
  | 89 => ⟨S1x512, .f32⟩
  | 90 => ⟨S1x512, .f32⟩
  | 91 => ⟨S_, .f32⟩
  | 92 => ⟨S3x128, .f32⟩
  | 93 => ⟨S3x128, .f32⟩
  | 94 => ⟨S_, .f32⟩
  | 95 => ⟨S3x128, .f32⟩
  | 96 => ⟨S3x128, .f32⟩
  | 97 => ⟨S3x128, .f32⟩
  | 98 => ⟨S_, .f32⟩
  | 99 => ⟨S3x128, .f32⟩
  | 100 => ⟨S3x128, .f32⟩
  | 101 => ⟨S3x128, .f32⟩
  | 102 => ⟨S_, .f32⟩
  | 103 => ⟨S3x128, .f32⟩
  | 104 => ⟨S3x128, .f32⟩
  | 105 => ⟨S3x128, .f32⟩
  | 106 => ⟨S_, .f32⟩
  | 107 => ⟨S3x128, .f32⟩
  | 108 => ⟨S3x128, .f32⟩
  | 109 => ⟨S_, .f32⟩
  | 110 => ⟨S3x128, .f32⟩
  | 111 => ⟨S3x128, .f32⟩
  | 112 => ⟨S3x128, .f32⟩
  | 113 => ⟨S_, .f32⟩
  | 114 => ⟨S3x128, .f32⟩
  | 115 => ⟨S3x128, .f32⟩
  | 116 => ⟨S3x128, .f32⟩
  | 117 => ⟨S_, .f32⟩
  | 118 => ⟨S3x128, .f32⟩
  | 119 => ⟨S3x128, .f32⟩
  | 120 => ⟨S3x128, .f32⟩
  | 121 => ⟨S_, .f32⟩
  | 122 => ⟨S3x128, .f32⟩
  | 123 => ⟨S3x128, .f32⟩
  | 124 => ⟨S_, .f32⟩
  | 125 => ⟨S1x1024, .f32⟩
  | 126 => ⟨S1x1024, .f32⟩
  | 127 => ⟨S_, .f32⟩
  | _ => ⟨S3, .i32⟩

abbrev hbmTy0_2 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | _ => ⟨S3, .i32⟩

abbrev hbmTy (i : Nat) : BufTy := match i / 128 with
  | 0 => hbmTy0_0 i
  | 1 => hbmTy0_1 i
  | 2 => hbmTy0_2 i
  | _ => ⟨S3, .i32⟩

abbrev bufTy : (tb : Table) → Fin (tcTables nBuf tb) → BufTy
  | .hbm, ⟨i, _⟩ => hbmTy i
  | _, _ => ⟨S3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_c_5 : Ref sig .tc := ⟨.hbm, 46, rfl⟩
abbrev main_v16 : Ref sig .tc := ⟨.hbm, 47, rfl⟩
abbrev main_v17 : Ref sig .tc := ⟨.hbm, 48, rfl⟩
abbrev main_c_6 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst : Ref sig .tc := ⟨.hbm, 54, rfl⟩
abbrev main_v22 : Ref sig .tc := ⟨.hbm, 55, rfl⟩
abbrev main_v23 : Ref sig .tc := ⟨.hbm, 56, rfl⟩
abbrev main_cst_7 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_8 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_9 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_10 : Ref sig .tc := ⟨.hbm, 69, rfl⟩
abbrev main_v33 : Ref sig .tc := ⟨.hbm, 70, rfl⟩
abbrev main_v34 : Ref sig .tc := ⟨.hbm, 71, rfl⟩
abbrev main_cst_11 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_12 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_13 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_14 : Ref sig .tc := ⟨.hbm, 84, rfl⟩
abbrev main_v44 : Ref sig .tc := ⟨.hbm, 85, rfl⟩
abbrev main_v45 : Ref sig .tc := ⟨.hbm, 86, rfl⟩
abbrev main_cst_15 : Ref sig .tc := ⟨.hbm, 87, rfl⟩
abbrev main_v46 : Ref sig .tc := ⟨.hbm, 88, rfl⟩
abbrev main_v47 : Ref sig .tc := ⟨.hbm, 89, rfl⟩
abbrev main_cst_16 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_17 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_18 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_19 : Ref sig .tc := ⟨.hbm, 102, rfl⟩
abbrev main_v57 : Ref sig .tc := ⟨.hbm, 103, rfl⟩
abbrev main_v58 : Ref sig .tc := ⟨.hbm, 104, rfl⟩
abbrev main_cst_20 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_21 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_22 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_23 : Ref sig .tc := ⟨.hbm, 117, rfl⟩
abbrev main_v68 : Ref sig .tc := ⟨.hbm, 118, rfl⟩
abbrev main_v69 : Ref sig .tc := ⟨.hbm, 119, rfl⟩
abbrev main_cst_24 : Ref sig .tc := ⟨.hbm, 120, rfl⟩
abbrev main_v70 : Ref sig .tc := ⟨.hbm, 121, rfl⟩
abbrev main_v71 : Ref sig .tc := ⟨.hbm, 122, rfl⟩
abbrev main_cst_25 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_26 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_27 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_28 : Ref sig .tc := ⟨.hbm, 135, rfl⟩
abbrev main_v81 : Ref sig .tc := ⟨.hbm, 136, rfl⟩
abbrev main_v82 : Ref sig .tc := ⟨.hbm, 137, rfl⟩
abbrev main_cst_29 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_30 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_31 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_32 : Ref sig .tc := ⟨.hbm, 150, rfl⟩
abbrev main_v92 : Ref sig .tc := ⟨.hbm, 151, rfl⟩
abbrev main_v93 : Ref sig .tc := ⟨.hbm, 152, rfl⟩
abbrev main_cst_33 : Ref sig .tc := ⟨.hbm, 153, rfl⟩
abbrev main_v94 : Ref sig .tc := ⟨.hbm, 154, rfl⟩
abbrev main_v95 : Ref sig .tc := ⟨.hbm, 155, rfl⟩
abbrev main_cst_34 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_35 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_36 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_37 : Ref sig .tc := ⟨.hbm, 168, rfl⟩
abbrev main_v105 : Ref sig .tc := ⟨.hbm, 169, rfl⟩
abbrev main_v106 : Ref sig .tc := ⟨.hbm, 170, rfl⟩
abbrev main_cst_38 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_39 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_40 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_41 : Ref sig .tc := ⟨.hbm, 183, rfl⟩
abbrev main_v116 : Ref sig .tc := ⟨.hbm, 184, rfl⟩
abbrev main_v117 : Ref sig .tc := ⟨.hbm, 185, rfl⟩
abbrev main_cst_42 : Ref sig .tc := ⟨.hbm, 186, rfl⟩
abbrev main_v118 : Ref sig .tc := ⟨.hbm, 187, rfl⟩
abbrev main_v119 : Ref sig .tc := ⟨.hbm, 188, rfl⟩
abbrev main_cst_43 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_cst_44 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_45 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_cst_46 : Ref sig .tc := ⟨.hbm, 201, rfl⟩
abbrev main_v129 : Ref sig .tc := ⟨.hbm, 202, rfl⟩
abbrev main_v130 : Ref sig .tc := ⟨.hbm, 203, rfl⟩
abbrev main_cst_47 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_cst_48 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_cst_49 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_cst_50 : Ref sig .tc := ⟨.hbm, 216, rfl⟩
abbrev main_v140 : Ref sig .tc := ⟨.hbm, 217, rfl⟩
abbrev main_v141 : Ref sig .tc := ⟨.hbm, 218, rfl⟩
abbrev main_cst_51 : Ref sig .tc := ⟨.hbm, 219, rfl⟩
abbrev main_v142 : Ref sig .tc := ⟨.hbm, 220, rfl⟩
abbrev main_v143 : Ref sig .tc := ⟨.hbm, 221, rfl⟩
abbrev main_cst_52 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_cst_53 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_cst_54 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_cst_55 : Ref sig .tc := ⟨.hbm, 234, rfl⟩
abbrev main_v153 : Ref sig .tc := ⟨.hbm, 235, rfl⟩
abbrev main_v154 : Ref sig .tc := ⟨.hbm, 236, rfl⟩
abbrev main_cst_56 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_cst_57 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_cst_58 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_cst_59 : Ref sig .tc := ⟨.hbm, 249, rfl⟩
abbrev main_v164 : Ref sig .tc := ⟨.hbm, 250, rfl⟩
abbrev main_v165 : Ref sig .tc := ⟨.hbm, 251, rfl⟩
abbrev main_cst_60 : Ref sig .tc := ⟨.hbm, 252, rfl⟩
abbrev main_v166 : Ref sig .tc := ⟨.hbm, 253, rfl⟩
abbrev main_v167 : Ref sig .tc := ⟨.hbm, 254, rfl⟩
abbrev main_cst_61 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_cst_62 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_cst_63 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_cst_64 : Ref sig .tc := ⟨.hbm, 267, rfl⟩
abbrev main_v177 : Ref sig .tc := ⟨.hbm, 268, rfl⟩
abbrev main_v178 : Ref sig .tc := ⟨.hbm, 269, rfl⟩
abbrev main_cst_65 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_cst_66 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_cst_67 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_cst_68 : Ref sig .tc := ⟨.hbm, 282, rfl⟩
abbrev main_v188 : Ref sig .tc := ⟨.hbm, 283, rfl⟩
abbrev main_v189 : Ref sig .tc := ⟨.hbm, 284, rfl⟩

abbrev nD : Nat := 1
abbrev τ : Topo := Topo.v7x

variable {F : FTy → Type} [FloatOps F]
-- ==== Proof.MlpRows.lean ====
/- The gradient of the squared-ReLU MLP branch, one row at a time: what the backward call computes in a row from
   that row of its arguments, as functions of the extended reals. -/
module

public import Idealize.ShloMosaic.Lib.Pointwise

@[expose] public section

noncomputable section

namespace Cert.MlpBwd

open Idealize.ShloMosaic

/-- The model width and the factor two, as the programs write them. -/
abbrev cD : EReal := Ideal.ofBits .f32 0x44800000#32
abbrev cTwo : EReal := Ideal.ofBits .f32 0x40000000#32
abbrev cEps : EReal := Ideal.ofBits .f32 0x358637BD#32

/-- The gradient before the activation: the row's cotangent through `w2`, times twice the positive part of `z`. -/
def dz (dy : Fin 1024 → EReal) (z : Fin 4096 → EReal) (w2 : Fin 4096 → Fin 1024 → EReal) (f : Fin 4096) : EReal :=
  (∑ x, dy x * w2 f x) * (cTwo * max (z f) 0)

/-- The gradient of the modulated row: `dz` through `w1`. -/
def dh (g : Fin 4096 → EReal) (w1 : Fin 1024 → Fin 4096 → EReal) (c : Fin 1024) : EReal := ∑ f, g f * w1 c f

/-- The reciprocal root of the row's mean square, and the normalised row. -/
def rr (x : Fin 1024 → EReal) : EReal := Ideal.rsqrt (Ideal.div (∑ k, x k * x k) cD + cEps)
def xn (x : Fin 1024 → EReal) (c : Fin 1024) : EReal := x c * rr x

/-- The gradient of the block's input: the residual's plus the one through the norm. -/
def dx (x res d sc : Fin 1024 → EReal) (c : Fin 1024) : EReal :=
  res c + rr x * (d c * (1 + sc c) - xn x c * Ideal.div (∑ k, d k * (1 + sc k) * xn x k) cD)

/-- A sum over 4096 columns, by its four chunks of 1024. -/
theorem sum_chunks (g : Fin 4096 → EReal) :
    ∑ f, g f = ∑ x : Fin 1024, g ⟨x.val, by omega⟩ + ∑ x : Fin 1024, g ⟨1024 + x.val, by omega⟩
      + ∑ x : Fin 1024, g ⟨2048 + x.val, by omega⟩ + ∑ x : Fin 1024, g ⟨3072 + x.val, by omega⟩ := by
  have h := Fin.sum_univ_add (a := 3072) (b := 1024) g
  have h2 := Fin.sum_univ_add (a := 2048) (b := 1024) (fun i => g (Fin.castAdd 1024 i))
  have h3 := Fin.sum_univ_add (a := 1024) (b := 1024) (fun i => g (Fin.castAdd 1024 (Fin.castAdd 1024 i)))
  exact h.trans (congrArg (· + _) (h2.trans (congrArg (· + _) h3)))

/-- A sum over the 64 rows of a block of 512 that share a residue modulo 8, by the two halves of the block. -/
theorem sum_res (g : Fin 512 → EReal) (s : Fin 8) :
    ∑ x : Fin 32, g ⟨x.val * 8 + s.val, by omega⟩ + ∑ x : Fin 32, g ⟨256 + (x.val * 8 + s.val), by omega⟩
      = ∑ k : Fin 64, g ⟨k.val * 8 + s.val, by omega⟩ := by
  refine ((Fin.sum_univ_add (a := 32) (b := 32) fun k : Fin 64 => g ⟨k.val * 8 + s.val, by omega⟩).trans
    (congrArg (_ + ·) (Finset.sum_congr rfl fun x _ => congrArg g (Fin.ext ?_)))).symm
  show (32 + x.val) * 8 + s.val = 256 + (x.val * 8 + s.val)
  omega

end Cert.MlpBwd

end
-- ==== Proof.MlpBlock.lean ====
module

public import proofs.«01_k».proof.Proof.Gen.Kernel2Ideal.Value
public import proofs.«01_k».proof.Proof.MlpRows
public import Idealize.ShloMosaic.Lib.Pointwise
public import Idealize.ShloMosaic.Lib.Pipeline.ValueKit

@[expose] public section

set_option maxRecDepth 16384

noncomputable section

namespace Cert.Kernel2Ideal.Hand

open Idealize.ShloMosaic Idealize.ShloMosaic.TcCoe Idealize.ShloMosaic.Tactic
open Idealize.SL Idealize.SL.Sem
open Idealize.ShloMosaic.Pipeline (Dat Cfg Window cellOf)
open Cert.Kernel2Ideal.Gen

variable (m : (ℓ : Loc nD τ sig) → Buf (Elt Ideal) ℓ) (c : Dev nD)

open Cert.MlpBwd

/-- Where a rectangle of a matrix places its local index. -/
theorem emb_unit2 {n k a b p q : Nat} (inb : ∀ i : Fin 2, (![a, b] : Fin 2 → Nat) i + (![p, q] : Fin 2 → Nat) i ≤ (![n, k] : Fin 2 → Nat) i)
    (i : Fin p) (j : Fin q) (i' : Fin n) (j' : Fin k) (hi : i'.val = a + i.val) (hj : j'.val = b + j.val) :
    (Rect.unit (s := ⟨2, ![n, k]⟩) ![a, b] ![p, q] inb).emb (ix2 i j) = ix2 i' j' := by
  funext d
  refine Fin.ext ?_
  rw [Rect.emb_apply]
  match d with
  | ⟨0, _⟩ => exact (congrArg (a + ·) (Nat.one_mul _)).trans hi.symm
  | ⟨1, _⟩ => exact (congrArg (b + ·) (Nat.one_mul _)).trans hj.symm

variable (X0 : Vec Ideal S512x1024 .bf16) (X1 : Vec Ideal S512x4096 .bf16) (X2 X3 : Vec Ideal S512x1024 .f32) (X4 : Vec Ideal S512x1024 .bf16)
  (X5 : Vec Ideal S1x1x6144 .f32) (X6 : Vec Ideal S1024x4096 .bf16) (X7 : Vec Ideal S4096x1024 .bf16)

/-- Row `r` of a block. -/
abbrev row {n : Nat} (X : (⟨2, ![512, n]⟩ : Shape).Idx → EReal) (r : Fin 512) (c : Fin n) : EReal := X (ix2 r c)
abbrev mat {n k : Nat} (X : (⟨2, ![n, k]⟩ : Shape).Idx → EReal) (r : Fin n) (c : Fin k) : EReal := X (ix2 r c)
abbrev modc (X5 : Vec Ideal S1x1x6144 .f32) (o : Nat) (h : o + 1024 ≤ 6144) (c : Fin 1024) : EReal := X5 (ix3 0 0 ⟨o + c.val, by omega⟩)

theorem dz_0_0 (r : Fin 256) (q : Fin 1024) :
    k0_pay11 (View.ld X0 (Rect.unit ![0, 0] ![256, 1024] inb_S512x1024_S256x1024_0_0)) (View.ld X7 (Rect.unit ![0, 0] ![1024, 1024] inb_S4096x1024_S1024x1024_0_0)) (View.ld X1 (Rect.unit ![0, 0] ![256, 1024] inb_S512x4096_S256x1024_0_0)) (ix2 r q)
      = dz (row X0 ⟨r.val, by omega⟩) (row X1 ⟨r.val, by omega⟩) (mat X7) ⟨q.val, by omega⟩ := by
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dz_0_1024 (r : Fin 256) (q : Fin 1024) :
    k0_pay14 (k0_pay10 (View.ld X0 (Rect.unit ![0, 0] ![256, 1024] inb_S512x1024_S256x1024_0_0))) (k0_pay13 (View.ld X7 (Rect.unit ![1024, 0] ![1024, 1024] inb_S4096x1024_S1024x1024_1024_0))) (constant S256x1024 FTy.f32 0#32) (View.ld X1 (Rect.unit ![0, 1024] ![256, 1024] inb_S512x4096_S256x1024_0_1024)) (ix2 r q)
      = dz (row X0 ⟨r.val, by omega⟩) (row X1 ⟨r.val, by omega⟩) (mat X7) ⟨1024 + q.val, by omega⟩ := by
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dz_0_2048 (r : Fin 256) (q : Fin 1024) :
    k0_pay15 (k0_pay10 (View.ld X0 (Rect.unit ![0, 0] ![256, 1024] inb_S512x1024_S256x1024_0_0))) (View.ld X7 (Rect.unit ![2048, 0] ![1024, 1024] inb_S4096x1024_S1024x1024_2048_0)) (View.ld X1 (Rect.unit ![0, 2048] ![256, 1024] inb_S512x4096_S256x1024_0_2048)) (ix2 r q)
      = dz (row X0 ⟨r.val, by omega⟩) (row X1 ⟨r.val, by omega⟩) (mat X7) ⟨2048 + q.val, by omega⟩ := by
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dz_0_3072 (r : Fin 256) (q : Fin 1024) :
    k0_pay18 (k0_pay10 (View.ld X0 (Rect.unit ![0, 0] ![256, 1024] inb_S512x1024_S256x1024_0_0))) (k0_pay17 (View.ld X7 (Rect.unit ![3072, 0] ![1024, 1024] inb_S4096x1024_S1024x1024_3072_0))) (constant S256x1024 FTy.f32 0#32) (View.ld X1 (Rect.unit ![0, 3072] ![256, 1024] inb_S512x4096_S256x1024_0_3072)) (ix2 r q)
      = dz (row X0 ⟨r.val, by omega⟩) (row X1 ⟨r.val, by omega⟩) (mat X7) ⟨3072 + q.val, by omega⟩ := by
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dz_256_0 (r : Fin 256) (q : Fin 1024) :
    k0_pay36 (k0_pay33 (View.ld X0 (Rect.unit ![256, 0] ![256, 1024] inb_S512x1024_S256x1024_256_0)) (View.ld X7 (Rect.unit ![0, 0] ![1024, 1024] inb_S4096x1024_S1024x1024_0_0))) (k0_pay34 (View.ld X1 (Rect.unit ![256, 0] ![256, 1024] inb_S512x4096_S256x1024_256_0))) k0_pay35 (ix2 r q)
      = dz (row X0 ⟨256 + r.val, by omega⟩) (row X1 ⟨256 + r.val, by omega⟩) (mat X7) ⟨q.val, by omega⟩ := by
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dz_256_1024 (r : Fin 256) (q : Fin 1024) :
    k0_pay37 (k0_pay31 (View.ld X0 (Rect.unit ![256, 0] ![256, 1024] inb_S512x1024_S256x1024_256_0))) (View.ld X7 (Rect.unit ![1024, 0] ![1024, 1024] inb_S4096x1024_S1024x1024_1024_0)) (View.ld X1 (Rect.unit ![256, 1024] ![256, 1024] inb_S512x4096_S256x1024_256_1024)) (ix2 r q)
      = dz (row X0 ⟨256 + r.val, by omega⟩) (row X1 ⟨256 + r.val, by omega⟩) (mat X7) ⟨1024 + q.val, by omega⟩ := by
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dz_256_2048 (r : Fin 256) (q : Fin 1024) :
    k0_pay42 (k0_pay39 (k0_pay31 (View.ld X0 (Rect.unit ![256, 0] ![256, 1024] inb_S512x1024_S256x1024_256_0))) (View.ld X7 (Rect.unit ![2048, 0] ![1024, 1024] inb_S4096x1024_S1024x1024_2048_0))) (k0_pay40 (View.ld X1 (Rect.unit ![256, 2048] ![256, 1024] inb_S512x4096_S256x1024_256_2048))) k0_pay41 (ix2 r q)
      = dz (row X0 ⟨256 + r.val, by omega⟩) (row X1 ⟨256 + r.val, by omega⟩) (mat X7) ⟨2048 + q.val, by omega⟩ := by
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dz_256_3072 (r : Fin 256) (q : Fin 1024) :
    k0_pay43 (k0_pay31 (View.ld X0 (Rect.unit ![256, 0] ![256, 1024] inb_S512x1024_S256x1024_256_0))) (View.ld X7 (Rect.unit ![3072, 0] ![1024, 1024] inb_S4096x1024_S1024x1024_3072_0)) (View.ld X1 (Rect.unit ![256, 3072] ![256, 1024] inb_S512x4096_S256x1024_256_3072)) (ix2 r q)
      = dz (row X0 ⟨256 + r.val, by omega⟩) (row X1 ⟨256 + r.val, by omega⟩) (mat X7) ⟨3072 + q.val, by omega⟩ := by
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dh_lo (r : Fin 256) (q : Fin 1024) :
    k0_pay19 (k0_pay10 (View.ld X0 (Rect.unit ![0, 0] ![256, 1024] inb_S512x1024_S256x1024_0_0))) (k0_pay16 (k0_pay10 (View.ld X0 (Rect.unit ![0, 0] ![256, 1024] inb_S512x1024_S256x1024_0_0))) (k0_pay12 (View.ld X0 (Rect.unit ![0, 0] ![256, 1024] inb_S512x1024_S256x1024_0_0)) (View.ld X7 (Rect.unit ![0, 0] ![1024, 1024] inb_S4096x1024_S1024x1024_0_0)) (View.ld X1 (Rect.unit ![0, 0] ![256, 1024] inb_S512x4096_S256x1024_0_0)) (View.ld X6 (Rect.unit ![0, 0] ![1024, 1024] inb_S1024x4096_S1024x1024_0_0))) (k0_pay13 (View.ld X7 (Rect.unit ![1024, 0] ![1024, 1024] inb_S4096x1024_S1024x1024_1024_0))) (constant S256x1024 FTy.f32 0#32) (View.ld X1 (Rect.unit ![0, 1024] ![256, 1024] inb_S512x4096_S256x1024_0_1024)) (View.ld X6 (Rect.unit ![0, 1024] ![1024, 1024] inb_S1024x4096_S1024x1024_0_1024)) (View.ld X7 (Rect.unit ![2048, 0] ![1024, 1024] inb_S4096x1024_S1024x1024_2048_0)) (View.ld X1 (Rect.unit ![0, 2048] ![256, 1024] inb_S512x4096_S256x1024_0_2048)) (View.ld X6 (Rect.unit ![0, 2048] ![1024, 1024] inb_S1024x4096_S1024x1024_0_2048))) (k0_pay17 (View.ld X7 (Rect.unit ![3072, 0] ![1024, 1024] inb_S4096x1024_S1024x1024_3072_0))) (constant S256x1024 FTy.f32 0#32) (View.ld X1 (Rect.unit ![0, 3072] ![256, 1024] inb_S512x4096_S256x1024_0_3072)) (View.ld X6 (Rect.unit ![0, 3072] ![1024, 1024] inb_S1024x4096_S1024x1024_0_3072)) (ix2 r q)
      = dh (dz (row X0 ⟨r.val, by omega⟩) (row X1 ⟨r.val, by omega⟩) (mat X7)) (mat X6) q := by
  unfold dh
  rw [sum_chunks]
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dh_hi (r : Fin 256) (q : Fin 1024) :
    k0_pay44 (k0_pay31 (View.ld X0 (Rect.unit ![256, 0] ![256, 1024] inb_S512x1024_S256x1024_256_0))) (k0_pay38 (k0_pay31 (View.ld X0 (Rect.unit ![256, 0] ![256, 1024] inb_S512x1024_S256x1024_256_0))) k0_pay32 (k0_pay33 (View.ld X0 (Rect.unit ![256, 0] ![256, 1024] inb_S512x1024_S256x1024_256_0)) (View.ld X7 (Rect.unit ![0, 0] ![1024, 1024] inb_S4096x1024_S1024x1024_0_0))) (k0_pay34 (View.ld X1 (Rect.unit ![256, 0] ![256, 1024] inb_S512x4096_S256x1024_256_0))) k0_pay35 (View.ld X6 (Rect.unit ![0, 0] ![1024, 1024] inb_S1024x4096_S1024x1024_0_0)) (View.ld X7 (Rect.unit ![1024, 0] ![1024, 1024] inb_S4096x1024_S1024x1024_1024_0)) (View.ld X1 (Rect.unit ![256, 1024] ![256, 1024] inb_S512x4096_S256x1024_256_1024)) (View.ld X6 (Rect.unit ![0, 1024] ![1024, 1024] inb_S1024x4096_S1024x1024_0_1024))) (k0_pay39 (k0_pay31 (View.ld X0 (Rect.unit ![256, 0] ![256, 1024] inb_S512x1024_S256x1024_256_0))) (View.ld X7 (Rect.unit ![2048, 0] ![1024, 1024] inb_S4096x1024_S1024x1024_2048_0))) (k0_pay40 (View.ld X1 (Rect.unit ![256, 2048] ![256, 1024] inb_S512x4096_S256x1024_256_2048))) k0_pay41 (View.ld X6 (Rect.unit ![0, 2048] ![1024, 1024] inb_S1024x4096_S1024x1024_0_2048)) (View.ld X7 (Rect.unit ![3072, 0] ![1024, 1024] inb_S4096x1024_S1024x1024_3072_0)) (View.ld X1 (Rect.unit ![256, 3072] ![256, 1024] inb_S512x4096_S256x1024_256_3072)) (View.ld X6 (Rect.unit ![0, 3072] ![1024, 1024] inb_S1024x4096_S1024x1024_0_3072)) (ix2 r q)
      = dh (dz (row X0 ⟨256 + r.val, by omega⟩) (row X1 ⟨256 + r.val, by omega⟩) (mat X7)) (mat X6) q := by
  unfold dh
  rw [sum_chunks]
  unfold dz
  pointwise [k0_pay10, k0_pay11, k0_pay12, k0_pay13, k0_pay14, k0_pay15, k0_pay16, k0_pay17, k0_pay18, k0_pay19, k0_pay20, k0_pay31, k0_pay32, k0_pay33, k0_pay34, k0_pay35, k0_pay36, k0_pay37, k0_pay38, k0_pay39, k0_pay40, k0_pay41, k0_pay42, k0_pay43, k0_pay44]

theorem dx_lo (r : Fin 256) (q : Fin 1024) :
    k0_pay26 (k0_pay21 (View.ld X2 (Rect.unit ![0, 0] ![256, 1024] inb_S512x1024_S256x1024_0_0))) (k0_pay22 (View.ld X2 (Rect.unit ![0, 0] ![256, 1024] inb_S512x1024_S256x1024_0_0))) (k0_pay23 (View.ld X3 (Rect.unit ![0, 0] ![256, 1024] inb_S512x1024_S256x1024_0_0))) (k0_pay24 (k0_pay10 (View.ld X0 (Rect.unit ![0, 0] ![256, 1024] inb_S512x1024_S256x1024_0_0))) (k0_pay16 (k0_pay10 (View.ld X0 (Rect.unit ![0, 0] ![256, 1024] inb_S512x1024_S256x1024_0_0))) (k0_pay12 (View.ld X0 (Rect.unit ![0, 0] ![256, 1024] inb_S512x1024_S256x1024_0_0)) (View.ld X7 (Rect.unit ![0, 0] ![1024, 1024] inb_S4096x1024_S1024x1024_0_0)) (View.ld X1 (Rect.unit ![0, 0] ![256, 1024] inb_S512x4096_S256x1024_0_0)) (View.ld X6 (Rect.unit ![0, 0] ![1024, 1024] inb_S1024x4096_S1024x1024_0_0))) (k0_pay13 (View.ld X7 (Rect.unit ![1024, 0] ![1024, 1024] inb_S4096x1024_S1024x1024_1024_0))) (constant S256x1024 FTy.f32 0#32) (View.ld X1 (Rect.unit ![0, 1024] ![256, 1024] inb_S512x4096_S256x1024_0_1024)) (View.ld X6 (Rect.unit ![0, 1024] ![1024, 1024] inb_S1024x4096_S1024x1024_0_1024)) (View.ld X7 (Rect.unit ![2048, 0] ![1024, 1024] inb_S4096x1024_S1024x1024_2048_0)) (View.ld X1 (Rect.unit ![0, 2048] ![256, 1024] inb_S512x4096_S256x1024_0_2048)) (View.ld X6 (Rect.unit ![0, 2048] ![1024, 1024] inb_S1024x4096_S1024x1024_0_2048))) (k0_pay17 (View.ld X7 (Rect.unit ![3072, 0] ![1024, 1024] inb_S4096x1024_S1024x1024_3072_0))) (constant S256x1024 FTy.f32 0#32) (View.ld X1 (Rect.unit ![0, 3072] ![256, 1024] inb_S512x4096_S256x1024_0_3072)) (View.ld X6 (Rect.unit ![0, 3072] ![1024, 1024] inb_S1024x4096_S1024x1024_0_3072)) (View.ld X5 (Rect.unit ![0, 0, 4096] ![1, 1, 1024] inb_S1x1x6144_S1x1x1024_0_0_4096))) (k0_pay25 (k0_pay10 (View.ld X0 (Rect.unit ![0, 0] ![256, 1024] inb_S512x1024_S256x1024_0_0))) (k0_pay16 (k0_pay10 (View.ld X0 (Rect.unit ![0, 0] ![256, 1024] inb_S512x1024_S256x1024_0_0))) (k0_pay12 (View.ld X0 (Rect.unit ![0, 0] ![256, 1024] inb_S512x1024_S256x1024_0_0)) (View.ld X7 (Rect.unit ![0, 0] ![1024, 1024] inb_S4096x1024_S1024x1024_0_0)) (View.ld X1 (Rect.unit ![0, 0] ![256, 1024] inb_S512x4096_S256x1024_0_0)) (View.ld X6 (Rect.unit ![0, 0] ![1024, 1024] inb_S1024x4096_S1024x1024_0_0))) (k0_pay13 (View.ld X7 (Rect.unit ![1024, 0] ![1024, 1024] inb_S4096x1024_S1024x1024_1024_0))) (constant S256x1024 FTy.f32 0#32) (View.ld X1 (Rect.unit ![0, 1024] ![256, 1024] inb_S512x4096_S256x1024_0_1024)) (View.ld X6 (Rect.unit ![0, 1024] ![1024, 1024] inb_S1024x4096_S1024x1024_0_1024)) (View.ld X7 (Rect.unit ![2048, 0] ![1024, 1024] inb_S4096x1024_S1024x1024_2048_0)) (View.ld X1 (Rect.unit ![0, 2048] ![256, 1024] inb_S512x4096_S256x1024_0_2048)) (View.ld X6 (Rect.unit ![0, 2048] ![1024, 1024] inb_S1024x4096_S1024x1024_0_2048))) (k0_pay17 (View.ld X7 (Rect.unit ![3072, 0] ![1024, 1024] inb_S4096x1024_S1024x1024_3072_0))) (constant S256x1024 FTy.f32 0#32) (View.ld X1 (Rect.unit ![0, 3072] ![256, 1024] inb_S512x4096_S256x1024_0_3072)) (View.ld X6 (Rect.unit ![0, 3072] ![1024, 1024] inb_S1024x4096_S1024x1024_0_3072)) (View.ld X2 (Rect.unit ![0, 0] ![256, 1024] inb_S512x1024_S256x1024_0_0)) (View.ld X5 (Rect.unit ![0, 0, 4096] ![1, 1, 1024] inb_S1x1x6144_S1x1x1024_0_0_4096))) (ix2 r q)
      = dx (row X2 ⟨r.val, by omega⟩) (row X3 ⟨r.val, by omega⟩) (dh (dz (row X0 ⟨r.val, by omega⟩) (row X1 ⟨r.val, by omega⟩) (mat X7)) (mat X6)) (modc X5 4096 (by omega)) q := by
  unfold dx xn rr
  pointwise [k0_pay20, k0_pay21, k0_pay22, k0_pay23, k0_pay24, k0_pay25, k0_pay26, k0_pay45, k0_pay46, k0_pay47, k0_pay48, k0_pay49, k0_pay50]
  simp only [dh_lo]

theorem dy_lo (r : Fin 256) (q : Fin 1024) :
    k0_pay27 (k0_pay21 (View.ld X2 (Rect.unit ![0, 0] ![256, 1024] inb_S512x1024_S256x1024_0_0))) (k0_pay22 (View.ld X2 (Rect.unit ![0, 0] ![256, 1024] inb_S512x1024_S256x1024_0_0))) (k0_pay23 (View.ld X3 (Rect.unit ![0, 0] ![256, 1024] inb_S512x1024_S256x1024_0_0))) (k0_pay24 (k0_pay10 (View.ld X0 (Rect.unit ![0, 0] ![256, 1024] inb_S512x1024_S256x1024_0_0))) (k0_pay16 (k0_pay10 (View.ld X0 (Rect.unit ![0, 0] ![256, 1024] inb_S512x1024_S256x1024_0_0))) (k0_pay12 (View.ld X0 (Rect.unit ![0, 0] ![256, 1024] inb_S512x1024_S256x1024_0_0)) (View.ld X7 (Rect.unit ![0, 0] ![1024, 1024] inb_S4096x1024_S1024x1024_0_0)) (View.ld X1 (Rect.unit ![0, 0] ![256, 1024] inb_S512x4096_S256x1024_0_0)) (View.ld X6 (Rect.unit ![0, 0] ![1024, 1024] inb_S1024x4096_S1024x1024_0_0))) (k0_pay13 (View.ld X7 (Rect.unit ![1024, 0] ![1024, 1024] inb_S4096x1024_S1024x1024_1024_0))) (constant S256x1024 FTy.f32 0#32) (View.ld X1 (Rect.unit ![0, 1024] ![256, 1024] inb_S512x4096_S256x1024_0_1024)) (View.ld X6 (Rect.unit ![0, 1024] ![1024, 1024] inb_S1024x4096_S1024x1024_0_1024)) (View.ld X7 (Rect.unit ![2048, 0] ![1024, 1024] inb_S4096x1024_S1024x1024_2048_0)) (View.ld X1 (Rect.unit ![0, 2048] ![256, 1024] inb_S512x4096_S256x1024_0_2048)) (View.ld X6 (Rect.unit ![0, 2048] ![1024, 1024] inb_S1024x4096_S1024x1024_0_2048))) (k0_pay17 (View.ld X7 (Rect.unit ![3072, 0] ![1024, 1024] inb_S4096x1024_S1024x1024_3072_0))) (constant S256x1024 FTy.f32 0#32) (View.ld X1 (Rect.unit ![0, 3072] ![256, 1024] inb_S512x4096_S256x1024_0_3072)) (View.ld X6 (Rect.unit ![0, 3072] ![1024, 1024] inb_S1024x4096_S1024x1024_0_3072)) (View.ld X5 (Rect.unit ![0, 0, 4096] ![1, 1, 1024] inb_S1x1x6144_S1x1x1024_0_0_4096))) (k0_pay25 (k0_pay10 (View.ld X0 (Rect.unit ![0, 0] ![256, 1024] inb_S512x1024_S256x1024_0_0))) (k0_pay16 (k0_pay10 (View.ld X0 (Rect.unit ![0, 0] ![256, 1024] inb_S512x1024_S256x1024_0_0))) (k0_pay12 (View.ld X0 (Rect.unit ![0, 0] ![256, 1024] inb_S512x1024_S256x1024_0_0)) (View.ld X7 (Rect.unit ![0, 0] ![1024, 1024] inb_S4096x1024_S1024x1024_0_0)) (View.ld X1 (Rect.unit ![0, 0] ![256, 1024] inb_S512x4096_S256x1024_0_0)) (View.ld X6 (Rect.unit ![0, 0] ![1024, 1024] inb_S1024x4096_S1024x1024_0_0))) (k0_pay13 (View.ld X7 (Rect.unit ![1024, 0] ![1024, 1024] inb_S4096x1024_S1024x1024_1024_0))) (constant S256x1024 FTy.f32 0#32) (View.ld X1 (Rect.unit ![0, 1024] ![256, 1024] inb_S512x4096_S256x1024_0_1024)) (View.ld X6 (Rect.unit ![0, 1024] ![1024, 1024] inb_S1024x4096_S1024x1024_0_1024)) (View.ld X7 (Rect.unit ![2048, 0] ![1024, 1024] inb_S4096x1024_S1024x1024_2048_0)) (View.ld X1 (Rect.unit ![0, 2048] ![256, 1024] inb_S512x4096_S256x1024_0_2048)) (View.ld X6 (Rect.unit ![0, 2048] ![1024, 1024] inb_S1024x4096_S1024x1024_0_2048))) (k0_pay17 (View.ld X7 (Rect.unit ![3072, 0] ![1024, 1024] inb_S4096x1024_S1024x1024_3072_0))) (constant S256x1024 FTy.f32 0#32) (View.ld X1 (Rect.unit ![0, 3072] ![256, 1024] inb_S512x4096_S256x1024_0_3072)) (View.ld X6 (Rect.unit ![0, 3072] ![1024, 1024] inb_S1024x4096_S1024x1024_0_3072)) (View.ld X2 (Rect.unit ![0, 0] ![256, 1024] inb_S512x1024_S256x1024_0_0)) (View.ld X5 (Rect.unit ![0, 0, 4096] ![1, 1, 1024] inb_S1x1x6144_S1x1x1024_0_0_4096))) (View.ld X5 (Rect.unit ![0, 0, 2048] ![1, 1, 1024] inb_S1x1x6144_S1x1x1024_0_0_2048)) (ix2 r q)
      = modc X5 2048 (by omega) q * dx (row X2 ⟨r.val, by omega⟩) (row X3 ⟨r.val, by omega⟩) (dh (dz (row X0 ⟨r.val, by omega⟩) (row X1 ⟨r.val, by omega⟩) (mat X7)) (mat X6)) (modc X5 4096 (by omega)) q := by
  rw [← dx_lo]
  pointwise [k0_pay27, k0_pay51]

theorem dx_hi (r : Fin 256) (q : Fin 1024) :
    k0_pay50 (k0_pay44 (k0_pay31 (View.ld X0 (Rect.unit ![256, 0] ![256, 1024] inb_S512x1024_S256x1024_256_0))) (k0_pay38 (k0_pay31 (View.ld X0 (Rect.unit ![256, 0] ![256, 1024] inb_S512x1024_S256x1024_256_0))) k0_pay32 (k0_pay33 (View.ld X0 (Rect.unit ![256, 0] ![256, 1024] inb_S512x1024_S256x1024_256_0)) (View.ld X7 (Rect.unit ![0, 0] ![1024, 1024] inb_S4096x1024_S1024x1024_0_0))) (k0_pay34 (View.ld X1 (Rect.unit ![256, 0] ![256, 1024] inb_S512x4096_S256x1024_256_0))) k0_pay35 (View.ld X6 (Rect.unit ![0, 0] ![1024, 1024] inb_S1024x4096_S1024x1024_0_0)) (View.ld X7 (Rect.unit ![1024, 0] ![1024, 1024] inb_S4096x1024_S1024x1024_1024_0)) (View.ld X1 (Rect.unit ![256, 1024] ![256, 1024] inb_S512x4096_S256x1024_256_1024)) (View.ld X6 (Rect.unit ![0, 1024] ![1024, 1024] inb_S1024x4096_S1024x1024_0_1024))) (k0_pay39 (k0_pay31 (View.ld X0 (Rect.unit ![256, 0] ![256, 1024] inb_S512x1024_S256x1024_256_0))) (View.ld X7 (Rect.unit ![2048, 0] ![1024, 1024] inb_S4096x1024_S1024x1024_2048_0))) (k0_pay40 (View.ld X1 (Rect.unit ![256, 2048] ![256, 1024] inb_S512x4096_S256x1024_256_2048))) k0_pay41 (View.ld X6 (Rect.unit ![0, 2048] ![1024, 1024] inb_S1024x4096_S1024x1024_0_2048)) (View.ld X7 (Rect.unit ![3072, 0] ![1024, 1024] inb_S4096x1024_S1024x1024_3072_0)) (View.ld X1 (Rect.unit ![256, 3072] ![256, 1024] inb_S512x4096_S256x1024_256_3072)) (View.ld X6 (Rect.unit ![0, 3072] ![1024, 1024] inb_S1024x4096_S1024x1024_0_3072))) (k0_pay45 (View.ld X2 (Rect.unit ![256, 0] ![256, 1024] inb_S512x1024_S256x1024_256_0))) (k0_pay46 (View.ld X2 (Rect.unit ![256, 0] ![256, 1024] inb_S512x1024_S256x1024_256_0))) k0_pay47 (View.ld X3 (Rect.unit ![256, 0] ![256, 1024] inb_S512x1024_S256x1024_256_0)) (View.ld X5 (Rect.unit ![0, 0, 4096] ![1, 1, 1024] inb_S1x1x6144_S1x1x1024_0_0_4096)) (ix2 r q)
      = dx (row X2 ⟨256 + r.val, by omega⟩) (row X3 ⟨256 + r.val, by omega⟩) (dh (dz (row X0 ⟨256 + r.val, by omega⟩) (row X1 ⟨256 + r.val, by omega⟩) (mat X7)) (mat X6)) (modc X5 4096 (by omega)) q := by
  unfold dx xn rr
  pointwise [k0_pay20, k0_pay21, k0_pay22, k0_pay23, k0_pay24, k0_pay25, k0_pay26, k0_pay45, k0_pay46, k0_pay47, k0_pay48, k0_pay49, k0_pay50]
  simp only [dh_hi]

theorem dy_hi (r : Fin 256) (q : Fin 1024) :
    k0_pay51 (k0_pay44 (k0_pay31 (View.ld X0 (Rect.unit ![256, 0] ![256, 1024] inb_S512x1024_S256x1024_256_0))) (k0_pay38 (k0_pay31 (View.ld X0 (Rect.unit ![256, 0] ![256, 1024] inb_S512x1024_S256x1024_256_0))) k0_pay32 (k0_pay33 (View.ld X0 (Rect.unit ![256, 0] ![256, 1024] inb_S512x1024_S256x1024_256_0)) (View.ld X7 (Rect.unit ![0, 0] ![1024, 1024] inb_S4096x1024_S1024x1024_0_0))) (k0_pay34 (View.ld X1 (Rect.unit ![256, 0] ![256, 1024] inb_S512x4096_S256x1024_256_0))) k0_pay35 (View.ld X6 (Rect.unit ![0, 0] ![1024, 1024] inb_S1024x4096_S1024x1024_0_0)) (View.ld X7 (Rect.unit ![1024, 0] ![1024, 1024] inb_S4096x1024_S1024x1024_1024_0)) (View.ld X1 (Rect.unit ![256, 1024] ![256, 1024] inb_S512x4096_S256x1024_256_1024)) (View.ld X6 (Rect.unit ![0, 1024] ![1024, 1024] inb_S1024x4096_S1024x1024_0_1024))) (k0_pay39 (k0_pay31 (View.ld X0 (Rect.unit ![256, 0] ![256, 1024] inb_S512x1024_S256x1024_256_0))) (View.ld X7 (Rect.unit ![2048, 0] ![1024, 1024] inb_S4096x1024_S1024x1024_2048_0))) (k0_pay40 (View.ld X1 (Rect.unit ![256, 2048] ![256, 1024] inb_S512x4096_S256x1024_256_2048))) k0_pay41 (View.ld X6 (Rect.unit ![0, 2048] ![1024, 1024] inb_S1024x4096_S1024x1024_0_2048)) (View.ld X7 (Rect.unit ![3072, 0] ![1024, 1024] inb_S4096x1024_S1024x1024_3072_0)) (View.ld X1 (Rect.unit ![256, 3072] ![256, 1024] inb_S512x4096_S256x1024_256_3072)) (View.ld X6 (Rect.unit ![0, 3072] ![1024, 1024] inb_S1024x4096_S1024x1024_0_3072))) (k0_pay45 (View.ld X2 (Rect.unit ![256, 0] ![256, 1024] inb_S512x1024_S256x1024_256_0))) (k0_pay46 (View.ld X2 (Rect.unit ![256, 0] ![256, 1024] inb_S512x1024_S256x1024_256_0))) k0_pay47 (View.ld X3 (Rect.unit ![256, 0] ![256, 1024] inb_S512x1024_S256x1024_256_0)) (View.ld X5 (Rect.unit ![0, 0, 4096] ![1, 1, 1024] inb_S1x1x6144_S1x1x1024_0_0_4096)) (View.ld X5 (Rect.unit ![0, 0, 2048] ![1, 1, 1024] inb_S1x1x6144_S1x1x1024_0_0_2048)) (ix2 r q)
      = modc X5 2048 (by omega) q * dx (row X2 ⟨256 + r.val, by omega⟩) (row X3 ⟨256 + r.val, by omega⟩) (dh (dz (row X0 ⟨256 + r.val, by omega⟩) (row X1 ⟨256 + r.val, by omega⟩) (mat X7)) (mat X6)) (modc X5 4096 (by omega)) q := by
  rw [← dx_hi]
  pointwise [k0_pay27, k0_pay51]

theorem out8_A (t : Fin cfg0.N) (h : t.val % 8 = 0) :
    (outsAt0 m c t.val t.isLt).1 = fun y => dz (row (iblk m c 0 t) (y 0)) (row (iblk m c 1 t) (y 0)) (mat (iblk m c 7 t)) (y 1) := by
  rw [outsAt0_A m c t h (fun h' => h' h) h (fun h' => h' h) h (fun h' => h' h)]
  funext y
  frame_out
  refine View.canon_apply_of_pieces (Val := Elt Ideal) (S := S512x4096) (e := .bf16) (fun y => dz (row (iblk m c 0 t) (y 0)) (row (iblk m c 1 t) (y 0)) (mat (iblk m c 7 t)) (y 1)) _ (fun p hp j => ?_) y ?_
  swap
  · exact View.cover_of_tiledL (s := S512x4096) _ S256x1024.size (by sl_kernel_rfl) y
  simp only [List.mem_cons, List.mem_nil_iff, or_false] at hp
  rcases hp with rfl | rfl | rfl | rfl | rfl | rfl | rfl | rfl <;> dsimp only
  · idx_vars j
    refine (dz_256_3072 ..).trans ?_
    rw [emb_unit2 (n := 512) (k := 4096) _ j0 j1 ⟨256 + j0.val, by omega⟩ ⟨3072 + j1.val, by omega⟩ rfl rfl]
    rfl
  · idx_vars j
    refine (dz_256_2048 ..).trans ?_
    rw [emb_unit2 (n := 512) (k := 4096) _ j0 j1 ⟨256 + j0.val, by omega⟩ ⟨2048 + j1.val, by omega⟩ rfl rfl]
    rfl
  · idx_vars j
    refine (dz_256_1024 ..).trans ?_
    rw [emb_unit2 (n := 512) (k := 4096) _ j0 j1 ⟨256 + j0.val, by omega⟩ ⟨1024 + j1.val, by omega⟩ rfl rfl]
    rfl
  · idx_vars j
    refine (dz_256_0 ..).trans ?_
    rw [emb_unit2 (n := 512) (k := 4096) _ j0 j1 ⟨256 + j0.val, by omega⟩ ⟨j1.val, by omega⟩ rfl (Nat.zero_add _).symm]
    rfl
  · idx_vars j
    refine (dz_0_3072 ..).trans ?_
    rw [emb_unit2 (n := 512) (k := 4096) _ j0 j1 ⟨j0.val, by omega⟩ ⟨3072 + j1.val, by omega⟩ (Nat.zero_add _).symm rfl]
    rfl
  · idx_vars j
    refine (dz_0_2048 ..).trans ?_
    rw [emb_unit2 (n := 512) (k := 4096) _ j0 j1 ⟨j0.val, by omega⟩ ⟨2048 + j1.val, by omega⟩ (Nat.zero_add _).symm rfl]
    rfl
  · idx_vars j
    refine (dz_0_1024 ..).trans ?_
    rw [emb_unit2 (n := 512) (k := 4096) _ j0 j1 ⟨j0.val, by omega⟩ ⟨1024 + j1.val, by omega⟩ (Nat.zero_add _).symm rfl]
    rfl
  · idx_vars j
    refine (dz_0_0 ..).trans ?_
    rw [emb_unit2 (n := 512) (k := 4096) _ j0 j1 ⟨j0.val, by omega⟩ ⟨j1.val, by omega⟩ (Nat.zero_add _).symm (Nat.zero_add _).symm]
    rfl

theorem out8_B (t : Fin cfg0.N) (h : ¬t.val % 8 = 0) :
    (outsAt0 m c t.val t.isLt).1 = fun y => dz (row (iblk m c 0 t) (y 0)) (row (iblk m c 1 t) (y 0)) (mat (iblk m c 7 t)) (y 1) := by
  rw [outsAt0_B m c t h h h h h h]
  funext y
  frame_out
  refine View.canon_apply_of_pieces (Val := Elt Ideal) (S := S512x4096) (e := .bf16) (fun y => dz (row (iblk m c 0 t) (y 0)) (row (iblk m c 1 t) (y 0)) (mat (iblk m c 7 t)) (y 1)) _ (fun p hp j => ?_) y ?_
  swap
  · exact View.cover_of_tiledL (s := S512x4096) _ S256x1024.size (by sl_kernel_rfl) y
  simp only [List.mem_cons, List.mem_nil_iff, or_false] at hp
  rcases hp with rfl | rfl | rfl | rfl | rfl | rfl | rfl | rfl <;> dsimp only
  · idx_vars j
    refine (dz_256_3072 ..).trans ?_
    rw [emb_unit2 (n := 512) (k := 4096) _ j0 j1 ⟨256 + j0.val, by omega⟩ ⟨3072 + j1.val, by omega⟩ rfl rfl]
    rfl
  · idx_vars j
    refine (dz_256_2048 ..).trans ?_
    rw [emb_unit2 (n := 512) (k := 4096) _ j0 j1 ⟨256 + j0.val, by omega⟩ ⟨2048 + j1.val, by omega⟩ rfl rfl]
    rfl
  · idx_vars j
    refine (dz_256_1024 ..).trans ?_
    rw [emb_unit2 (n := 512) (k := 4096) _ j0 j1 ⟨256 + j0.val, by omega⟩ ⟨1024 + j1.val, by omega⟩ rfl rfl]
    rfl
  · idx_vars j
    refine (dz_256_0 ..).trans ?_
    rw [emb_unit2 (n := 512) (k := 4096) _ j0 j1 ⟨256 + j0.val, by omega⟩ ⟨j1.val, by omega⟩ rfl (Nat.zero_add _).symm]
    rfl
  · idx_vars j
    refine (dz_0_3072 ..).trans ?_
    rw [emb_unit2 (n := 512) (k := 4096) _ j0 j1 ⟨j0.val, by omega⟩ ⟨3072 + j1.val, by omega⟩ (Nat.zero_add _).symm rfl]
    rfl
  · idx_vars j
    refine (dz_0_2048 ..).trans ?_
    rw [emb_unit2 (n := 512) (k := 4096) _ j0 j1 ⟨j0.val, by omega⟩ ⟨2048 + j1.val, by omega⟩ (Nat.zero_add _).symm rfl]
    rfl
  · idx_vars j
    refine (dz_0_1024 ..).trans ?_
    rw [emb_unit2 (n := 512) (k := 4096) _ j0 j1 ⟨j0.val, by omega⟩ ⟨1024 + j1.val, by omega⟩ (Nat.zero_add _).symm rfl]
    rfl
  · idx_vars j
    refine (dz_0_0 ..).trans ?_
    rw [emb_unit2 (n := 512) (k := 4096) _ j0 j1 ⟨j0.val, by omega⟩ ⟨j1.val, by omega⟩ (Nat.zero_add _).symm (Nat.zero_add _).symm]
    rfl

theorem out9_A (t : Fin cfg0.N) (h : t.val % 8 = 0) :
    (outsAt0 m c t.val t.isLt).2.1 = fun y => dx (row (iblk m c 2 t) (y 0)) (row (iblk m c 3 t) (y 0)) (dh (dz (row (iblk m c 0 t) (y 0)) (row (iblk m c 1 t) (y 0)) (mat (iblk m c 7 t))) (mat (iblk m c 6 t))) (modc (iblk m c 5 t) 4096 (by omega)) (y 1) := by
  rw [outsAt0_A m c t h (fun h' => h' h) h (fun h' => h' h) h (fun h' => h' h)]
  funext y
  frame_out
  refine View.canon_apply_of_pieces (Val := Elt Ideal) (S := S512x1024) (e := .f32) (fun y => dx (row (iblk m c 2 t) (y 0)) (row (iblk m c 3 t) (y 0)) (dh (dz (row (iblk m c 0 t) (y 0)) (row (iblk m c 1 t) (y 0)) (mat (iblk m c 7 t))) (mat (iblk m c 6 t))) (modc (iblk m c 5 t) 4096 (by omega)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (dx_hi ..).trans ?_
    rw [emb_unit2 (n := 512) (k := 1024) _ j0 j1 ⟨256 + j0.val, by omega⟩ ⟨j1.val, by omega⟩ rfl (Nat.zero_add _).symm]
    rfl
  · idx_vars j
    refine (dx_lo ..).trans ?_
    rw [emb_unit2 (n := 512) (k := 1024) _ j0 j1 ⟨j0.val, by omega⟩ ⟨j1.val, by omega⟩ (Nat.zero_add _).symm (Nat.zero_add _).symm]
    rfl

theorem out9_B (t : Fin cfg0.N) (h : ¬t.val % 8 = 0) :
    (outsAt0 m c t.val t.isLt).2.1 = fun y => dx (row (iblk m c 2 t) (y 0)) (row (iblk m c 3 t) (y 0)) (dh (dz (row (iblk m c 0 t) (y 0)) (row (iblk m c 1 t) (y 0)) (mat (iblk m c 7 t))) (mat (iblk m c 6 t))) (modc (iblk m c 5 t) 4096 (by omega)) (y 1) := by
  rw [outsAt0_B m c t h h h h h h]
  funext y
  frame_out
  refine View.canon_apply_of_pieces (Val := Elt Ideal) (S := S512x1024) (e := .f32) (fun y => dx (row (iblk m c 2 t) (y 0)) (row (iblk m c 3 t) (y 0)) (dh (dz (row (iblk m c 0 t) (y 0)) (row (iblk m c 1 t) (y 0)) (mat (iblk m c 7 t))) (mat (iblk m c 6 t))) (modc (iblk m c 5 t) 4096 (by omega)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (dx_hi ..).trans ?_
    rw [emb_unit2 (n := 512) (k := 1024) _ j0 j1 ⟨256 + j0.val, by omega⟩ ⟨j1.val, by omega⟩ rfl (Nat.zero_add _).symm]
    rfl
  · idx_vars j
    refine (dx_lo ..).trans ?_
    rw [emb_unit2 (n := 512) (k := 1024) _ j0 j1 ⟨j0.val, by omega⟩ ⟨j1.val, by omega⟩ (Nat.zero_add _).symm (Nat.zero_add _).symm]
    rfl

theorem out10_A (t : Fin cfg0.N) (h : t.val % 8 = 0) :
    (outsAt0 m c t.val t.isLt).2.2.1 = fun y => modc (iblk m c 5 t) 2048 (by omega) (y 1) * dx (row (iblk m c 2 t) (y 0)) (row (iblk m c 3 t) (y 0)) (dh (dz (row (iblk m c 0 t) (y 0)) (row (iblk m c 1 t) (y 0)) (mat (iblk m c 7 t))) (mat (iblk m c 6 t))) (modc (iblk m c 5 t) 4096 (by omega)) (y 1) := by
  rw [outsAt0_A m c t h (fun h' => h' h) h (fun h' => h' h) h (fun h' => h' h)]
  funext y
  frame_out
  refine View.canon_apply_of_pieces (Val := Elt Ideal) (S := S512x1024) (e := .bf16) (fun y => modc (iblk m c 5 t) 2048 (by omega) (y 1) * dx (row (iblk m c 2 t) (y 0)) (row (iblk m c 3 t) (y 0)) (dh (dz (row (iblk m c 0 t) (y 0)) (row (iblk m c 1 t) (y 0)) (mat (iblk m c 7 t))) (mat (iblk m c 6 t))) (modc (iblk m c 5 t) 4096 (by omega)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (dy_hi ..).trans ?_
    rw [emb_unit2 (n := 512) (k := 1024) _ j0 j1 ⟨256 + j0.val, by omega⟩ ⟨j1.val, by omega⟩ rfl (Nat.zero_add _).symm]
    rfl
  · idx_vars j
    refine (dy_lo ..).trans ?_
    rw [emb_unit2 (n := 512) (k := 1024) _ j0 j1 ⟨j0.val, by omega⟩ ⟨j1.val, by omega⟩ (Nat.zero_add _).symm (Nat.zero_add _).symm]
    rfl

theorem out10_B (t : Fin cfg0.N) (h : ¬t.val % 8 = 0) :
    (outsAt0 m c t.val t.isLt).2.2.1 = fun y => modc (iblk m c 5 t) 2048 (by omega) (y 1) * dx (row (iblk m c 2 t) (y 0)) (row (iblk m c 3 t) (y 0)) (dh (dz (row (iblk m c 0 t) (y 0)) (row (iblk m c 1 t) (y 0)) (mat (iblk m c 7 t))) (mat (iblk m c 6 t))) (modc (iblk m c 5 t) 4096 (by omega)) (y 1) := by
  rw [outsAt0_B m c t h h h h h h]
  funext y
  frame_out
  refine View.canon_apply_of_pieces (Val := Elt Ideal) (S := S512x1024) (e := .bf16) (fun y => modc (iblk m c 5 t) 2048 (by omega) (y 1) * dx (row (iblk m c 2 t) (y 0)) (row (iblk m c 3 t) (y 0)) (dh (dz (row (iblk m c 0 t) (y 0)) (row (iblk m c 1 t) (y 0)) (mat (iblk m c 7 t))) (mat (iblk m c 6 t))) (modc (iblk m c 5 t) 4096 (by omega)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (dy_hi ..).trans ?_
    rw [emb_unit2 (n := 512) (k := 1024) _ j0 j1 ⟨256 + j0.val, by omega⟩ ⟨j1.val, by omega⟩ rfl (Nat.zero_add _).symm]
    rfl
  · idx_vars j
    refine (dy_lo ..).trans ?_
    rw [emb_unit2 (n := 512) (k := 1024) _ j0 j1 ⟨j0.val, by omega⟩ ⟨j1.val, by omega⟩ (Nat.zero_add _).symm (Nat.zero_add _).symm]
    rfl

theorem out11_A (t : Fin cfg0.N) (h : t.val % 8 = 0) (s : Fin 8) (q : Fin 1024) :
    (outsAt0 m c t.val t.isLt).2.2.2.1 (ix3 0 s q) = ∑ k : Fin 64, dh (dz (row (iblk m c 0 t) ⟨k.val * 8 + s.val, by omega⟩) (row (iblk m c 1 t) ⟨k.val * 8 + s.val, by omega⟩) (mat (iblk m c 7 t))) (mat (iblk m c 6 t)) q := by
  rw [outsAt0_A m c t h (fun h' => h' h) h (fun h' => h' h) h (fun h' => h' h)]
  frame_out
  pointwise [k0_pay4, k0_pay5, k0_pay1, k0_pay28, k0_pay52]
  simp only [dh_lo, dh_hi]

  exact sum_res (fun r => dh (dz (row (iblk m c 0 t) r) (row (iblk m c 1 t) r) (mat (iblk m c 7 t))) (mat (iblk m c 6 t)) q) s

theorem out11_B (t : Fin cfg0.N) (h : ¬t.val % 8 = 0) (s : Fin 8) (q : Fin 1024) :
    (outsAt0 m c t.val t.isLt).2.2.2.1 (ix3 0 s q) = (outsAt0 m c (t.val - 1) (Nat.lt_of_le_of_lt (Nat.sub_le _ _) t.isLt)).2.2.2.1 (ix3 0 s q) + ∑ k : Fin 64, dh (dz (row (iblk m c 0 t) ⟨k.val * 8 + s.val, by omega⟩) (row (iblk m c 1 t) ⟨k.val * 8 + s.val, by omega⟩) (mat (iblk m c 7 t))) (mat (iblk m c 6 t)) q := by
  rw [outsAt0_B m c t h h h h h h]
  frame_out
  pointwise [k0_pay4, k0_pay5, k0_pay1, k0_pay28, k0_pay52]
  simp only [dh_lo, dh_hi]

  refine congrArg (_ + ·) ?_
  exact sum_res (fun r => dh (dz (row (iblk m c 0 t) r) (row (iblk m c 1 t) r) (mat (iblk m c 7 t))) (mat (iblk m c 6 t)) q) s

theorem out12_A (t : Fin cfg0.N) (h : t.val % 8 = 0) (s : Fin 8) (q : Fin 1024) :
    (outsAt0 m c t.val t.isLt).2.2.2.2.1 (ix3 0 s q) = ∑ k : Fin 64, dh (dz (row (iblk m c 0 t) ⟨k.val * 8 + s.val, by omega⟩) (row (iblk m c 1 t) ⟨k.val * 8 + s.val, by omega⟩) (mat (iblk m c 7 t))) (mat (iblk m c 6 t)) q * xn (row (iblk m c 2 t) ⟨k.val * 8 + s.val, by omega⟩) q := by
  rw [outsAt0_A m c t h (fun h' => h' h) h (fun h' => h' h) h (fun h' => h' h)]
  frame_out
  pointwise [k0_pay6, k0_pay7, k0_pay2, k0_pay29, k0_pay53, k0_pay20, k0_pay21, k0_pay22, k0_pay45, k0_pay46, k0_pay47, k0_pay48, k0_pay49]
  simp only [dh_lo, dh_hi]

  exact sum_res (fun r => dh (dz (row (iblk m c 0 t) r) (row (iblk m c 1 t) r) (mat (iblk m c 7 t))) (mat (iblk m c 6 t)) q * xn (row (iblk m c 2 t) r) q) s

theorem out12_B (t : Fin cfg0.N) (h : ¬t.val % 8 = 0) (s : Fin 8) (q : Fin 1024) :
    (outsAt0 m c t.val t.isLt).2.2.2.2.1 (ix3 0 s q) = (outsAt0 m c (t.val - 1) (Nat.lt_of_le_of_lt (Nat.sub_le _ _) t.isLt)).2.2.2.2.1 (ix3 0 s q) + ∑ k : Fin 64, dh (dz (row (iblk m c 0 t) ⟨k.val * 8 + s.val, by omega⟩) (row (iblk m c 1 t) ⟨k.val * 8 + s.val, by omega⟩) (mat (iblk m c 7 t))) (mat (iblk m c 6 t)) q * xn (row (iblk m c 2 t) ⟨k.val * 8 + s.val, by omega⟩) q := by
  rw [outsAt0_B m c t h h h h h h]
  frame_out
  pointwise [k0_pay6, k0_pay7, k0_pay2, k0_pay29, k0_pay53, k0_pay20, k0_pay21, k0_pay22, k0_pay45, k0_pay46, k0_pay47, k0_pay48, k0_pay49]
  simp only [dh_lo, dh_hi]

  refine congrArg (_ + ·) ?_
  exact sum_res (fun r => dh (dz (row (iblk m c 0 t) r) (row (iblk m c 1 t) r) (mat (iblk m c 7 t))) (mat (iblk m c 6 t)) q * xn (row (iblk m c 2 t) r) q) s

theorem out13_A (t : Fin cfg0.N) (h : t.val % 8 = 0) (s : Fin 8) (q : Fin 1024) :
    (outsAt0 m c t.val t.isLt).2.2.2.2.2 (ix3 0 s q) = ∑ k : Fin 64, dx (row (iblk m c 2 t) ⟨k.val * 8 + s.val, by omega⟩) (row (iblk m c 3 t) ⟨k.val * 8 + s.val, by omega⟩) (dh (dz (row (iblk m c 0 t) ⟨k.val * 8 + s.val, by omega⟩) (row (iblk m c 1 t) ⟨k.val * 8 + s.val, by omega⟩) (mat (iblk m c 7 t))) (mat (iblk m c 6 t))) (modc (iblk m c 5 t) 4096 (by omega)) q * row (iblk m c 4 t) ⟨k.val * 8 + s.val, by omega⟩ q := by
  rw [outsAt0_A m c t h (fun h' => h' h) h (fun h' => h' h) h (fun h' => h' h)]
  frame_out
  pointwise [k0_pay8, k0_pay9, k0_pay3, k0_pay30, k0_pay54]
  simp only [dx_lo, dx_hi]

  exact sum_res (fun r => dx (row (iblk m c 2 t) r) (row (iblk m c 3 t) r) (dh (dz (row (iblk m c 0 t) r) (row (iblk m c 1 t) r) (mat (iblk m c 7 t))) (mat (iblk m c 6 t))) (modc (iblk m c 5 t) 4096 (by omega)) q * row (iblk m c 4 t) r q) s

theorem out13_B (t : Fin cfg0.N) (h : ¬t.val % 8 = 0) (s : Fin 8) (q : Fin 1024) :
    (outsAt0 m c t.val t.isLt).2.2.2.2.2 (ix3 0 s q) = (outsAt0 m c (t.val - 1) (Nat.lt_of_le_of_lt (Nat.sub_le _ _) t.isLt)).2.2.2.2.2 (ix3 0 s q) + ∑ k : Fin 64, dx (row (iblk m c 2 t) ⟨k.val * 8 + s.val, by omega⟩) (row (iblk m c 3 t) ⟨k.val * 8 + s.val, by omega⟩) (dh (dz (row (iblk m c 0 t) ⟨k.val * 8 + s.val, by omega⟩) (row (iblk m c 1 t) ⟨k.val * 8 + s.val, by omega⟩) (mat (iblk m c 7 t))) (mat (iblk m c 6 t))) (modc (iblk m c 5 t) 4096 (by omega)) q * row (iblk m c 4 t) ⟨k.val * 8 + s.val, by omega⟩ q := by
  rw [outsAt0_B m c t h h h h h h]
  frame_out
  pointwise [k0_pay8, k0_pay9, k0_pay3, k0_pay30, k0_pay54]
  simp only [dx_lo, dx_hi]

  refine congrArg (_ + ·) ?_
  exact sum_res (fun r => dx (row (iblk m c 2 t) r) (row (iblk m c 3 t) r) (dh (dz (row (iblk m c 0 t) r) (row (iblk m c 1 t) r) (mat (iblk m c 7 t))) (mat (iblk m c 6 t))) (modc (iblk m c 5 t) 4096 (by omega)) q * row (iblk m c 4 t) r q) s
end Cert.Kernel2Ideal.Hand
end
-- ==== Proof.Reals.lean ====
/-
  Extended reals that are real: the closure facts and the constants that the value proofs use.
-/
module

public import Idealize.ShloMosaic.Lib.Pointwise

@[expose] public section

noncomputable section

namespace Cert.Reals

open Idealize.ShloMosaic

/-- `a` is a real number. -/
def IsRl (a : EReal) : Prop := ∃ r : ℝ, a = (r : EReal)

theorem isRl_coe (r : ℝ) : IsRl (r : EReal) := ⟨r, rfl⟩
theorem isRl_zero : IsRl 0 := ⟨0, rfl⟩
theorem isRl_one : IsRl 1 := ⟨1, rfl⟩
theorem IsRl.add {a b : EReal} (ha : IsRl a) (hb : IsRl b) : IsRl (a + b) := by
  obtain ⟨x, rfl⟩ := ha; obtain ⟨y, rfl⟩ := hb; exact ⟨x + y, (EReal.coe_add x y).symm⟩
theorem IsRl.sub {a b : EReal} (ha : IsRl a) (hb : IsRl b) : IsRl (a - b) := by
  obtain ⟨x, rfl⟩ := ha; obtain ⟨y, rfl⟩ := hb; exact ⟨x - y, (EReal.coe_sub x y).symm⟩
theorem IsRl.mul {a b : EReal} (ha : IsRl a) (hb : IsRl b) : IsRl (a * b) := by
  obtain ⟨x, rfl⟩ := ha; obtain ⟨y, rfl⟩ := hb; exact ⟨x * y, (EReal.coe_mul x y).symm⟩
theorem IsRl.max {a b : EReal} (ha : IsRl a) (hb : IsRl b) : IsRl (max a b) := by
  rcases max_choice a b with h | h <;> rw [h] <;> assumption

/-- A finite sum of reals, as a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A family of reals has a real-valued family below it. -/
theorem lift_fun {ι : Type} {f : ι → EReal} (h : ∀ i, IsRl (f i)) : ∃ g : ι → ℝ, f = fun i => ((g i : ℝ) : EReal) :=
  ⟨fun i => (h i).choose, funext fun i => (h i).choose_spec⟩

theorem isRl_sum {ι : Type} {s : Finset ι} {f : ι → EReal} (h : ∀ i, IsRl (f i)) : IsRl (∑ i ∈ s, f i) := by
  obtain ⟨g, rfl⟩ := lift_fun h
  exact ⟨_, coe_sum s g⟩

/-- An extended real whose difference with itself is zero is real. -/
theorem isRl_of_sub_self {a : EReal} (h : a - a = 0) : IsRl a := by
  induction a with
  | bot => simp at h
  | coe r => exact ⟨r, rfl⟩
  | top => simp at h

/-- The constants 1024, 2, 1/2 negated, and the small number added under the root. -/
theorem c1024 : Ideal.ofBits .f32 0x44800000#32 = ((1024 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; try norm_num
theorem cNegHalf : Ideal.ofBits .f32 0xBF000000#32 = ((-(1 / 2) : ℝ) : EReal) := by
  simp [Ideal.ofBits, Ideal.ieee, -EReal.coe_mul]; try norm_num
theorem cEps_pos : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]; try norm_num

/-- The quotient of two reals whose divisor is not zero. -/
theorem div_coe_coe (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

end Cert.Reals
end
-- ==== Proof.MlpSpec.lean ====
/-
  The gradients of the MLP branch as functions of the whole arguments, and the one place where kernel and reference
  differ: the gradient through the root mean square.
-/
module

public import proofs.«01_k».proof.Proof.MlpRows
public import proofs.«01_k».proof.Proof.Reals

@[expose] public section

noncomputable section

namespace Cert.MlpBwd

open Idealize.ShloMosaic Cert.Reals

/-- The sequence and the place in it of row `r`. -/
abbrev rb (r : Fin 8192) : Fin 2 := ⟨r.val / 4096, by omega⟩
abbrev rt (r : Fin 8192) : Fin 4096 := ⟨r.val % 4096, by omega⟩

/-- Row `8 j + s` of sequence `b`. -/
def row8 (b : Fin 2) (j : Fin 512) (s : Fin 8) : Fin 8192 := ⟨b.val * 4096 + j.val * 8 + s.val, by omega⟩

theorem rb_row8 (b : Fin 2) (j : Fin 512) (s : Fin 8) : rb (row8 b j s) = b :=
  Fin.ext (by show (b.val * 4096 + j.val * 8 + s.val) / 4096 = b.val; omega)
theorem rt_row8 (b : Fin 2) (j : Fin 512) (s : Fin 8) : rt (row8 b j s) = ⟨j.val * 8 + s.val, by omega⟩ :=
  Fin.ext (by show (b.val * 4096 + j.val * 8 + s.val) % 4096 = j.val * 8 + s.val; omega)

/-- Row `(b, t)` of an activation array, and a vector of modulation coefficients of sequence `b`. -/
abbrev xrow (X : (⟨3, ![2, 4096, 1024]⟩ : Shape).Idx → EReal) (b : Fin 2) (t : Fin 4096) (q : Fin 1024) : EReal := X (ix3 b t q)
abbrev mrow (M : (⟨2, ![2, 6144]⟩ : Shape).Idx → EReal) (b : Fin 2) (o : Nat) (h : o + 1024 ≤ 6144) (q : Fin 1024) : EReal :=
  M (ix2 b ⟨o + q.val, by omega⟩)
abbrev wmat {n k : Nat} (X : (⟨2, ![n, k]⟩ : Shape).Idx → EReal) (r : Fin n) (c : Fin k) : EReal := X (ix2 r c)

/-- The hidden layer before the activation. -/
def zrow (x sh sc : Fin 1024 → EReal) (w1 : Fin 1024 → Fin 4096 → EReal) (f : Fin 4096) : EReal :=
  ∑ k, (xn x k * (1 + sc k) + sh k) * w1 k f

variable (x0 x1 x2 : (⟨3, ![2, 4096, 1024]⟩ : Shape).Idx → EReal) (x3 : (⟨2, ![2, 6144]⟩ : Shape).Idx → EReal)
  (x4 : (⟨2, ![1024, 4096]⟩ : Shape).Idx → EReal) (x5 : (⟨2, ![4096, 1024]⟩ : Shape).Idx → EReal)

/-- The hidden layer, its gradient, the modulated input's gradient and the input's gradient, at row `(b, t)`. -/
def Z (b : Fin 2) (t : Fin 4096) : Fin 4096 → EReal :=
  zrow (xrow x0 b t) (mrow x3 b 3072 (by omega)) (mrow x3 b 4096 (by omega)) (wmat x4)
def DZ (b : Fin 2) (t : Fin 4096) : Fin 4096 → EReal :=
  dz (fun q => mrow x3 b 5120 (by omega) q * xrow x2 b t q) (Z x0 x3 x4 b t) (wmat x5)
def DH (b : Fin 2) (t : Fin 4096) : Fin 1024 → EReal := dh (DZ x0 x2 x3 x4 x5 b t) (wmat x4)
def DX (b : Fin 2) (t : Fin 4096) : Fin 1024 → EReal :=
  dx (xrow x0 b t) (xrow x2 b t) (DH x0 x2 x3 x4 x5 b t) (mrow x3 b 4096 (by omega))

/-- The six results. -/
def R0 : (⟨2, ![8192, 4096]⟩ : Shape).Idx → EReal := fun y => DZ x0 x2 x3 x4 x5 (rb (y 0)) (rt (y 0)) (y 1)
def R1 : (⟨2, ![8192, 1024]⟩ : Shape).Idx → EReal := fun y => DX x0 x2 x3 x4 x5 (rb (y 0)) (rt (y 0)) (y 1)
def R2 : (⟨2, ![8192, 1024]⟩ : Shape).Idx → EReal := fun y =>
  mrow x3 (rb (y 0)) 2048 (by omega) (y 1) * DX x0 x2 x3 x4 x5 (rb (y 0)) (rt (y 0)) (y 1)
def R3 : (⟨3, ![2, 8, 1024]⟩ : Shape).Idx → EReal := fun y =>
  ∑ j : Fin 512, DH x0 x2 x3 x4 x5 (rb (row8 (y 0) j (y 1))) (rt (row8 (y 0) j (y 1))) (y 2)
def R4 : (⟨3, ![2, 8, 1024]⟩ : Shape).Idx → EReal := fun y =>
  ∑ j : Fin 512, DH x0 x2 x3 x4 x5 (rb (row8 (y 0) j (y 1))) (rt (row8 (y 0) j (y 1))) (y 2)
    * xn (xrow x0 (rb (row8 (y 0) j (y 1))) (rt (row8 (y 0) j (y 1)))) (y 2)
def R5 : (⟨3, ![2, 8, 1024]⟩ : Shape).Idx → EReal := fun y =>
  ∑ j : Fin 512, DX x0 x2 x3 x4 x5 (rb (row8 (y 0) j (y 1))) (rt (row8 (y 0) j (y 1))) (y 2)
    * xrow x1 (rb (row8 (y 0) j (y 1))) (rt (row8 (y 0) j (y 1))) (y 2)

/-- The mean square plus the small number is a positive real. -/
theorem mean_pos {x : Fin 1024 → EReal} (hx : ∀ k, IsRl (x k)) :
    ∃ v : ℝ, 0 < v ∧ Ideal.div (∑ k, x k * x k) cD + cEps = (v : EReal) := by
  obtain ⟨g, rfl⟩ := lift_fun hx
  obtain ⟨e, he, hc⟩ := cEps_pos
  refine ⟨(∑ k, g k * g k) / 1024 + e, add_pos_of_nonneg_of_pos (div_nonneg (Finset.sum_nonneg fun k _ => mul_self_nonneg _) (by norm_num)) he, ?_⟩
  simp only [cD, cEps, hc, c1024, ← EReal.coe_mul, coe_sum]
  rw [div_coe_coe _ (by norm_num), ← EReal.coe_add]

theorem isRl_rr {x : Fin 1024 → EReal} (hx : ∀ k, IsRl (x k)) : IsRl (rr x) := by
  obtain ⟨v, hv, h⟩ := mean_pos hx
  unfold rr
  rw [h, rsqrt_pos hv]
  exact isRl_coe _

theorem isRl_DH (h0 : ∀ i, IsRl (x0 i)) (h2 : ∀ i, IsRl (x2 i)) (h3 : ∀ i, IsRl (x3 i)) (h4 : ∀ i, IsRl (x4 i)) (h5 : ∀ i, IsRl (x5 i))
    (b : Fin 2) (t : Fin 4096) (q : Fin 1024) : IsRl (DH x0 x2 x3 x4 x5 b t q) := by
  unfold DH dh DZ dz
  refine isRl_sum fun f => IsRl.mul (IsRl.mul (isRl_sum fun k => ((h3 _).mul (h2 _)).mul (h5 _)) (IsRl.mul ?_ (IsRl.max ?_ isRl_zero))) (h4 _)
  · exact ⟨_, c2⟩
  · unfold Z zrow xn
    exact isRl_sum fun k => IsRl.mul (((IsRl.mul (h0 _) (isRl_rr fun _ => h0 _)).mul (isRl_one.add (h3 _))).add (h3 _)) (h4 _)

/-- The two ways to write the gradient through the root mean square agree on reals. -/
theorem dx_eq {x res d sc : Fin 1024 → EReal} (hx : ∀ k, IsRl (x k)) (hd : ∀ k, IsRl (d k)) (hs : ∀ k, IsRl (sc k)) (c : Fin 1024) :
    res c + (d c * (1 + sc c) * rr x
        + x c * Ideal.div ((∑ k, x k * (d k * (1 + sc k))) * (Ideal.ofBits .f32 0xBF000000#32 * Ideal.div (rr x) (Ideal.div (∑ k, x k * x k) cD + cEps))) cD
        + Ideal.div ((∑ k, x k * (d k * (1 + sc k))) * (Ideal.ofBits .f32 0xBF000000#32 * Ideal.div (rr x) (Ideal.div (∑ k, x k * x k) cD + cEps))) cD * x c)
      = dx x res d sc c := by
  obtain ⟨v, hv, h⟩ := mean_pos hx
  have hr : rr x = (((Real.sqrt v)⁻¹ : ℝ) : EReal) := by unfold rr; rw [h, rsqrt_pos hv]
  unfold dx xn
  rw [h, hr, cNegHalf]
  obtain ⟨x, rfl⟩ := lift_fun hx
  obtain ⟨d, rfl⟩ := lift_fun hd
  obtain ⟨sc, rfl⟩ := lift_fun hs
  refine congrArg (res c + ·) ?_
  have hv' : v ≠ 0 := hv.ne'
  have h1 : (1 : EReal) = ((1 : ℝ) : EReal) := rfl
  simp only [cD, c1024, h1, ← EReal.coe_mul, ← EReal.coe_add, coe_sum, div_coe_coe _ hv', div_coe_coe _ (show (1024 : ℝ) ≠ 0 by norm_num), ← EReal.coe_sub]
  refine congrArg _ ?_
  have e1 : ∑ k, d k * (1 + sc k) * (x k * (Real.sqrt v)⁻¹) = (∑ k, x k * (d k * (1 + sc k))) * (Real.sqrt v)⁻¹ := by
    rw [Finset.sum_mul]; exact Finset.sum_congr rfl fun k _ => by ring
  rw [e1]
  generalize ∑ k, x k * (d k * (1 + sc k)) = S
  have hq : Real.sqrt v ≠ 0 := (Real.sqrt_pos.mpr hv).ne'
  have e2 : v = Real.sqrt v * Real.sqrt v := (Real.mul_self_sqrt hv.le).symm
  generalize Real.sqrt v = s at *
  subst e2
  field_simp
  ring

end Cert.MlpBwd
end
-- ==== Proof.MlpArrays.lean ====
module

public import proofs.«01_k».proof.Proof.MlpBlock
public import proofs.«01_k».proof.Proof.MlpSpec
public import Idealize.ShloMosaic.Lib.StableHlo.ReadAt

@[expose] public section

set_option maxRecDepth 16384

noncomputable section

namespace Cert.Kernel2Ideal.Hand

open Idealize.ShloMosaic Idealize.ShloMosaic.TcCoe Idealize.ShloMosaic.Tactic
open Idealize.SL Idealize.SL.Sem
open Idealize.ShloMosaic.Pipeline (Dat Cfg Window cellOf)
open Cert.Kernel2Ideal.Gen
open Cert.MlpBwd

variable (m : (ℓ : Loc nD τ sig) → Buf (Elt Ideal) ℓ) (c : Dev nD)

/-- Row `r` of a whole array. -/
abbrev grow {n : Nat} (X : (⟨2, ![8192, n]⟩ : Shape).Idx → EReal) (r : Fin 8192) (c : Fin n) : EReal := X (ix2 r c)

/-- One vector of 1024 modulation coefficients of sequence `b`. -/
abbrev gmod (X : (⟨3, ![2, 1, 6144]⟩ : Shape).Idx → EReal) (b : Fin 2) (o : Nat) (h : o + 1024 ≤ 6144) (c : Fin 1024) : EReal :=
  X (ix3 b 0 ⟨o + c.val, by omega⟩)

theorem lt16 (t : Fin cfg0.N) : t.val < 16 := t.isLt

/-- Row `r` of block `t`, among all rows. -/
abbrev gr (t : Fin cfg0.N) (r : Fin 512) : Fin 8192 := ⟨t.val * 512 + r.val, by have := lt16 t; omega⟩

/-- The sequence block `t` belongs to. -/
abbrev gb (t : Fin cfg0.N) : Fin 2 := ⟨t.val / 8, by have := lt16 t; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val / 8, 0, 0] := (by decide +kernel : ∀ t : Fin grid0.N, win0_5.index t = ![t.val / 8, 0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val / 8, 0, 0] := (by decide +kernel : ∀ t : Fin grid0.N, win0_11.index t = ![t.val / 8, 0, 0])
theorem idx12 : ∀ t : Fin cfg0.N, win0_12.index t = ![t.val / 8, 0, 0] := (by decide +kernel : ∀ t : Fin grid0.N, win0_12.index t = ![t.val / 8, 0, 0])
theorem idx13 : ∀ t : Fin cfg0.N, win0_13.index t = ![t.val / 8, 0, 0] := (by decide +kernel : ∀ t : Fin grid0.N, win0_13.index t = ![t.val / 8, 0, 0])

theorem blk0 (t : Fin cfg0.N) (r : Fin 512) : row (iblk m c 0 t) r = grow (V m c main_v29) (gr t r) := by
  funext q
  show iblk m c 0 t (ix2 r q) = V m c main_v29 (ix2 (gr t r) q)
  blk_simp [iblk]
  refine congrArg _ ?_
  blk_ext [idx0 t]

theorem blk1 (t : Fin cfg0.N) (r : Fin 512) : row (iblk m c 1 t) r = grow (V m c main_v31) (gr t r) := by
  funext q
  show iblk m c 1 t (ix2 r q) = V m c main_v31 (ix2 (gr t r) q)
  blk_simp [iblk]
  refine congrArg _ ?_
  blk_ext [idx1 t]

theorem blk2 (t : Fin cfg0.N) (r : Fin 512) : row (iblk m c 2 t) r = grow (V m c main_v32) (gr t r) := by
  funext q
  show iblk m c 2 t (ix2 r q) = V m c main_v32 (ix2 (gr t r) q)
  blk_simp [iblk]
  refine congrArg _ ?_
  blk_ext [idx2 t]

theorem blk3 (t : Fin cfg0.N) (r : Fin 512) : row (iblk m c 3 t) r = grow (V m c main_v33) (gr t r) := by
  funext q
  show iblk m c 3 t (ix2 r q) = V m c main_v33 (ix2 (gr t r) q)
  blk_simp [iblk]
  refine congrArg _ ?_
  blk_ext [idx3 t]

theorem blk4 (t : Fin cfg0.N) (r : Fin 512) : row (iblk m c 4 t) r = grow (V m c main_v35) (gr t r) := by
  funext q
  show iblk m c 4 t (ix2 r q) = V m c main_v35 (ix2 (gr t r) q)
  blk_simp [iblk]
  refine congrArg _ ?_
  blk_ext [idx4 t]

theorem blk5 (t : Fin cfg0.N) (o : Nat) (h : o + 1024 ≤ 6144) : modc (iblk m c 5 t) o h = gmod (V m c main_v36) (gb t) o h := by
  funext q
  show iblk m c 5 t (ix3 0 0 ⟨o + q.val, by omega⟩) = V m c main_v36 (ix3 (gb t) 0 ⟨o + q.val, by omega⟩)
  blk_simp [iblk]
  refine congrArg _ ?_
  blk_ext [idx5 t]

theorem blk6 (t : Fin cfg0.N) : mat (iblk m c 6 t) = mat (V m c main_v37) := by
  funext r q
  show iblk m c 6 t (ix2 r q) = V m c main_v37 (ix2 r q)
  blk_simp [iblk]
  refine congrArg _ ?_
  blk_ext [idx6 t]

theorem blk7 (t : Fin cfg0.N) : mat (iblk m c 7 t) = mat (V m c main_v38) := by
  funext r q
  show iblk m c 7 t (ix2 r q) = V m c main_v38 (ix2 r q)
  blk_simp [iblk]
  refine congrArg _ ?_
  blk_ext [idx7 t]

/-- The gradient of the hidden layer, row `r`. -/
def gdz (r : Fin 8192) : Fin 4096 → EReal := dz (grow (V m c main_v29) r) (grow (V m c main_v31) r) (mat (V m c main_v38))
/-- The gradient of the modulated normalised input, row `r`. -/
def gdh (r : Fin 8192) : Fin 1024 → EReal := dh (gdz m c r) (mat (V m c main_v37))
/-- The gradient of the input, row `r`. -/
def gdx (r : Fin 8192) : Fin 1024 → EReal :=
  dx (grow (V m c main_v32) r) (grow (V m c main_v33) r) (gdh m c r) (gmod (V m c main_v36) (rb r) 4096 (by omega))

theorem rb_gr (t : Fin cfg0.N) (r : Fin 512) : rb (gr t r) = gb t := Fin.ext (by show (t.val * 512 + r.val) / 4096 = t.val / 8; omega)

theorem dz_blk (t : Fin cfg0.N) (r : Fin 512) :
    dz (row (iblk m c 0 t) r) (row (iblk m c 1 t) r) (mat (iblk m c 7 t)) = gdz m c (gr t r) := by
  rw [blk0, blk1, blk7]; rfl

theorem dh_blk (t : Fin cfg0.N) (r : Fin 512) :
    dh (dz (row (iblk m c 0 t) r) (row (iblk m c 1 t) r) (mat (iblk m c 7 t))) (mat (iblk m c 6 t)) = gdh m c (gr t r) := by
  rw [dz_blk, blk6]; rfl

theorem dx_blk (t : Fin cfg0.N) (r : Fin 512) :
    dx (row (iblk m c 2 t) r) (row (iblk m c 3 t) r) (dh (dz (row (iblk m c 0 t) r) (row (iblk m c 1 t) r) (mat (iblk m c 7 t))) (mat (iblk m c 6 t))) (modc (iblk m c 5 t) 4096 (by omega))
      = gdx m c (gr t r) := by
  rw [dh_blk, blk2, blk3, blk5]; unfold gdx; rw [rb_gr]

theorem out8 (t : Fin cfg0.N) : (outsAt0 m c t.val t.isLt).1 = fun y => gdz m c (gr t (y 0)) (y 1) := by
  by_cases h : t.val % 8 = 0
  · rw [out8_A m c t h]; funext y; exact congrFun (dz_blk m c t (y 0)) (y 1)
  · rw [out8_B m c t h]; funext y; exact congrFun (dz_blk m c t (y 0)) (y 1)

theorem arr8 : (dats m 0 c).arrAt 8 cfg0.N = fun y : S8192x4096.Idx => gdz m c (y 0) (y 1) := by
  refine (dats m 0 c).arrAt_eq_of_covers 8 _ (by decide +kernel) fun t hf y => ?_
  blk_simp
  rw [after0_8, out8]
  have e : ((win0_8.blk t).view.emb y : S8192x4096.Idx) = ix2 (gr t (y 0)) (y 1) := by blk_ext [idx8 t]
  rw [e]
  rfl

theorem out9 (t : Fin cfg0.N) : (outsAt0 m c t.val t.isLt).2.1 = fun y => gdx m c (gr t (y 0)) (y 1) := by
  by_cases h : t.val % 8 = 0
  · rw [out9_A m c t h]; funext y; exact congrFun (dx_blk m c t (y 0)) (y 1)
  · rw [out9_B m c t h]; funext y; exact congrFun (dx_blk m c t (y 0)) (y 1)

theorem arr9 : (dats m 0 c).arrAt 9 cfg0.N = fun y : S8192x1024.Idx => gdx m c (y 0) (y 1) := by
  refine (dats m 0 c).arrAt_eq_of_covers 9 _ (by decide +kernel) fun t hf y => ?_
  blk_simp
  rw [after0_9, out9]
  have e : ((win0_9.blk t).view.emb y : S8192x1024.Idx) = ix2 (gr t (y 0)) (y 1) := by blk_ext [idx9 t]
  rw [e]
  rfl

theorem out10 (t : Fin cfg0.N) : (outsAt0 m c t.val t.isLt).2.2.1 = fun y => gmod (V m c main_v36) (rb (gr t (y 0))) 2048 (by omega) (y 1) * gdx m c (gr t (y 0)) (y 1) := by
  by_cases h : t.val % 8 = 0
  · rw [out10_A m c t h]; funext y; exact congrArg₂ (· * ·) ((congrFun (blk5 m c t 2048 (by omega)) (y 1)).trans (by rw [← rb_gr t (y 0)])) (congrFun (dx_blk m c t (y 0)) (y 1))
  · rw [out10_B m c t h]; funext y; exact congrArg₂ (· * ·) ((congrFun (blk5 m c t 2048 (by omega)) (y 1)).trans (by rw [← rb_gr t (y 0)])) (congrFun (dx_blk m c t (y 0)) (y 1))

theorem arr10 : (dats m 0 c).arrAt 10 cfg0.N = fun y : S8192x1024.Idx => gmod (V m c main_v36) (rb (y 0)) 2048 (by omega) (y 1) * gdx m c (y 0) (y 1) := by
  refine (dats m 0 c).arrAt_eq_of_covers 10 _ (by decide +kernel) fun t hf y => ?_
  blk_simp
  rw [after0_10, out10]
  have e : ((win0_10.blk t).view.emb y : S8192x1024.Idx) = ix2 (gr t (y 0)) (y 1) := by blk_ext [idx10 t]
  rw [e]
  rfl

/-- Eight partial sums of 64 terms make one sum of 512. -/
theorem sum_eight_blocks (p : Nat → EReal) (f : Fin 512 → EReal)
    (h : ∀ k : Fin 8, p k.val = ∑ i : Fin 64, f ⟨k.val * 64 + i.val, by omega⟩) :
    ∑ k ∈ Finset.range 8, p k = ∑ j : Fin 512, f j := by
  rw [Finset.sum_range, Finset.sum_congr rfl fun k _ => h k, ← Fintype.sum_prod_type']
  refine Fintype.sum_equiv (finProdFinEquiv (m := 8) (n := 64)) _ _ fun x => ?_
  refine congrArg f (Fin.ext ?_)
  show x.1.val * 64 + x.2.val = x.2.val + 64 * x.1.val
  omega

/-- What block `n` adds to output 3, at `(s, q)`. -/
def part11 (n : Nat) (y : S1x8x1024.Idx) : EReal :=
  if h : n < 16 then ∑ k : Fin 64, gdh m c ⟨n * 512 + (k.val * 8 + (y 1).val), by have : (y 1).val < 8 := (y 1).isLt; omega⟩ (y 2) else 0

theorem run11 (t : Fin cfg0.N) (ht : t.val % 8 = 7) (y : S1x8x1024.Idx) :
    (outsAt0 m c t.val t.isLt).2.2.2.1 y = 0 + ∑ k ∈ Finset.range 8, part11 m c (8 * (t.val / 8) + k) y := by
  refine Pipeline.eq_sum_of_reset_step_apply_of_mod (fun n h => (outsAt0 m c n h).2.2.2.1) 8 (fun _ => 0) (part11 m c) (fun t h i => ?_) (fun t h i => ?_) t ht y
  · idx_vars i
    obtain rfl : i0 = 0 := Subsingleton.elim _ _
    refine (out11_A m c t h i1 i2).trans ?_
    simp only [dh_blk]
    show _ = 0 + dite _ _ _
    rw [dif_pos (lt16 t), zero_add]
    rfl
  · idx_vars i
    obtain rfl : i0 = 0 := Subsingleton.elim _ _
    refine (out11_B m c t h i1 i2).trans ?_
    refine congrArg (_ + ·) ?_
    simp only [dh_blk]
    show _ = dite _ _ _
    rw [dif_pos (lt16 t)]
    rfl

theorem arr11 : (dats m 0 c).arrAt 11 cfg0.N = fun y : S2x8x1024.Idx =>
    ∑ j : Fin 512, gdh m c (row8 (y 0) j (y 1)) (y 2) := by
  refine (dats m 0 c).arrAt_eq_of_covers 11 _ (by decide +kernel) fun t hf y => ?_
  blk_simp
  rw [after0_11, run11 m c t ((flush0_11 t).mp hf) y]
  have e : ((win0_11.blk t).view.emb y : S2x8x1024.Idx) = ix3 (gb t) (y 1) (y 2) := by blk_ext [idx11 t]
  rw [e, zero_add]
  refine (sum_eight_blocks (fun k => part11 m c (8 * (t.val / 8) + k) y) (fun j => gdh m c (row8 (gb t) j (y 1)) (y 2)) fun k => ?_)
  unfold part11
  rw [dif_pos (by have := lt16 t; have := k.isLt; omega)]
  refine Finset.sum_congr rfl fun i _ => ?_
  have er : ∀ h, (⟨(8 * (t.val / 8) + k.val) * 512 + (i.val * 8 + (y 1).val), h⟩ : Fin 8192) = row8 (gb t) ⟨k.val * 64 + i.val, by omega⟩ (y 1) := fun h =>
    Fin.ext (by show (8 * (t.val / 8) + k.val) * 512 + (i.val * 8 + (y 1).val) = t.val / 8 * 4096 + (k.val * 64 + i.val) * 8 + (y 1).val; omega)
  rw [er]

/-- What block `n` adds to output 4, at `(s, q)`. -/
def part12 (n : Nat) (y : S1x8x1024.Idx) : EReal :=
  if h : n < 16 then ∑ k : Fin 64, gdh m c ⟨n * 512 + (k.val * 8 + (y 1).val), by have : (y 1).val < 8 := (y 1).isLt; omega⟩ (y 2) * xn (grow (V m c main_v32) ⟨n * 512 + (k.val * 8 + (y 1).val), by have : (y 1).val < 8 := (y 1).isLt; omega⟩) (y 2) else 0

theorem run12 (t : Fin cfg0.N) (ht : t.val % 8 = 7) (y : S1x8x1024.Idx) :
    (outsAt0 m c t.val t.isLt).2.2.2.2.1 y = 0 + ∑ k ∈ Finset.range 8, part12 m c (8 * (t.val / 8) + k) y := by
  refine Pipeline.eq_sum_of_reset_step_apply_of_mod (fun n h => (outsAt0 m c n h).2.2.2.2.1) 8 (fun _ => 0) (part12 m c) (fun t h i => ?_) (fun t h i => ?_) t ht y
  · idx_vars i
    obtain rfl : i0 = 0 := Subsingleton.elim _ _
    refine (out12_A m c t h i1 i2).trans ?_
    simp only [dh_blk, blk2]
    show _ = 0 + dite _ _ _
    rw [dif_pos (lt16 t), zero_add]
    rfl
  · idx_vars i
    obtain rfl : i0 = 0 := Subsingleton.elim _ _
    refine (out12_B m c t h i1 i2).trans ?_
    refine congrArg (_ + ·) ?_
    simp only [dh_blk, blk2]
    show _ = dite _ _ _
    rw [dif_pos (lt16 t)]
    rfl

theorem arr12 : (dats m 0 c).arrAt 12 cfg0.N = fun y : S2x8x1024.Idx =>
    ∑ j : Fin 512, gdh m c (row8 (y 0) j (y 1)) (y 2) * xn (grow (V m c main_v32) (row8 (y 0) j (y 1))) (y 2) := by
  refine (dats m 0 c).arrAt_eq_of_covers 12 _ (by decide +kernel) fun t hf y => ?_
  blk_simp
  rw [after0_12, run12 m c t ((flush0_12 t).mp hf) y]
  have e : ((win0_12.blk t).view.emb y : S2x8x1024.Idx) = ix3 (gb t) (y 1) (y 2) := by blk_ext [idx12 t]
  rw [e, zero_add]
  refine (sum_eight_blocks (fun k => part12 m c (8 * (t.val / 8) + k) y) (fun j => gdh m c (row8 (gb t) j (y 1)) (y 2) * xn (grow (V m c main_v32) (row8 (gb t) j (y 1))) (y 2)) fun k => ?_)
  unfold part12
  rw [dif_pos (by have := lt16 t; have := k.isLt; omega)]
  refine Finset.sum_congr rfl fun i _ => ?_
  have er : ∀ h, (⟨(8 * (t.val / 8) + k.val) * 512 + (i.val * 8 + (y 1).val), h⟩ : Fin 8192) = row8 (gb t) ⟨k.val * 64 + i.val, by omega⟩ (y 1) := fun h =>
    Fin.ext (by show (8 * (t.val / 8) + k.val) * 512 + (i.val * 8 + (y 1).val) = t.val / 8 * 4096 + (k.val * 64 + i.val) * 8 + (y 1).val; omega)
  rw [er]

/-- What block `n` adds to output 5, at `(s, q)`. -/
def part13 (n : Nat) (y : S1x8x1024.Idx) : EReal :=
  if h : n < 16 then ∑ k : Fin 64, gdx m c ⟨n * 512 + (k.val * 8 + (y 1).val), by have : (y 1).val < 8 := (y 1).isLt; omega⟩ (y 2) * grow (V m c main_v35) ⟨n * 512 + (k.val * 8 + (y 1).val), by have : (y 1).val < 8 := (y 1).isLt; omega⟩ (y 2) else 0

theorem run13 (t : Fin cfg0.N) (ht : t.val % 8 = 7) (y : S1x8x1024.Idx) :
    (outsAt0 m c t.val t.isLt).2.2.2.2.2 y = 0 + ∑ k ∈ Finset.range 8, part13 m c (8 * (t.val / 8) + k) y := by
  refine Pipeline.eq_sum_of_reset_step_apply_of_mod (fun n h => (outsAt0 m c n h).2.2.2.2.2) 8 (fun _ => 0) (part13 m c) (fun t h i => ?_) (fun t h i => ?_) t ht y
  · idx_vars i
    obtain rfl : i0 = 0 := Subsingleton.elim _ _
    refine (out13_A m c t h i1 i2).trans ?_
    simp only [dx_blk, fun r q => congrFun (blk4 m c t r) q]
    show _ = 0 + dite _ _ _
    rw [dif_pos (lt16 t), zero_add]
    rfl
  · idx_vars i
    obtain rfl : i0 = 0 := Subsingleton.elim _ _
    refine (out13_B m c t h i1 i2).trans ?_
    refine congrArg (_ + ·) ?_
    simp only [dx_blk, fun r q => congrFun (blk4 m c t r) q]
    show _ = dite _ _ _
    rw [dif_pos (lt16 t)]
    rfl

theorem arr13 : (dats m 0 c).arrAt 13 cfg0.N = fun y : S2x8x1024.Idx =>
    ∑ j : Fin 512, gdx m c (row8 (y 0) j (y 1)) (y 2) * grow (V m c main_v35) (row8 (y 0) j (y 1)) (y 2) := by
  refine (dats m 0 c).arrAt_eq_of_covers 13 _ (by decide +kernel) fun t hf y => ?_
  blk_simp
  rw [after0_13, run13 m c t ((flush0_13 t).mp hf) y]
  have e : ((win0_13.blk t).view.emb y : S2x8x1024.Idx) = ix3 (gb t) (y 1) (y 2) := by blk_ext [idx13 t]
  rw [e, zero_add]
  refine (sum_eight_blocks (fun k => part13 m c (8 * (t.val / 8) + k) y) (fun j => gdx m c (row8 (gb t) j (y 1)) (y 2) * grow (V m c main_v35) (row8 (gb t) j (y 1)) (y 2)) fun k => ?_)
  unfold part13
  rw [dif_pos (by have := lt16 t; have := k.isLt; omega)]
  refine Finset.sum_congr rfl fun i _ => ?_
  have er : ∀ h, (⟨(8 * (t.val / 8) + k.val) * 512 + (i.val * 8 + (y 1).val), h⟩ : Fin 8192) = row8 (gb t) ⟨k.val * 64 + i.val, by omega⟩ (y 1) := fun h =>
    Fin.ext (by show (8 * (t.val / 8) + k.val) * 512 + (i.val * 8 + (y 1).val) = t.val / 8 * 4096 + (k.val * 64 + i.val) * 8 + (y 1).val; omega)
  rw [er]

/-! The arrays the call is given, as the host computes them. -/

theorem host29 (r : Fin 8192) : grow (V m c main_v29) r = fun q : Fin 1024 => mrow (m ((c : Thread nD τ).loc main_arg3)) (rb r) 5120 (by omega) q * xrow (m ((c : Thread nD τ).loc main_arg2)) (rb r) (rt r) q := by
  funext q
  show V m c main_v29 (ix2 r q) = _
  unfold V hostOps0
  after_reads_at

theorem host31 (r : Fin 8192) : grow (V m c main_v31) r = fun q : Fin 4096 => Z (m ((c : Thread nD τ).loc main_arg0)) (m ((c : Thread nD τ).loc main_arg3)) (m ((c : Thread nD τ).loc main_arg4)) (rb r) (rt r) q := by
  funext q
  show V m c main_v31 (ix2 r q) = _
  unfold V hostOps0 Z zrow xn rr
  after_reads_at

theorem host32 (r : Fin 8192) : grow (V m c main_v32) r = fun q : Fin 1024 => xrow (m ((c : Thread nD τ).loc main_arg0)) (rb r) (rt r) q := by
  funext q
  show V m c main_v32 (ix2 r q) = _
  unfold V hostOps0
  after_reads_at

theorem host33 (r : Fin 8192) : grow (V m c main_v33) r = fun q : Fin 1024 => xrow (m ((c : Thread nD τ).loc main_arg2)) (rb r) (rt r) q := by
  funext q
  show V m c main_v33 (ix2 r q) = _
  unfold V hostOps0
  after_reads_at

theorem host35 (r : Fin 8192) : grow (V m c main_v35) r = fun q : Fin 1024 => xrow (m ((c : Thread nD τ).loc main_arg1)) (rb r) (rt r) q := by
  funext q
  show V m c main_v35 (ix2 r q) = _
  unfold V hostOps0
  after_reads_at

theorem host36 (b : Fin 2) (o : Nat) (h : o + 1024 ≤ 6144) : gmod (V m c main_v36) b o h = mrow (m ((c : Thread nD τ).loc main_arg3)) b o h := by
  funext q
  show V m c main_v36 (ix3 b 0 ⟨o + q.val, by omega⟩) = _
  unfold V hostOps0
  after_reads_at

theorem host37 : mat (V m c main_v37) = wmat (m ((c : Thread nD τ).loc main_arg4)) := by
  funext r q
  show V m c main_v37 (ix2 r q) = _
  unfold V hostOps0
  after_reads_at

theorem host38 : mat (V m c main_v38) = wmat (m ((c : Thread nD τ).loc main_arg5)) := by
  funext r q
  show V m c main_v38 (ix2 r q) = _
  unfold V hostOps0
  after_reads_at

theorem gdz_eq (r : Fin 8192) : gdz m c r = DZ (m ((c : Thread nD τ).loc main_arg0)) (m ((c : Thread nD τ).loc main_arg2)) (m ((c : Thread nD τ).loc main_arg3)) (m ((c : Thread nD τ).loc main_arg4)) (m ((c : Thread nD τ).loc main_arg5)) (rb r) (rt r) := by
  unfold gdz DZ; rw [host29, host31, host38]

theorem gdh_eq (r : Fin 8192) : gdh m c r = DH (m ((c : Thread nD τ).loc main_arg0)) (m ((c : Thread nD τ).loc main_arg2)) (m ((c : Thread nD τ).loc main_arg3)) (m ((c : Thread nD τ).loc main_arg4)) (m ((c : Thread nD τ).loc main_arg5)) (rb r) (rt r) := by
  unfold gdh DH; rw [gdz_eq, host37]

theorem gdx_eq (r : Fin 8192) : gdx m c r = DX (m ((c : Thread nD τ).loc main_arg0)) (m ((c : Thread nD τ).loc main_arg2)) (m ((c : Thread nD τ).loc main_arg3)) (m ((c : Thread nD τ).loc main_arg4)) (m ((c : Thread nD τ).loc main_arg5)) (rb r) (rt r) := by
  unfold gdx DX; rw [gdh_eq, host32, host33, host36]

theorem res8 : (dats m 0 c).arrAt 8 cfg0.N = R0 (m ((c : Thread nD τ).loc main_arg0)) (m ((c : Thread nD τ).loc main_arg2)) (m ((c : Thread nD τ).loc main_arg3)) (m ((c : Thread nD τ).loc main_arg4)) (m ((c : Thread nD τ).loc main_arg5)) := by
  rw [arr8]
  funext y
  unfold R0
  exact congrFun (gdz_eq m c (y 0)) (y 1)

theorem res9 : (dats m 0 c).arrAt 9 cfg0.N = R1 (m ((c : Thread nD τ).loc main_arg0)) (m ((c : Thread nD τ).loc main_arg2)) (m ((c : Thread nD τ).loc main_arg3)) (m ((c : Thread nD τ).loc main_arg4)) (m ((c : Thread nD τ).loc main_arg5)) := by
  rw [arr9]
  funext y
  unfold R1
  exact congrFun (gdx_eq m c (y 0)) (y 1)

theorem res10 : (dats m 0 c).arrAt 10 cfg0.N = R2 (m ((c : Thread nD τ).loc main_arg0)) (m ((c : Thread nD τ).loc main_arg2)) (m ((c : Thread nD τ).loc main_arg3)) (m ((c : Thread nD τ).loc main_arg4)) (m ((c : Thread nD τ).loc main_arg5)) := by
  rw [arr10]
  funext y
  unfold R2
  exact congrArg₂ (· * ·) (congrFun (host36 m c (rb (y 0)) 2048 (by omega)) (y 1)) (congrFun (gdx_eq m c (y 0)) (y 1))

theorem res11 : (dats m 0 c).arrAt 11 cfg0.N = R3 (m ((c : Thread nD τ).loc main_arg0)) (m ((c : Thread nD τ).loc main_arg2)) (m ((c : Thread nD τ).loc main_arg3)) (m ((c : Thread nD τ).loc main_arg4)) (m ((c : Thread nD τ).loc main_arg5)) := by
  rw [arr11]
  funext y
  unfold R3
  exact Finset.sum_congr rfl fun j _ => congrFun (gdh_eq m c (row8 (y 0) j (y 1))) (y 2)

theorem res12 : (dats m 0 c).arrAt 12 cfg0.N = R4 (m ((c : Thread nD τ).loc main_arg0)) (m ((c : Thread nD τ).loc main_arg2)) (m ((c : Thread nD τ).loc main_arg3)) (m ((c : Thread nD τ).loc main_arg4)) (m ((c : Thread nD τ).loc main_arg5)) := by
  rw [arr12]
  funext y
  unfold R4
  exact Finset.sum_congr rfl fun j _ => congrArg₂ (· * ·) (congrFun (gdh_eq m c (row8 (y 0) j (y 1))) (y 2)) (by rw [host32])

theorem res13 : (dats m 0 c).arrAt 13 cfg0.N = R5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [arr13]
  funext y
  unfold R5
  exact Finset.sum_congr rfl fun j _ => congrArg₂ (· * ·) (congrFun (gdx_eq m c (row8 (y 0) j (y 1))) (y 2)) (congrFun (host35 m c (row8 (y 0) j (y 1))) (y 2))

end Cert.Kernel2Ideal.Hand
end
-- ==== Proof.MlpRef.lean ====
/-
  What the reference computes: the transposes of the norm, the two products and the activation, read at an index.
-/
module

public import proofs.«01_k».proof.Proof.Gen.Reference2Ideal.Read
public import proofs.«01_k».proof.Proof.MlpSpec

@[expose] public section

set_option maxRecDepth 16384

noncomputable section

namespace Cert.Reference2Ideal.Hand

open Idealize.ShloMosaic Idealize.ShloMosaic.TcCoe Idealize.ShloMosaic.Tactic
open Idealize.SL Idealize.SL.Sem
open Cert.Reference2Ideal.Read
open Cert.MlpBwd Cert.Reals

variable (x0 x1 x2 : (⟨S2x4096x1024, .f32⟩ : BufTy).Contents (Elt Ideal)) (x3 : (⟨S2x6144, .f32⟩ : BufTy).Contents (Elt Ideal))
  (x4 : (⟨S1024x4096, .f32⟩ : BufTy).Contents (Elt Ideal)) (x5 : (⟨S4096x1024, .f32⟩ : BufTy).Contents (Elt Ideal))

theorem mean_ref (b : Fin 2) (t : Fin 4096) (u : Fin 1) :
    val_main_v24 x0 (ix3 b t u) = Ideal.div (∑ k, xrow x0 b t k * xrow x0 b t k) cD + cEps := by
  pointwise [val_main_v24, val_main_v23, val_main_v22, val_main_v21, val_main_v20, val_main_v19, val_main_v18, val_main_cst, val_main_cst_0, val_main_cst_1]

theorem rr_ref (b : Fin 2) (t : Fin 4096) (u : Fin 1) : val_main_v25 x0 (ix3 b t u) = rr (xrow x0 b t) := by
  unfold rr
  rw [← mean_ref x0 b t u]
  pointwise [val_main_v25]

theorem xn_ref (b : Fin 2) (t : Fin 4096) (q : Fin 1024) : val_main_v30 x0 (ix3 b t q) = xn (xrow x0 b t) q := by
  unfold xn
  rw [← rr_ref x0 b t 0]
  pointwise [val_main_v30, val_main_v29]

theorem z_ref (b : Fin 2) (t : Fin 4096) (f : Fin 4096) : val_main_v35 x0 x3 x4 (ix3 b t f) = Z x0 x3 x4 b t f := by
  unfold Z zrow
  simp only [← xn_ref]
  pointwise [val_main_v35, val_main_v34, val_main_v33, val_main_v32, val_main_v31, val_main_v15, val_main_v14, val_main_v4, val_main_v13, val_main_v12, val_main_v3, val_main_cst_3]

/-- Where the hidden value is not positive its twice positive part is zero. -/
theorem relu_grad (u z c : EReal) : (if 0 < z then u * (c * max z 0) else 0) = u * (c * max z 0) := by
  by_cases h : 0 < z
  · rw [if_pos h]
  · rw [if_neg h, max_eq_right (not_lt.mp h), mul_zero, mul_zero]

theorem dz_ref (b : Fin 2) (t : Fin 4096) (f : Fin 4096) : val_main_v48 x0 x2 x3 x4 x5 (ix3 b t f) = DZ x0 x2 x3 x4 x5 b t f := by
  unfold DZ dz
  rw [← z_ref, ← relu_grad]
  pointwise [val_main_v48, val_main_v47, val_main_cst_7, val_main_v46, val_main_v45, val_main_v44, val_main_v17, val_main_v16, val_main_v5, val_main_v42, val_main_v41, val_main_cst_6, val_main_v38, val_main_v37, val_main_cst_4, val_main_v36, val_main_call0_v0, val_main_call0_cst]

theorem dh_ref (b : Fin 2) (t : Fin 4096) (q : Fin 1024) : val_main_v49 x0 x2 x3 x4 x5 (ix3 b t q) = DH x0 x2 x3 x4 x5 b t q := by
  unfold DH dh
  simp only [← dz_ref]
  pointwise [val_main_v49]

section
variable (h0 : ∀ i, IsRl (x0 i)) (h2 : ∀ i, IsRl (x2 i)) (h3 : ∀ i, IsRl (x3 i)) (h4 : ∀ i, IsRl (x4 i)) (h5 : ∀ i, IsRl (x5 i))
include h0 h2 h3 h4 h5

theorem dx_ref (b : Fin 2) (t : Fin 4096) (q : Fin 1024) : val_main_v66 x0 x2 x3 x4 x5 (ix3 b t q) = DX x0 x2 x3 x4 x5 b t q := by
  unfold DX
  rw [← dx_eq (fun _ => h0 _) (isRl_DH x0 x2 x3 x4 x5 h0 h2 h3 h4 h5 b t) (fun _ => h3 _)]
  simp only [← dh_ref]
  rw [← mean_ref x0 b t 0, ← rr_ref x0 b t 0]
  pointwise [val_main_v66, val_main_v65, val_main_v64, val_main_v63, val_main_v62, val_main_v61, val_main_v60, val_main_cst_10, val_main_v59, val_main_v58, val_main_cst_9, val_main_v57, val_main_v56, val_main_v55, val_main_v54, val_main_v53, val_main_cst_8, val_main_v52, val_main_v51, val_main_v28, val_main_v27, val_main_cst_2, val_main_v26, val_main_v32, val_main_v31, val_main_cst_3, val_main_v15, val_main_v14, val_main_v4]
  simp only [Finset.univ_unique, Finset.sum_singleton, Fin.default_eq_zero]

theorem ref1 : val_main_v72 x0 x2 x3 x4 x5 = R1 x0 x2 x3 x4 x5 := by
  funext y
  idx_vars y
  refine Eq.trans ?_ (dx_ref x0 x2 x3 x4 x5 h0 h2 h3 h4 h5 (rb y0) (rt y0) y1)
  pointwise [val_main_v72]

theorem ref2 : val_main_v74 x0 x2 x3 x4 x5 = R2 x0 x2 x3 x4 x5 := by
  funext y
  idx_vars y
  refine Eq.trans ?_ (congrArg (mrow x3 (rb y0) 2048 (by omega) y1 * ·) (dx_ref x0 x2 x3 x4 x5 h0 h2 h3 h4 h5 (rb y0) (rt y0) y1))
  pointwise [val_main_v74, val_main_v73, val_main_v68, val_main_v11, val_main_v10, val_main_v2]

theorem ref5 : val_main_v80 x0 x1 x2 x3 x4 x5 = R5 x0 x1 x2 x3 x4 x5 := by
  funext y
  idx_vars y
  show _ = ∑ j : Fin 512, DX x0 x2 x3 x4 x5 (rb (row8 y0 j y1)) (rt (row8 y0 j y1)) y2 * xrow x1 (rb (row8 y0 j y1)) (rt (row8 y0 j y1)) y2
  simp only [rb_row8, rt_row8, ← dx_ref x0 x2 x3 x4 x5 h0 h2 h3 h4 h5]
  pointwise [val_main_v80, val_main_v79, val_main_v69, val_main_cst_13]

end

theorem ref0 : val_main_v71 x0 x2 x3 x4 x5 = R0 x0 x2 x3 x4 x5 := by
  funext y
  idx_vars y
  refine Eq.trans ?_ (dz_ref x0 x2 x3 x4 x5 (rb y0) (rt y0) y1)
  pointwise [val_main_v71, val_main_v70]

theorem ref3 : val_main_v76 x0 x2 x3 x4 x5 = R3 x0 x2 x3 x4 x5 := by
  funext y
  idx_vars y
  show _ = ∑ j : Fin 512, DH x0 x2 x3 x4 x5 (rb (row8 y0 j y1)) (rt (row8 y0 j y1)) y2
  simp only [rb_row8, rt_row8, ← dh_ref]
  pointwise [val_main_v76, val_main_v75, val_main_cst_11]

theorem ref4 : val_main_v78 x0 x2 x3 x4 x5 = R4 x0 x2 x3 x4 x5 := by
  funext y
  idx_vars y
  show _ = ∑ j : Fin 512, DH x0 x2 x3 x4 x5 (rb (row8 y0 j y1)) (rt (row8 y0 j y1)) y2 * xn (xrow x0 (rb (row8 y0 j y1)) (rt (row8 y0 j y1))) y2
  simp only [rb_row8, rt_row8, ← dh_ref, ← xn_ref]
  simp only [mul_comm]
  pointwise [val_main_v78, val_main_v77, val_main_v50, val_main_cst_12]

end Cert.Reference2Ideal.Hand
end
-- ==== Proof.MlpClaim.lean ====
/-
  The claims about the MLP branch's backward call.
-/
module

public import proofs.«01_k».proof.Defs
public import proofs.«01_k».proof.Proof.Gen.Kernel2
public import proofs.«01_k».proof.Proof.Gen.Kernel2.Frame
public import proofs.«01_k».proof.Proof.Gen.Reference2Ideal.Run
public import proofs.«01_k».proof.Proof.Gen.Pre_finite2
public import proofs.«01_k».proof.Proof.MlpArrays
public import proofs.«01_k».proof.Proof.MlpRef

@[expose] public section

set_option maxRecDepth 16384
set_option maxHeartbeats 1000000

noncomputable section

namespace Cert.MlpBwd

open Idealize.ShloMosaic Idealize.ShloMosaic.TcCoe Idealize.SL.Sem
open Cert.Reals

/-- Where the comparison of `a - a` with zero holds everywhere, the array is real. -/
theorem isRl_of_pre {s : Shape} (x : FVec Ideal s .f32) (h0 : (⟨0, ![]⟩ : Shape).BroadcastsInDim s ![])
    (h : cmpf .oeq (subf x x) (broadcastInDim s ![] h0 (constant ⟨0, ![]⟩ .f32 0x00000000#32)) = fun _ => 1#1) (i : s.Idx) : IsRl (x i) := by
  have e := congrFun h i
  refine isRl_of_sub_self ?_
  by_contra hne
  have hne' : ¬ (x i - x i = Ideal.ofBits .f32 0x00000000#32) := by rwa [Ideal.ofBits_zero_f32]
  have e2 : BitVec.ofBool (decide (x i - x i = Ideal.ofBits .f32 0x00000000#32)) = 1#1 := e
  rw [decide_eq_false hne'] at e2
  exact absurd e2 (by decide)

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_ideal_pre : Cert.quiescent_Kernel2Ideal_pre_finite2 := fun m ρ _ => Cert.Kernel2Ideal.Gen.frame m ρ

theorem frame_reference : Cert.quiescent_Reference2Ideal := fun m ρ _ =>
  (θ_run Cert.Reference2Ideal.defs _ _).mono
    (fun _ h => ⟨fun c => (h c).2.2.2.2.2.2, funext fun q => by rcases q with ⟨_, q | q⟩ <;> exact q.elim0⟩) (Cert.Reference2Ideal.Value.run (F := Ideal) m ρ)

theorem frame_reference_pre : Cert.quiescent_Reference2Ideal_pre_finite2 := fun m ρ _ => frame_reference m ρ trivial

theorem algebraic : Cert.algebraic_Kernel2Ideal_Reference2Ideal_pre_finite2 := by
  intro m g m' g' hp hag
  refine ⟨fun c => R0 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)),
    fun c => R1 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)),
    fun c => R2 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)),
    fun c => R3 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)),
    fun c => R4 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)),
    fun c => R5 (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)),
    ?_, ?_⟩
  · refine (θ_run Cert.Kernel2Ideal.defs _ _).mono (fun r h c => ?_) (Cert.Kernel2Ideal.Value.run_blocks (F := Ideal) m g)
    obtain ⟨h0, h1, h2, h3, h4, h5, hk⟩ := h c
    exact ⟨h0.trans (Cert.Kernel2Ideal.Hand.res8 m c), h1.trans (Cert.Kernel2Ideal.Hand.res9 m c), h2.trans (Cert.Kernel2Ideal.Hand.res10 m c),
      h3.trans (Cert.Kernel2Ideal.Hand.res11 m c), h4.trans (Cert.Kernel2Ideal.Hand.res12 m c), h5.trans (Cert.Kernel2Ideal.Hand.res13 m c), hk⟩
  · refine (θ_run Cert.Reference2Ideal.defs _ _).mono (fun r h c => ?_) (Cert.Reference2Ideal.Value.run (F := Ideal) m' g')
    obtain ⟨h0, h1, h2, h3, h4, h5, hk⟩ := h c
    obtain ⟨a0, a1, a2, a3, a4, a5⟩ := hag c
    obtain ⟨p0, p2, p3, p4, p5⟩ := hp c
    have r0 : ∀ i, IsRl (m' (c.tc.loc Cert.Reference2Ideal.main_arg0) i) := by
      rw [a0]
      exact isRl_of_pre _ _ p0
    have r2 : ∀ i, IsRl (m' (c.tc.loc Cert.Reference2Ideal.main_arg2) i) := by
      rw [a2]
      exact isRl_of_pre _ _ p2
    have r3 : ∀ i, IsRl (m' (c.tc.loc Cert.Reference2Ideal.main_arg3) i) := by
      rw [a3]
      exact isRl_of_pre _ _ p3
    have r4 : ∀ i, IsRl (m' (c.tc.loc Cert.Reference2Ideal.main_arg4) i) := by
      rw [a4]
      exact isRl_of_pre _ _ p4
    have r5 : ∀ i, IsRl (m' (c.tc.loc Cert.Reference2Ideal.main_arg5) i) := by
      rw [a5]
      exact isRl_of_pre _ _ p5
    refine ⟨h0.trans ?_, h1.trans ?_, h2.trans ?_, h3.trans ?_, h4.trans ?_, h5.trans ?_, hk⟩
    · have e : R0 (m' (c.tc.loc Cert.Reference2Ideal.main_arg0)) (m' (c.tc.loc Cert.Reference2Ideal.main_arg2)) (m' (c.tc.loc Cert.Reference2Ideal.main_arg3)) (m' (c.tc.loc Cert.Reference2Ideal.main_arg4)) (m' (c.tc.loc Cert.Reference2Ideal.main_arg5))
          = R0 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) := by rw [a0, a2, a3, a4, a5]
      exact ((Cert.Reference2Ideal.Read.val_main_v71_eq (F := Ideal) _ _ _ _ _).trans (Cert.Reference2Ideal.Hand.ref0 _ _ _ _ _)).trans e
    · have e : R1 (m' (c.tc.loc Cert.Reference2Ideal.main_arg0)) (m' (c.tc.loc Cert.Reference2Ideal.main_arg2)) (m' (c.tc.loc Cert.Reference2Ideal.main_arg3)) (m' (c.tc.loc Cert.Reference2Ideal.main_arg4)) (m' (c.tc.loc Cert.Reference2Ideal.main_arg5))
          = R1 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) := by rw [a0, a2, a3, a4, a5]
      exact ((Cert.Reference2Ideal.Read.val_main_v72_eq m' c).trans (Cert.Reference2Ideal.Hand.ref1 _ _ _ _ _ r0 r2 r3 r4 r5)).trans e
    · have e : R2 (m' (c.tc.loc Cert.Reference2Ideal.main_arg0)) (m' (c.tc.loc Cert.Reference2Ideal.main_arg2)) (m' (c.tc.loc Cert.Reference2Ideal.main_arg3)) (m' (c.tc.loc Cert.Reference2Ideal.main_arg4)) (m' (c.tc.loc Cert.Reference2Ideal.main_arg5))
          = R2 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) := by rw [a0, a2, a3, a4, a5]
      exact ((Cert.Reference2Ideal.Read.val_main_v74_eq m' c).trans (Cert.Reference2Ideal.Hand.ref2 _ _ _ _ _ r0 r2 r3 r4 r5)).trans e
    · have e : R3 (m' (c.tc.loc Cert.Reference2Ideal.main_arg0)) (m' (c.tc.loc Cert.Reference2Ideal.main_arg2)) (m' (c.tc.loc Cert.Reference2Ideal.main_arg3)) (m' (c.tc.loc Cert.Reference2Ideal.main_arg4)) (m' (c.tc.loc Cert.Reference2Ideal.main_arg5))
          = R3 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) := by rw [a0, a2, a3, a4, a5]
      exact ((Cert.Reference2Ideal.Read.val_main_v76_eq (F := Ideal) _ _ _ _ _).trans (Cert.Reference2Ideal.Hand.ref3 _ _ _ _ _)).trans e
    · have e : R4 (m' (c.tc.loc Cert.Reference2Ideal.main_arg0)) (m' (c.tc.loc Cert.Reference2Ideal.main_arg2)) (m' (c.tc.loc Cert.Reference2Ideal.main_arg3)) (m' (c.tc.loc Cert.Reference2Ideal.main_arg4)) (m' (c.tc.loc Cert.Reference2Ideal.main_arg5))
          = R4 (m (c.tc.loc Cert.Kernel2Ideal.main_arg0)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) := by rw [a0, a2, a3, a4, a5]
      exact ((Cert.Reference2Ideal.Read.val_main_v78_eq m' c).trans (Cert.Reference2Ideal.Hand.ref4 _ _ _ _ _)).trans e
    · have e : R5 (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5))
          = R5 (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)) := by rw [a0, a1, a2, a3, a4, a5]
      exact ((Cert.Reference2Ideal.Read.val_main_v80_eq m' c).trans (Cert.Reference2Ideal.Hand.ref5 _ _ _ _ _ _ r0 r2 r3 r4 r5)).trans e

end Cert.MlpBwd

end
-- ==== Proof.WgradSpec.lean ====
/-
  The gradients of the four weight matrices as functions of the whole arguments: one sum over the rows of the batch each.
-/
module

public import proofs.«01_k».proof.Proof.MlpSpec

@[expose] public section

noncomputable section

namespace Cert.Wgrad

open Idealize.ShloMosaic Cert.MlpBwd

/-- The normalised row of `x0`, scaled and shifted by the coefficients of its sequence that start at columns `sc` and `sh`. -/
def hrow (x0 : (⟨3, ![2, 4096, 1024]⟩ : Shape).Idx → EReal) (x1 : (⟨2, ![2, 6144]⟩ : Shape).Idx → EReal)
    (sh sc : Nat) (hsh : sh + 1024 ≤ 6144) (hsc : sc + 1024 ≤ 6144) (b : Fin 2) (t : Fin 4096) (k : Fin 1024) : EReal :=
  xn (xrow x0 b t) k * (1 + mrow x1 b sc hsc k) + mrow x1 b sh hsh k

theorem mrow_zero (M : (⟨2, ![2, 6144]⟩ : Shape).Idx → EReal) (b : Fin 2) (h : 0 + 1024 ≤ 6144) (q : Fin 1024) :
    mrow M b 0 h q = M (ix2 b ⟨q.val, by omega⟩) :=
  congrArg M (congrArg (ix2 b) (Fin.ext (Nat.zero_add _)))

/-- The square of the positive part. -/
def relu2 (z : EReal) : EReal := max z 0 * max z 0

/-- The sum over all rows of the products of a column of `A` and a column of `B`. -/
def cols {a b : Nat} (A : Fin 8192 → Fin a → EReal) (B : Fin 8192 → Fin b → EReal) (i : Fin a) (j : Fin b) : EReal :=
  ∑ r, A r i * B r j

/-- A sum over the rows of the batch, by sequence. -/
theorem sum_rows (f : Fin 8192 → EReal) : ∑ r, f r = ∑ b : Fin 2, ∑ t : Fin 4096, f ⟨b.val * 4096 + t.val, by omega⟩ := by
  rw [← Fintype.sum_prod_type']
  refine (Fintype.sum_equiv (finProdFinEquiv (m := 2) (n := 4096)) _ _ fun x => ?_).symm
  refine congrArg f (Fin.ext ?_)
  show x.1.val * 4096 + x.2.val = x.2.val + 4096 * x.1.val
  omega

/-- A sum over the rows of the batch, by blocks of `n` rows. -/
theorem sum_row_blocks (k n : Nat) (hkn : k * n = 8192) (p : Nat → EReal) (f : Fin 8192 → EReal)
    (h : ∀ x : Fin k, p x.val = ∑ i : Fin n, f ⟨x.val * n + i.val, by have h1 := x.isLt; have h2 := i.isLt; nlinarith⟩) :
    ∑ x ∈ Finset.range k, p x = ∑ r, f r := by
  rw [Finset.sum_range, Finset.sum_congr rfl fun x _ => h x, ← Fintype.sum_prod_type']
  refine Fintype.sum_equiv ((finProdFinEquiv (m := k) (n := n)).trans (finCongr hkn)) _ _ fun x => ?_
  refine congrArg f (Fin.ext ?_)
  show x.1.val * n + x.2.val = x.2.val + n * x.1.val
  ring

/-- The gradients. -/
def W3 (x0 : (⟨3, ![2, 4096, 1024]⟩ : Shape).Idx → EReal) (x1 : (⟨2, ![2, 6144]⟩ : Shape).Idx → EReal)
    (x2 : (⟨2, ![1024, 4096]⟩ : Shape).Idx → EReal) (x3 : (⟨3, ![2, 4096, 1024]⟩ : Shape).Idx → EReal) : (⟨2, ![4096, 1024]⟩ : Shape).Idx → EReal :=
  fun y => ∑ b : Fin 2, ∑ t : Fin 4096, relu2 (Z x0 x1 x2 b t (y 0)) * x3 (ix3 b t (y 1))
def W4 (x0 : (⟨3, ![2, 4096, 1024]⟩ : Shape).Idx → EReal) (x1 : (⟨2, ![2, 6144]⟩ : Shape).Idx → EReal)
    (x2 : (⟨3, ![2, 4096, 4096]⟩ : Shape).Idx → EReal) : (⟨2, ![1024, 4096]⟩ : Shape).Idx → EReal :=
  fun y => ∑ b : Fin 2, ∑ t : Fin 4096, hrow x0 x1 3072 4096 (by omega) (by omega) b t (y 0) * x2 (ix3 b t (y 1))
def W5 (x0 x1 : (⟨3, ![2, 4096, 1024]⟩ : Shape).Idx → EReal) : (⟨2, ![1024, 1024]⟩ : Shape).Idx → EReal :=
  fun y => ∑ b : Fin 2, ∑ t : Fin 4096, x0 (ix3 b t (y 0)) * x1 (ix3 b t (y 1))
def W6 (x0 : (⟨3, ![2, 4096, 1024]⟩ : Shape).Idx → EReal) (x1 : (⟨2, ![2, 6144]⟩ : Shape).Idx → EReal)
    (x2 : (⟨3, ![2, 4096, 2560]⟩ : Shape).Idx → EReal) : (⟨2, ![1024, 2560]⟩ : Shape).Idx → EReal :=
  fun y => ∑ b : Fin 2, ∑ t : Fin 4096, hrow x0 x1 0 1024 (by omega) (by omega) b t (y 0) * x2 (ix3 b t (y 1))

end Cert.Wgrad

end
-- ==== Proof.Wgrad3.lean ====
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.WgradSpec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel3Ideal.Hand

open Idealize.ShloMosaic Idealize.ShloMosaic.TcCoe Idealize.ShloMosaic.Tactic
open Idealize.SL Idealize.SL.Sem
open Idealize.ShloMosaic.Pipeline (Dat Cfg Window cellOf)
open Cert.Kernel3Ideal.Gen
open Cert.MlpBwd Cert.Wgrad

variable (m : (ℓ : Loc nD τ sig) → Buf (Elt Ideal) ℓ) (c : Dev nD)

theorem idx0 : ∀ t : Fin cfg0.N, win0_0.index t = ![t.val % 2, t.val / 2] := (by decide +kernel : ∀ t : Fin grid0.N, win0_0.index t = ![t.val % 2, t.val / 2])
theorem idx1 : ∀ t : Fin cfg0.N, win0_1.index t = ![t.val % 2, t.val / 2 % 1] := (by decide +kernel : ∀ t : Fin grid0.N, win0_1.index t = ![t.val % 2, t.val / 2 % 1])
theorem idx2 : ∀ t : Fin cfg0.N, win0_2.index t = ![t.val / 2, t.val / 2 % 1] := (by decide +kernel : ∀ t : Fin grid0.N, win0_2.index t = ![t.val / 2, t.val / 2 % 1])

theorem ltN (t : Fin cfg0.N) : t.val < 8 := t.isLt

/-- The two operands at one point of the grid, and what the point adds. -/
abbrev A (t : Fin cfg0.N) (s : Fin 4096) (i : Fin 1024) : EReal := relu2 (iblk m c 0 t (ix2 s i))
abbrev B (t : Fin cfg0.N) (s : Fin 4096) (j : Fin 1024) : EReal := iblk m c 1 t (ix2 s j)

theorem out_A (t : Fin cfg0.N) (h : t.val % 2 = 0) (i : Fin 1024) (j : Fin 1024) :
    outsAt0 m c t.val t.isLt (ix2 i j) = ∑ s, A m c t s i * B m c t s j := by
  rw [outsAt0_A m c t h (by have := ltN t; omega)]
  frame_out
  unfold A relu2
  pointwise [k0_pay1, k0_pay2]

theorem out_B (t : Fin cfg0.N) (h : ¬t.val % 2 = 0) (i : Fin 1024) (j : Fin 1024) :
    outsAt0 m c t.val t.isLt (ix2 i j) = outsAt0 m c (t.val - 1) (Nat.lt_of_le_of_lt (Nat.sub_le _ _) t.isLt) (ix2 i j) + ∑ s, A m c t s i * B m c t s j := by
  rw [outsAt0_B m c t h (by have := ltN t; omega)]
  frame_out
  unfold A relu2
  pointwise [k0_pay1, k0_pay2]

theorem blk0 (t : Fin cfg0.N) (s : Fin 4096) (i : Fin 1024) :
    iblk m c 0 t (ix2 s i) = V m c main_v26 (ix2 ⟨t.val % 2 * 4096 + s.val, by omega⟩ ⟨t.val / 2 * 1024 + i.val, by have := ltN t; omega⟩) := by
  blk_simp [iblk]
  refine congrArg _ ?_
  blk_ext [idx0 t]

theorem blk1 (t : Fin cfg0.N) (s : Fin 4096) (j : Fin 1024) :
    iblk m c 1 t (ix2 s j) = V m c main_v28 (ix2 ⟨t.val % 2 * 4096 + s.val, by omega⟩ ⟨t.val / 2 % 1 * 1024 + j.val, by omega⟩) := by
  blk_simp [iblk]
  refine congrArg _ ?_
  blk_ext [idx1 t]

/-- The two whole operands. -/
abbrev ga (r : Fin 8192) (i : Fin 4096) : EReal := V m c main_v26 (ix2 r i)
abbrev gb (r : Fin 8192) (j : Fin 1024) : EReal := V m c main_v28 (ix2 r j)

/-- What point `n` adds. -/
def part (n : Nat) (y : S1024x1024.Idx) : EReal :=
  if h : n < 8 then ∑ s, A m c ⟨n, h⟩ s (y 0) * B m c ⟨n, h⟩ s (y 1) else 0

theorem run_out (t : Fin cfg0.N) (ht : t.val % 2 = 1) (y : S1024x1024.Idx) :
    outsAt0 m c t.val t.isLt y = 0 + ∑ k ∈ Finset.range 2, part m c (2 * (t.val / 2) + k) y := by
  refine Pipeline.eq_sum_of_reset_step_apply_of_mod (fun n h => outsAt0 m c n h) 2 (fun _ => 0) (part m c) (fun t h i => ?_) (fun t h i => ?_) t ht y
  · idx_vars i
    refine (out_A m c t h i0 i1).trans ?_
    show _ = 0 + dite _ _ _
    rw [dif_pos (ltN t), zero_add]
    rfl
  · idx_vars i
    refine (out_B m c t h i0 i1).trans ?_
    refine congrArg (_ + ·) ?_
    show _ = dite _ _ _
    rw [dif_pos (ltN t)]
    rfl

/-- The array that the call returns, from the arrays that it is given. -/
theorem arr2 : (dats m 0 c).arrAt 2 cfg0.N = fun y : S4096x1024.Idx =>
    ∑ r : Fin 8192, relu2 (ga m c r (y 0)) * gb m c r (y 1) := by
  refine (dats m 0 c).arrAt_eq_of_covers 2 _ (by decide +kernel) fun t hf y => ?_
  blk_simp
  have hm := (flush0_2 t).mp hf
  rw [after0_2, run_out m c t hm y]
  have hN := ltN t
  have hy0 : (y 0).val < 1024 := (y 0).isLt
  have hy1 : (y 1).val < 1024 := (y 1).isLt
  have e : ((win0_2.blk t).view.emb y : S4096x1024.Idx) = ix2 ⟨t.val / 2 * 1024 + (y 0).val, by omega⟩ ⟨t.val / 2 % 1 * 1024 + (y 1).val, by omega⟩ := by
    idx_vars y
    blk_ext [idx2 t]
  rw [e, zero_add]
  refine sum_row_blocks 2 4096 (by norm_num) (fun k => part m c (2 * (t.val / 2) + k) y)
    (fun r => relu2 (ga m c r ⟨t.val / 2 * 1024 + (y 0).val, by omega⟩) * gb m c r ⟨t.val / 2 % 1 * 1024 + (y 1).val, by omega⟩) fun k => ?_
  have hk := k.isLt
  unfold part
  rw [dif_pos (by omega)]
  refine Finset.sum_congr rfl fun s _ => ?_
  have hs := s.isLt
  refine congrArg₂ (· * ·) ((congrArg (relu2) ?_)) ?_
  · refine (blk0 m c _ s (y 0)).trans (congrArg _ (congrArg₂ ix2 (Fin.ext ?_) (Fin.ext ?_)))
    · show (2 * (t.val / 2) + k.val) % 2 * 4096 + s.val = k.val * 4096 + s.val
      omega
    · show (2 * (t.val / 2) + k.val) / 2 * 1024 + (y 0).val = t.val / 2 * 1024 + (y 0).val
      omega
  · refine (blk1 m c _ s (y 1)).trans (congrArg _ (congrArg₂ ix2 (Fin.ext ?_) (Fin.ext ?_)))
    · show (2 * (t.val / 2) + k.val) % 2 * 4096 + s.val = k.val * 4096 + s.val
      omega
    · show (2 * (t.val / 2) + k.val) / 2 % 1 * 1024 + (y 1).val = t.val / 2 % 1 * 1024 + (y 1).val
      omega

theorem host_A (b : Fin 2) (t : Fin 4096) (i : Fin 4096) (h : b.val * 4096 + t.val < 8192) :
    V m c main_v26 (ix2 ⟨b.val * 4096 + t.val, h⟩ i) = Z (m ((c : Thread nD τ).loc main_arg0)) (m ((c : Thread nD τ).loc main_arg1)) (m ((c : Thread nD τ).loc main_arg2)) b t i := by
  have eb : (b.val * 4096 + t.val) / 4096 = b.val := by omega
  have et : (b.val * 4096 + t.val) % 4096 = t.val := by omega
  unfold V hostOps0 Z zrow xn rr
  after_reads_at
  all_goals simp only [eb, et, Fin.eta]

theorem host_B (b : Fin 2) (t : Fin 4096) (j : Fin 1024) (h : b.val * 4096 + t.val < 8192) :
    V m c main_v28 (ix2 ⟨b.val * 4096 + t.val, h⟩ j) = (m ((c : Thread nD τ).loc main_arg3)) (ix3 b t j) := by
  have eb : (b.val * 4096 + t.val) / 4096 = b.val := by omega
  have et : (b.val * 4096 + t.val) % 4096 = t.val := by omega
  unfold V hostOps0
  after_reads_at
  all_goals simp only [eb, et, Fin.eta]

theorem res : (dats m 0 c).arrAt 2 cfg0.N = W3 (m ((c : Thread nD τ).loc main_arg0)) (m ((c : Thread nD τ).loc main_arg1)) (m ((c : Thread nD τ).loc main_arg2)) (m ((c : Thread nD τ).loc main_arg3)) := by
  rw [arr2]
  funext y
  unfold W3
  show (∑ r : Fin 8192, (_ : EReal)) = ∑ b : Fin 2, ∑ t : Fin 4096, (_ : EReal)
  rw [sum_rows]
  exact Finset.sum_congr rfl fun b _ => Finset.sum_congr rfl fun t _ =>
    congrArg₂ (· * ·) (congrArg (relu2) (host_A m c b t (y 0) _)) (host_B m c b t (y 1) _)

end Cert.Kernel3Ideal.Hand

namespace Cert.Wgrad

open Idealize.ShloMosaic Idealize.ShloMosaic.TcCoe Idealize.ShloMosaic.Tactic Idealize.SL.Sem
open Cert.MlpBwd Cert.Reference3Ideal.Read

theorem hidden_ref (x0 x1 x2) (b : Fin 2) (t : Fin 4096) (f : Fin 4096) :
    val_main_v24 (F := Ideal) x0 x1 x2 (ix3 b t f) = Z x0 x1 x2 b t f := by
  unfold Z zrow xn rr
  pointwise [val_main_v0, val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_cst_2, val_main_v17, val_main_v18, val_main_v19, val_main_v20, val_main_v21, val_main_v22, val_main_v23, val_main_v24, val_main_cst_3]

theorem ref3 (x0 x1 x2 x3) : val_main_v30 (F := Ideal) x0 x1 x2 x3 = W3 x0 x1 x2 x3 := by
  funext y
  idx_vars y
  show _ = ∑ b : Fin 2, ∑ t : Fin 4096, _
  pointwise [val_main_v30, val_main_v29, val_main_v27, val_main_v26, val_main_call0_v0, val_main_call0_cst]
  refine Finset.sum_congr rfl fun b _ => Finset.sum_congr rfl fun t _ => ?_
  rw [mul_comm]
  refine congrArg (fun z => relu2 z * _) ?_
  exact hidden_ref x0 x1 x2 b t y0

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun _ h => ⟨fun c => (h c).2, funext fun q => by rcases q with ⟨_, q | q⟩ <;> exact q.elim0⟩) (Cert.Reference3Ideal.Value.run (F := Ideal) m ρ)

theorem algebraic3 : Cert.algebraic_Kernel3Ideal_Reference3Ideal := by
  intro m g m' g' _ hag
  refine ⟨fun c => W3 (m (c.tc.loc Cert.Kernel3Ideal.main_arg0)) (m (c.tc.loc Cert.Kernel3Ideal.main_arg1)) (m (c.tc.loc Cert.Kernel3Ideal.main_arg2)) (m (c.tc.loc Cert.Kernel3Ideal.main_arg3)), ?_, ?_⟩
  · refine (θ_run Cert.Kernel3Ideal.defs _ _).mono (fun r h c => ?_) (Cert.Kernel3Ideal.Value.run_blocks (F := Ideal) m g)
    exact ⟨(h c).1.trans (Cert.Kernel3Ideal.Hand.res m c), (h c).2⟩
  · refine (θ_run Cert.Reference3Ideal.defs _ _).mono (fun r h c => ?_) (Cert.Reference3Ideal.Value.run (F := Ideal) m' g')
    obtain ⟨a0, a1, a2, a3⟩ := hag c
    refine ⟨(h c).1.trans ?_, (h c).2⟩
    have e : W3 (m' (c.tc.loc Cert.Reference3Ideal.main_arg0)) (m' (c.tc.loc Cert.Reference3Ideal.main_arg1)) (m' (c.tc.loc Cert.Reference3Ideal.main_arg2)) (m' (c.tc.loc Cert.Reference3Ideal.main_arg3)) = W3 (m (c.tc.loc Cert.Kernel3Ideal.main_arg0)) (m (c.tc.loc Cert.Kernel3Ideal.main_arg1)) (m (c.tc.loc Cert.Kernel3Ideal.main_arg2)) (m (c.tc.loc Cert.Kernel3Ideal.main_arg3)) := by rw [a0, a1, a2, a3]
    exact ((Cert.Reference3Ideal.Read.val_main_v30_eq (F := Ideal) _ _ _ _).trans (ref3 _ _ _ _)).trans e

end Cert.Wgrad

end
-- ==== Proof.Wgrad4.lean ====
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.WgradSpec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel4Ideal.Hand

open Idealize.ShloMosaic Idealize.ShloMosaic.TcCoe Idealize.ShloMosaic.Tactic
open Idealize.SL Idealize.SL.Sem
open Idealize.ShloMosaic.Pipeline (Dat Cfg Window cellOf)
open Cert.Kernel4Ideal.Gen
open Cert.MlpBwd Cert.Wgrad

variable (m : (ℓ : Loc nD τ sig) → Buf (Elt Ideal) ℓ) (c : Dev nD)

theorem idx0 : ∀ t : Fin cfg0.N, win0_0.index t = ![t.val % 2, t.val / 8] := (by decide +kernel : ∀ t : Fin grid0.N, win0_0.index t = ![t.val % 2, t.val / 8])
theorem idx1 : ∀ t : Fin cfg0.N, win0_1.index t = ![t.val % 2, t.val / 2 % 4] := (by decide +kernel : ∀ t : Fin grid0.N, win0_1.index t = ![t.val % 2, t.val / 2 % 4])
theorem idx2 : ∀ t : Fin cfg0.N, win0_2.index t = ![t.val / 8, t.val / 2 % 4] := (by decide +kernel : ∀ t : Fin grid0.N, win0_2.index t = ![t.val / 8, t.val / 2 % 4])

theorem ltN (t : Fin cfg0.N) : t.val < 8 := t.isLt

/-- The two operands at one point of the grid, and what the point adds. -/
abbrev A (t : Fin cfg0.N) (s : Fin 4096) (i : Fin 1024) : EReal := (iblk m c 0 t (ix2 s i))
abbrev B (t : Fin cfg0.N) (s : Fin 4096) (j : Fin 1024) : EReal := iblk m c 1 t (ix2 s j)

theorem out_A (t : Fin cfg0.N) (h : t.val % 2 = 0) (i : Fin 1024) (j : Fin 1024) :
    outsAt0 m c t.val t.isLt (ix2 i j) = ∑ s, A m c t s i * B m c t s j := by
  rw [outsAt0_A m c t h (by have := ltN t; omega)]
  frame_out
  skip
  pointwise [k0_pay1, k0_pay2]

theorem out_B (t : Fin cfg0.N) (h : ¬t.val % 2 = 0) (i : Fin 1024) (j : Fin 1024) :
    outsAt0 m c t.val t.isLt (ix2 i j) = outsAt0 m c (t.val - 1) (Nat.lt_of_le_of_lt (Nat.sub_le _ _) t.isLt) (ix2 i j) + ∑ s, A m c t s i * B m c t s j := by
  rw [outsAt0_B m c t h (by have := ltN t; omega)]
  frame_out
  skip
  pointwise [k0_pay1, k0_pay2]

theorem blk0 (t : Fin cfg0.N) (s : Fin 4096) (i : Fin 1024) :
    iblk m c 0 t (ix2 s i) = V m c main_v25 (ix2 ⟨t.val % 2 * 4096 + s.val, by omega⟩ ⟨t.val / 8 * 1024 + i.val, by have := ltN t; omega⟩) := by
  blk_simp [iblk]
  refine congrArg _ ?_
  blk_ext [idx0 t]

theorem blk1 (t : Fin cfg0.N) (s : Fin 4096) (j : Fin 1024) :
    iblk m c 1 t (ix2 s j) = V m c main_v27 (ix2 ⟨t.val % 2 * 4096 + s.val, by omega⟩ ⟨t.val / 2 % 4 * 1024 + j.val, by omega⟩) := by
  blk_simp [iblk]
  refine congrArg _ ?_
  blk_ext [idx1 t]

/-- The two whole operands. -/
abbrev ga (r : Fin 8192) (i : Fin 1024) : EReal := V m c main_v25 (ix2 r i)
abbrev gb (r : Fin 8192) (j : Fin 4096) : EReal := V m c main_v27 (ix2 r j)

/-- What point `n` adds. -/
def part (n : Nat) (y : S1024x1024.Idx) : EReal :=
  if h : n < 8 then ∑ s, A m c ⟨n, h⟩ s (y 0) * B m c ⟨n, h⟩ s (y 1) else 0

theorem run_out (t : Fin cfg0.N) (ht : t.val % 2 = 1) (y : S1024x1024.Idx) :
    outsAt0 m c t.val t.isLt y = 0 + ∑ k ∈ Finset.range 2, part m c (2 * (t.val / 2) + k) y := by
  refine Pipeline.eq_sum_of_reset_step_apply_of_mod (fun n h => outsAt0 m c n h) 2 (fun _ => 0) (part m c) (fun t h i => ?_) (fun t h i => ?_) t ht y
  · idx_vars i
    refine (out_A m c t h i0 i1).trans ?_
    show _ = 0 + dite _ _ _
    rw [dif_pos (ltN t), zero_add]
    rfl
  · idx_vars i
    refine (out_B m c t h i0 i1).trans ?_
    refine congrArg (_ + ·) ?_
    show _ = dite _ _ _
    rw [dif_pos (ltN t)]
    rfl

/-- The array that the call returns, from the arrays that it is given. -/
theorem arr2 : (dats m 0 c).arrAt 2 cfg0.N = fun y : S1024x4096.Idx =>
    ∑ r : Fin 8192, (ga m c r (y 0)) * gb m c r (y 1) := by
  refine (dats m 0 c).arrAt_eq_of_covers 2 _ (by decide +kernel) fun t hf y => ?_
  blk_simp
  have hm := (flush0_2 t).mp hf
  rw [after0_2, run_out m c t hm y]
  have hN := ltN t
  have hy0 : (y 0).val < 1024 := (y 0).isLt
  have hy1 : (y 1).val < 1024 := (y 1).isLt
  have e : ((win0_2.blk t).view.emb y : S1024x4096.Idx) = ix2 ⟨t.val / 8 * 1024 + (y 0).val, by omega⟩ ⟨t.val / 2 % 4 * 1024 + (y 1).val, by omega⟩ := by
    idx_vars y
    blk_ext [idx2 t]
  rw [e, zero_add]
  refine sum_row_blocks 2 4096 (by norm_num) (fun k => part m c (2 * (t.val / 2) + k) y)
    (fun r => (ga m c r ⟨t.val / 8 * 1024 + (y 0).val, by omega⟩) * gb m c r ⟨t.val / 2 % 4 * 1024 + (y 1).val, by omega⟩) fun k => ?_
  have hk := k.isLt
  unfold part
  rw [dif_pos (by omega)]
  refine Finset.sum_congr rfl fun s _ => ?_
  have hs := s.isLt
  refine congrArg₂ (· * ·) ((congrArg (fun z : EReal => z) ?_)) ?_
  · refine (blk0 m c _ s (y 0)).trans (congrArg _ (congrArg₂ ix2 (Fin.ext ?_) (Fin.ext ?_)))
    · show (2 * (t.val / 2) + k.val) % 2 * 4096 + s.val = k.val * 4096 + s.val
      omega
    · show (2 * (t.val / 2) + k.val) / 8 * 1024 + (y 0).val = t.val / 8 * 1024 + (y 0).val
      omega
  · refine (blk1 m c _ s (y 1)).trans (congrArg _ (congrArg₂ ix2 (Fin.ext ?_) (Fin.ext ?_)))
    · show (2 * (t.val / 2) + k.val) % 2 * 4096 + s.val = k.val * 4096 + s.val
      omega
    · show (2 * (t.val / 2) + k.val) / 2 % 4 * 1024 + (y 1).val = t.val / 2 % 4 * 1024 + (y 1).val
      omega

theorem host_A (b : Fin 2) (t : Fin 4096) (i : Fin 1024) (h : b.val * 4096 + t.val < 8192) :
    V m c main_v25 (ix2 ⟨b.val * 4096 + t.val, h⟩ i) = hrow (m ((c : Thread nD τ).loc main_arg0)) (m ((c : Thread nD τ).loc main_arg1)) 3072 4096 (by omega) (by omega) b t i := by
  have eb : (b.val * 4096 + t.val) / 4096 = b.val := by omega
  have et : (b.val * 4096 + t.val) % 4096 = t.val := by omega
  unfold V hostOps0 hrow xn rr
  after_reads_at
  all_goals simp only [eb, et, Fin.eta]

theorem host_B (b : Fin 2) (t : Fin 4096) (j : Fin 4096) (h : b.val * 4096 + t.val < 8192) :
    V m c main_v27 (ix2 ⟨b.val * 4096 + t.val, h⟩ j) = (m ((c : Thread nD τ).loc main_arg2)) (ix3 b t j) := by
  have eb : (b.val * 4096 + t.val) / 4096 = b.val := by omega
  have et : (b.val * 4096 + t.val) % 4096 = t.val := by omega
  unfold V hostOps0
  after_reads_at
  all_goals simp only [eb, et, Fin.eta]

theorem res : (dats m 0 c).arrAt 2 cfg0.N = W4 (m ((c : Thread nD τ).loc main_arg0)) (m ((c : Thread nD τ).loc main_arg1)) (m ((c : Thread nD τ).loc main_arg2)) := by
  rw [arr2]
  funext y
  unfold W4
  show (∑ r : Fin 8192, (_ : EReal)) = ∑ b : Fin 2, ∑ t : Fin 4096, (_ : EReal)
  rw [sum_rows]
  exact Finset.sum_congr rfl fun b _ => Finset.sum_congr rfl fun t _ =>
    congrArg₂ (· * ·) (congrArg (fun z : EReal => z) (host_A m c b t (y 0) _)) (host_B m c b t (y 1) _)

end Cert.Kernel4Ideal.Hand

namespace Cert.Wgrad

open Idealize.ShloMosaic Idealize.ShloMosaic.TcCoe Idealize.ShloMosaic.Tactic Idealize.SL.Sem
open Cert.MlpBwd Cert.Reference4Ideal.Read

theorem input_ref4 (x0 x1) (b : Fin 2) (t : Fin 4096) (k : Fin 1024) :
    val_main_v24 (F := Ideal) x0 x1 (ix3 b t k) = hrow x0 x1 3072 4096 (by omega) (by omega) b t k := by
  unfold hrow xn rr
  pointwise [val_main_v0, val_main_v1, val_main_v2, val_main_v3, val_main_v4, val_main_v5, val_main_cst, val_main_v6, val_main_v7, val_main_cst_0, val_main_v8, val_main_v9, val_main_cst_1, val_main_v10, val_main_v11, val_main_cst_2, val_main_v12, val_main_v13, val_main_v14, val_main_v15, val_main_v16, val_main_v17, val_main_cst_3, val_main_v18, val_main_v19, val_main_v20, val_main_v21, val_main_v22, val_main_v23, val_main_v24]

theorem ref4 (x0 x1 x2) : val_main_v27 (F := Ideal) x0 x1 x2 = W4 x0 x1 x2 := by
  funext y
  idx_vars y
  show _ = ∑ b : Fin 2, ∑ t : Fin 4096, _
  pointwise [val_main_v27, val_main_v26]
  refine Finset.sum_congr rfl fun b _ => Finset.sum_congr rfl fun t _ => ?_
  rw [mul_comm]
  exact congrArg (· * _) (input_ref4 x0 x1 b t y0)

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun _ h => ⟨fun c => (h c).2, funext fun q => by rcases q with ⟨_, q | q⟩ <;> exact q.elim0⟩) (Cert.Reference4Ideal.Value.run (F := Ideal) m ρ)

theorem algebraic4 : Cert.algebraic_Kernel4Ideal_Reference4Ideal := by
  intro m g m' g' _ hag
  refine ⟨fun c => W4 (m (c.tc.loc Cert.Kernel4Ideal.main_arg0)) (m (c.tc.loc Cert.Kernel4Ideal.main_arg1)) (m (c.tc.loc Cert.Kernel4Ideal.main_arg2)), ?_, ?_⟩
  · refine (θ_run Cert.Kernel4Ideal.defs _ _).mono (fun r h c => ?_) (Cert.Kernel4Ideal.Value.run_blocks (F := Ideal) m g)
    exact ⟨(h c).1.trans (Cert.Kernel4Ideal.Hand.res m c), (h c).2⟩
  · refine (θ_run Cert.Reference4Ideal.defs _ _).mono (fun r h c => ?_) (Cert.Reference4Ideal.Value.run (F := Ideal) m' g')
    obtain ⟨a0, a1, a2⟩ := hag c
    refine ⟨(h c).1.trans ?_, (h c).2⟩
    have e : W4 (m' (c.tc.loc Cert.Reference4Ideal.main_arg0)) (m' (c.tc.loc Cert.Reference4Ideal.main_arg1)) (m' (c.tc.loc Cert.Reference4Ideal.main_arg2)) = W4 (m (c.tc.loc Cert.Kernel4Ideal.main_arg0)) (m (c.tc.loc Cert.Kernel4Ideal.main_arg1)) (m (c.tc.loc Cert.Kernel4Ideal.main_arg2)) := by rw [a0, a1, a2]
    exact ((Cert.Reference4Ideal.Read.val_main_v27_eq (F := Ideal) _ _ _).trans (ref4 _ _ _)).trans e

end Cert.Wgrad

end
-- ==== Proof.Wgrad5.lean ====
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.WgradSpec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel5Ideal.Hand

open Idealize.ShloMosaic Idealize.ShloMosaic.TcCoe Idealize.ShloMosaic.Tactic
open Idealize.SL Idealize.SL.Sem
open Idealize.ShloMosaic.Pipeline (Dat Cfg Window cellOf)
open Cert.Kernel5Ideal.Gen
open Cert.MlpBwd Cert.Wgrad

variable (m : (ℓ : Loc nD τ sig) → Buf (Elt Ideal) ℓ) (c : Dev nD)

theorem idx0 : ∀ t : Fin cfg0.N, win0_0.index t = ![t.val % 4, t.val / 4] := (by decide +kernel : ∀ t : Fin grid0.N, win0_0.index t = ![t.val % 4, t.val / 4])
theorem idx1 : ∀ t : Fin cfg0.N, win0_1.index t = ![t.val % 4, t.val / 4 % 1] := (by decide +kernel : ∀ t : Fin grid0.N, win0_1.index t = ![t.val % 4, t.val / 4 % 1])
theorem idx2 : ∀ t : Fin cfg0.N, win0_2.index t = ![t.val / 4, t.val / 4 % 1] := (by decide +kernel : ∀ t : Fin grid0.N, win0_2.index t = ![t.val / 4, t.val / 4 % 1])

theorem ltN (t : Fin cfg0.N) : t.val < 4 := t.isLt

/-- The two operands at one point of the grid, and what the point adds. -/
abbrev A (t : Fin cfg0.N) (s : Fin 2048) (i : Fin 1024) : EReal := (iblk m c 0 t (ix2 s i))
abbrev B (t : Fin cfg0.N) (s : Fin 2048) (j : Fin 1024) : EReal := iblk m c 1 t (ix2 s j)

theorem out_A (t : Fin cfg0.N) (h : t.val % 4 = 0) (i : Fin 1024) (j : Fin 1024) :
    outsAt0 m c t.val t.isLt (ix2 i j) = ∑ s, A m c t s i * B m c t s j := by
  rw [outsAt0_A m c t h (by have := ltN t; omega)]
  frame_out
  skip
  pointwise [k0_pay1, k0_pay2]

theorem out_B (t : Fin cfg0.N) (h : ¬t.val % 4 = 0) (i : Fin 1024) (j : Fin 1024) :
    outsAt0 m c t.val t.isLt (ix2 i j) = outsAt0 m c (t.val - 1) (Nat.lt_of_le_of_lt (Nat.sub_le _ _) t.isLt) (ix2 i j) + ∑ s, A m c t s i * B m c t s j := by
  rw [outsAt0_B m c t h (by have := ltN t; omega)]
  frame_out
  skip
  pointwise [k0_pay1, k0_pay2]

theorem blk0 (t : Fin cfg0.N) (s : Fin 2048) (i : Fin 1024) :
    iblk m c 0 t (ix2 s i) = V m c main_v1 (ix2 ⟨t.val % 4 * 2048 + s.val, by omega⟩ ⟨t.val / 4 * 1024 + i.val, by have := ltN t; omega⟩) := by
  blk_simp [iblk]
  refine congrArg _ ?_
  blk_ext [idx0 t]

theorem blk1 (t : Fin cfg0.N) (s : Fin 2048) (j : Fin 1024) :
    iblk m c 1 t (ix2 s j) = V m c main_v3 (ix2 ⟨t.val % 4 * 2048 + s.val, by omega⟩ ⟨t.val / 4 % 1 * 1024 + j.val, by omega⟩) := by
  blk_simp [iblk]
  refine congrArg _ ?_
  blk_ext [idx1 t]

/-- The two whole operands. -/
abbrev ga (r : Fin 8192) (i : Fin 1024) : EReal := V m c main_v1 (ix2 r i)
abbrev gb (r : Fin 8192) (j : Fin 1024) : EReal := V m c main_v3 (ix2 r j)

/-- What point `n` adds. -/
def part (n : Nat) (y : S1024x1024.Idx) : EReal :=
  if h : n < 4 then ∑ s, A m c ⟨n, h⟩ s (y 0) * B m c ⟨n, h⟩ s (y 1) else 0

theorem run_out (t : Fin cfg0.N) (ht : t.val % 4 = 3) (y : S1024x1024.Idx) :
    outsAt0 m c t.val t.isLt y = 0 + ∑ k ∈ Finset.range 4, part m c (4 * (t.val / 4) + k) y := by
  refine Pipeline.eq_sum_of_reset_step_apply_of_mod (fun n h => outsAt0 m c n h) 4 (fun _ => 0) (part m c) (fun t h i => ?_) (fun t h i => ?_) t ht y
  · idx_vars i
    refine (out_A m c t h i0 i1).trans ?_
    show _ = 0 + dite _ _ _
    rw [dif_pos (ltN t), zero_add]
    rfl
  · idx_vars i
    refine (out_B m c t h i0 i1).trans ?_
    refine congrArg (_ + ·) ?_
    show _ = dite _ _ _
    rw [dif_pos (ltN t)]
    rfl

/-- The array that the call returns, from the arrays that it is given. -/
theorem arr2 : (dats m 0 c).arrAt 2 cfg0.N = fun y : S1024x1024.Idx =>
    ∑ r : Fin 8192, (ga m c r (y 0)) * gb m c r (y 1) := by
  refine (dats m 0 c).arrAt_eq_of_covers 2 _ (by decide +kernel) fun t hf y => ?_
  blk_simp
  have hm := (flush0_2 t).mp hf
  rw [after0_2, run_out m c t hm y]
  have hN := ltN t
  have hy0 : (y 0).val < 1024 := (y 0).isLt
  have hy1 : (y 1).val < 1024 := (y 1).isLt
  have e : ((win0_2.blk t).view.emb y : S1024x1024.Idx) = ix2 ⟨t.val / 4 * 1024 + (y 0).val, by omega⟩ ⟨t.val / 4 % 1 * 1024 + (y 1).val, by omega⟩ := by
    idx_vars y
    blk_ext [idx2 t]
  rw [e, zero_add]
  refine sum_row_blocks 4 2048 (by norm_num) (fun k => part m c (4 * (t.val / 4) + k) y)
    (fun r => (ga m c r ⟨t.val / 4 * 1024 + (y 0).val, by omega⟩) * gb m c r ⟨t.val / 4 % 1 * 1024 + (y 1).val, by omega⟩) fun k => ?_
  have hk := k.isLt
  unfold part
  rw [dif_pos (by omega)]
  refine Finset.sum_congr rfl fun s _ => ?_
  have hs := s.isLt
  refine congrArg₂ (· * ·) ((congrArg (fun z : EReal => z) ?_)) ?_
  · refine (blk0 m c _ s (y 0)).trans (congrArg _ (congrArg₂ ix2 (Fin.ext ?_) (Fin.ext ?_)))
    · show (4 * (t.val / 4) + k.val) % 4 * 2048 + s.val = k.val * 2048 + s.val
      omega
    · show (4 * (t.val / 4) + k.val) / 4 * 1024 + (y 0).val = t.val / 4 * 1024 + (y 0).val
      omega
  · refine (blk1 m c _ s (y 1)).trans (congrArg _ (congrArg₂ ix2 (Fin.ext ?_) (Fin.ext ?_)))
    · show (4 * (t.val / 4) + k.val) % 4 * 2048 + s.val = k.val * 2048 + s.val
      omega
    · show (4 * (t.val / 4) + k.val) / 4 % 1 * 1024 + (y 1).val = t.val / 4 % 1 * 1024 + (y 1).val
      omega

theorem host_A (b : Fin 2) (t : Fin 4096) (i : Fin 1024) (h : b.val * 4096 + t.val < 8192) :
    V m c main_v1 (ix2 ⟨b.val * 4096 + t.val, h⟩ i) = (m ((c : Thread nD τ).loc main_arg0)) (ix3 b t i) := by
  have eb : (b.val * 4096 + t.val) / 4096 = b.val := by omega
  have et : (b.val * 4096 + t.val) % 4096 = t.val := by omega
  unfold V hostOps0
  after_reads_at
  all_goals simp only [eb, et, Fin.eta]

theorem host_B (b : Fin 2) (t : Fin 4096) (j : Fin 1024) (h : b.val * 4096 + t.val < 8192) :
    V m c main_v3 (ix2 ⟨b.val * 4096 + t.val, h⟩ j) = (m ((c : Thread nD τ).loc main_arg1)) (ix3 b t j) := by
  have eb : (b.val * 4096 + t.val) / 4096 = b.val := by omega
  have et : (b.val * 4096 + t.val) % 4096 = t.val := by omega
  unfold V hostOps0
  after_reads_at
  all_goals simp only [eb, et, Fin.eta]

theorem res : (dats m 0 c).arrAt 2 cfg0.N = W5 (m ((c : Thread nD τ).loc main_arg0)) (m ((c : Thread nD τ).loc main_arg1)) := by
  rw [arr2]
  funext y
  unfold W5
  show (∑ r : Fin 8192, (_ : EReal)) = ∑ b : Fin 2, ∑ t : Fin 4096, (_ : EReal)
  rw [sum_rows]
  exact Finset.sum_congr rfl fun b _ => Finset.sum_congr rfl fun t _ =>
    congrArg₂ (· * ·) (congrArg (fun z : EReal => z) (host_A m c b t (y 0) _)) (host_B m c b t (y 1) _)

end Cert.Kernel5Ideal.Hand

namespace Cert.Wgrad

open Idealize.ShloMosaic Idealize.ShloMosaic.TcCoe Idealize.ShloMosaic.Tactic Idealize.SL.Sem
open Cert.MlpBwd Cert.Reference5Ideal.Read

theorem ref5 (x0 x1) : val_main_v3 (F := Ideal) x0 x1 = W5 x0 x1 := by
  funext y
  idx_vars y
  show _ = ∑ b : Fin 2, ∑ t : Fin 4096, _
  pointwise [val_main_v3, val_main_v2]
  refine Finset.sum_congr rfl fun b _ => Finset.sum_congr rfl fun t _ => ?_
  rw [mul_comm]

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono
    (fun _ h => ⟨fun c => (h c).2, funext fun q => by rcases q with ⟨_, q | q⟩ <;> exact q.elim0⟩) (Cert.Reference5Ideal.Value.run (F := Ideal) m ρ)

theorem algebraic5 : Cert.algebraic_Kernel5Ideal_Reference5Ideal := by
  intro m g m' g' _ hag
  refine ⟨fun c => W5 (m (c.tc.loc Cert.Kernel5Ideal.main_arg0)) (m (c.tc.loc Cert.Kernel5Ideal.main_arg1)), ?_, ?_⟩
  · refine (θ_run Cert.Kernel5Ideal.defs _ _).mono (fun r h c => ?_) (Cert.Kernel5Ideal.Value.run_blocks (F := Ideal) m g)
    exact ⟨(h c).1.trans (Cert.Kernel5Ideal.Hand.res m c), (h c).2⟩
  · refine (θ_run Cert.Reference5Ideal.defs _ _).mono (fun r h c => ?_) (Cert.Reference5Ideal.Value.run (F := Ideal) m' g')
    obtain ⟨a0, a1⟩ := hag c
    refine ⟨(h c).1.trans ?_, (h c).2⟩
    have e : W5 (m' (c.tc.loc Cert.Reference5Ideal.main_arg0)) (m' (c.tc.loc Cert.Reference5Ideal.main_arg1)) = W5 (m (c.tc.loc Cert.Kernel5Ideal.main_arg0)) (m (c.tc.loc Cert.Kernel5Ideal.main_arg1)) := by rw [a0, a1]
    exact ((Cert.Reference5Ideal.Read.val_main_v3_eq (F := Ideal) _ _).trans (ref5 _ _)).trans e

end Cert.Wgrad

end
-- ==== Proof.Wgrad6.lean ====
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.WgradSpec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel6Ideal.Hand

open Idealize.ShloMosaic Idealize.ShloMosaic.TcCoe Idealize.ShloMosaic.Tactic
open Idealize.SL Idealize.SL.Sem
open Idealize.ShloMosaic.Pipeline (Dat Cfg Window cellOf)
open Cert.Kernel6Ideal.Gen
open Cert.MlpBwd Cert.Wgrad

variable (m : (ℓ : Loc nD τ sig) → Buf (Elt Ideal) ℓ) (c : Dev nD)

theorem idx0 : ∀ t : Fin cfg0.N, win0_0.index t = ![t.val % 4, t.val / 8] := (by decide +kernel : ∀ t : Fin grid0.N, win0_0.index t = ![t.val % 4, t.val / 8])
theorem idx1 : ∀ t : Fin cfg0.N, win0_1.index t = ![t.val % 4, t.val / 4 % 2] := (by decide +kernel : ∀ t : Fin grid0.N, win0_1.index t = ![t.val % 4, t.val / 4 % 2])
theorem idx2 : ∀ t : Fin cfg0.N, win0_2.index t = ![t.val / 8, t.val / 4 % 2] := (by decide +kernel : ∀ t : Fin grid0.N, win0_2.index t = ![t.val / 8, t.val / 4 % 2])

theorem ltN (t : Fin cfg0.N) : t.val < 8 := t.isLt

/-- The two operands at one point of the grid, and what the point adds. -/
abbrev A (t : Fin cfg0.N) (s : Fin 2048) (i : Fin 1024) : EReal := (iblk m c 0 t (ix2 s i))
abbrev B (t : Fin cfg0.N) (s : Fin 2048) (j : Fin 1280) : EReal := iblk m c 1 t (ix2 s j)

theorem out_A (t : Fin cfg0.N) (h : t.val % 4 = 0) (i : Fin 1024) (j : Fin 1280) :
    outsAt0 m c t.val t.isLt (ix2 i j) = ∑ s, A m c t s i * B m c t s j := by
  rw [outsAt0_A m c t h (by have := ltN t; omega)]
  frame_out
  skip
  pointwise [k0_pay1, k0_pay2]

theorem out_B (t : Fin cfg0.N) (h : ¬t.val % 4 = 0) (i : Fin 1024) (j : Fin 1280) :
    outsAt0 m c t.val t.isLt (ix2 i j) = outsAt0 m c (t.val - 1) (Nat.lt_of_le_of_lt (Nat.sub_le _ _) t.isLt) (ix2 i j) + ∑ s, A m c t s i * B m c t s j := by
  rw [outsAt0_B m c t h (by have := ltN t; omega)]
  frame_out
  skip
  pointwise [k0_pay1, k0_pay2]

theorem blk0 (t : Fin cfg0.N) (s : Fin 2048) (i : Fin 1024) :
    iblk m c 0 t (ix2 s i) = V m c main_v25 (ix2 ⟨t.val % 4 * 2048 + s.val, by omega⟩ ⟨t.val / 8 * 1024 + i.val, by have := ltN t; omega⟩) := by
  blk_simp [iblk]
  refine congrArg _ ?_
  blk_ext [idx0 t]

theorem blk1 (t : Fin cfg0.N) (s : Fin 2048) (j : Fin 1280) :
    iblk m c 1 t (ix2 s j) = V m c main_v27 (ix2 ⟨t.val % 4 * 2048 + s.val, by omega⟩ ⟨t.val / 4 % 2 * 1280 + j.val, by omega⟩) := by
  blk_simp [iblk]
  refine congrArg _ ?_
  blk_ext [idx1 t]

/-- The two whole operands. -/
abbrev ga (r : Fin 8192) (i : Fin 1024) : EReal := V m c main_v25 (ix2 r i)
abbrev gb (r : Fin 8192) (j : Fin 2560) : EReal := V m c main_v27 (ix2 r j)

/-- What point `n` adds. -/
def part (n : Nat) (y : S1024x1280.Idx) : EReal :=
  if h : n < 8 then ∑ s, A m c ⟨n, h⟩ s (y 0) * B m c ⟨n, h⟩ s (y 1) else 0

theorem run_out (t : Fin cfg0.N) (ht : t.val % 4 = 3) (y : S1024x1280.Idx) :
    outsAt0 m c t.val t.isLt y = 0 + ∑ k ∈ Finset.range 4, part m c (4 * (t.val / 4) + k) y := by
  refine Pipeline.eq_sum_of_reset_step_apply_of_mod (fun n h => outsAt0 m c n h) 4 (fun _ => 0) (part m c) (fun t h i => ?_) (fun t h i => ?_) t ht y
  · idx_vars i
    refine (out_A m c t h i0 i1).trans ?_
    show _ = 0 + dite _ _ _
    rw [dif_pos (ltN t), zero_add]
    rfl
  · idx_vars i
    refine (out_B m c t h i0 i1).trans ?_
    refine congrArg (_ + ·) ?_
    show _ = dite _ _ _
    rw [dif_pos (ltN t)]
    rfl

/-- The array that the call returns, from the arrays that it is given. -/
theorem arr2 : (dats m 0 c).arrAt 2 cfg0.N = fun y : S1024x2560.Idx =>
    ∑ r : Fin 8192, (ga m c r (y 0)) * gb m c r (y 1) := by
  refine (dats m 0 c).arrAt_eq_of_covers 2 _ (by decide +kernel) fun t hf y => ?_
  blk_simp
  have hm := (flush0_2 t).mp hf
  rw [after0_2, run_out m c t hm y]
  have hN := ltN t
  have hy0 : (y 0).val < 1024 := (y 0).isLt
  have hy1 : (y 1).val < 1280 := (y 1).isLt
  have e : ((win0_2.blk t).view.emb y : S1024x2560.Idx) = ix2 ⟨t.val / 8 * 1024 + (y 0).val, by omega⟩ ⟨t.val / 4 % 2 * 1280 + (y 1).val, by omega⟩ := by
    idx_vars y
    blk_ext [idx2 t]
  rw [e, zero_add]
  refine sum_row_blocks 4 2048 (by norm_num) (fun k => part m c (4 * (t.val / 4) + k) y)
    (fun r => (ga m c r ⟨t.val / 8 * 1024 + (y 0).val, by omega⟩) * gb m c r ⟨t.val / 4 % 2 * 1280 + (y 1).val, by omega⟩) fun k => ?_
  have hk := k.isLt
  unfold part
  rw [dif_pos (by omega)]
  refine Finset.sum_congr rfl fun s _ => ?_
  have hs := s.isLt
  refine congrArg₂ (· * ·) ((congrArg (fun z : EReal => z) ?_)) ?_
  · refine (blk0 m c _ s (y 0)).trans (congrArg _ (congrArg₂ ix2 (Fin.ext ?_) (Fin.ext ?_)))
    · show (4 * (t.val / 4) + k.val) % 4 * 2048 + s.val = k.val * 2048 + s.val
      omega
    · show (4 * (t.val / 4) + k.val) / 8 * 1024 + (y 0).val = t.val / 8 * 1024 + (y 0).val
      omega
  · refine (blk1 m c _ s (y 1)).trans (congrArg _ (congrArg₂ ix2 (Fin.ext ?_) (Fin.ext ?_)))
    · show (4 * (t.val / 4) + k.val) % 4 * 2048 + s.val = k.val * 2048 + s.val
      omega
    · show (4 * (t.val / 4) + k.val) / 4 % 2 * 1280 + (y 1).val = t.val / 4 % 2 * 1280 + (y 1).val
      omega

theorem host_A (b : Fin 2) (t : Fin 4096) (i : Fin 1024) (h : b.val * 4096 + t.val < 8192) :
    V m c main_v25 (ix2 ⟨b.val * 4096 + t.val, h⟩ i) = hrow (m ((c : Thread nD τ).loc main_arg0)) (m ((c : Thread nD τ).loc main_arg1)) 0 1024 (by omega) (by omega) b t i := by
  have eb : (b.val * 4096 + t.val) / 4096 = b.val := by omega
  have et : (b.val * 4096 + t.val) % 4096 = t.val := by omega
  unfold V hostOps0 hrow xn rr
  rw [mrow_zero]
  after_reads_at
  all_goals simp only [eb, et, Fin.eta]

theorem host_B (b : Fin 2) (t : Fin 4096) (j : Fin 2560) (h : b.val * 4096 + t.val < 8192) :
    V m c main_v27 (ix2 ⟨b.val * 4096 + t.val, h⟩ j) = (m ((c : Thread nD τ).loc main_arg2)) (ix3 b t j) := by
  have eb : (b.val * 4096 + t.val) / 4096 = b.val := by omega
  have et : (b.val * 4096 + t.val) % 4096 = t.val := by omega
  unfold V hostOps0
  after_reads_at
  all_goals simp only [eb, et, Fin.eta]

theorem res : (dats m 0 c).arrAt 2 cfg0.N = W6 (m ((c : Thread nD τ).loc main_arg0)) (m ((c : Thread nD τ).loc main_arg1)) (m ((c : Thread nD τ).loc main_arg2)) := by
  rw [arr2]
  funext y
  unfold W6
  show (∑ r : Fin 8192, (_ : EReal)) = ∑ b : Fin 2, ∑ t : Fin 4096, (_ : EReal)
  rw [sum_rows]
  exact Finset.sum_congr rfl fun b _ => Finset.sum_congr rfl fun t _ =>
    congrArg₂ (· * ·) (congrArg (fun z : EReal => z) (host_A m c b t (y 0) _)) (host_B m c b t (y 1) _)

end Cert.Kernel6Ideal.Hand

namespace Cert.Wgrad

open Idealize.ShloMosaic Idealize.ShloMosaic.TcCoe Idealize.ShloMosaic.Tactic Idealize.SL.Sem
open Cert.MlpBwd Cert.Reference6Ideal.Read

theorem input_ref6 (x0 x1) (b : Fin 2) (t : Fin 4096) (k : Fin 1024) :
    val_main_v24 (F := Ideal) x0 x1 (ix3 b t k) = hrow x0 x1 0 1024 (by omega) (by omega) b t k := by
  unfold hrow xn rr
  rw [mrow_zero]
  pointwise [val_main_v0, val_main_v1, val_main_v2, val_main_v3, val_main_v4, val_main_v5, val_main_cst, val_main_v6, val_main_v7, val_main_cst_0, val_main_v8, val_main_v9, val_main_cst_1, val_main_v10, val_main_v11, val_main_cst_2, val_main_v12, val_main_v13, val_main_v14, val_main_v15, val_main_v16, val_main_v17, val_main_cst_3, val_main_v18, val_main_v19, val_main_v20, val_main_v21, val_main_v22, val_main_v23, val_main_v24]

theorem ref6 (x0 x1 x2) : val_main_v27 (F := Ideal) x0 x1 x2 = W6 x0 x1 x2 := by
  funext y
  idx_vars y
  show _ = ∑ b : Fin 2, ∑ t : Fin 4096, _
  pointwise [val_main_v27, val_main_v26]
  refine Finset.sum_congr rfl fun b _ => Finset.sum_congr rfl fun t _ => ?_
  rw [mul_comm]
  exact congrArg (· * _) (input_ref6 x0 x1 b t y0)

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun _ h => ⟨fun c => (h c).2, funext fun q => by rcases q with ⟨_, q | q⟩ <;> exact q.elim0⟩) (Cert.Reference6Ideal.Value.run (F := Ideal) m ρ)

theorem algebraic6 : Cert.algebraic_Kernel6Ideal_Reference6Ideal := by
  intro m g m' g' _ hag
  refine ⟨fun c => W6 (m (c.tc.loc Cert.Kernel6Ideal.main_arg0)) (m (c.tc.loc Cert.Kernel6Ideal.main_arg1)) (m (c.tc.loc Cert.Kernel6Ideal.main_arg2)), ?_, ?_⟩
  · refine (θ_run Cert.Kernel6Ideal.defs _ _).mono (fun r h c => ?_) (Cert.Kernel6Ideal.Value.run_blocks (F := Ideal) m g)
    exact ⟨(h c).1.trans (Cert.Kernel6Ideal.Hand.res m c), (h c).2⟩
  · refine (θ_run Cert.Reference6Ideal.defs _ _).mono (fun r h c => ?_) (Cert.Reference6Ideal.Value.run (F := Ideal) m' g')
    obtain ⟨a0, a1, a2⟩ := hag c
    refine ⟨(h c).1.trans ?_, (h c).2⟩
    have e : W6 (m' (c.tc.loc Cert.Reference6Ideal.main_arg0)) (m' (c.tc.loc Cert.Reference6Ideal.main_arg1)) (m' (c.tc.loc Cert.Reference6Ideal.main_arg2)) = W6 (m (c.tc.loc Cert.Kernel6Ideal.main_arg0)) (m (c.tc.loc Cert.Kernel6Ideal.main_arg1)) (m (c.tc.loc Cert.Kernel6Ideal.main_arg2)) := by rw [a0, a1, a2]
    exact ((Cert.Reference6Ideal.Read.val_main_v27_eq (F := Ideal) _ _ _).trans (ref6 _ _ _)).trans e

end Cert.Wgrad

end
-- ==== Proof.FwdRows.lean ====
/- The squared-ReLU MLP with its residual, the final norm and the gradient of the loss through that norm, one row at
   a time. -/
module

public import Idealize.ShloMosaic.Lib.Pointwise
public import proofs.«01_k».proof.Proof.MlpRows

@[expose] public section

noncomputable section

namespace Cert.MlpFwd

open Idealize.ShloMosaic
open Cert.MlpBwd (cD cTwo cEps rr xn sum_chunks sum_res)

/-- One over the model width. -/
abbrev cInv : EReal := Ideal.ofBits .f32 0x3A800000#32

/-- The hidden layer before the activation, the branch's output, and the residual stream after it. -/
def zf (h : Fin 1024 → EReal) (w1 : Fin 1024 → Fin 4096 → EReal) (f : Fin 4096) : EReal := ∑ k, h k * w1 k f
def y2 (z : Fin 4096 → EReal) (w2 : Fin 4096 → Fin 1024 → EReal) (c : Fin 1024) : EReal :=
  ∑ f, max (z f) 0 * max (z f) 0 * w2 f c
def x2 (x g y : Fin 1024 → EReal) (c : Fin 1024) : EReal := x c + g c * y c

/-- The output minus the target, the output's gradient, and the gradient before the final norm. -/
def diff (x gf tg : Fin 1024 → EReal) (c : Fin 1024) : EReal := xn x c * gf c - tg c
def dout (x gf tg : Fin 1024 → EReal) (c : Fin 1024) : EReal := diff x gf tg c * cInv
def dx2 (x gf tg : Fin 1024 → EReal) (c : Fin 1024) : EReal :=
  rr x * (dout x gf tg c * gf c - xn x c * Ideal.div (∑ k, dout x gf tg k * gf k * xn x k) cD)

end Cert.MlpFwd

end
-- ==== Proof.FwdBlock.lean ====
module

public import proofs.«01_k».proof.Proof.Gen.Kernel7Ideal.Value
public import proofs.«01_k».proof.Proof.FwdRows
public import Idealize.ShloMosaic.Lib.Pointwise
public import Idealize.ShloMosaic.Lib.Pipeline.ValueKit

@[expose] public section

set_option maxRecDepth 16384

noncomputable section

namespace Cert.Kernel7Ideal.Hand

open Idealize.ShloMosaic Idealize.ShloMosaic.TcCoe Idealize.ShloMosaic.Tactic
open Idealize.SL Idealize.SL.Sem
open Idealize.ShloMosaic.Pipeline (Dat Cfg Window cellOf)
open Cert.Kernel7Ideal.Gen

variable (m : (ℓ : Loc nD τ sig) → Buf (Elt Ideal) ℓ) (c : Dev nD)

open Cert.MlpFwd
open Cert.MlpBwd (cD cTwo cEps rr xn sum_chunks sum_res)

/-- Where a rectangle of a matrix places its local index. -/
theorem emb_unit2 {n k a b p q : Nat} (inb : ∀ i : Fin 2, (![a, b] : Fin 2 → Nat) i + (![p, q] : Fin 2 → Nat) i ≤ (![n, k] : Fin 2 → Nat) i)
    (i : Fin p) (j : Fin q) (i' : Fin n) (j' : Fin k) (hi : i'.val = a + i.val) (hj : j'.val = b + j.val) :
    (Rect.unit (s := ⟨2, ![n, k]⟩) ![a, b] ![p, q] inb).emb (ix2 i j) = ix2 i' j' := by
  funext d
  refine Fin.ext ?_
  rw [Rect.emb_apply]
  match d with
  | ⟨0, _⟩ => exact (congrArg (a + ·) (Nat.one_mul _)).trans hi.symm
  | ⟨1, _⟩ => exact (congrArg (b + ·) (Nat.one_mul _)).trans hj.symm

variable (X0 : Vec Ideal S512x1024 .bf16) (X1 X2 : Vec Ideal S512x1024 .f32) (X3 : Vec Ideal S1x1x6144 .f32) (X4 : Vec Ideal S1x1024 .f32)
  (X5 : Vec Ideal S1024x4096 .bf16) (X6 : Vec Ideal S4096x1024 .bf16)

/-- Row `r` of a block, a matrix by rows, and 1024 modulation coefficients. -/
abbrev row {n k : Nat} (X : (⟨2, ![n, k]⟩ : Shape).Idx → EReal) (r : Fin n) (c : Fin k) : EReal := X (ix2 r c)
abbrev mat {n k : Nat} (X : (⟨2, ![n, k]⟩ : Shape).Idx → EReal) (r : Fin n) (c : Fin k) : EReal := X (ix2 r c)
abbrev modc (X : Vec Ideal S1x1x6144 .f32) (o : Nat) (h : o + 1024 ≤ 6144) (c : Fin 1024) : EReal := X (ix3 0 0 ⟨o + c.val, by omega⟩)

/-- The branch's output and the stream after it, in row `r` of a block. -/
def by2 (r : Fin 512) : Fin 1024 → EReal := y2 (zf (row X0 r) (mat X5)) (mat X6)
def bx2 (r : Fin 512) : Fin 1024 → EReal := x2 (row X1 r) (modc X3 5120 (by omega)) (by2 X0 X5 X6 r)

theorem z_256_3072 (r : Fin 256) (q : Fin 1024) :
    k0_pay41 (k0_pay31 (View.ld X0 (Rect.unit ![256, 0] ![256, 1024] inb_S512x1024_S256x1024_256_0))) (View.ld X5 (Rect.unit ![0, 3072] ![1024, 1024] inb_S1024x4096_S1024x1024_0_3072)) (ix2 r q)
      = zf (row X0 ⟨256 + r.val, by omega⟩) (mat X5) ⟨3072 + q.val, by omega⟩ := by
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41]

theorem z_256_2048 (r : Fin 256) (q : Fin 1024) :
    k0_pay38 (k0_pay31 (View.ld X0 (Rect.unit ![256, 0] ![256, 1024] inb_S512x1024_S256x1024_256_0))) (View.ld X5 (Rect.unit ![0, 2048] ![1024, 1024] inb_S1024x4096_S1024x1024_0_2048)) (ix2 r q)
      = zf (row X0 ⟨256 + r.val, by omega⟩) (mat X5) ⟨2048 + q.val, by omega⟩ := by
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41]

theorem z_256_1024 (r : Fin 256) (q : Fin 1024) :
    k0_pay35 (k0_pay31 (View.ld X0 (Rect.unit ![256, 0] ![256, 1024] inb_S512x1024_S256x1024_256_0))) (View.ld X5 (Rect.unit ![0, 1024] ![1024, 1024] inb_S1024x4096_S1024x1024_0_1024)) (ix2 r q)
      = zf (row X0 ⟨256 + r.val, by omega⟩) (mat X5) ⟨1024 + q.val, by omega⟩ := by
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41]

theorem z_256_0 (r : Fin 256) (q : Fin 1024) :
    k0_pay33 (k0_pay31 (View.ld X0 (Rect.unit ![256, 0] ![256, 1024] inb_S512x1024_S256x1024_256_0))) (View.ld X5 (Rect.unit ![0, 0] ![1024, 1024] inb_S1024x4096_S1024x1024_0_0)) (ix2 r q)
      = zf (row X0 ⟨256 + r.val, by omega⟩) (mat X5) ⟨q.val, by omega⟩ := by
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41]

theorem z_0_3072 (r : Fin 256) (q : Fin 1024) :
    k0_pay18 (k0_pay7 (View.ld X0 (Rect.unit ![0, 0] ![256, 1024] inb_S512x1024_S256x1024_0_0))) (View.ld X5 (Rect.unit ![0, 3072] ![1024, 1024] inb_S1024x4096_S1024x1024_0_3072)) (ix2 r q)
      = zf (row X0 ⟨r.val, by omega⟩) (mat X5) ⟨3072 + q.val, by omega⟩ := by
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41]

theorem z_0_2048 (r : Fin 256) (q : Fin 1024) :
    k0_pay16 (k0_pay7 (View.ld X0 (Rect.unit ![0, 0] ![256, 1024] inb_S512x1024_S256x1024_0_0))) (View.ld X5 (Rect.unit ![0, 2048] ![1024, 1024] inb_S1024x4096_S1024x1024_0_2048)) (ix2 r q)
      = zf (row X0 ⟨r.val, by omega⟩) (mat X5) ⟨2048 + q.val, by omega⟩ := by
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41]

theorem z_0_1024 (r : Fin 256) (q : Fin 1024) :
    k0_pay12 (View.ld X0 (Rect.unit ![0, 0] ![256, 1024] inb_S512x1024_S256x1024_0_0)) (View.ld X5 (Rect.unit ![0, 1024] ![1024, 1024] inb_S1024x4096_S1024x1024_0_1024)) (ix2 r q)
      = zf (row X0 ⟨r.val, by omega⟩) (mat X5) ⟨1024 + q.val, by omega⟩ := by
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41]

theorem z_0_0 (r : Fin 256) (q : Fin 1024) :
    k0_pay9 (View.ld X0 (Rect.unit ![0, 0] ![256, 1024] inb_S512x1024_S256x1024_0_0)) (View.ld X5 (Rect.unit ![0, 0] ![1024, 1024] inb_S1024x4096_S1024x1024_0_0)) (ix2 r q)
      = zf (row X0 ⟨r.val, by omega⟩) (mat X5) ⟨q.val, by omega⟩ := by
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41]

theorem pay6 : k0_pay6 X4 = X4 := by
  unfold k0_pay6
  exact shapeCast_self ..

theorem y2_lo (r : Fin 256) (q : Fin 1024) :
    (k0_pay19 (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0))) (ix2 r q)
      = by2 X0 X5 X6 ⟨r.val, by omega⟩ q := by
  unfold by2 y2
  rw [sum_chunks]
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41, k0_pay10, k0_pay13, k0_pay14, k0_pay19, k0_pay36, k0_pay39, k0_pay42]

theorem y2_hi (r : Fin 256) (q : Fin 1024) :
    (k0_pay42 (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0))) (ix2 r q)
      = by2 X0 X5 X6 ⟨256 + r.val, by omega⟩ q := by
  unfold by2 y2
  rw [sum_chunks]
  unfold zf
  pointwise [k0_pay7, k0_pay8, k0_pay9, k0_pay11, k0_pay12, k0_pay15, k0_pay16, k0_pay17, k0_pay18, k0_pay31, k0_pay32, k0_pay33, k0_pay34, k0_pay35, k0_pay37, k0_pay38, k0_pay40, k0_pay41, k0_pay10, k0_pay13, k0_pay14, k0_pay19, k0_pay36, k0_pay39, k0_pay42]

theorem x2_lo (r : Fin 256) (q : Fin 1024) :
    (k0_pay20 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (ix2 r q)
      = bx2 X0 X1 X3 X5 X6 ⟨r.val, by omega⟩ q := by
  unfold bx2 x2
  rw [← y2_lo]
  pointwise [k0_pay20, k0_pay5]

theorem ms_lo (r : Fin 256) (u : Fin 1) :
    (k0_pay21 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (ix2 r u)
      = ∑ k, bx2 X0 X1 X3 X5 X6 ⟨r.val, by omega⟩ k * bx2 X0 X1 X3 X5 X6 ⟨r.val, by omega⟩ k := by
  simp only [← x2_lo]
  pointwise [k0_pay21]

theorem x2_hi (r : Fin 256) (q : Fin 1024) :
    (k0_pay43 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (ix2 r q)
      = bx2 X0 X1 X3 X5 X6 ⟨256 + r.val, by omega⟩ q := by
  unfold bx2 x2
  rw [← y2_hi]
  pointwise [k0_pay43, k0_pay5]

theorem rr_hi (r : Fin 256) (u : Fin 1) :
    (k0_pay44 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (ix2 r u)
      = rr (bx2 X0 X1 X3 X5 X6 ⟨256 + r.val, by omega⟩) := by
  unfold rr
  simp only [← x2_hi]
  pointwise [k0_pay44]

theorem xn_hi (r : Fin 256) (q : Fin 1024) :
    (k0_pay45 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (ix2 r q)
      = xn (bx2 X0 X1 X3 X5 X6 ⟨256 + r.val, by omega⟩) q := by
  unfold xn
  rw [← x2_hi, ← rr_hi X0 X1 X3 X5 X6 r 0]
  pointwise [k0_pay45]

theorem df_hi (r : Fin 256) (q : Fin 1024) :
    (k0_pay46 (k0_pay5 (View.ld X3 (Rect.unit ![0, 0, 5120] ![1, 1, 1024] inb_S1x1x6144_S1x1x1024_0_0_5120))) X4 (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0)) (View.ld X2 (Rect.unit ![256, 0] ![256, 1024] inb_S512x1024_S256x1024_256_0))) (ix2 r q)
      = diff (bx2 X0 X1 X3 X5 X6 ⟨256 + r.val, by omega⟩) (row X4 0) (row X2 ⟨256 + r.val, by omega⟩) q := by
  unfold diff
  rw [← xn_hi]
  pointwise [k0_pay46]

section
variable (v1 v3 : FVec Ideal S1x1024 .f32) (v58 v63 v76 v176 v181 : FVec Ideal S256x1024 .f32) (v66 v174 : FVec Ideal S256x1 .f32) (v100 : FVec Ideal S8x1024 .f32)
  (X Y T : Fin 256 → Fin 1024 → EReal)

section
variable (hX : ∀ r q, v63 (ix2 r q) = X r q) (hS : ∀ r u, v66 (ix2 r u) = ∑ k, X r k * X r k)
include hX hS

theorem rr_lo (r : Fin 256) (u : Fin 1) : k0_pay22 v66 (FloatOps.ofBits (F := Ideal) FTy.f32 1149239296#32) (ix2 r u) = rr (X r) := by
  unfold rr
  rw [← hS r u]
  pointwise [k0_pay22]

theorem xn_lo (r : Fin 256) (q : Fin 1024) : k0_pay23 v63 v66 (FloatOps.ofBits (F := Ideal) FTy.f32 1149239296#32) (ix2 r q) = xn (X r) q := by
  unfold xn
  rw [← rr_lo v63 v66 X hX hS r 0, ← hX]
  pointwise [k0_pay23]

theorem df_lo (r : Fin 256) (q : Fin 1024) : k0_pay24 v3 v63 v66 (FloatOps.ofBits (F := Ideal) FTy.f32 1149239296#32) v76 (ix2 r q) = diff (X r) (row v3 0) (row v76 r) q := by
  unfold diff
  rw [← xn_lo v63 v66 X hX hS]
  pointwise [k0_pay24]

theorem do_lo (r : Fin 256) (q : Fin 1024) : k0_pay25 v3 v63 v66 (FloatOps.ofBits (F := Ideal) FTy.f32 1149239296#32) v76 (ix2 r q) = dout (X r) (row v3 0) (row v76 r) q := by
  unfold dout
  rw [← df_lo v3 v63 v76 v66 X hX hS]
  pointwise [k0_pay25]

theorem dx_lo (r : Fin 256) (q : Fin 1024) : k0_pay26 v3 v63 v66 (FloatOps.ofBits (F := Ideal) FTy.f32 1149239296#32) v76 (ix2 r q) = dx2 (X r) (row v3 0) (row v76 r) q := by
  unfold dx2
  simp only [← do_lo v3 v63 v76 v66 X hX hS, ← xn_lo v63 v66 X hX hS]
  rw [← rr_lo v63 v66 X hX hS r 0]
  pointwise [k0_pay26]

theorem dy_lo (r : Fin 256) (q : Fin 1024) : k0_pay27 v1 v3 v63 v66 (FloatOps.ofBits (F := Ideal) FTy.f32 1149239296#32) v76 (ix2 r q) = v1 (ix2 0 q) * dx2 (X r) (row v3 0) (row v76 r) q := by
  rw [← dx_lo v3 v63 v76 v66 X hX hS]
  pointwise [k0_pay27]

theorem s28 (hY : ∀ r q, v58 (ix2 r q) = Y r q) (s : Fin 8) (q : Fin 1024) :
    k0_pay28 v3 v58 v63 v66 (FloatOps.ofBits (F := Ideal) FTy.f32 1149239296#32) v76 (ix2 s q)
      = ∑ x : Fin 32, dx2 (X ⟨x.val * 8 + s.val, by omega⟩) (row v3 0) (row v76 ⟨x.val * 8 + s.val, by omega⟩) q * Y ⟨x.val * 8 + s.val, by omega⟩ q := by
  simp only [← dx_lo v3 v63 v76 v66 X hX hS, ← hY]
  pointwise [k0_pay28]

theorem s29 (s : Fin 8) (q : Fin 1024) :
    k0_pay29 v3 v63 v66 (FloatOps.ofBits (F := Ideal) FTy.f32 1149239296#32) v76 (ix2 s q)
      = ∑ x : Fin 32, dout (X ⟨x.val * 8 + s.val, by omega⟩) (row v3 0) (row v76 ⟨x.val * 8 + s.val, by omega⟩) q * xn (X ⟨x.val * 8 + s.val, by omega⟩) q := by
  simp only [← do_lo v3 v63 v76 v66 X hX hS, ← xn_lo v63 v66 X hX hS]
  pointwise [k0_pay29]

theorem s30 (s : Fin 8) (q : Fin 1024) :
    k0_pay30 v3 v63 v66 (FloatOps.ofBits (F := Ideal) FTy.f32 1149239296#32) v76 (ix2 s q)
      = ∑ x : Fin 32, diff (X ⟨x.val * 8 + s.val, by omega⟩) (row v3 0) (row v76 ⟨x.val * 8 + s.val, by omega⟩) q * diff (X ⟨x.val * 8 + s.val, by omega⟩) (row v3 0) (row v76 ⟨x.val * 8 + s.val, by omega⟩) q := by
  simp only [← df_lo v3 v63 v76 v66 X hX hS]
  pointwise [k0_pay30]

end

section
variable (hD : ∀ r q, v181 (ix2 r q) = diff (X r) (row v3 0) (T r) q)
include hD

theorem do_hi (r : Fin 256) (q : Fin 1024) : k0_pay47 v181 (ix2 r q) = dout (X r) (row v3 0) (T r) q := by
  unfold dout
  rw [← hD]
  pointwise [k0_pay47]

theorem s52 (s : Fin 8) (q : Fin 1024) :
    k0_pay52 v100 v181 (ix2 s q)
      = v100 (ix2 s q) + ∑ x : Fin 32, diff (X ⟨x.val * 8 + s.val, by omega⟩) (row v3 0) (T ⟨x.val * 8 + s.val, by omega⟩) q * diff (X ⟨x.val * 8 + s.val, by omega⟩) (row v3 0) (T ⟨x.val * 8 + s.val, by omega⟩) q := by
  simp only [← hD]
  pointwise [k0_pay52]

variable (hN : ∀ r q, v176 (ix2 r q) = xn (X r) q)
include hN

theorem s51 (s : Fin 8) (q : Fin 1024) :
    k0_pay51 v100 v176 v181 (ix2 s q)
      = v100 (ix2 s q) + ∑ x : Fin 32, dout (X ⟨x.val * 8 + s.val, by omega⟩) (row v3 0) (T ⟨x.val * 8 + s.val, by omega⟩) q * xn (X ⟨x.val * 8 + s.val, by omega⟩) q := by
  simp only [← do_hi v3 v181 X T hD, ← hN]
  pointwise [k0_pay51]

variable (hR : ∀ r u, v174 (ix2 r u) = rr (X r))
include hR

theorem dx_hi (r : Fin 256) (q : Fin 1024) : k0_pay48 v3 v174 v176 v181 (ix2 r q) = dx2 (X r) (row v3 0) (T r) q := by
  unfold dx2
  simp only [← do_hi v3 v181 X T hD, ← hN]
  rw [← hR r 0]
  pointwise [k0_pay48]

theorem dy_hi (r : Fin 256) (q : Fin 1024) : k0_pay49 v1 v3 v174 v176 v181 (ix2 r q) = v1 (ix2 0 q) * dx2 (X r) (row v3 0) (T r) q := by
  rw [← dx_hi v3 v176 v181 v174 X T hD hN hR]
  pointwise [k0_pay49]

theorem s50 (hY : ∀ r q, v58 (ix2 r q) = Y r q) (s : Fin 8) (q : Fin 1024) :
    k0_pay50 v3 v100 v58 v174 v176 v181 (ix2 s q)
      = v100 (ix2 s q) + ∑ x : Fin 32, dx2 (X ⟨x.val * 8 + s.val, by omega⟩) (row v3 0) (T ⟨x.val * 8 + s.val, by omega⟩) q * Y ⟨x.val * 8 + s.val, by omega⟩ q := by
  simp only [← dx_hi v3 v176 v181 v174 X T hD hN hR, ← hY]
  pointwise [k0_pay50]

end
end

theorem ld_lo (r : Fin 256) : row (View.ld X2 (Rect.unit ![0, 0] ![256, 1024] inb_S512x1024_S256x1024_0_0)) r = row X2 ⟨r.val, by omega⟩ := by
  funext q
  show View.ld X2 (Rect.unit ![0, 0] ![256, 1024] inb_S512x1024_S256x1024_0_0) (ix2 r q) = X2 (ix2 ⟨r.val, by omega⟩ q)
  pointwise []

theorem pay5 (q : Fin 1024) : k0_pay5 (View.ld X3 (Rect.unit ![0, 0, 5120] ![1, 1, 1024] inb_S1x1x6144_S1x1x1024_0_0_5120)) (ix2 0 q) = modc X3 5120 (by omega) q := by
  pointwise [k0_pay5]

theorem bdx_lo (r : Fin 256) (q : Fin 1024) :
    k0_pay26 X4 (k0_pay20 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (k0_pay21 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (FloatOps.ofBits (F := Ideal) FTy.f32 1149239296#32) (View.ld X2 (Rect.unit ![0, 0] ![256, 1024] inb_S512x1024_S256x1024_0_0)) (ix2 r q)
      = dx2 (bx2 X0 X1 X3 X5 X6 ⟨r.val, by omega⟩) (row X4 0) (row X2 ⟨r.val, by omega⟩) q := by
  rw [← ld_lo]
  exact dx_lo _ _ _ _ (fun r => bx2 X0 X1 X3 X5 X6 ⟨r.val, by omega⟩) (x2_lo X0 X1 X3 X5 X6) (ms_lo X0 X1 X3 X5 X6) r q

theorem bdx_hi (r : Fin 256) (q : Fin 1024) :
    k0_pay48 X4 (k0_pay44 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (k0_pay45 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (k0_pay46 (k0_pay5 (View.ld X3 (Rect.unit ![0, 0, 5120] ![1, 1, 1024] inb_S1x1x6144_S1x1x1024_0_0_5120))) X4 (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0)) (View.ld X2 (Rect.unit ![256, 0] ![256, 1024] inb_S512x1024_S256x1024_256_0))) (ix2 r q)
      = dx2 (bx2 X0 X1 X3 X5 X6 ⟨256 + r.val, by omega⟩) (row X4 0) (row X2 ⟨256 + r.val, by omega⟩) q :=
  dx_hi _ _ _ _ (fun r => bx2 X0 X1 X3 X5 X6 ⟨256 + r.val, by omega⟩) (fun r => row X2 ⟨256 + r.val, by omega⟩) (df_hi X0 X1 X2 X3 X4 X5 X6) (xn_hi X0 X1 X3 X5 X6) (rr_hi X0 X1 X3 X5 X6) r q

theorem bdy_lo (r : Fin 256) (q : Fin 1024) :
    k0_pay27 (k0_pay5 (View.ld X3 (Rect.unit ![0, 0, 5120] ![1, 1, 1024] inb_S1x1x6144_S1x1x1024_0_0_5120))) X4 (k0_pay20 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (k0_pay21 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (FloatOps.ofBits (F := Ideal) FTy.f32 1149239296#32) (View.ld X2 (Rect.unit ![0, 0] ![256, 1024] inb_S512x1024_S256x1024_0_0)) (ix2 r q)
      = modc X3 5120 (by omega) q * dx2 (bx2 X0 X1 X3 X5 X6 ⟨r.val, by omega⟩) (row X4 0) (row X2 ⟨r.val, by omega⟩) q := by
  rw [← ld_lo, ← pay5]
  exact dy_lo _ _ _ _ _ (fun r => bx2 X0 X1 X3 X5 X6 ⟨r.val, by omega⟩) (x2_lo X0 X1 X3 X5 X6) (ms_lo X0 X1 X3 X5 X6) r q

theorem bdy_hi (r : Fin 256) (q : Fin 1024) :
    k0_pay49 (k0_pay5 (View.ld X3 (Rect.unit ![0, 0, 5120] ![1, 1, 1024] inb_S1x1x6144_S1x1x1024_0_0_5120))) X4 (k0_pay44 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (k0_pay45 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (k0_pay46 (k0_pay5 (View.ld X3 (Rect.unit ![0, 0, 5120] ![1, 1, 1024] inb_S1x1x6144_S1x1x1024_0_0_5120))) X4 (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0)) (View.ld X2 (Rect.unit ![256, 0] ![256, 1024] inb_S512x1024_S256x1024_256_0))) (ix2 r q)
      = modc X3 5120 (by omega) q * dx2 (bx2 X0 X1 X3 X5 X6 ⟨256 + r.val, by omega⟩) (row X4 0) (row X2 ⟨256 + r.val, by omega⟩) q := by
  rw [← pay5]
  exact dy_hi _ _ _ _ _ (fun r => bx2 X0 X1 X3 X5 X6 ⟨256 + r.val, by omega⟩) (fun r => row X2 ⟨256 + r.val, by omega⟩) (df_hi X0 X1 X2 X3 X4 X5 X6) (xn_hi X0 X1 X3 X5 X6) (rr_hi X0 X1 X3 X5 X6) r q

theorem sum10 (s : Fin 8) (q : Fin 1024) :
    (k0_pay50 X4 (k0_pay28 X4 (k0_pay19 (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0))) (k0_pay20 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (k0_pay21 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (FloatOps.ofBits (F := Ideal) FTy.f32 1149239296#32) (View.ld X2 (Rect.unit ![0, 0] ![256, 1024] inb_S512x1024_S256x1024_0_0))) (k0_pay42 (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0))) (k0_pay44 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (k0_pay45 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (k0_pay46 (k0_pay5 (View.ld X3 (Rect.unit ![0, 0, 5120] ![1, 1, 1024] inb_S1x1x6144_S1x1x1024_0_0_5120))) X4 (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0)) (View.ld X2 (Rect.unit ![256, 0] ![256, 1024] inb_S512x1024_S256x1024_256_0)))) (ix2 s q)
      = ∑ k : Fin 64, dx2 (bx2 X0 X1 X3 X5 X6 ⟨k.val * 8 + s.val, by omega⟩) (row X4 0) (row X2 ⟨k.val * 8 + s.val, by omega⟩) q * by2 X0 X5 X6 ⟨k.val * 8 + s.val, by omega⟩ q := by
  refine (s50 _ _ _ _ _ _ (fun r => bx2 X0 X1 X3 X5 X6 ⟨256 + r.val, by omega⟩) (fun r => by2 X0 X5 X6 ⟨256 + r.val, by omega⟩) (fun r => row X2 ⟨256 + r.val, by omega⟩) (df_hi X0 X1 X2 X3 X4 X5 X6) (xn_hi X0 X1 X3 X5 X6) (rr_hi X0 X1 X3 X5 X6) (y2_hi X0 X5 X6) s q).trans ?_
  rw [s28 _ _ _ _ _ (fun r => bx2 X0 X1 X3 X5 X6 ⟨r.val, by omega⟩) (fun r => by2 X0 X5 X6 ⟨r.val, by omega⟩) (x2_lo X0 X1 X3 X5 X6) (ms_lo X0 X1 X3 X5 X6) (y2_lo X0 X5 X6) s q]
  simp only [ld_lo]
  exact sum_res (fun r => dx2 (bx2 X0 X1 X3 X5 X6 r) (row X4 0) (row X2 r) q * by2 X0 X5 X6 r q) s

theorem sum11 (s : Fin 8) (q : Fin 1024) :
    (k0_pay51 (k0_pay29 X4 (k0_pay20 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (k0_pay21 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (FloatOps.ofBits (F := Ideal) FTy.f32 1149239296#32) (View.ld X2 (Rect.unit ![0, 0] ![256, 1024] inb_S512x1024_S256x1024_0_0))) (k0_pay45 (k0_pay5 (View.ld X3 (Rect.unit ![0, 0, 5120] ![1, 1, 1024] inb_S1x1x6144_S1x1x1024_0_0_5120))) (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0))) (k0_pay46 (k0_pay5 (View.ld X3 (Rect.unit ![0, 0, 5120] ![1, 1, 1024] inb_S1x1x6144_S1x1x1024_0_0_5120))) X4 (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0)) (View.ld X2 (Rect.unit ![256, 0] ![256, 1024] inb_S512x1024_S256x1024_256_0)))) (ix2 s q)
      = ∑ k : Fin 64, dout (bx2 X0 X1 X3 X5 X6 ⟨k.val * 8 + s.val, by omega⟩) (row X4 0) (row X2 ⟨k.val * 8 + s.val, by omega⟩) q * xn (bx2 X0 X1 X3 X5 X6 ⟨k.val * 8 + s.val, by omega⟩) q := by
  refine (s51 _ _ _ _ (fun r => bx2 X0 X1 X3 X5 X6 ⟨256 + r.val, by omega⟩) (fun r => row X2 ⟨256 + r.val, by omega⟩) (df_hi X0 X1 X2 X3 X4 X5 X6) (xn_hi X0 X1 X3 X5 X6) s q).trans ?_
  rw [s29 _ _ _ _ (fun r => bx2 X0 X1 X3 X5 X6 ⟨r.val, by omega⟩) (x2_lo X0 X1 X3 X5 X6) (ms_lo X0 X1 X3 X5 X6) s q]
  simp only [ld_lo]
  exact sum_res (fun r => dout (bx2 X0 X1 X3 X5 X6 r) (row X4 0) (row X2 r) q * xn (bx2 X0 X1 X3 X5 X6 r) q) s

theorem sum12 (s : Fin 8) (q : Fin 1024) :
    (k0_pay52 (k0_pay30 X4 (k0_pay20 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (k0_pay21 (k0_pay5 (View.ld X3 (Rect.unit ![0, 0, 5120] ![1, 1, 1024] inb_S1x1x6144_S1x1x1024_0_0_5120))) (k0_pay7 (View.ld X0 (Rect.unit ![0, 0] ![256, 1024] inb_S512x1024_S256x1024_0_0))) (k0_pay10 (View.ld X0 (Rect.unit ![0, 0] ![256, 1024] inb_S512x1024_S256x1024_0_0)) (View.ld X5 (Rect.unit ![0, 0] ![1024, 1024] inb_S1024x4096_S1024x1024_0_0)) (View.ld X6 (Rect.unit ![0, 0] ![1024, 1024] inb_S4096x1024_S1024x1024_0_0))) (k0_pay13 (View.ld X0 (Rect.unit ![0, 0] ![256, 1024] inb_S512x1024_S256x1024_0_0)) (View.ld X5 (Rect.unit ![0, 1024] ![1024, 1024] inb_S1024x4096_S1024x1024_0_1024))) (k0_pay14 (View.ld X6 (Rect.unit ![1024, 0] ![1024, 1024] inb_S4096x1024_S1024x1024_1024_0))) (constant S256x1024 FTy.f32 0#32) (View.ld X5 (Rect.unit ![0, 2048] ![1024, 1024] inb_S1024x4096_S1024x1024_0_2048)) (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![0, 0] ![256, 1024] inb_S512x1024_S256x1024_0_0))) (FloatOps.ofBits (F := Ideal) FTy.f32 1149239296#32) (View.ld X2 (Rect.unit ![0, 0] ![256, 1024] inb_S512x1024_S256x1024_0_0))) (k0_pay46 (k0_pay5 (View.ld X3 (Rect.unit ![0, 0, 5120] ![1, 1, 1024] inb_S1x1x6144_S1x1x1024_0_0_5120))) X4 (k0_pay31 (View.ld X0 (Rect.unit ![256, 0] ![256, 1024] inb_S512x1024_S256x1024_256_0))) (k0_pay36 (k0_pay31 (View.ld X0 (Rect.unit ![256, 0] ![256, 1024] inb_S512x1024_S256x1024_256_0))) (FloatOps.ofBits (F := Ideal) FTy.f32 0#32) (View.ld X5 (Rect.unit ![0, 0] ![1024, 1024] inb_S1024x4096_S1024x1024_0_0)) (View.ld X6 (Rect.unit ![0, 0] ![1024, 1024] inb_S4096x1024_S1024x1024_0_0)) (View.ld X5 (Rect.unit ![0, 1024] ![1024, 1024] inb_S1024x4096_S1024x1024_0_1024)) (View.ld X6 (Rect.unit ![1024, 0] ![1024, 1024] inb_S4096x1024_S1024x1024_1024_0))) (k0_pay37 (k0_pay31 (View.ld X0 (Rect.unit ![256, 0] ![256, 1024] inb_S512x1024_S256x1024_256_0))) (View.ld X5 (Rect.unit ![0, 2048] ![1024, 1024] inb_S1024x4096_S1024x1024_0_2048))) k0_pay39 (View.ld X6 (Rect.unit ![2048, 0] ![1024, 1024] inb_S4096x1024_S1024x1024_2048_0)) (View.ld X5 (Rect.unit ![0, 3072] ![1024, 1024] inb_S1024x4096_S1024x1024_0_3072)) (View.ld X6 (Rect.unit ![3072, 0] ![1024, 1024] inb_S4096x1024_S1024x1024_3072_0)) (View.ld X1 (Rect.unit ![256, 0] ![256, 1024] inb_S512x1024_S256x1024_256_0)) (View.ld X2 (Rect.unit ![256, 0] ![256, 1024] inb_S512x1024_S256x1024_256_0)))) (ix2 s q)
      = ∑ k : Fin 64, diff (bx2 X0 X1 X3 X5 X6 ⟨k.val * 8 + s.val, by omega⟩) (row X4 0) (row X2 ⟨k.val * 8 + s.val, by omega⟩) q * diff (bx2 X0 X1 X3 X5 X6 ⟨k.val * 8 + s.val, by omega⟩) (row X4 0) (row X2 ⟨k.val * 8 + s.val, by omega⟩) q := by
  refine (s52 _ _ _ (fun r => bx2 X0 X1 X3 X5 X6 ⟨256 + r.val, by omega⟩) (fun r => row X2 ⟨256 + r.val, by omega⟩) (df_hi X0 X1 X2 X3 X4 X5 X6) s q).trans ?_
  rw [s30 _ _ _ _ (fun r => bx2 X0 X1 X3 X5 X6 ⟨r.val, by omega⟩) (x2_lo X0 X1 X3 X5 X6) (ms_lo X0 X1 X3 X5 X6) s q]
  simp only [ld_lo]
  exact sum_res (fun r => diff (bx2 X0 X1 X3 X5 X6 r) (row X4 0) (row X2 r) q * diff (bx2 X0 X1 X3 X5 X6 r) (row X4 0) (row X2 r) q) s

theorem out7_A (t : Fin cfg0.N) (h : t.val % 8 = 0) (h2 : t.val % 16 = 0) (h3 : ¬ 1 ≤ t.val) :
    (outsAt0 m c t.val t.isLt).1 = fun y => zf (row (iblk m c 0 t) (y 0)) (mat (iblk m c 5 t)) (y 1) := by
  rw [outsAt0_A m c t h (fun h' => h' h) h2 h3 h2 h3]
  funext y
  frame_out
  refine View.canon_apply_of_pieces (Val := Elt Ideal) (S := S512x4096) (e := .bf16) (fun y => zf (row (iblk m c 0 t) (y 0)) (mat (iblk m c 5 t)) (y 1)) _ (fun p hp j => ?_) y ?_
  swap
  · exact View.cover_of_tiledL (s := S512x4096) _ S256x1024.size (by sl_kernel_rfl) y
  simp only [List.mem_cons, List.mem_nil_iff, or_false] at hp
  rcases hp with rfl | rfl | rfl | rfl | rfl | rfl | rfl | rfl <;> dsimp only
  · idx_vars j
    refine (z_256_3072 ..).trans ?_
    rw [emb_unit2 (n := 512) (k := 4096) _ j0 j1 ⟨256 + j0.val, by omega⟩ ⟨3072 + j1.val, by omega⟩ rfl rfl]
    rfl
  · idx_vars j
    refine (z_256_2048 ..).trans ?_
    rw [emb_unit2 (n := 512) (k := 4096) _ j0 j1 ⟨256 + j0.val, by omega⟩ ⟨2048 + j1.val, by omega⟩ rfl rfl]
    rfl
  · idx_vars j
    refine (z_256_1024 ..).trans ?_
    rw [emb_unit2 (n := 512) (k := 4096) _ j0 j1 ⟨256 + j0.val, by omega⟩ ⟨1024 + j1.val, by omega⟩ rfl rfl]
    rfl
  · idx_vars j
    refine (z_256_0 ..).trans ?_
    rw [emb_unit2 (n := 512) (k := 4096) _ j0 j1 ⟨256 + j0.val, by omega⟩ ⟨j1.val, by omega⟩ rfl (Nat.zero_add _).symm]
    rfl
  · idx_vars j
    refine (z_0_3072 ..).trans ?_
    rw [emb_unit2 (n := 512) (k := 4096) _ j0 j1 ⟨j0.val, by omega⟩ ⟨3072 + j1.val, by omega⟩ (Nat.zero_add _).symm rfl]
    rfl
  · idx_vars j
    refine (z_0_2048 ..).trans ?_
    rw [emb_unit2 (n := 512) (k := 4096) _ j0 j1 ⟨j0.val, by omega⟩ ⟨2048 + j1.val, by omega⟩ (Nat.zero_add _).symm rfl]
    rfl
  · idx_vars j
    refine (z_0_1024 ..).trans ?_
    rw [emb_unit2 (n := 512) (k := 4096) _ j0 j1 ⟨j0.val, by omega⟩ ⟨1024 + j1.val, by omega⟩ (Nat.zero_add _).symm rfl]
    rfl
  · idx_vars j
    refine (z_0_0 ..).trans ?_
    rw [emb_unit2 (n := 512) (k := 4096) _ j0 j1 ⟨j0.val, by omega⟩ ⟨j1.val, by omega⟩ (Nat.zero_add _).symm (Nat.zero_add _).symm]
    rfl

theorem out7_B (t : Fin cfg0.N) (h : ¬t.val % 8 = 0) (h2 : ¬t.val % 16 = 0) (h3 : 1 ≤ t.val) :
    (outsAt0 m c t.val t.isLt).1 = fun y => zf (row (iblk m c 0 t) (y 0)) (mat (iblk m c 5 t)) (y 1) := by
  rw [outsAt0_B m c t h h h2 h3 h2 h3]
  funext y
  frame_out
  refine View.canon_apply_of_pieces (Val := Elt Ideal) (S := S512x4096) (e := .bf16) (fun y => zf (row (iblk m c 0 t) (y 0)) (mat (iblk m c 5 t)) (y 1)) _ (fun p hp j => ?_) y ?_
  swap
  · exact View.cover_of_tiledL (s := S512x4096) _ S256x1024.size (by sl_kernel_rfl) y
  simp only [List.mem_cons, List.mem_nil_iff, or_false] at hp
  rcases hp with rfl | rfl | rfl | rfl | rfl | rfl | rfl | rfl <;> dsimp only
  · idx_vars j
    refine (z_256_3072 ..).trans ?_
    rw [emb_unit2 (n := 512) (k := 4096) _ j0 j1 ⟨256 + j0.val, by omega⟩ ⟨3072 + j1.val, by omega⟩ rfl rfl]
    rfl
  · idx_vars j
    refine (z_256_2048 ..).trans ?_
    rw [emb_unit2 (n := 512) (k := 4096) _ j0 j1 ⟨256 + j0.val, by omega⟩ ⟨2048 + j1.val, by omega⟩ rfl rfl]
    rfl
  · idx_vars j
    refine (z_256_1024 ..).trans ?_
    rw [emb_unit2 (n := 512) (k := 4096) _ j0 j1 ⟨256 + j0.val, by omega⟩ ⟨1024 + j1.val, by omega⟩ rfl rfl]
    rfl
  · idx_vars j
    refine (z_256_0 ..).trans ?_
    rw [emb_unit2 (n := 512) (k := 4096) _ j0 j1 ⟨256 + j0.val, by omega⟩ ⟨j1.val, by omega⟩ rfl (Nat.zero_add _).symm]
    rfl
  · idx_vars j
    refine (z_0_3072 ..).trans ?_
    rw [emb_unit2 (n := 512) (k := 4096) _ j0 j1 ⟨j0.val, by omega⟩ ⟨3072 + j1.val, by omega⟩ (Nat.zero_add _).symm rfl]
    rfl
  · idx_vars j
    refine (z_0_2048 ..).trans ?_
    rw [emb_unit2 (n := 512) (k := 4096) _ j0 j1 ⟨j0.val, by omega⟩ ⟨2048 + j1.val, by omega⟩ (Nat.zero_add _).symm rfl]
    rfl
  · idx_vars j
    refine (z_0_1024 ..).trans ?_
    rw [emb_unit2 (n := 512) (k := 4096) _ j0 j1 ⟨j0.val, by omega⟩ ⟨1024 + j1.val, by omega⟩ (Nat.zero_add _).symm rfl]
    rfl
  · idx_vars j
    refine (z_0_0 ..).trans ?_
    rw [emb_unit2 (n := 512) (k := 4096) _ j0 j1 ⟨j0.val, by omega⟩ ⟨j1.val, by omega⟩ (Nat.zero_add _).symm (Nat.zero_add _).symm]
    rfl

theorem out7_C (t : Fin cfg0.N) (h : t.val % 8 = 0) (h2 : ¬t.val % 16 = 0) (h3 : 1 ≤ t.val) :
    (outsAt0 m c t.val t.isLt).1 = fun y => zf (row (iblk m c 0 t) (y 0)) (mat (iblk m c 5 t)) (y 1) := by
  rw [outsAt0_C m c t h (fun h' => h' h) h2 h3 h2 h3]
  funext y
  frame_out
  refine View.canon_apply_of_pieces (Val := Elt Ideal) (S := S512x4096) (e := .bf16) (fun y => zf (row (iblk m c 0 t) (y 0)) (mat (iblk m c 5 t)) (y 1)) _ (fun p hp j => ?_) y ?_
  swap
  · exact View.cover_of_tiledL (s := S512x4096) _ S256x1024.size (by sl_kernel_rfl) y
  simp only [List.mem_cons, List.mem_nil_iff, or_false] at hp
  rcases hp with rfl | rfl | rfl | rfl | rfl | rfl | rfl | rfl <;> dsimp only
  · idx_vars j
    refine (z_256_3072 ..).trans ?_
    rw [emb_unit2 (n := 512) (k := 4096) _ j0 j1 ⟨256 + j0.val, by omega⟩ ⟨3072 + j1.val, by omega⟩ rfl rfl]
    rfl
  · idx_vars j
    refine (z_256_2048 ..).trans ?_
    rw [emb_unit2 (n := 512) (k := 4096) _ j0 j1 ⟨256 + j0.val, by omega⟩ ⟨2048 + j1.val, by omega⟩ rfl rfl]
    rfl
  · idx_vars j
    refine (z_256_1024 ..).trans ?_
    rw [emb_unit2 (n := 512) (k := 4096) _ j0 j1 ⟨256 + j0.val, by omega⟩ ⟨1024 + j1.val, by omega⟩ rfl rfl]
    rfl
  · idx_vars j
    refine (z_256_0 ..).trans ?_
    rw [emb_unit2 (n := 512) (k := 4096) _ j0 j1 ⟨256 + j0.val, by omega⟩ ⟨j1.val, by omega⟩ rfl (Nat.zero_add _).symm]
    rfl
  · idx_vars j
    refine (z_0_3072 ..).trans ?_
    rw [emb_unit2 (n := 512) (k := 4096) _ j0 j1 ⟨j0.val, by omega⟩ ⟨3072 + j1.val, by omega⟩ (Nat.zero_add _).symm rfl]
    rfl
  · idx_vars j
    refine (z_0_2048 ..).trans ?_
    rw [emb_unit2 (n := 512) (k := 4096) _ j0 j1 ⟨j0.val, by omega⟩ ⟨2048 + j1.val, by omega⟩ (Nat.zero_add _).symm rfl]
    rfl
  · idx_vars j
    refine (z_0_1024 ..).trans ?_
    rw [emb_unit2 (n := 512) (k := 4096) _ j0 j1 ⟨j0.val, by omega⟩ ⟨1024 + j1.val, by omega⟩ (Nat.zero_add _).symm rfl]
    rfl
  · idx_vars j
    refine (z_0_0 ..).trans ?_
    rw [emb_unit2 (n := 512) (k := 4096) _ j0 j1 ⟨j0.val, by omega⟩ ⟨j1.val, by omega⟩ (Nat.zero_add _).symm (Nat.zero_add _).symm]
    rfl

theorem out8_A (t : Fin cfg0.N) (h : t.val % 8 = 0) (h2 : t.val % 16 = 0) (h3 : ¬ 1 ≤ t.val) :
    (outsAt0 m c t.val t.isLt).2.1 = fun y => dx2 (bx2 (iblk m c 0 t) (iblk m c 1 t) (iblk m c 3 t) (iblk m c 5 t) (iblk m c 6 t) (y 0)) (row (iblk m c 4 t) 0) (row (iblk m c 2 t) (y 0)) (y 1) := by
  rw [outsAt0_A m c t h (fun h' => h' h) h2 h3 h2 h3]
  funext y
  frame_out
  simp only [pay6]
  refine View.canon_apply_of_pieces (Val := Elt Ideal) (S := S512x1024) (e := .f32) (fun y => dx2 (bx2 (iblk m c 0 t) (iblk m c 1 t) (iblk m c 3 t) (iblk m c 5 t) (iblk m c 6 t) (y 0)) (row (iblk m c 4 t) 0) (row (iblk m c 2 t) (y 0)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (bdx_hi ..).trans ?_
    rw [emb_unit2 (n := 512) (k := 1024) _ j0 j1 ⟨256 + j0.val, by omega⟩ ⟨j1.val, by omega⟩ rfl (Nat.zero_add _).symm]
    rfl
  · idx_vars j
    refine (bdx_lo ..).trans ?_
    rw [emb_unit2 (n := 512) (k := 1024) _ j0 j1 ⟨j0.val, by omega⟩ ⟨j1.val, by omega⟩ (Nat.zero_add _).symm (Nat.zero_add _).symm]
    rfl

theorem out8_B (t : Fin cfg0.N) (h : ¬t.val % 8 = 0) (h2 : ¬t.val % 16 = 0) (h3 : 1 ≤ t.val) :
    (outsAt0 m c t.val t.isLt).2.1 = fun y => dx2 (bx2 (iblk m c 0 t) (iblk m c 1 t) (iblk m c 3 t) (iblk m c 5 t) (iblk m c 6 t) (y 0)) (row (iblk m c 4 t) 0) (row (iblk m c 2 t) (y 0)) (y 1) := by
  rw [outsAt0_B m c t h h h2 h3 h2 h3]
  funext y
  frame_out
  simp only [pay6]
  refine View.canon_apply_of_pieces (Val := Elt Ideal) (S := S512x1024) (e := .f32) (fun y => dx2 (bx2 (iblk m c 0 t) (iblk m c 1 t) (iblk m c 3 t) (iblk m c 5 t) (iblk m c 6 t) (y 0)) (row (iblk m c 4 t) 0) (row (iblk m c 2 t) (y 0)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (bdx_hi ..).trans ?_
    rw [emb_unit2 (n := 512) (k := 1024) _ j0 j1 ⟨256 + j0.val, by omega⟩ ⟨j1.val, by omega⟩ rfl (Nat.zero_add _).symm]
    rfl
  · idx_vars j
    refine (bdx_lo ..).trans ?_
    rw [emb_unit2 (n := 512) (k := 1024) _ j0 j1 ⟨j0.val, by omega⟩ ⟨j1.val, by omega⟩ (Nat.zero_add _).symm (Nat.zero_add _).symm]
    rfl

theorem out8_C (t : Fin cfg0.N) (h : t.val % 8 = 0) (h2 : ¬t.val % 16 = 0) (h3 : 1 ≤ t.val) :
    (outsAt0 m c t.val t.isLt).2.1 = fun y => dx2 (bx2 (iblk m c 0 t) (iblk m c 1 t) (iblk m c 3 t) (iblk m c 5 t) (iblk m c 6 t) (y 0)) (row (iblk m c 4 t) 0) (row (iblk m c 2 t) (y 0)) (y 1) := by
  rw [outsAt0_C m c t h (fun h' => h' h) h2 h3 h2 h3]
  funext y
  frame_out
  simp only [pay6]
  refine View.canon_apply_of_pieces (Val := Elt Ideal) (S := S512x1024) (e := .f32) (fun y => dx2 (bx2 (iblk m c 0 t) (iblk m c 1 t) (iblk m c 3 t) (iblk m c 5 t) (iblk m c 6 t) (y 0)) (row (iblk m c 4 t) 0) (row (iblk m c 2 t) (y 0)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (bdx_hi ..).trans ?_
    rw [emb_unit2 (n := 512) (k := 1024) _ j0 j1 ⟨256 + j0.val, by omega⟩ ⟨j1.val, by omega⟩ rfl (Nat.zero_add _).symm]
    rfl
  · idx_vars j
    refine (bdx_lo ..).trans ?_
    rw [emb_unit2 (n := 512) (k := 1024) _ j0 j1 ⟨j0.val, by omega⟩ ⟨j1.val, by omega⟩ (Nat.zero_add _).symm (Nat.zero_add _).symm]
    rfl

theorem out9_A (t : Fin cfg0.N) (h : t.val % 8 = 0) (h2 : t.val % 16 = 0) (h3 : ¬ 1 ≤ t.val) :
    (outsAt0 m c t.val t.isLt).2.2.1 = fun y => modc (iblk m c 3 t) 5120 (by omega) (y 1) * dx2 (bx2 (iblk m c 0 t) (iblk m c 1 t) (iblk m c 3 t) (iblk m c 5 t) (iblk m c 6 t) (y 0)) (row (iblk m c 4 t) 0) (row (iblk m c 2 t) (y 0)) (y 1) := by
  rw [outsAt0_A m c t h (fun h' => h' h) h2 h3 h2 h3]
  funext y
  frame_out
  simp only [pay6]
  refine View.canon_apply_of_pieces (Val := Elt Ideal) (S := S512x1024) (e := .bf16) (fun y => modc (iblk m c 3 t) 5120 (by omega) (y 1) * dx2 (bx2 (iblk m c 0 t) (iblk m c 1 t) (iblk m c 3 t) (iblk m c 5 t) (iblk m c 6 t) (y 0)) (row (iblk m c 4 t) 0) (row (iblk m c 2 t) (y 0)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (bdy_hi ..).trans ?_
    rw [emb_unit2 (n := 512) (k := 1024) _ j0 j1 ⟨256 + j0.val, by omega⟩ ⟨j1.val, by omega⟩ rfl (Nat.zero_add _).symm]
    rfl
  · idx_vars j
    refine (bdy_lo ..).trans ?_
    rw [emb_unit2 (n := 512) (k := 1024) _ j0 j1 ⟨j0.val, by omega⟩ ⟨j1.val, by omega⟩ (Nat.zero_add _).symm (Nat.zero_add _).symm]
    rfl

theorem out9_B (t : Fin cfg0.N) (h : ¬t.val % 8 = 0) (h2 : ¬t.val % 16 = 0) (h3 : 1 ≤ t.val) :
    (outsAt0 m c t.val t.isLt).2.2.1 = fun y => modc (iblk m c 3 t) 5120 (by omega) (y 1) * dx2 (bx2 (iblk m c 0 t) (iblk m c 1 t) (iblk m c 3 t) (iblk m c 5 t) (iblk m c 6 t) (y 0)) (row (iblk m c 4 t) 0) (row (iblk m c 2 t) (y 0)) (y 1) := by
  rw [outsAt0_B m c t h h h2 h3 h2 h3]
  funext y
  frame_out
  simp only [pay6]
  refine View.canon_apply_of_pieces (Val := Elt Ideal) (S := S512x1024) (e := .bf16) (fun y => modc (iblk m c 3 t) 5120 (by omega) (y 1) * dx2 (bx2 (iblk m c 0 t) (iblk m c 1 t) (iblk m c 3 t) (iblk m c 5 t) (iblk m c 6 t) (y 0)) (row (iblk m c 4 t) 0) (row (iblk m c 2 t) (y 0)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (bdy_hi ..).trans ?_
    rw [emb_unit2 (n := 512) (k := 1024) _ j0 j1 ⟨256 + j0.val, by omega⟩ ⟨j1.val, by omega⟩ rfl (Nat.zero_add _).symm]
    rfl
  · idx_vars j
    refine (bdy_lo ..).trans ?_
    rw [emb_unit2 (n := 512) (k := 1024) _ j0 j1 ⟨j0.val, by omega⟩ ⟨j1.val, by omega⟩ (Nat.zero_add _).symm (Nat.zero_add _).symm]
    rfl

theorem out9_C (t : Fin cfg0.N) (h : t.val % 8 = 0) (h2 : ¬t.val % 16 = 0) (h3 : 1 ≤ t.val) :
    (outsAt0 m c t.val t.isLt).2.2.1 = fun y => modc (iblk m c 3 t) 5120 (by omega) (y 1) * dx2 (bx2 (iblk m c 0 t) (iblk m c 1 t) (iblk m c 3 t) (iblk m c 5 t) (iblk m c 6 t) (y 0)) (row (iblk m c 4 t) 0) (row (iblk m c 2 t) (y 0)) (y 1) := by
  rw [outsAt0_C m c t h (fun h' => h' h) h2 h3 h2 h3]
  funext y
  frame_out
  simp only [pay6]
  refine View.canon_apply_of_pieces (Val := Elt Ideal) (S := S512x1024) (e := .bf16) (fun y => modc (iblk m c 3 t) 5120 (by omega) (y 1) * dx2 (bx2 (iblk m c 0 t) (iblk m c 1 t) (iblk m c 3 t) (iblk m c 5 t) (iblk m c 6 t) (y 0)) (row (iblk m c 4 t) 0) (row (iblk m c 2 t) (y 0)) (y 1)) _ (fun p hp j => ?_) y ?_
  swap
  · exact View.cover_of_tiledL (s := S512x1024) _ S256x1024.size (by sl_kernel_rfl) y
  simp only [List.mem_cons, List.mem_nil_iff, or_false] at hp
  rcases hp with rfl | rfl <;> dsimp only
  · idx_vars j
    refine (bdy_hi ..).trans ?_
    rw [emb_unit2 (n := 512) (k := 1024) _ j0 j1 ⟨256 + j0.val, by omega⟩ ⟨j1.val, by omega⟩ rfl (Nat.zero_add _).symm]
    rfl
  · idx_vars j
    refine (bdy_lo ..).trans ?_
    rw [emb_unit2 (n := 512) (k := 1024) _ j0 j1 ⟨j0.val, by omega⟩ ⟨j1.val, by omega⟩ (Nat.zero_add _).symm (Nat.zero_add _).symm]
    rfl

theorem out10_A (t : Fin cfg0.N) (h : t.val % 8 = 0) (h2 : t.val % 16 = 0) (h3 : ¬ 1 ≤ t.val) (s : Fin 8) (q : Fin 1024) :
    (outsAt0 m c t.val t.isLt).2.2.2.1 (ix3 0 s q) = ∑ k : Fin 64, dx2 (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q * by2 (iblk m c 0 t) (iblk m c 5 t) (iblk m c 6 t) ⟨k.val * 8 + s.val, by omega⟩ q := by
  rw [outsAt0_A m c t h (fun h' => h' h) h2 h3 h2 h3]
  frame_out
  simp only [pay6]
  rw [← sum10]
  pointwise [k0_pay1]

theorem out10_B (t : Fin cfg0.N) (h : ¬t.val % 8 = 0) (h2 : ¬t.val % 16 = 0) (h3 : 1 ≤ t.val) (s : Fin 8) (q : Fin 1024) :
    (outsAt0 m c t.val t.isLt).2.2.2.1 (ix3 0 s q) = (outsAt0 m c (t.val - 1) (Nat.lt_of_le_of_lt (Nat.sub_le _ _) t.isLt)).2.2.2.1 (ix3 0 s q) + ∑ k : Fin 64, dx2 (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q * by2 (iblk m c 0 t) (iblk m c 5 t) (iblk m c 6 t) ⟨k.val * 8 + s.val, by omega⟩ q := by
  rw [outsAt0_B m c t h h h2 h3 h2 h3]
  frame_out
  simp only [pay6]
  rw [← sum10]
  pointwise [k0_pay2]

theorem out10_C (t : Fin cfg0.N) (h : t.val % 8 = 0) (h2 : ¬t.val % 16 = 0) (h3 : 1 ≤ t.val) (s : Fin 8) (q : Fin 1024) :
    (outsAt0 m c t.val t.isLt).2.2.2.1 (ix3 0 s q) = ∑ k : Fin 64, dx2 (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q * by2 (iblk m c 0 t) (iblk m c 5 t) (iblk m c 6 t) ⟨k.val * 8 + s.val, by omega⟩ q := by
  rw [outsAt0_C m c t h (fun h' => h' h) h2 h3 h2 h3]
  frame_out
  simp only [pay6]
  rw [← sum10]
  pointwise [k0_pay1]

theorem out11_A (t : Fin cfg0.N) (h : t.val % 8 = 0) (h2 : t.val % 16 = 0) (h3 : ¬ 1 ≤ t.val) (s : Fin 8) (q : Fin 1024) :
    (outsAt0 m c t.val t.isLt).2.2.2.2.1 (ix2 s q) = ∑ k : Fin 64, dout (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q * xn (bx2 (iblk m c 0 t) (iblk m c 1 t) (iblk m c 3 t) (iblk m c 5 t) (iblk m c 6 t) ⟨k.val * 8 + s.val, by omega⟩) q := by
  rw [outsAt0_A m c t h (fun h' => h' h) h2 h3 h2 h3]
  frame_out
  simp only [pay6]
  rw [← sum11]

theorem out11_B (t : Fin cfg0.N) (h : ¬t.val % 8 = 0) (h2 : ¬t.val % 16 = 0) (h3 : 1 ≤ t.val) (s : Fin 8) (q : Fin 1024) :
    (outsAt0 m c t.val t.isLt).2.2.2.2.1 (ix2 s q) = (outsAt0 m c (t.val - 1) (Nat.lt_of_le_of_lt (Nat.sub_le _ _) t.isLt)).2.2.2.2.1 (ix2 s q) + ∑ k : Fin 64, dout (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q * xn (bx2 (iblk m c 0 t) (iblk m c 1 t) (iblk m c 3 t) (iblk m c 5 t) (iblk m c 6 t) ⟨k.val * 8 + s.val, by omega⟩) q := by
  rw [outsAt0_B m c t h h h2 h3 h2 h3]
  frame_out
  simp only [pay6]
  rw [← sum11]
  pointwise [k0_pay3]

theorem out11_C (t : Fin cfg0.N) (h : t.val % 8 = 0) (h2 : ¬t.val % 16 = 0) (h3 : 1 ≤ t.val) (s : Fin 8) (q : Fin 1024) :
    (outsAt0 m c t.val t.isLt).2.2.2.2.1 (ix2 s q) = (outsAt0 m c (t.val - 1) (Nat.lt_of_le_of_lt (Nat.sub_le _ _) t.isLt)).2.2.2.2.1 (ix2 s q) + ∑ k : Fin 64, dout (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q * xn (bx2 (iblk m c 0 t) (iblk m c 1 t) (iblk m c 3 t) (iblk m c 5 t) (iblk m c 6 t) ⟨k.val * 8 + s.val, by omega⟩) q := by
  rw [outsAt0_C m c t h (fun h' => h' h) h2 h3 h2 h3]
  frame_out
  simp only [pay6]
  rw [← sum11]
  pointwise [k0_pay3]

theorem out12_A (t : Fin cfg0.N) (h : t.val % 8 = 0) (h2 : t.val % 16 = 0) (h3 : ¬ 1 ≤ t.val) (s : Fin 8) (q : Fin 1024) :
    (outsAt0 m c t.val t.isLt).2.2.2.2.2 (ix2 s q) = ∑ k : Fin 64, diff (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q * diff (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q := by
  rw [outsAt0_A m c t h (fun h' => h' h) h2 h3 h2 h3]
  frame_out
  simp only [pay6]
  rw [← sum12]

theorem out12_B (t : Fin cfg0.N) (h : ¬t.val % 8 = 0) (h2 : ¬t.val % 16 = 0) (h3 : 1 ≤ t.val) (s : Fin 8) (q : Fin 1024) :
    (outsAt0 m c t.val t.isLt).2.2.2.2.2 (ix2 s q) = (outsAt0 m c (t.val - 1) (Nat.lt_of_le_of_lt (Nat.sub_le _ _) t.isLt)).2.2.2.2.2 (ix2 s q) + ∑ k : Fin 64, diff (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q * diff (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q := by
  rw [outsAt0_B m c t h h h2 h3 h2 h3]
  frame_out
  simp only [pay6]
  rw [← sum12]
  pointwise [k0_pay4]

theorem out12_C (t : Fin cfg0.N) (h : t.val % 8 = 0) (h2 : ¬t.val % 16 = 0) (h3 : 1 ≤ t.val) (s : Fin 8) (q : Fin 1024) :
    (outsAt0 m c t.val t.isLt).2.2.2.2.2 (ix2 s q) = (outsAt0 m c (t.val - 1) (Nat.lt_of_le_of_lt (Nat.sub_le _ _) t.isLt)).2.2.2.2.2 (ix2 s q) + ∑ k : Fin 64, diff (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q * diff (bx2 (iblk m c 0 t) (iblk m c 1 t) (iblk m c 3 t) (iblk m c 5 t) (iblk m c 6 t) ⟨k.val * 8 + s.val, by omega⟩) (row (iblk m c 4 t) 0) (row (iblk m c 2 t) ⟨k.val * 8 + s.val, by omega⟩) q := by
  rw [outsAt0_C m c t h (fun h' => h' h) h2 h3 h2 h3]
  frame_out
  simp only [pay6]
  rw [← sum12]
  pointwise [k0_pay4]

end Cert.Kernel7Ideal.Hand
end
-- ==== Proof.FwdSpec.lean ====
/-
  The forward call of the MLP branch with the loss head, as functions of the whole arguments, and the gradient through the
  final root mean square written in two ways.
-/
module

public import proofs.«01_k».proof.Proof.FwdRows
public import proofs.«01_k».proof.Proof.MlpSpec

@[expose] public section

noncomputable section

namespace Cert.MlpFwd

open Idealize.ShloMosaic Cert.Reals
open Cert.MlpBwd (cD cTwo cEps rr xn rb rt row8 rb_row8 rt_row8 xrow mrow wmat mean_pos isRl_rr)

/-- A vector. -/
abbrev vrow (X : (⟨1, ![1024]⟩ : Shape).Idx → EReal) (q : Fin 1024) : EReal := X (ix1 q)

/-- Row `8 j + s` of all the rows. -/
def all8 (j : Fin 1024) (s : Fin 8) : Fin 8192 := ⟨j.val * 8 + s.val, by omega⟩

theorem rb_all8 (j : Fin 1024) (s : Fin 8) : rb (all8 j s) = ⟨j.val / 512, by omega⟩ :=
  Fin.ext (by show (j.val * 8 + s.val) / 4096 = j.val / 512; omega)
theorem rt_all8 (j : Fin 1024) (s : Fin 8) : rt (all8 j s) = ⟨j.val % 512 * 8 + s.val, by omega⟩ :=
  Fin.ext (by show (j.val * 8 + s.val) % 4096 = j.val % 512 * 8 + s.val; omega)

variable (x0 x1 x2 : (⟨3, ![2, 4096, 1024]⟩ : Shape).Idx → EReal) (x3 : (⟨2, ![2, 6144]⟩ : Shape).Idx → EReal)
  (x4 : (⟨1, ![1024]⟩ : Shape).Idx → EReal) (x5 : (⟨2, ![1024, 4096]⟩ : Shape).Idx → EReal) (x6 : (⟨2, ![4096, 1024]⟩ : Shape).Idx → EReal)

/-- The hidden layer, the branch's output, the stream after it, and the three rows of the loss head, at `(b, t)`. -/
def ZF (b : Fin 2) (t : Fin 4096) : Fin 4096 → EReal := zf (xrow x0 b t) (wmat x5)
def Y2 (b : Fin 2) (t : Fin 4096) : Fin 1024 → EReal := y2 (ZF x0 x5 b t) (wmat x6)
def X2 (b : Fin 2) (t : Fin 4096) : Fin 1024 → EReal := MlpFwd.x2 (xrow x1 b t) (mrow x3 b 5120 (by omega)) (Y2 x0 x5 x6 b t)
def DF (b : Fin 2) (t : Fin 4096) : Fin 1024 → EReal := diff (X2 x0 x1 x3 x5 x6 b t) (vrow x4) (xrow x2 b t)
def DO (b : Fin 2) (t : Fin 4096) : Fin 1024 → EReal := dout (X2 x0 x1 x3 x5 x6 b t) (vrow x4) (xrow x2 b t)
def DX (b : Fin 2) (t : Fin 4096) : Fin 1024 → EReal := dx2 (X2 x0 x1 x3 x5 x6 b t) (vrow x4) (xrow x2 b t)

/-- The six results. -/
def F0 : (⟨2, ![8192, 4096]⟩ : Shape).Idx → EReal := fun y => ZF x0 x5 (rb (y 0)) (rt (y 0)) (y 1)
def F1 : (⟨2, ![8192, 1024]⟩ : Shape).Idx → EReal := fun y => DX x0 x1 x2 x3 x4 x5 x6 (rb (y 0)) (rt (y 0)) (y 1)
def F2 : (⟨2, ![8192, 1024]⟩ : Shape).Idx → EReal := fun y =>
  mrow x3 (rb (y 0)) 5120 (by omega) (y 1) * DX x0 x1 x2 x3 x4 x5 x6 (rb (y 0)) (rt (y 0)) (y 1)
def F3 : (⟨3, ![2, 8, 1024]⟩ : Shape).Idx → EReal := fun y =>
  ∑ j : Fin 512, DX x0 x1 x2 x3 x4 x5 x6 (rb (row8 (y 0) j (y 1))) (rt (row8 (y 0) j (y 1))) (y 2)
    * Y2 x0 x5 x6 (rb (row8 (y 0) j (y 1))) (rt (row8 (y 0) j (y 1))) (y 2)
def F4 : (⟨2, ![8, 1024]⟩ : Shape).Idx → EReal := fun y =>
  ∑ j : Fin 1024, DO x0 x1 x2 x3 x4 x5 x6 (rb (all8 j (y 0))) (rt (all8 j (y 0))) (y 1)
    * xn (X2 x0 x1 x3 x5 x6 (rb (all8 j (y 0))) (rt (all8 j (y 0)))) (y 1)
def F5 : (⟨2, ![8, 1024]⟩ : Shape).Idx → EReal := fun y =>
  ∑ j : Fin 1024, DF x0 x1 x2 x3 x4 x5 x6 (rb (all8 j (y 0))) (rt (all8 j (y 0))) (y 1)
    * DF x0 x1 x2 x3 x4 x5 x6 (rb (all8 j (y 0))) (rt (all8 j (y 0))) (y 1)

theorem cHalf : Ideal.ofBits .f32 0x3F000000#32 = (((1 / 2 : ℝ)) : EReal) := by
  simp [Ideal.ofBits, Ideal.ieee, -EReal.coe_mul]; try norm_num
theorem cOne : Ideal.ofBits .f32 0x3F800000#32 = ((1 : ℝ) : EReal) := by
  simp [Ideal.ofBits, Ideal.ieee, -EReal.coe_mul]; try norm_num
theorem cInv_eq : cInv = ((1 / 1024 : ℝ) : EReal) := by
  simp [cInv, Ideal.ofBits, Ideal.ieee, -EReal.coe_mul]; try norm_num

/-- Half of one, over the width, times twice `a`, is `a` over the width. -/
theorem half_twice (a : EReal) :
    Ideal.div (Ideal.ofBits .f32 0x3F000000#32 * Ideal.ofBits .f32 0x3F800000#32) (Ideal.ofBits .f32 0x44800000#32) * (Ideal.ofBits .f32 0x40000000#32 * a)
      = a * cInv := by
  rw [← mul_assoc, mul_comm a, cInv_eq, cHalf, cOne, c1024, c2]
  refine congrArg (· * a) ?_
  rw [← EReal.coe_mul, div_coe_coe _ (by norm_num), ← EReal.coe_mul]
  norm_num

theorem isRl_X2 (h0 : ∀ i, IsRl (x0 i)) (h1 : ∀ i, IsRl (x1 i)) (h3 : ∀ i, IsRl (x3 i)) (h5 : ∀ i, IsRl (x5 i)) (h6 : ∀ i, IsRl (x6 i))
    (b : Fin 2) (t : Fin 4096) (q : Fin 1024) : IsRl (X2 x0 x1 x3 x5 x6 b t q) := by
  have hz : ∀ f, IsRl (ZF x0 x5 b t f) := fun f => by unfold ZF zf; exact isRl_sum fun k => (h0 _).mul (h5 _)
  have hy : IsRl (Y2 x0 x5 x6 b t q) := by unfold Y2 y2; exact isRl_sum fun f => (((hz f).max isRl_zero).mul ((hz f).max isRl_zero)).mul (h6 _)
  exact (h1 _).add ((h3 _).mul hy)

theorem isRl_dout {x gf tg : Fin 1024 → EReal} (hx : ∀ k, IsRl (x k)) (hg : ∀ k, IsRl (gf k)) (ht : ∀ k, IsRl (tg k)) (q : Fin 1024) :
    IsRl (dout x gf tg q) := by
  unfold dout diff xn
  exact ((((hx q).mul (isRl_rr hx)).mul (hg q)).sub (ht q)).mul ⟨_, cInv_eq⟩

/-- The gradient `e` of the normalised row, taken through the norm: two ways to write it. -/
theorem norm_back {x e : Fin 1024 → EReal} (hx : ∀ k, IsRl (x k)) (he : ∀ k, IsRl (e k)) (c : Fin 1024) :
    e c * rr x
        + x c * Ideal.div ((∑ k, x k * e k) * (Ideal.ofBits .f32 0xBF000000#32 * Ideal.div (rr x) (Ideal.div (∑ k, x k * x k) cD + cEps))) cD
        + Ideal.div ((∑ k, x k * e k) * (Ideal.ofBits .f32 0xBF000000#32 * Ideal.div (rr x) (Ideal.div (∑ k, x k * x k) cD + cEps))) cD * x c
      = rr x * (e c - xn x c * Ideal.div (∑ k, e k * xn x k) cD) := by
  obtain ⟨v, hv, h⟩ := mean_pos hx
  have hr : rr x = (((Real.sqrt v)⁻¹ : ℝ) : EReal) := by unfold rr; rw [h, rsqrt_pos hv]
  unfold xn
  rw [h, hr, cNegHalf]
  obtain ⟨x, rfl⟩ := lift_fun hx
  obtain ⟨e, rfl⟩ := lift_fun he
  have hv' : v ≠ 0 := hv.ne'
  simp only [cD, c1024, ← EReal.coe_mul, ← EReal.coe_add, coe_sum, div_coe_coe _ hv', div_coe_coe _ (show (1024 : ℝ) ≠ 0 by norm_num), ← EReal.coe_sub]
  refine congrArg _ ?_
  have e1 : ∑ k, e k * (x k * (Real.sqrt v)⁻¹) = (∑ k, x k * e k) * (Real.sqrt v)⁻¹ := by
    rw [Finset.sum_mul]; exact Finset.sum_congr rfl fun k _ => by ring
  rw [e1]
  generalize ∑ k, x k * e k = S
  have hq : Real.sqrt v ≠ 0 := (Real.sqrt_pos.mpr hv).ne'
  have e2 : v = Real.sqrt v * Real.sqrt v := (Real.mul_self_sqrt hv.le).symm
  generalize Real.sqrt v = s at *
  subst e2
  field_simp
  ring

end Cert.MlpFwd
end
-- ==== Proof.FwdArrays.lean ====
module

public import proofs.«01_k».proof.Proof.FwdBlock
public import proofs.«01_k».proof.Proof.FwdSpec
public import Idealize.ShloMosaic.Lib.StableHlo.ReadAt

@[expose] public section

set_option maxRecDepth 16384
set_option maxHeartbeats 1000000

noncomputable section

namespace Cert.Kernel7Ideal.Hand

open Idealize.ShloMosaic Idealize.ShloMosaic.TcCoe Idealize.ShloMosaic.Tactic
open Idealize.SL Idealize.SL.Sem
open Idealize.ShloMosaic.Pipeline (Dat Cfg Window cellOf)
open Cert.Kernel7Ideal.Gen
open Cert.MlpFwd
open Cert.MlpBwd (rr xn rb rt row8 rb_row8 rt_row8 xrow mrow wmat)

variable (m : (ℓ : Loc nD τ sig) → Buf (Elt Ideal) ℓ) (c : Dev nD)

/-- Row `r` of a whole array, and modulation coefficients of sequence `b`. -/
abbrev grow {n : Nat} (X : (⟨2, ![8192, n]⟩ : Shape).Idx → EReal) (r : Fin 8192) (c : Fin n) : EReal := X (ix2 r c)
abbrev gmod (X : (⟨3, ![2, 1, 6144]⟩ : Shape).Idx → EReal) (b : Fin 2) (o : Nat) (h : o + 1024 ≤ 6144) (c : Fin 1024) : EReal :=
  X (ix3 b 0 ⟨o + c.val, by omega⟩)

theorem lt16 (t : Fin cfg0.N) : t.val < 16 := t.isLt

/-- Row `r` of block `t`, among all rows, and the sequence block `t` belongs to. -/
abbrev gr (t : Fin cfg0.N) (r : Fin 512) : Fin 8192 := ⟨t.val * 512 + r.val, by have := lt16 t; omega⟩
abbrev gb (t : Fin cfg0.N) : Fin 2 := ⟨t.val / 8, by have := lt16 t; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val / 8, 0, 0] := (by decide +kernel : ∀ t : Fin grid0.N, win0_3.index t = ![t.val / 8, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val / 8, 0, 0] := (by decide +kernel : ∀ t : Fin grid0.N, win0_10.index t = ![t.val / 8, 0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])

theorem blk0 (t : Fin cfg0.N) (r : Fin 512) : row (iblk m c 0 t) r = grow (V m c main_v1) (gr t r) := by
  funext q
  show iblk m c 0 t (ix2 r q) = V m c main_v1 (ix2 (gr t r) q)
  blk_simp [iblk]
  refine congrArg _ ?_
  blk_ext [idx0 t]

theorem blk1 (t : Fin cfg0.N) (r : Fin 512) : row (iblk m c 1 t) r = grow (V m c main_v2) (gr t r) := by
  funext q
  show iblk m c 1 t (ix2 r q) = V m c main_v2 (ix2 (gr t r) q)
  blk_simp [iblk]
  refine congrArg _ ?_
  blk_ext [idx1 t]

theorem blk2 (t : Fin cfg0.N) (r : Fin 512) : row (iblk m c 2 t) r = grow (V m c main_v3) (gr t r) := by
  funext q
  show iblk m c 2 t (ix2 r q) = V m c main_v3 (ix2 (gr t r) q)
  blk_simp [iblk]
  refine congrArg _ ?_
  blk_ext [idx2 t]

theorem blk3 (t : Fin cfg0.N) (o : Nat) (h : o + 1024 ≤ 6144) : modc (iblk m c 3 t) o h = gmod (V m c main_v4) (gb t) o h := by
  funext q
  show iblk m c 3 t (ix3 0 0 ⟨o + q.val, by omega⟩) = V m c main_v4 (ix3 (gb t) 0 ⟨o + q.val, by omega⟩)
  blk_simp [iblk]
  refine congrArg _ ?_
  blk_ext [idx3 t]

theorem blk4 (t : Fin cfg0.N) : row (iblk m c 4 t) = row (V m c main_v5) := by
  funext r q
  show iblk m c 4 t (ix2 r q) = V m c main_v5 (ix2 r q)
  blk_simp [iblk]
  refine congrArg _ ?_
  blk_ext [idx4 t]

theorem blk5 (t : Fin cfg0.N) : mat (iblk m c 5 t) = mat (V m c main_v6) := by
  funext r q
  show iblk m c 5 t (ix2 r q) = V m c main_v6 (ix2 r q)
  blk_simp [iblk]
  refine congrArg _ ?_
  blk_ext [idx5 t]

theorem blk6 (t : Fin cfg0.N) : mat (iblk m c 6 t) = mat (V m c main_v7) := by
  funext r q
  show iblk m c 6 t (ix2 r q) = V m c main_v7 (ix2 r q)
  blk_simp [iblk]
  refine congrArg _ ?_
  blk_ext [idx6 t]

/-- The hidden layer, the branch's output, the stream after it and the rows of the loss head, at row `r`. -/
def gz (r : Fin 8192) : Fin 4096 → EReal := zf (grow (V m c main_v1) r) (mat (V m c main_v6))
def gy (r : Fin 8192) : Fin 1024 → EReal := y2 (gz m c r) (mat (V m c main_v7))
def gx (r : Fin 8192) : Fin 1024 → EReal := x2 (grow (V m c main_v2) r) (gmod (V m c main_v4) (rb r) 5120 (by omega)) (gy m c r)
def gdf (r : Fin 8192) : Fin 1024 → EReal := diff (gx m c r) (row (V m c main_v5) 0) (grow (V m c main_v3) r)
def gdo (r : Fin 8192) : Fin 1024 → EReal := dout (gx m c r) (row (V m c main_v5) 0) (grow (V m c main_v3) r)
def gdx (r : Fin 8192) : Fin 1024 → EReal := dx2 (gx m c r) (row (V m c main_v5) 0) (grow (V m c main_v3) r)

theorem rb_gr (t : Fin cfg0.N) (r : Fin 512) : rb (gr t r) = gb t := Fin.ext (by show (t.val * 512 + r.val) / 4096 = t.val / 8; omega)

theorem z_blk (t : Fin cfg0.N) (r : Fin 512) : zf (row (iblk m c 0 t) r) (mat (iblk m c 5 t)) = gz m c (gr t r) := by
  rw [blk0, blk5]; rfl

theorem y_blk (t : Fin cfg0.N) (r : Fin 512) : by2 (iblk m c 0 t) (iblk m c 5 t) (iblk m c 6 t) r = gy m c (gr t r) := by
  unfold by2; rw [z_blk, blk6]; rfl

theorem x_blk (t : Fin cfg0.N) (r : Fin 512) :
    bx2 (iblk m c 0 t) (iblk m c 1 t) (iblk m c 3 t) (iblk m c 5 t) (iblk m c 6 t) r = gx m c (gr t r) := by
  unfold bx2 gx; rw [y_blk, blk1, blk3, rb_gr]

theorem df_blk (t : Fin cfg0.N) (r : Fin 512) :
    diff (bx2 (iblk m c 0 t) (iblk m c 1 t) (iblk m c 3 t) (iblk m c 5 t) (iblk m c 6 t) r) (row (iblk m c 4 t) 0) (row (iblk m c 2 t) r) = gdf m c (gr t r) := by
  rw [x_blk, blk2, blk4]; rfl

theorem do_blk (t : Fin cfg0.N) (r : Fin 512) :
    dout (bx2 (iblk m c 0 t) (iblk m c 1 t) (iblk m c 3 t) (iblk m c 5 t) (iblk m c 6 t) r) (row (iblk m c 4 t) 0) (row (iblk m c 2 t) r) = gdo m c (gr t r) := by
  rw [x_blk, blk2, blk4]; rfl

theorem dx_blk (t : Fin cfg0.N) (r : Fin 512) :
    dx2 (bx2 (iblk m c 0 t) (iblk m c 1 t) (iblk m c 3 t) (iblk m c 5 t) (iblk m c 6 t) r) (row (iblk m c 4 t) 0) (row (iblk m c 2 t) r) = gdx m c (gr t r) := by
  rw [x_blk, blk2, blk4]; rfl

theorem cases3 (t : Fin cfg0.N) : (t.val % 8 = 0 ∧ t.val % 16 = 0 ∧ ¬ 1 ≤ t.val) ∨ (¬ t.val % 8 = 0 ∧ ¬ t.val % 16 = 0 ∧ 1 ≤ t.val)
    ∨ (t.val % 8 = 0 ∧ ¬ t.val % 16 = 0 ∧ 1 ≤ t.val) := by
  have := lt16 t; omega

theorem out7 (t : Fin cfg0.N) : (outsAt0 m c t.val t.isLt).1 = fun y => gz m c (gr t (y 0)) (y 1) := by
  rcases cases3 t with ⟨h, h2, h3⟩ | ⟨h, h2, h3⟩ | ⟨h, h2, h3⟩
  · rw [out7_A m c t h h2 h3]; funext y; exact congrFun (z_blk m c t (y 0)) (y 1)
  · rw [out7_B m c t h h2 h3]; funext y; exact congrFun (z_blk m c t (y 0)) (y 1)
  · rw [out7_C m c t h h2 h3]; funext y; exact congrFun (z_blk m c t (y 0)) (y 1)

theorem arr7 : (dats m 0 c).arrAt 7 cfg0.N = fun y : S8192x4096.Idx => gz m c (y 0) (y 1) := by
  refine (dats m 0 c).arrAt_eq_of_covers 7 _ (by decide +kernel) fun t hf y => ?_
  blk_simp
  rw [after0_7, out7]
  have e : ((win0_7.blk t).view.emb y : S8192x4096.Idx) = ix2 (gr t (y 0)) (y 1) := by blk_ext [idx7 t]
  rw [e]
  rfl

theorem out8 (t : Fin cfg0.N) : (outsAt0 m c t.val t.isLt).2.1 = fun y => gdx m c (gr t (y 0)) (y 1) := by
  rcases cases3 t with ⟨h, h2, h3⟩ | ⟨h, h2, h3⟩ | ⟨h, h2, h3⟩
  · rw [out8_A m c t h h2 h3]; funext y; exact congrFun (dx_blk m c t (y 0)) (y 1)
  · rw [out8_B m c t h h2 h3]; funext y; exact congrFun (dx_blk m c t (y 0)) (y 1)
  · rw [out8_C m c t h h2 h3]; funext y; exact congrFun (dx_blk m c t (y 0)) (y 1)

theorem arr8 : (dats m 0 c).arrAt 8 cfg0.N = fun y : S8192x1024.Idx => gdx m c (y 0) (y 1) := by
  refine (dats m 0 c).arrAt_eq_of_covers 8 _ (by decide +kernel) fun t hf y => ?_
  blk_simp
  rw [after0_8, out8]
  have e : ((win0_8.blk t).view.emb y : S8192x1024.Idx) = ix2 (gr t (y 0)) (y 1) := by blk_ext [idx8 t]
  rw [e]
  rfl

theorem out9 (t : Fin cfg0.N) : (outsAt0 m c t.val t.isLt).2.2.1 = fun y => gmod (V m c main_v4) (rb (gr t (y 0))) 5120 (by omega) (y 1) * gdx m c (gr t (y 0)) (y 1) := by
  rcases cases3 t with ⟨h, h2, h3⟩ | ⟨h, h2, h3⟩ | ⟨h, h2, h3⟩
  · rw [out9_A m c t h h2 h3]; funext y; exact congrArg₂ (· * ·) ((congrFun (blk3 m c t 5120 (by omega)) (y 1)).trans (by rw [← rb_gr t (y 0)])) (congrFun (dx_blk m c t (y 0)) (y 1))
  · rw [out9_B m c t h h2 h3]; funext y; exact congrArg₂ (· * ·) ((congrFun (blk3 m c t 5120 (by omega)) (y 1)).trans (by rw [← rb_gr t (y 0)])) (congrFun (dx_blk m c t (y 0)) (y 1))
  · rw [out9_C m c t h h2 h3]; funext y; exact congrArg₂ (· * ·) ((congrFun (blk3 m c t 5120 (by omega)) (y 1)).trans (by rw [← rb_gr t (y 0)])) (congrFun (dx_blk m c t (y 0)) (y 1))

theorem arr9 : (dats m 0 c).arrAt 9 cfg0.N = fun y : S8192x1024.Idx => gmod (V m c main_v4) (rb (y 0)) 5120 (by omega) (y 1) * gdx m c (y 0) (y 1) := by
  refine (dats m 0 c).arrAt_eq_of_covers 9 _ (by decide +kernel) fun t hf y => ?_
  blk_simp
  rw [after0_9, out9]
  have e : ((win0_9.blk t).view.emb y : S8192x1024.Idx) = ix2 (gr t (y 0)) (y 1) := by blk_ext [idx9 t]
  rw [e]
  rfl

/-- Partial sums of 64 terms make one sum. -/
theorem sum_blocks64 (n : Nat) (p : Nat → EReal) (f : Fin (n * 64) → EReal)
    (h : ∀ k : Fin n, p k.val = ∑ i : Fin 64, f ⟨k.val * 64 + i.val, by have := k.isLt; have := i.isLt; omega⟩) :
    ∑ k ∈ Finset.range n, p k = ∑ j : Fin (n * 64), f j := by
  rw [Finset.sum_range, Finset.sum_congr rfl fun k _ => h k, ← Fintype.sum_prod_type']
  refine Fintype.sum_equiv (finProdFinEquiv (m := n) (n := 64)) _ _ fun x => ?_
  refine congrArg f (Fin.ext ?_)
  show x.1.val * 64 + x.2.val = x.2.val + 64 * x.1.val
  omega

/-- What block `n` adds to output 3, at `(s, q)`. -/
def part10 (n : Nat) (y : S1x8x1024.Idx) : EReal :=
  if h : n < 16 then ∑ k : Fin 64, gdx m c ⟨n * 512 + (k.val * 8 + (y 1).val), by have : (y 1).val < 8 := (y 1).isLt; omega⟩ (y 2) * gy m c ⟨n * 512 + (k.val * 8 + (y 1).val), by have : (y 1).val < 8 := (y 1).isLt; omega⟩ (y 2) else 0

theorem run10 (t : Fin cfg0.N) (ht : t.val % 8 = 7) (y : S1x8x1024.Idx) :
    (outsAt0 m c t.val t.isLt).2.2.2.1 y = 0 + ∑ k ∈ Finset.range 8, part10 m c (8 * (t.val / 8) + k) y := by
  refine Pipeline.eq_sum_of_reset_step_apply_of_mod (fun n h => (outsAt0 m c n h).2.2.2.1) 8 (fun _ => 0) (part10 m c) (fun t h i => ?_) (fun t h i => ?_) t ht y
  · idx_vars i
    obtain rfl : i0 = 0 := Subsingleton.elim _ _
    rcases cases3 t with ⟨h1, h2, h3⟩ | ⟨h1, h2, h3⟩ | ⟨h1, h2, h3⟩
    · refine (out10_A m c t h1 h2 h3 i1 i2).trans ?_
      show _ = 0 + dite _ _ _
      rw [dif_pos (lt16 t), zero_add]
      exact Finset.sum_congr rfl fun k _ => congrArg₂ (· * ·) (congrFun (dx_blk m c t _) _) (congrFun (y_blk m c t _) _)
    · exact absurd h h1
    · refine (out10_C m c t h1 h2 h3 i1 i2).trans ?_
      show _ = 0 + dite _ _ _
      rw [dif_pos (lt16 t), zero_add]
      exact Finset.sum_congr rfl fun k _ => congrArg₂ (· * ·) (congrFun (dx_blk m c t _) _) (congrFun (y_blk m c t _) _)
  · idx_vars i
    obtain rfl : i0 = 0 := Subsingleton.elim _ _
    rcases cases3 t with ⟨h1, h2, h3⟩ | ⟨h1, h2, h3⟩ | ⟨h1, h2, h3⟩
    · exact absurd h1 h
    · refine (out10_B m c t h1 h2 h3 i1 i2).trans (congrArg (_ + ·) ?_)
      show _ = dite _ _ _
      rw [dif_pos (lt16 t)]
      exact Finset.sum_congr rfl fun k _ => congrArg₂ (· * ·) (congrFun (dx_blk m c t _) _) (congrFun (y_blk m c t _) _)
    · exact absurd h1 h

theorem arr10 : (dats m 0 c).arrAt 10 cfg0.N = fun y : S2x8x1024.Idx =>
    ∑ j : Fin 512, gdx m c (row8 (y 0) j (y 1)) (y 2) * gy m c (row8 (y 0) j (y 1)) (y 2) := by
  refine (dats m 0 c).arrAt_eq_of_covers 10 _ (by decide +kernel) fun t hf y => ?_
  blk_simp
  rw [after0_10, run10 m c t ((flush0_10 t).mp hf) y]
  have e : ((win0_10.blk t).view.emb y : S2x8x1024.Idx) = ix3 (gb t) (y 1) (y 2) := by blk_ext [idx10 t]
  rw [e, zero_add]
  refine (sum_blocks64 8 (fun k => part10 m c (8 * (t.val / 8) + k) y) (fun j : Fin 512 => gdx m c (row8 (gb t) j (y 1)) (y 2) * gy m c (row8 (gb t) j (y 1)) (y 2)) fun k => ?_)
  unfold part10
  rw [dif_pos (by have := lt16 t; have := k.isLt; omega)]
  refine Finset.sum_congr rfl fun i _ => ?_
  have er : ∀ h, (⟨(8 * (t.val / 8) + k.val) * 512 + (i.val * 8 + (y 1).val), h⟩ : Fin 8192) = row8 (gb t) ⟨k.val * 64 + i.val, by omega⟩ (y 1) := fun h =>
    Fin.ext (by show (8 * (t.val / 8) + k.val) * 512 + (i.val * 8 + (y 1).val) = t.val / 8 * 4096 + (k.val * 64 + i.val) * 8 + (y 1).val; omega)
  rw [er]

/-- What block `n` adds to output 4, at `(s, q)`. -/
def part11 (n : Nat) (y : S8x1024.Idx) : EReal :=
  if h : n < 16 then ∑ k : Fin 64, gdo m c ⟨n * 512 + (k.val * 8 + (y 0).val), by have : (y 0).val < 8 := (y 0).isLt; omega⟩ (y 1) * xn (gx m c ⟨n * 512 + (k.val * 8 + (y 0).val), by have : (y 0).val < 8 := (y 0).isLt; omega⟩) (y 1) else 0

theorem run11 (t : Fin cfg0.N) (ht : t.val % 16 = 15) (y : S8x1024.Idx) :
    (outsAt0 m c t.val t.isLt).2.2.2.2.1 y = 0 + ∑ k ∈ Finset.range 16, part11 m c (16 * (t.val / 16) + k) y := by
  refine Pipeline.eq_sum_of_reset_step_apply_of_mod (fun n h => (outsAt0 m c n h).2.2.2.2.1) 16 (fun _ => 0) (part11 m c) (fun t h i => ?_) (fun t h i => ?_) t ht y
  · idx_vars i
    rcases cases3 t with ⟨h1, h2, h3⟩ | ⟨h1, h2, h3⟩ | ⟨h1, h2, h3⟩
    · refine (out11_A m c t h1 h2 h3 i0 i1).trans ?_
      show _ = 0 + dite _ _ _
      rw [dif_pos (lt16 t), zero_add]
      exact Finset.sum_congr rfl fun k _ => congrArg₂ (· * ·) (congrFun (do_blk m c t _) _) (congrFun (congrArg xn (x_blk m c t _)) _)
    · exact absurd h h2
    · exact absurd h h2
  · idx_vars i
    rcases cases3 t with ⟨h1, h2, h3⟩ | ⟨h1, h2, h3⟩ | ⟨h1, h2, h3⟩
    · exact absurd h2 h
    · refine (out11_B m c t h1 h2 h3 i0 i1).trans (congrArg (_ + ·) ?_)
      show _ = dite _ _ _
      rw [dif_pos (lt16 t)]
      exact Finset.sum_congr rfl fun k _ => congrArg₂ (· * ·) (congrFun (do_blk m c t _) _) (congrFun (congrArg xn (x_blk m c t _)) _)
    · refine (out11_C m c t h1 h2 h3 i0 i1).trans (congrArg (_ + ·) ?_)
      show _ = dite _ _ _
      rw [dif_pos (lt16 t)]
      exact Finset.sum_congr rfl fun k _ => congrArg₂ (· * ·) (congrFun (do_blk m c t _) _) (congrFun (congrArg xn (x_blk m c t _)) _)

theorem arr11 : (dats m 0 c).arrAt 11 cfg0.N = fun y : S8x1024.Idx =>
    ∑ j : Fin 1024, gdo m c (all8 j (y 0)) (y 1) * xn (gx m c (all8 j (y 0))) (y 1) := by
  refine (dats m 0 c).arrAt_eq_of_covers 11 _ (by decide +kernel) fun t hf y => ?_
  blk_simp
  rw [after0_11, run11 m c t ((flush0_11 t).mp hf) y]
  have e : ((win0_11.blk t).view.emb y : S8x1024.Idx) = ix2 (y 0) (y 1) := by blk_ext [idx11 t]
  rw [e, zero_add]
  refine (sum_blocks64 16 (fun k => part11 m c (16 * (t.val / 16) + k) y) (fun j : Fin 1024 => gdo m c (all8 j (y 0)) (y 1) * xn (gx m c (all8 j (y 0))) (y 1)) fun k => ?_)
  unfold part11
  have ht0 : t.val / 16 = 0 := by have := lt16 t; omega
  rw [dif_pos (by have := k.isLt; omega)]
  refine Finset.sum_congr rfl fun i _ => ?_
  have er : ∀ h, (⟨(16 * (t.val / 16) + k.val) * 512 + (i.val * 8 + (y 0).val), h⟩ : Fin 8192) = all8 ⟨k.val * 64 + i.val, by omega⟩ (y 0) := fun h =>
    Fin.ext (by show (16 * (t.val / 16) + k.val) * 512 + (i.val * 8 + (y 0).val) = (k.val * 64 + i.val) * 8 + (y 0).val; omega)
  rw [er]

/-- What block `n` adds to output 5, at `(s, q)`. -/
def part12 (n : Nat) (y : S8x1024.Idx) : EReal :=
  if h : n < 16 then ∑ k : Fin 64, gdf m c ⟨n * 512 + (k.val * 8 + (y 0).val), by have : (y 0).val < 8 := (y 0).isLt; omega⟩ (y 1) * gdf m c ⟨n * 512 + (k.val * 8 + (y 0).val), by have : (y 0).val < 8 := (y 0).isLt; omega⟩ (y 1) else 0

theorem run12 (t : Fin cfg0.N) (ht : t.val % 16 = 15) (y : S8x1024.Idx) :
    (outsAt0 m c t.val t.isLt).2.2.2.2.2 y = 0 + ∑ k ∈ Finset.range 16, part12 m c (16 * (t.val / 16) + k) y := by
  refine Pipeline.eq_sum_of_reset_step_apply_of_mod (fun n h => (outsAt0 m c n h).2.2.2.2.2) 16 (fun _ => 0) (part12 m c) (fun t h i => ?_) (fun t h i => ?_) t ht y
  · idx_vars i
    rcases cases3 t with ⟨h1, h2, h3⟩ | ⟨h1, h2, h3⟩ | ⟨h1, h2, h3⟩
    · refine (out12_A m c t h1 h2 h3 i0 i1).trans ?_
      show _ = 0 + dite _ _ _
      rw [dif_pos (lt16 t), zero_add]
      exact Finset.sum_congr rfl fun k _ => congrArg₂ (· * ·) (congrFun (df_blk m c t _) _) (congrFun (df_blk m c t _) _)
    · exact absurd h h2
    · exact absurd h h2
  · idx_vars i
    rcases cases3 t with ⟨h1, h2, h3⟩ | ⟨h1, h2, h3⟩ | ⟨h1, h2, h3⟩
    · exact absurd h2 h
    · refine (out12_B m c t h1 h2 h3 i0 i1).trans (congrArg (_ + ·) ?_)
      show _ = dite _ _ _
      rw [dif_pos (lt16 t)]
      exact Finset.sum_congr rfl fun k _ => congrArg₂ (· * ·) (congrFun (df_blk m c t _) _) (congrFun (df_blk m c t _) _)
    · refine (out12_C m c t h1 h2 h3 i0 i1).trans (congrArg (_ + ·) ?_)
      show _ = dite _ _ _
      rw [dif_pos (lt16 t)]
      exact Finset.sum_congr rfl fun k _ => congrArg₂ (· * ·) (congrFun (df_blk m c t _) _) (congrFun (df_blk m c t _) _)

theorem arr12 : (dats m 0 c).arrAt 12 cfg0.N = fun y : S8x1024.Idx =>
    ∑ j : Fin 1024, gdf m c (all8 j (y 0)) (y 1) * gdf m c (all8 j (y 0)) (y 1) := by
  refine (dats m 0 c).arrAt_eq_of_covers 12 _ (by decide +kernel) fun t hf y => ?_
  blk_simp
  rw [after0_12, run12 m c t ((flush0_12 t).mp hf) y]
  have e : ((win0_12.blk t).view.emb y : S8x1024.Idx) = ix2 (y 0) (y 1) := by blk_ext [idx12 t]
  rw [e, zero_add]
  refine (sum_blocks64 16 (fun k => part12 m c (16 * (t.val / 16) + k) y) (fun j : Fin 1024 => gdf m c (all8 j (y 0)) (y 1) * gdf m c (all8 j (y 0)) (y 1)) fun k => ?_)
  unfold part12
  have ht0 : t.val / 16 = 0 := by have := lt16 t; omega
  rw [dif_pos (by have := k.isLt; omega)]
  refine Finset.sum_congr rfl fun i _ => ?_
  have er : ∀ h, (⟨(16 * (t.val / 16) + k.val) * 512 + (i.val * 8 + (y 0).val), h⟩ : Fin 8192) = all8 ⟨k.val * 64 + i.val, by omega⟩ (y 0) := fun h =>
    Fin.ext (by show (16 * (t.val / 16) + k.val) * 512 + (i.val * 8 + (y 0).val) = (k.val * 64 + i.val) * 8 + (y 0).val; omega)
  rw [er]

/-! The arrays the call is given, as the host prepares them. -/

theorem host1 (r : Fin 8192) : grow (V m c main_v1) r = fun q : Fin 1024 => xrow (m ((c : Thread nD τ).loc main_arg0)) (rb r) (rt r) q := by
  funext q
  show V m c main_v1 (ix2 r q) = _
  unfold V hostOps0
  after_reads_at

theorem host2 (r : Fin 8192) : grow (V m c main_v2) r = fun q : Fin 1024 => xrow (m ((c : Thread nD τ).loc main_arg1)) (rb r) (rt r) q := by
  funext q
  show V m c main_v2 (ix2 r q) = _
  unfold V hostOps0
  after_reads_at

theorem host3 (r : Fin 8192) : grow (V m c main_v3) r = fun q : Fin 1024 => xrow (m ((c : Thread nD τ).loc main_arg2)) (rb r) (rt r) q := by
  funext q
  show V m c main_v3 (ix2 r q) = _
  unfold V hostOps0
  after_reads_at

theorem host4 (b : Fin 2) (o : Nat) (h : o + 1024 ≤ 6144) : gmod (V m c main_v4) b o h = mrow (m ((c : Thread nD τ).loc main_arg3)) b o h := by
  funext q
  show V m c main_v4 (ix3 b 0 ⟨o + q.val, by omega⟩) = _
  unfold V hostOps0
  after_reads_at

theorem host5 : row (V m c main_v5) 0 = vrow (m ((c : Thread nD τ).loc main_arg4)) := by
  funext q
  show V m c main_v5 (ix2 0 q) = _
  unfold V hostOps0
  after_reads_at

theorem host6 : mat (V m c main_v6) = wmat (m ((c : Thread nD τ).loc main_arg5)) := by
  funext r q
  show V m c main_v6 (ix2 r q) = _
  unfold V hostOps0
  after_reads_at

theorem host7 : mat (V m c main_v7) = wmat (m ((c : Thread nD τ).loc main_arg6)) := by
  funext r q
  show V m c main_v7 (ix2 r q) = _
  unfold V hostOps0
  after_reads_at

theorem gz_eq (r : Fin 8192) : gz m c r = ZF (m ((c : Thread nD τ).loc main_arg0)) (m ((c : Thread nD τ).loc main_arg5)) (rb r) (rt r) := by
  unfold gz ZF; rw [host1, host6]

theorem gy_eq (r : Fin 8192) : gy m c r = Y2 (m ((c : Thread nD τ).loc main_arg0)) (m ((c : Thread nD τ).loc main_arg5)) (m ((c : Thread nD τ).loc main_arg6)) (rb r) (rt r) := by
  unfold gy Y2; rw [gz_eq, host7]

theorem gx_eq (r : Fin 8192) : gx m c r = X2 (m ((c : Thread nD τ).loc main_arg0)) (m ((c : Thread nD τ).loc main_arg1)) (m ((c : Thread nD τ).loc main_arg3)) (m ((c : Thread nD τ).loc main_arg5)) (m ((c : Thread nD τ).loc main_arg6)) (rb r) (rt r) := by
  unfold gx X2; rw [gy_eq, host2, host4]

theorem gdf_eq (r : Fin 8192) : gdf m c r = DF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rb r) (rt r) := by
  unfold gdf DF; rw [gx_eq, host3, host5]

theorem gdo_eq (r : Fin 8192) : gdo m c r = DO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rb r) (rt r) := by
  unfold gdo DO; rw [gx_eq, host3, host5]

theorem gdx_eq (r : Fin 8192) : gdx m c r = DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rb r) (rt r) := by
  unfold gdx DX; rw [gx_eq, host3, host5]

theorem res7 : (dats m 0 c).arrAt 7 cfg0.N = F0 (m ((c : Thread nD τ).loc main_arg0)) (m ((c : Thread nD τ).loc main_arg5)) := by
  rw [arr7]
  funext y
  unfold F0
  exact congrFun (gz_eq m c (y 0)) (y 1)

theorem res8 : (dats m 0 c).arrAt 8 cfg0.N = F1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [arr8]
  funext y
  unfold F1
  exact congrFun (gdx_eq m c (y 0)) (y 1)

theorem res9 : (dats m 0 c).arrAt 9 cfg0.N = F2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [arr9]
  funext y
  unfold F2
  exact congrArg₂ (· * ·) (congrFun (host4 m c (rb (y 0)) 5120 (by omega)) (y 1)) (congrFun (gdx_eq m c (y 0)) (y 1))

theorem res10 : (dats m 0 c).arrAt 10 cfg0.N = F3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [arr10]
  funext y
  unfold F3
  exact Finset.sum_congr rfl fun j _ => congrArg₂ (· * ·) (congrFun (gdx_eq m c (row8 (y 0) j (y 1))) (y 2)) (congrFun (gy_eq m c (row8 (y 0) j (y 1))) (y 2))

theorem res11 : (dats m 0 c).arrAt 11 cfg0.N = F4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [arr11]
  funext y
  unfold F4
  exact Finset.sum_congr rfl fun j _ => congrArg₂ (· * ·) (congrFun (gdo_eq m c (all8 j (y 0))) (y 1)) (by rw [gx_eq])

theorem res12 : (dats m 0 c).arrAt 12 cfg0.N = F5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [arr12]
  funext y
  unfold F5
  exact Finset.sum_congr rfl fun j _ => congrArg₂ (· * ·) (congrFun (gdf_eq m c (all8 j (y 0))) (y 1)) (congrFun (gdf_eq m c (all8 j (y 0))) (y 1))

end Cert.Kernel7Ideal.Hand
end
-- ==== Proof.FwdRef.lean ====
/-
  What the reference of the forward call computes, read at an index.
-/
module

public import proofs.«01_k».proof.Proof.Gen.Reference7Ideal.Read
public import proofs.«01_k».proof.Proof.FwdSpec

@[expose] public section

set_option maxRecDepth 16384

noncomputable section

namespace Cert.Reference7Ideal.Hand

open Idealize.ShloMosaic Idealize.ShloMosaic.TcCoe Idealize.ShloMosaic.Tactic
open Idealize.SL Idealize.SL.Sem
open Cert.Reference7Ideal.Read
open Cert.MlpFwd Cert.Reals
open Cert.MlpBwd (cD cTwo cEps rr xn rb rt row8 rb_row8 rt_row8 xrow mrow wmat)

variable (x0 x1 x2 : (⟨S2x4096x1024, .f32⟩ : BufTy).Contents (Elt Ideal)) (x3 : (⟨S2x6144, .f32⟩ : BufTy).Contents (Elt Ideal))
  (x4 : (⟨S1024, .f32⟩ : BufTy).Contents (Elt Ideal)) (x5 : (⟨S1024x4096, .f32⟩ : BufTy).Contents (Elt Ideal)) (x6 : (⟨S4096x1024, .f32⟩ : BufTy).Contents (Elt Ideal))

theorem z_ref (b : Fin 2) (t : Fin 4096) (f : Fin 4096) : val_main_v6 x0 x5 (ix3 b t f) = ZF x0 x5 b t f := by
  unfold ZF zf
  pointwise [val_main_v6]

theorem y_ref (b : Fin 2) (t : Fin 4096) (q : Fin 1024) : val_main_v9 x0 x5 x6 (ix3 b t q) = Y2 x0 x5 x6 b t q := by
  unfold Y2 y2
  simp only [← z_ref]
  pointwise [val_main_v9, val_main_v8, val_main_v7, val_main_call0_v0, val_main_call0_cst]

theorem x_ref (b : Fin 2) (t : Fin 4096) (q : Fin 1024) : val_main_v13 x0 x1 x3 x5 x6 (ix3 b t q) = X2 x0 x1 x3 x5 x6 b t q := by
  unfold X2 MlpFwd.x2
  rw [← y_ref]
  pointwise [val_main_v13, val_main_v12, val_main_v11, val_main_v10, val_main_v5]

theorem mean_ref (b : Fin 2) (t : Fin 4096) (u : Fin 1) :
    val_main_v21 x0 x1 x3 x5 x6 (ix3 b t u) = Ideal.div (∑ k, X2 x0 x1 x3 x5 x6 b t k * X2 x0 x1 x3 x5 x6 b t k) cD + cEps := by
  simp only [← x_ref]
  pointwise [val_main_v21, val_main_v20, val_main_v19, val_main_v18, val_main_v17, val_main_v16, val_main_v15, val_main_cst, val_main_cst_0, val_main_cst_1]

theorem rr_ref (b : Fin 2) (t : Fin 4096) (u : Fin 1) : val_main_v22 x0 x1 x3 x5 x6 (ix3 b t u) = rr (X2 x0 x1 x3 x5 x6 b t) := by
  unfold rr
  rw [← mean_ref x0 x1 x3 x5 x6 b t u]
  pointwise [val_main_v22]

theorem xn_ref (b : Fin 2) (t : Fin 4096) (q : Fin 1024) : val_main_v27 x0 x1 x3 x5 x6 (ix3 b t q) = xn (X2 x0 x1 x3 x5 x6 b t) q := by
  unfold xn
  rw [← rr_ref x0 x1 x3 x5 x6 b t 0, ← x_ref]
  pointwise [val_main_v27, val_main_v26]

theorem df_ref (b : Fin 2) (t : Fin 4096) (q : Fin 1024) : val_main_v29 x0 x1 x2 x3 x4 x5 x6 (ix3 b t q) = DF x0 x1 x2 x3 x4 x5 x6 b t q := by
  unfold DF diff
  rw [← xn_ref]
  pointwise [val_main_v29, val_main_v28, val_main_v14]

theorem do_ref (b : Fin 2) (t : Fin 4096) (q : Fin 1024) : val_main_v43 x0 x1 x2 x3 x4 x5 x6 (ix3 b t q) = DO x0 x1 x2 x3 x4 x5 x6 b t q := by
  refine Eq.trans ?_ (half_twice (DF x0 x1 x2 x3 x4 x5 x6 b t q))
  rw [← df_ref]
  pointwise [val_main_v43, val_main_v42, val_main_v41, val_main_v40, val_main_v39, val_main_v38, val_main_v32, val_main_v31, val_main_cst_3, val_main_cst_8, val_main_cst_9, val_main_cst_10]

theorem de_ref (b : Fin 2) (t : Fin 4096) (q : Fin 1024) :
    val_main_v45 x0 x1 x2 x3 x4 x5 x6 (ix3 b t q) = DO x0 x1 x2 x3 x4 x5 x6 b t q * vrow x4 q := by
  rw [← do_ref]
  pointwise [val_main_v45, val_main_v14]

section
variable (h0 : ∀ i, IsRl (x0 i)) (h1 : ∀ i, IsRl (x1 i)) (h2 : ∀ i, IsRl (x2 i)) (h3 : ∀ i, IsRl (x3 i)) (h4 : ∀ i, IsRl (x4 i)) (h5 : ∀ i, IsRl (x5 i)) (h6 : ∀ i, IsRl (x6 i))
include h0 h1 h2 h3 h4 h5 h6

theorem dx_ref (b : Fin 2) (t : Fin 4096) (q : Fin 1024) : val_main_v59 x0 x1 x2 x3 x4 x5 x6 (ix3 b t q) = DX x0 x1 x2 x3 x4 x5 x6 b t q := by
  have hx := isRl_X2 x0 x1 x3 x5 x6 h0 h1 h3 h5 h6 b t
  have hd : ∀ k, IsRl (DO x0 x1 x2 x3 x4 x5 x6 b t k * vrow x4 k) := fun k =>
    (isRl_dout (gf := vrow x4) (tg := xrow x2 b t) hx (fun _ => h4 _) (fun _ => h2 _) k).mul (h4 _)
  refine Eq.trans ?_ (norm_back hx hd q)
  simp only [← de_ref]
  rw [← mean_ref x0 x1 x3 x5 x6 b t 0, ← rr_ref x0 x1 x3 x5 x6 b t 0]
  simp only [← x_ref]
  pointwise [val_main_v59, val_main_v58, val_main_v57, val_main_v56, val_main_v55, val_main_v54, val_main_cst_13, val_main_v53, val_main_v52, val_main_cst_12, val_main_v51, val_main_v50, val_main_v49, val_main_v48, val_main_v47, val_main_cst_11, val_main_v46, val_main_v25, val_main_v24, val_main_cst_2, val_main_v23]
  simp only [Finset.univ_unique, Finset.sum_singleton, Fin.default_eq_zero]

theorem ref1 : val_main_v64 x0 x1 x2 x3 x4 x5 x6 = F1 x0 x1 x2 x3 x4 x5 x6 := by
  funext y
  idx_vars y
  refine Eq.trans ?_ (dx_ref x0 x1 x2 x3 x4 x5 x6 h0 h1 h2 h3 h4 h5 h6 (rb y0) (rt y0) y1)
  pointwise [val_main_v64]

theorem ref2 : val_main_v66 x0 x1 x2 x3 x4 x5 x6 = F2 x0 x1 x2 x3 x4 x5 x6 := by
  funext y
  idx_vars y
  refine Eq.trans ?_ (congrArg (mrow x3 (rb y0) 5120 (by omega) y1 * ·) (dx_ref x0 x1 x2 x3 x4 x5 x6 h0 h1 h2 h3 h4 h5 h6 (rb y0) (rt y0) y1))
  pointwise [val_main_v66, val_main_v65, val_main_v60, val_main_v11, val_main_v10, val_main_v5]

theorem ref3 : val_main_v68 x0 x1 x2 x3 x4 x5 x6 = F3 x0 x1 x2 x3 x4 x5 x6 := by
  funext y
  idx_vars y
  show _ = ∑ j : Fin 512, DX x0 x1 x2 x3 x4 x5 x6 (rb (row8 y0 j y1)) (rt (row8 y0 j y1)) y2 * Y2 x0 x5 x6 (rb (row8 y0 j y1)) (rt (row8 y0 j y1)) y2
  simp only [rb_row8, rt_row8, ← dx_ref x0 x1 x2 x3 x4 x5 x6 h0 h1 h2 h3 h4 h5 h6, ← y_ref]
  pointwise [val_main_v68, val_main_v67, val_main_v61, val_main_cst_14]

end

theorem ref0 : val_main_v63 x0 x5 = F0 x0 x5 := by
  funext y
  idx_vars y
  refine Eq.trans ?_ (z_ref x0 x5 (rb y0) (rt y0) y1)
  pointwise [val_main_v63, val_main_v62]

theorem ref4 : val_main_v70 x0 x1 x2 x3 x4 x5 x6 = F4 x0 x1 x2 x3 x4 x5 x6 := by
  funext y
  idx_vars y
  show _ = ∑ j : Fin 1024, DO x0 x1 x2 x3 x4 x5 x6 (rb (all8 j y0)) (rt (all8 j y0)) y1 * xn (X2 x0 x1 x3 x5 x6 (rb (all8 j y0)) (rt (all8 j y0))) y1
  simp only [rb_all8, rt_all8, ← do_ref, ← xn_ref]
  pointwise [val_main_v70, val_main_v69, val_main_v44, val_main_cst_15]
  exact Finset.sum_congr rfl fun j _ => mul_comm _ _

theorem ref5 : val_main_v72 x0 x1 x2 x3 x4 x5 x6 = F5 x0 x1 x2 x3 x4 x5 x6 := by
  funext y
  idx_vars y
  show _ = ∑ j : Fin 1024, DF x0 x1 x2 x3 x4 x5 x6 (rb (all8 j y0)) (rt (all8 j y0)) y1 * DF x0 x1 x2 x3 x4 x5 x6 (rb (all8 j y0)) (rt (all8 j y0)) y1
  simp only [rb_all8, rt_all8, ← df_ref]
  pointwise [val_main_v72, val_main_v71, val_main_v30, val_main_cst_16]

end Cert.Reference7Ideal.Hand
end
-- ==== Proof.FwdClaim.lean ====
/-
  The claims about the forward call of the MLP branch and the loss head.
-/
module

public import proofs.«01_k».proof.Defs
public import proofs.«01_k».proof.Proof.Gen.Kernel7
public import proofs.«01_k».proof.Proof.Gen.Kernel7.Frame
public import proofs.«01_k».proof.Proof.Gen.Reference7Ideal.Run
public import proofs.«01_k».proof.Proof.Gen.Pre_finite7
public import proofs.«01_k».proof.Proof.FwdArrays
public import proofs.«01_k».proof.Proof.FwdRef

@[expose] public section

set_option maxRecDepth 16384
set_option maxHeartbeats 1000000

noncomputable section

namespace Cert.MlpFwd

open Idealize.ShloMosaic Idealize.ShloMosaic.TcCoe Idealize.SL.Sem
open Cert.Reals

/-- Where the difference of an array with itself compares equal to zero, the array is real. -/
theorem isRl_of_cmp {s : Shape} (x : FVec Ideal s .f32) (h0 : (⟨0, ![]⟩ : Shape).BroadcastsInDim s ![])
    (h : cmpf .oeq (subf x x) (broadcastInDim s ![] h0 (constant ⟨0, ![]⟩ .f32 0x00000000#32)) = fun _ => 1#1) (i : s.Idx) : IsRl (x i) := by
  refine isRl_of_sub_self ?_
  by_contra hne
  have e : BitVec.ofBool (decide (x i - x i = Ideal.ofBits .f32 0x00000000#32)) = 1#1 := congrFun h i
  rw [Ideal.ofBits_zero_f32, decide_eq_false hne] at e
  exact absurd e (by decide)

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_ideal_pre : Cert.quiescent_Kernel7Ideal_pre_finite7 := fun m ρ _ => Cert.Kernel7Ideal.Gen.frame m ρ

theorem frame_reference : Cert.quiescent_Reference7Ideal := fun m ρ _ =>
  (θ_run Cert.Reference7Ideal.defs _ _).mono
    (fun _ h => ⟨fun c => (h c).2.2.2.2.2.2, funext fun q => by rcases q with ⟨_, q | q⟩ <;> exact q.elim0⟩) (Cert.Reference7Ideal.Value.run (F := Ideal) m ρ)

theorem frame_reference_pre : Cert.quiescent_Reference7Ideal_pre_finite7 := fun m ρ _ => frame_reference m ρ trivial

theorem algebraic : Cert.algebraic_Kernel7Ideal_Reference7Ideal_pre_finite7 := by
  intro m g m' g' hp hag
  refine ⟨fun c => F0 (m (c.tc.loc Cert.Kernel7Ideal.main_arg0)) (m (c.tc.loc Cert.Kernel7Ideal.main_arg5)),
    fun c => F1 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)),
    fun c => F2 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)),
    fun c => F3 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)),
    fun c => F4 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)),
    fun c => F5 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)),
    ?_, ?_⟩
  · refine (θ_run Cert.Kernel7Ideal.defs _ _).mono (fun r h c => ?_) (Cert.Kernel7Ideal.Value.run_blocks (F := Ideal) m g)
    obtain ⟨h0, h1, h2, h3, h4, h5, hk⟩ := h c
    exact ⟨h0.trans (Cert.Kernel7Ideal.Hand.res7 m c), h1.trans (Cert.Kernel7Ideal.Hand.res8 m c), h2.trans (Cert.Kernel7Ideal.Hand.res9 m c),
      h3.trans (Cert.Kernel7Ideal.Hand.res10 m c), h4.trans (Cert.Kernel7Ideal.Hand.res11 m c), h5.trans (Cert.Kernel7Ideal.Hand.res12 m c), hk⟩
  · refine (θ_run Cert.Reference7Ideal.defs _ _).mono (fun r h c => ?_) (Cert.Reference7Ideal.Value.run (F := Ideal) m' g')
    obtain ⟨h0, h1, h2, h3, h4, h5, hk⟩ := h c
    obtain ⟨a0, a1, a2, a3, a4, a5, a6⟩ := hag c
    obtain ⟨p0, p1, p2, p3, p4, p5, p6⟩ := hp c
    have r0 : ∀ i, IsRl (m' (c.tc.loc Cert.Reference7Ideal.main_arg0) i) := by
      rw [a0]
      exact isRl_of_cmp _ _ p0
    have r1 : ∀ i, IsRl (m' (c.tc.loc Cert.Reference7Ideal.main_arg1) i) := by
      rw [a1]
      exact isRl_of_cmp _ _ p1
    have r2 : ∀ i, IsRl (m' (c.tc.loc Cert.Reference7Ideal.main_arg2) i) := by
      rw [a2]
      exact isRl_of_cmp _ _ p2
    have r3 : ∀ i, IsRl (m' (c.tc.loc Cert.Reference7Ideal.main_arg3) i) := by
      rw [a3]
      exact isRl_of_cmp _ _ p3
    have r4 : ∀ i, IsRl (m' (c.tc.loc Cert.Reference7Ideal.main_arg4) i) := by
      rw [a4]
      exact isRl_of_cmp _ _ p4
    have r5 : ∀ i, IsRl (m' (c.tc.loc Cert.Reference7Ideal.main_arg5) i) := by
      rw [a5]
      exact isRl_of_cmp _ _ p5
    have r6 : ∀ i, IsRl (m' (c.tc.loc Cert.Reference7Ideal.main_arg6) i) := by
      rw [a6]
      exact isRl_of_cmp _ _ p6
    refine ⟨h0.trans ?_, h1.trans ?_, h2.trans ?_, h3.trans ?_, h4.trans ?_, h5.trans ?_, hk⟩
    · have e : F0 (m' (c.tc.loc Cert.Reference7Ideal.main_arg0)) (m' (c.tc.loc Cert.Reference7Ideal.main_arg5))
          = F0 (m (c.tc.loc Cert.Kernel7Ideal.main_arg0)) (m (c.tc.loc Cert.Kernel7Ideal.main_arg5)) := by rw [a0, a5]
      exact ((Cert.Reference7Ideal.Read.val_main_v63_eq (F := Ideal) _ _).trans (Cert.Reference7Ideal.Hand.ref0 _ _)).trans e
    · have e : F1 (m' (c.tc.loc Cert.Reference7Ideal.main_arg0)) (m' (c.tc.loc Cert.Reference7Ideal.main_arg1)) (m' (c.tc.loc Cert.Reference7Ideal.main_arg2)) (m' (c.tc.loc Cert.Reference7Ideal.main_arg3)) (m' (c.tc.loc Cert.Reference7Ideal.main_arg4)) (m' (c.tc.loc Cert.Reference7Ideal.main_arg5)) (m' (c.tc.loc Cert.Reference7Ideal.main_arg6))
          = F1 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) := by rw [a0, a1, a2, a3, a4, a5, a6]
      exact ((Cert.Reference7Ideal.Read.val_main_v64_eq m' c).trans (Cert.Reference7Ideal.Hand.ref1 _ _ _ _ _ _ _ r0 r1 r2 r3 r4 r5 r6)).trans e
    · have e : F2 (m' (c.tc.loc Cert.Reference7Ideal.main_arg0)) (m' (c.tc.loc Cert.Reference7Ideal.main_arg1)) (m' (c.tc.loc Cert.Reference7Ideal.main_arg2)) (m' (c.tc.loc Cert.Reference7Ideal.main_arg3)) (m' (c.tc.loc Cert.Reference7Ideal.main_arg4)) (m' (c.tc.loc Cert.Reference7Ideal.main_arg5)) (m' (c.tc.loc Cert.Reference7Ideal.main_arg6))
          = F2 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) := by rw [a0, a1, a2, a3, a4, a5, a6]
      exact ((Cert.Reference7Ideal.Read.val_main_v66_eq m' c).trans (Cert.Reference7Ideal.Hand.ref2 _ _ _ _ _ _ _ r0 r1 r2 r3 r4 r5 r6)).trans e
    · have e : F3 (m' (c.tc.loc Cert.Reference7Ideal.main_arg0)) (m' (c.tc.loc Cert.Reference7Ideal.main_arg1)) (m' (c.tc.loc Cert.Reference7Ideal.main_arg2)) (m' (c.tc.loc Cert.Reference7Ideal.main_arg3)) (m' (c.tc.loc Cert.Reference7Ideal.main_arg4)) (m' (c.tc.loc Cert.Reference7Ideal.main_arg5)) (m' (c.tc.loc Cert.Reference7Ideal.main_arg6))
          = F3 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) := by rw [a0, a1, a2, a3, a4, a5, a6]
      exact ((Cert.Reference7Ideal.Read.val_main_v68_eq m' c).trans (Cert.Reference7Ideal.Hand.ref3 _ _ _ _ _ _ _ r0 r1 r2 r3 r4 r5 r6)).trans e
    · have e : F4 (m' (c.tc.loc Cert.Reference7Ideal.main_arg0)) (m' (c.tc.loc Cert.Reference7Ideal.main_arg1)) (m' (c.tc.loc Cert.Reference7Ideal.main_arg2)) (m' (c.tc.loc Cert.Reference7Ideal.main_arg3)) (m' (c.tc.loc Cert.Reference7Ideal.main_arg4)) (m' (c.tc.loc Cert.Reference7Ideal.main_arg5)) (m' (c.tc.loc Cert.Reference7Ideal.main_arg6))
          = F4 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) := by rw [a0, a1, a2, a3, a4, a5, a6]
      exact ((Cert.Reference7Ideal.Read.val_main_v70_eq m' c).trans (Cert.Reference7Ideal.Hand.ref4 _ _ _ _ _ _ _)).trans e
    · have e : F5 (m' (c.tc.loc Cert.Reference7Ideal.main_arg0)) (m' (c.tc.loc Cert.Reference7Ideal.main_arg1)) (m' (c.tc.loc Cert.Reference7Ideal.main_arg2)) (m' (c.tc.loc Cert.Reference7Ideal.main_arg3)) (m' (c.tc.loc Cert.Reference7Ideal.main_arg4)) (m' (c.tc.loc Cert.Reference7Ideal.main_arg5)) (m' (c.tc.loc Cert.Reference7Ideal.main_arg6))
          = F5 (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) := by rw [a0, a1, a2, a3, a4, a5, a6]
      exact ((Cert.Reference7Ideal.Read.val_main_v72_eq m' c).trans (Cert.Reference7Ideal.Hand.ref5 _ _ _ _ _ _ _)).trans e

end Cert.MlpFwd

end
-- ==== Proof.AdamSpec.lean ====
/-
  One step of the optimiser at one entry.
-/
module

public import Idealize.ShloMosaic.Lib.Pointwise

@[expose] public section

noncomputable section

namespace Cert.Adam

open Idealize.ShloMosaic

/-- The new first and second moments, and the update of the weight, from the gradient `g`. -/
def aM (g m : EReal) : EReal := Ideal.ofBits .f32 0x3F666666#32 * m + Ideal.ofBits .f32 0x3DCCCCCD#32 * g
def aV (g v : EReal) : EReal := Ideal.ofBits .f32 0x3F7FBE77#32 * v + Ideal.ofBits .f32 0x3A83126F#32 * (g * g)
def aD (w g m v : EReal) : EReal :=
  Ideal.ofBits .f32 0xBA83126F#32
    * (Ideal.div (Ideal.div (aM g m) (Ideal.ofBits .f32 0x3F26BD02#32))
        (Ideal.sqrt (Ideal.div (aV g v) (Ideal.ofBits .f32 0x3C231ACC#32)) + Ideal.ofBits .f32 0x322BCC77#32)
      + Ideal.ofBits .f32 0x3C23D70A#32 * w)

end Cert.Adam
end
-- ==== Proof.Adam8.lean ====
/-
  The optimiser's step on a 1024 by 640 weight, in blocks of 256 rows.
-/
module

public import proofs.«01_k».proof.Defs
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.AdamSpec
public import Idealize.ShloMosaic.Lib.Pointwise
public import Idealize.ShloMosaic.Lib.Pipeline.ValueKit

@[expose] public section

set_option maxRecDepth 16384

noncomputable section

namespace Cert.Kernel8Ideal.Hand

open Idealize.ShloMosaic Idealize.ShloMosaic.TcCoe Idealize.ShloMosaic.Tactic
open Idealize.SL Idealize.SL.Sem
open Idealize.ShloMosaic.Pipeline (Dat Cfg Window cellOf)
open Cert.Kernel8Ideal.Gen
open Cert.Adam

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

theorem ltN (t : Fin cfg0.N) : t.val < 4 := t.isLt

/-- Row `r` of block `t`. -/
abbrev gr (t : Fin cfg0.N) (r : Fin 256) : Fin 1024 := ⟨t.val * 256 + r.val, by have := ltN t; omega⟩

theorem blk0 (t : Fin cfg0.N) (r : Fin 256) (q : Fin 640) : iblk m c 0 t (ix2 r q) = (m ((c : Thread nD τ).loc main_arg0)) (ix2 (gr t r) q) := by
  rw [← V_main_arg0 m c]
  blk_simp [iblk]
  refine congrArg _ ?_
  blk_ext [idx0 t]

theorem blk1 (t : Fin cfg0.N) (r : Fin 256) (q : Fin 640) : iblk m c 1 t (ix2 r q) = (m ((c : Thread nD τ).loc main_arg1)) (ix2 (gr t r) q) := by
  rw [← V_main_arg1 m c]
  blk_simp [iblk]
  refine congrArg _ ?_
  blk_ext [idx1 t]

theorem blk2 (t : Fin cfg0.N) (r : Fin 256) (q : Fin 640) : iblk m c 2 t (ix2 r q) = (m ((c : Thread nD τ).loc main_arg2)) (ix2 (gr t r) q) := by
  rw [← V_main_arg2 m c]
  blk_simp [iblk]
  refine congrArg _ ?_
  blk_ext [idx2 t]

theorem blk3 (t : Fin cfg0.N) (r : Fin 256) (q : Fin 640) : iblk m c 3 t (ix2 r q) = (m ((c : Thread nD τ).loc main_arg3)) (ix2 (gr t r) q) := by
  rw [← V_main_arg3 m c]
  blk_simp [iblk]
  refine congrArg _ ?_
  blk_ext [idx3 t]

theorem out4 (X0 X1 X2 X3 : Vec Ideal S256x640 .f32) (r : Fin 256) (q : Fin 640) : out0_4 X0 X1 X2 X3 (ix2 r q) = X1 (ix2 r q) := by
  skip
  skip
  unfold out0_4
  frame_out
  try pointwise []

theorem out5 (X0 X1 X2 X3 : Vec Ideal S256x640 .f32) (r : Fin 256) (q : Fin 640) : out0_5 X0 X1 X2 X3 (ix2 r q) = aD (X0 (ix2 r q)) (X1 (ix2 r q)) (X2 (ix2 r q)) (X3 (ix2 r q)) := by
  unfold aD
  unfold aM aV
  unfold out0_5
  frame_out
  pointwise [k0_pay3, k0_pay1, k0_pay2]

theorem out6 (X0 X1 X2 X3 : Vec Ideal S256x640 .f32) (r : Fin 256) (q : Fin 640) : out0_6 X0 X1 X2 X3 (ix2 r q) = aM (X1 (ix2 r q)) (X2 (ix2 r q)) := by
  unfold aM
  skip
  unfold out0_6
  frame_out
  pointwise [k0_pay1]

theorem out7 (X0 X1 X2 X3 : Vec Ideal S256x640 .f32) (r : Fin 256) (q : Fin 640) : out0_7 X0 X1 X2 X3 (ix2 r q) = aV (X1 (ix2 r q)) (X3 (ix2 r q)) := by
  unfold aV
  skip
  unfold out0_7
  frame_out
  pointwise [k0_pay2]

theorem res4 : (dats m 0 c).arrAt 4 cfg0.N = fun y : S1024x640.Idx => (m ((c : Thread nD τ).loc main_arg1)) y := by
  refine (dats m 0 c).arrAt_eq_of_covers 4 _ (by decide +kernel) fun t hf y => ?_
  blk_simp
  rw [after0_4]
  idx_vars y
  have e : ((win0_4.blk t).view.emb (ix2 y0 y1) : S1024x640.Idx) = ix2 (gr t y0) y1 := by blk_ext [idx4 t]
  rw [e]
  refine (out4 _ _ _ _ y0 y1).trans ?_
  simp only [blk1]

theorem res5 : (dats m 0 c).arrAt 5 cfg0.N = fun y : S1024x640.Idx => aD ((m ((c : Thread nD τ).loc main_arg0)) y) ((m ((c : Thread nD τ).loc main_arg1)) y) ((m ((c : Thread nD τ).loc main_arg2)) y) ((m ((c : Thread nD τ).loc main_arg3)) y) := by
  refine (dats m 0 c).arrAt_eq_of_covers 5 _ (by decide +kernel) fun t hf y => ?_
  blk_simp
  rw [after0_5]
  idx_vars y
  have e : ((win0_5.blk t).view.emb (ix2 y0 y1) : S1024x640.Idx) = ix2 (gr t y0) y1 := by blk_ext [idx5 t]
  rw [e]
  refine (out5 _ _ _ _ y0 y1).trans ?_
  simp only [blk0, blk1, blk2, blk3]

theorem res6 : (dats m 0 c).arrAt 6 cfg0.N = fun y : S1024x640.Idx => aM ((m ((c : Thread nD τ).loc main_arg1)) y) ((m ((c : Thread nD τ).loc main_arg2)) y) := by
  refine (dats m 0 c).arrAt_eq_of_covers 6 _ (by decide +kernel) fun t hf y => ?_
  blk_simp
  rw [after0_6]
  idx_vars y
  have e : ((win0_6.blk t).view.emb (ix2 y0 y1) : S1024x640.Idx) = ix2 (gr t y0) y1 := by blk_ext [idx6 t]
  rw [e]
  refine (out6 _ _ _ _ y0 y1).trans ?_
  simp only [blk1, blk2]

theorem res7 : (dats m 0 c).arrAt 7 cfg0.N = fun y : S1024x640.Idx => aV ((m ((c : Thread nD τ).loc main_arg1)) y) ((m ((c : Thread nD τ).loc main_arg3)) y) := by
  refine (dats m 0 c).arrAt_eq_of_covers 7 _ (by decide +kernel) fun t hf y => ?_
  blk_simp
  rw [after0_7]
  idx_vars y
  have e : ((win0_7.blk t).view.emb (ix2 y0 y1) : S1024x640.Idx) = ix2 (gr t y0) y1 := by blk_ext [idx7 t]
  rw [e]
  refine (out7 _ _ _ _ y0 y1).trans ?_
  simp only [blk1, blk3]

end Cert.Kernel8Ideal.Hand

namespace Cert.Adam

open Idealize.ShloMosaic Idealize.ShloMosaic.TcCoe Idealize.ShloMosaic.Tactic Idealize.SL.Sem
open Cert.Reference8Ideal Cert.Reference8Ideal.Read

theorem refD8 (x0 x1 x2 x3) : val_main_v23 (F := Ideal) x0 x1 x2 x3 = fun y : S1024x640.Idx => aD (x0 y) (x1 y) (x2 y) (x3 y) := by
  funext y
  idx_vars y
  unfold aD aM aV
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem refM8 (x1 x2) : val_main_v4 (F := Ideal) x1 x2 = fun y : S1024x640.Idx => aM (x1 y) (x2 y) := by
  funext y
  idx_vars y
  unfold aM
  pointwise [val_main_v4, val_main_v3, val_main_v2, val_main_v1, val_main_v0, val_main_cst, val_main_cst_0]

theorem refV8 (x1 x3) : val_main_v10 (F := Ideal) x1 x3 = fun y : S1024x640.Idx => aV (x1 y) (x3 y) := by
  funext y
  idx_vars y
  unfold aV
  pointwise [val_main_v10, val_main_v9, val_main_v8, val_main_v7, val_main_v6, val_main_v5, val_main_cst_1, val_main_cst_2]

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono
    (fun _ h => ⟨fun c => (h c).2.2.2.2, funext fun q => by rcases q with ⟨_, q | q⟩ <;> exact q.elim0⟩) (Cert.Reference8Ideal.Value.run (F := Ideal) m ρ)

theorem algebraic8 : Cert.algebraic_Kernel8Ideal_Reference8Ideal := by
  intro m g m' g' _ hag
  refine ⟨fun c => (m (c.tc.loc Cert.Kernel8Ideal.main_arg1)),
    fun c => (fun y : S1024x640.Idx => aD ((m (c.tc.loc Cert.Kernel8Ideal.main_arg0)) y) ((m (c.tc.loc Cert.Kernel8Ideal.main_arg1)) y) ((m (c.tc.loc Cert.Kernel8Ideal.main_arg2)) y) ((m (c.tc.loc Cert.Kernel8Ideal.main_arg3)) y)),
    fun c => (fun y : S1024x640.Idx => aM ((m (c.tc.loc Cert.Kernel8Ideal.main_arg1)) y) ((m (c.tc.loc Cert.Kernel8Ideal.main_arg2)) y)),
    fun c => (fun y : S1024x640.Idx => aV ((m (c.tc.loc Cert.Kernel8Ideal.main_arg1)) y) ((m (c.tc.loc Cert.Kernel8Ideal.main_arg3)) y)), ?_, ?_⟩
  · refine (θ_run Cert.Kernel8Ideal.defs _ _).mono (fun r h c => ?_) (Cert.Kernel8Ideal.Value.run_blocks (F := Ideal) m g)
    obtain ⟨h0, h1, h2, h3, hk⟩ := h c
    exact ⟨h0.trans (Cert.Kernel8Ideal.Hand.res4 m c), h1.trans (Cert.Kernel8Ideal.Hand.res5 m c), h2.trans (Cert.Kernel8Ideal.Hand.res6 m c), h3.trans (Cert.Kernel8Ideal.Hand.res7 m c), hk⟩
  · refine (θ_run Cert.Reference8Ideal.defs _ _).mono (fun r h c => ?_) (Cert.Reference8Ideal.Value.run (F := Ideal) m' g')
    obtain ⟨h0, h1, h2, h3, hk⟩ := h c
    obtain ⟨a0, a1, a2, a3⟩ := hag c
    refine ⟨h0.trans a1, h1.trans ?_, h2.trans ?_, h3.trans ?_, hk⟩
    · have e : (fun y : S1024x640.Idx => aD ((m' (c.tc.loc Cert.Reference8Ideal.main_arg0)) y) ((m' (c.tc.loc Cert.Reference8Ideal.main_arg1)) y) ((m' (c.tc.loc Cert.Reference8Ideal.main_arg2)) y) ((m' (c.tc.loc Cert.Reference8Ideal.main_arg3)) y))
          = (fun y : S1024x640.Idx => aD ((m (c.tc.loc Cert.Kernel8Ideal.main_arg0)) y) ((m (c.tc.loc Cert.Kernel8Ideal.main_arg1)) y) ((m (c.tc.loc Cert.Kernel8Ideal.main_arg2)) y) ((m (c.tc.loc Cert.Kernel8Ideal.main_arg3)) y)) := by rw [a0, a1, a2, a3]
      exact ((val_main_v23_eq (F := Ideal) _ _ _ _).trans (refD8 _ _ _ _)).trans e
    · have e : (fun y : S1024x640.Idx => aM ((m' (c.tc.loc Cert.Reference8Ideal.main_arg1)) y) ((m' (c.tc.loc Cert.Reference8Ideal.main_arg2)) y))
          = (fun y : S1024x640.Idx => aM ((m (c.tc.loc Cert.Kernel8Ideal.main_arg1)) y) ((m (c.tc.loc Cert.Kernel8Ideal.main_arg2)) y)) := by rw [a1, a2]
      exact ((val_main_v4_eq (F := Ideal) _ _).trans (refM8 _ _)).trans e
    · have e : (fun y : S1024x640.Idx => aV ((m' (c.tc.loc Cert.Reference8Ideal.main_arg1)) y) ((m' (c.tc.loc Cert.Reference8Ideal.main_arg3)) y))
          = (fun y : S1024x640.Idx => aV ((m (c.tc.loc Cert.Kernel8Ideal.main_arg1)) y) ((m (c.tc.loc Cert.Kernel8Ideal.main_arg3)) y)) := by rw [a1, a3]
      exact ((val_main_v10_eq (F := Ideal) _ _).trans (refV8 _ _)).trans e

end Cert.Adam

end
-- ==== Proof.Adam9.lean ====
/-
  The optimiser's step on a 256 by 1024 weight, in blocks of 256 rows.
-/
module

public import proofs.«01_k».proof.Defs
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.AdamSpec
public import Idealize.ShloMosaic.Lib.Pointwise
public import Idealize.ShloMosaic.Lib.Pipeline.ValueKit

@[expose] public section

set_option maxRecDepth 16384

noncomputable section

namespace Cert.Kernel9Ideal.Hand

open Idealize.ShloMosaic Idealize.ShloMosaic.TcCoe Idealize.ShloMosaic.Tactic
open Idealize.SL Idealize.SL.Sem
open Idealize.ShloMosaic.Pipeline (Dat Cfg Window cellOf)
open Cert.Kernel9Ideal.Gen
open Cert.Adam

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

theorem ltN (t : Fin cfg0.N) : t.val < 1 := t.isLt

/-- Row `r` of block `t`. -/
abbrev gr (t : Fin cfg0.N) (r : Fin 256) : Fin 256 := ⟨t.val * 256 + r.val, by have := ltN t; omega⟩

theorem blk0 (t : Fin cfg0.N) (r : Fin 256) (q : Fin 1024) : iblk m c 0 t (ix2 r q) = (m ((c : Thread nD τ).loc main_arg0)) (ix2 (gr t r) q) := by
  rw [← V_main_arg0 m c]
  blk_simp [iblk]
  refine congrArg _ ?_
  blk_ext [idx0 t]

theorem blk1 (t : Fin cfg0.N) (r : Fin 256) (q : Fin 1024) : iblk m c 1 t (ix2 r q) = (m ((c : Thread nD τ).loc main_arg1)) (ix2 (gr t r) q) := by
  rw [← V_main_arg1 m c]
  blk_simp [iblk]
  refine congrArg _ ?_
  blk_ext [idx1 t]

theorem blk2 (t : Fin cfg0.N) (r : Fin 256) (q : Fin 1024) : iblk m c 2 t (ix2 r q) = (m ((c : Thread nD τ).loc main_arg2)) (ix2 (gr t r) q) := by
  rw [← V_main_arg2 m c]
  blk_simp [iblk]
  refine congrArg _ ?_
  blk_ext [idx2 t]

theorem blk3 (t : Fin cfg0.N) (r : Fin 256) (q : Fin 1024) : iblk m c 3 t (ix2 r q) = (m ((c : Thread nD τ).loc main_arg3)) (ix2 (gr t r) q) := by
  rw [← V_main_arg3 m c]
  blk_simp [iblk]
  refine congrArg _ ?_
  blk_ext [idx3 t]

theorem out4 (X0 X1 X2 X3 : Vec Ideal S256x1024 .f32) (r : Fin 256) (q : Fin 1024) : out0_4 X0 X1 X2 X3 (ix2 r q) = X1 (ix2 r q) := by
  skip
  skip
  unfold out0_4
  frame_out
  try pointwise []

theorem out5 (X0 X1 X2 X3 : Vec Ideal S256x1024 .f32) (r : Fin 256) (q : Fin 1024) : out0_5 X0 X1 X2 X3 (ix2 r q) = aD (X0 (ix2 r q)) (X1 (ix2 r q)) (X2 (ix2 r q)) (X3 (ix2 r q)) := by
  unfold aD
  unfold aM aV
  unfold out0_5
  frame_out
  pointwise [k0_pay3, k0_pay1, k0_pay2]

theorem out6 (X0 X1 X2 X3 : Vec Ideal S256x1024 .f32) (r : Fin 256) (q : Fin 1024) : out0_6 X0 X1 X2 X3 (ix2 r q) = aM (X1 (ix2 r q)) (X2 (ix2 r q)) := by
  unfold aM
  skip
  unfold out0_6
  frame_out
  pointwise [k0_pay1]

theorem out7 (X0 X1 X2 X3 : Vec Ideal S256x1024 .f32) (r : Fin 256) (q : Fin 1024) : out0_7 X0 X1 X2 X3 (ix2 r q) = aV (X1 (ix2 r q)) (X3 (ix2 r q)) := by
  unfold aV
  skip
  unfold out0_7
  frame_out
  pointwise [k0_pay2]

theorem res4 : (dats m 0 c).arrAt 4 cfg0.N = fun y : S256x1024.Idx => (m ((c : Thread nD τ).loc main_arg1)) y := by
  refine (dats m 0 c).arrAt_eq_of_covers 4 _ (by decide +kernel) fun t hf y => ?_
  blk_simp
  rw [after0_4]
  idx_vars y
  have e : ((win0_4.blk t).view.emb (ix2 y0 y1) : S256x1024.Idx) = ix2 (gr t y0) y1 := by blk_ext [idx4 t]
  rw [e]
  refine (out4 _ _ _ _ y0 y1).trans ?_
  simp only [blk1]

theorem res5 : (dats m 0 c).arrAt 5 cfg0.N = fun y : S256x1024.Idx => aD ((m ((c : Thread nD τ).loc main_arg0)) y) ((m ((c : Thread nD τ).loc main_arg1)) y) ((m ((c : Thread nD τ).loc main_arg2)) y) ((m ((c : Thread nD τ).loc main_arg3)) y) := by
  refine (dats m 0 c).arrAt_eq_of_covers 5 _ (by decide +kernel) fun t hf y => ?_
  blk_simp
  rw [after0_5]
  idx_vars y
  have e : ((win0_5.blk t).view.emb (ix2 y0 y1) : S256x1024.Idx) = ix2 (gr t y0) y1 := by blk_ext [idx5 t]
  rw [e]
  refine (out5 _ _ _ _ y0 y1).trans ?_
  simp only [blk0, blk1, blk2, blk3]

theorem res6 : (dats m 0 c).arrAt 6 cfg0.N = fun y : S256x1024.Idx => aM ((m ((c : Thread nD τ).loc main_arg1)) y) ((m ((c : Thread nD τ).loc main_arg2)) y) := by
  refine (dats m 0 c).arrAt_eq_of_covers 6 _ (by decide +kernel) fun t hf y => ?_
  blk_simp
  rw [after0_6]
  idx_vars y
  have e : ((win0_6.blk t).view.emb (ix2 y0 y1) : S256x1024.Idx) = ix2 (gr t y0) y1 := by blk_ext [idx6 t]
  rw [e]
  refine (out6 _ _ _ _ y0 y1).trans ?_
  simp only [blk1, blk2]

theorem res7 : (dats m 0 c).arrAt 7 cfg0.N = fun y : S256x1024.Idx => aV ((m ((c : Thread nD τ).loc main_arg1)) y) ((m ((c : Thread nD τ).loc main_arg3)) y) := by
  refine (dats m 0 c).arrAt_eq_of_covers 7 _ (by decide +kernel) fun t hf y => ?_
  blk_simp
  rw [after0_7]
  idx_vars y
  have e : ((win0_7.blk t).view.emb (ix2 y0 y1) : S256x1024.Idx) = ix2 (gr t y0) y1 := by blk_ext [idx7 t]
  rw [e]
  refine (out7 _ _ _ _ y0 y1).trans ?_
  simp only [blk1, blk3]

end Cert.Kernel9Ideal.Hand

namespace Cert.Adam

open Idealize.ShloMosaic Idealize.ShloMosaic.TcCoe Idealize.ShloMosaic.Tactic Idealize.SL.Sem
open Cert.Reference9Ideal Cert.Reference9Ideal.Read

theorem refD9 (x0 x1 x2 x3) : val_main_v23 (F := Ideal) x0 x1 x2 x3 = fun y : S256x1024.Idx => aD (x0 y) (x1 y) (x2 y) (x3 y) := by
  funext y
  idx_vars y
  unfold aD aM aV
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem refM9 (x1 x2) : val_main_v4 (F := Ideal) x1 x2 = fun y : S256x1024.Idx => aM (x1 y) (x2 y) := by
  funext y
  idx_vars y
  unfold aM
  pointwise [val_main_v4, val_main_v3, val_main_v2, val_main_v1, val_main_v0, val_main_cst, val_main_cst_0]

theorem refV9 (x1 x3) : val_main_v10 (F := Ideal) x1 x3 = fun y : S256x1024.Idx => aV (x1 y) (x3 y) := by
  funext y
  idx_vars y
  unfold aV
  pointwise [val_main_v10, val_main_v9, val_main_v8, val_main_v7, val_main_v6, val_main_v5, val_main_cst_1, val_main_cst_2]

theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono
    (fun _ h => ⟨fun c => (h c).2.2.2.2, funext fun q => by rcases q with ⟨_, q | q⟩ <;> exact q.elim0⟩) (Cert.Reference9Ideal.Value.run (F := Ideal) m ρ)

theorem algebraic9 : Cert.algebraic_Kernel9Ideal_Reference9Ideal := by
  intro m g m' g' _ hag
  refine ⟨fun c => (m (c.tc.loc Cert.Kernel9Ideal.main_arg1)),
    fun c => (fun y : S256x1024.Idx => aD ((m (c.tc.loc Cert.Kernel9Ideal.main_arg0)) y) ((m (c.tc.loc Cert.Kernel9Ideal.main_arg1)) y) ((m (c.tc.loc Cert.Kernel9Ideal.main_arg2)) y) ((m (c.tc.loc Cert.Kernel9Ideal.main_arg3)) y)),
    fun c => (fun y : S256x1024.Idx => aM ((m (c.tc.loc Cert.Kernel9Ideal.main_arg1)) y) ((m (c.tc.loc Cert.Kernel9Ideal.main_arg2)) y)),
    fun c => (fun y : S256x1024.Idx => aV ((m (c.tc.loc Cert.Kernel9Ideal.main_arg1)) y) ((m (c.tc.loc Cert.Kernel9Ideal.main_arg3)) y)), ?_, ?_⟩
  · refine (θ_run Cert.Kernel9Ideal.defs _ _).mono (fun r h c => ?_) (Cert.Kernel9Ideal.Value.run_blocks (F := Ideal) m g)
    obtain ⟨h0, h1, h2, h3, hk⟩ := h c
    exact ⟨h0.trans (Cert.Kernel9Ideal.Hand.res4 m c), h1.trans (Cert.Kernel9Ideal.Hand.res5 m c), h2.trans (Cert.Kernel9Ideal.Hand.res6 m c), h3.trans (Cert.Kernel9Ideal.Hand.res7 m c), hk⟩
  · refine (θ_run Cert.Reference9Ideal.defs _ _).mono (fun r h c => ?_) (Cert.Reference9Ideal.Value.run (F := Ideal) m' g')
    obtain ⟨h0, h1, h2, h3, hk⟩ := h c
    obtain ⟨a0, a1, a2, a3⟩ := hag c
    refine ⟨h0.trans a1, h1.trans ?_, h2.trans ?_, h3.trans ?_, hk⟩
    · have e : (fun y : S256x1024.Idx => aD ((m' (c.tc.loc Cert.Reference9Ideal.main_arg0)) y) ((m' (c.tc.loc Cert.Reference9Ideal.main_arg1)) y) ((m' (c.tc.loc Cert.Reference9Ideal.main_arg2)) y) ((m' (c.tc.loc Cert.Reference9Ideal.main_arg3)) y))
          = (fun y : S256x1024.Idx => aD ((m (c.tc.loc Cert.Kernel9Ideal.main_arg0)) y) ((m (c.tc.loc Cert.Kernel9Ideal.main_arg1)) y) ((m (c.tc.loc Cert.Kernel9Ideal.main_arg2)) y) ((m (c.tc.loc Cert.Kernel9Ideal.main_arg3)) y)) := by rw [a0, a1, a2, a3]
      exact ((val_main_v23_eq (F := Ideal) _ _ _ _).trans (refD9 _ _ _ _)).trans e
    · have e : (fun y : S256x1024.Idx => aM ((m' (c.tc.loc Cert.Reference9Ideal.main_arg1)) y) ((m' (c.tc.loc Cert.Reference9Ideal.main_arg2)) y))
          = (fun y : S256x1024.Idx => aM ((m (c.tc.loc Cert.Kernel9Ideal.main_arg1)) y) ((m (c.tc.loc Cert.Kernel9Ideal.main_arg2)) y)) := by rw [a1, a2]
      exact ((val_main_v4_eq (F := Ideal) _ _).trans (refM9 _ _)).trans e
    · have e : (fun y : S256x1024.Idx => aV ((m' (c.tc.loc Cert.Reference9Ideal.main_arg1)) y) ((m' (c.tc.loc Cert.Reference9Ideal.main_arg3)) y))
          = (fun y : S256x1024.Idx => aV ((m (c.tc.loc Cert.Kernel9Ideal.main_arg1)) y) ((m (c.tc.loc Cert.Kernel9Ideal.main_arg3)) y)) := by rw [a1, a3]
      exact ((val_main_v10_eq (F := Ideal) _ _).trans (refV9 _ _)).trans e

end Cert.Adam

end
-- ==== Proof.Adam10.lean ====
/-
  The optimiser's step on a 1024 by 1024 weight, in blocks of 256 rows.
-/
module

public import proofs.«01_k».proof.Defs
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.AdamSpec
public import Idealize.ShloMosaic.Lib.Pointwise
public import Idealize.ShloMosaic.Lib.Pipeline.ValueKit

@[expose] public section

set_option maxRecDepth 16384

noncomputable section

namespace Cert.Kernel10Ideal.Hand

open Idealize.ShloMosaic Idealize.ShloMosaic.TcCoe Idealize.ShloMosaic.Tactic
open Idealize.SL Idealize.SL.Sem
open Idealize.ShloMosaic.Pipeline (Dat Cfg Window cellOf)
open Cert.Kernel10Ideal.Gen
open Cert.Adam

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

theorem ltN (t : Fin cfg0.N) : t.val < 4 := t.isLt

/-- Row `r` of block `t`. -/
abbrev gr (t : Fin cfg0.N) (r : Fin 256) : Fin 1024 := ⟨t.val * 256 + r.val, by have := ltN t; omega⟩

theorem blk0 (t : Fin cfg0.N) (r : Fin 256) (q : Fin 1024) : iblk m c 0 t (ix2 r q) = (m ((c : Thread nD τ).loc main_arg0)) (ix2 (gr t r) q) := by
  rw [← V_main_arg0 m c]
  blk_simp [iblk]
  refine congrArg _ ?_
  blk_ext [idx0 t]

theorem blk1 (t : Fin cfg0.N) (r : Fin 256) (q : Fin 1024) : iblk m c 1 t (ix2 r q) = (m ((c : Thread nD τ).loc main_arg1)) (ix2 (gr t r) q) := by
  rw [← V_main_arg1 m c]
  blk_simp [iblk]
  refine congrArg _ ?_
  blk_ext [idx1 t]

theorem blk2 (t : Fin cfg0.N) (r : Fin 256) (q : Fin 1024) : iblk m c 2 t (ix2 r q) = (m ((c : Thread nD τ).loc main_arg2)) (ix2 (gr t r) q) := by
  rw [← V_main_arg2 m c]
  blk_simp [iblk]
  refine congrArg _ ?_
  blk_ext [idx2 t]

theorem blk3 (t : Fin cfg0.N) (r : Fin 256) (q : Fin 1024) : iblk m c 3 t (ix2 r q) = (m ((c : Thread nD τ).loc main_arg3)) (ix2 (gr t r) q) := by
  rw [← V_main_arg3 m c]
  blk_simp [iblk]
  refine congrArg _ ?_
  blk_ext [idx3 t]

theorem out4 (X0 X1 X2 X3 : Vec Ideal S256x1024 .f32) (r : Fin 256) (q : Fin 1024) : out0_4 X0 X1 X2 X3 (ix2 r q) = X1 (ix2 r q) := by
  skip
  skip
  unfold out0_4
  frame_out
  try pointwise []

theorem out5 (X0 X1 X2 X3 : Vec Ideal S256x1024 .f32) (r : Fin 256) (q : Fin 1024) : out0_5 X0 X1 X2 X3 (ix2 r q) = aD (X0 (ix2 r q)) (X1 (ix2 r q)) (X2 (ix2 r q)) (X3 (ix2 r q)) := by
  unfold aD
  unfold aM aV
  unfold out0_5
  frame_out
  pointwise [k0_pay3, k0_pay1, k0_pay2]

theorem out6 (X0 X1 X2 X3 : Vec Ideal S256x1024 .f32) (r : Fin 256) (q : Fin 1024) : out0_6 X0 X1 X2 X3 (ix2 r q) = aM (X1 (ix2 r q)) (X2 (ix2 r q)) := by
  unfold aM
  skip
  unfold out0_6
  frame_out
  pointwise [k0_pay1]

theorem out7 (X0 X1 X2 X3 : Vec Ideal S256x1024 .f32) (r : Fin 256) (q : Fin 1024) : out0_7 X0 X1 X2 X3 (ix2 r q) = aV (X1 (ix2 r q)) (X3 (ix2 r q)) := by
  unfold aV
  skip
  unfold out0_7
  frame_out
  pointwise [k0_pay2]

theorem res4 : (dats m 0 c).arrAt 4 cfg0.N = fun y : S1024x1024.Idx => (m ((c : Thread nD τ).loc main_arg1)) y := by
  refine (dats m 0 c).arrAt_eq_of_covers 4 _ (by decide +kernel) fun t hf y => ?_
  blk_simp
  rw [after0_4]
  idx_vars y
  have e : ((win0_4.blk t).view.emb (ix2 y0 y1) : S1024x1024.Idx) = ix2 (gr t y0) y1 := by blk_ext [idx4 t]
  rw [e]
  refine (out4 _ _ _ _ y0 y1).trans ?_
  simp only [blk1]

theorem res5 : (dats m 0 c).arrAt 5 cfg0.N = fun y : S1024x1024.Idx => aD ((m ((c : Thread nD τ).loc main_arg0)) y) ((m ((c : Thread nD τ).loc main_arg1)) y) ((m ((c : Thread nD τ).loc main_arg2)) y) ((m ((c : Thread nD τ).loc main_arg3)) y) := by
  refine (dats m 0 c).arrAt_eq_of_covers 5 _ (by decide +kernel) fun t hf y => ?_
  blk_simp
  rw [after0_5]
  idx_vars y
  have e : ((win0_5.blk t).view.emb (ix2 y0 y1) : S1024x1024.Idx) = ix2 (gr t y0) y1 := by blk_ext [idx5 t]
  rw [e]
  refine (out5 _ _ _ _ y0 y1).trans ?_
  simp only [blk0, blk1, blk2, blk3]

theorem res6 : (dats m 0 c).arrAt 6 cfg0.N = fun y : S1024x1024.Idx => aM ((m ((c : Thread nD τ).loc main_arg1)) y) ((m ((c : Thread nD τ).loc main_arg2)) y) := by
  refine (dats m 0 c).arrAt_eq_of_covers 6 _ (by decide +kernel) fun t hf y => ?_
  blk_simp
  rw [after0_6]
  idx_vars y
  have e : ((win0_6.blk t).view.emb (ix2 y0 y1) : S1024x1024.Idx) = ix2 (gr t y0) y1 := by blk_ext [idx6 t]
  rw [e]
  refine (out6 _ _ _ _ y0 y1).trans ?_
  simp only [blk1, blk2]

theorem res7 : (dats m 0 c).arrAt 7 cfg0.N = fun y : S1024x1024.Idx => aV ((m ((c : Thread nD τ).loc main_arg1)) y) ((m ((c : Thread nD τ).loc main_arg3)) y) := by
  refine (dats m 0 c).arrAt_eq_of_covers 7 _ (by decide +kernel) fun t hf y => ?_
  blk_simp
  rw [after0_7]
  idx_vars y
  have e : ((win0_7.blk t).view.emb (ix2 y0 y1) : S1024x1024.Idx) = ix2 (gr t y0) y1 := by blk_ext [idx7 t]
  rw [e]
  refine (out7 _ _ _ _ y0 y1).trans ?_
  simp only [blk1, blk3]

end Cert.Kernel10Ideal.Hand

namespace Cert.Adam

open Idealize.ShloMosaic Idealize.ShloMosaic.TcCoe Idealize.ShloMosaic.Tactic Idealize.SL.Sem
open Cert.Reference10Ideal Cert.Reference10Ideal.Read

theorem refD10 (x0 x1 x2 x3) : val_main_v23 (F := Ideal) x0 x1 x2 x3 = fun y : S1024x1024.Idx => aD (x0 y) (x1 y) (x2 y) (x3 y) := by
  funext y
  idx_vars y
  unfold aD aM aV
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem refM10 (x1 x2) : val_main_v4 (F := Ideal) x1 x2 = fun y : S1024x1024.Idx => aM (x1 y) (x2 y) := by
  funext y
  idx_vars y
  unfold aM
  pointwise [val_main_v4, val_main_v3, val_main_v2, val_main_v1, val_main_v0, val_main_cst, val_main_cst_0]

theorem refV10 (x1 x3) : val_main_v10 (F := Ideal) x1 x3 = fun y : S1024x1024.Idx => aV (x1 y) (x3 y) := by
  funext y
  idx_vars y
  unfold aV
  pointwise [val_main_v10, val_main_v9, val_main_v8, val_main_v7, val_main_v6, val_main_v5, val_main_cst_1, val_main_cst_2]

theorem frame_kernel10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := fun m ρ _ =>
  (θ_run Cert.Reference10Ideal.defs _ _).mono
    (fun _ h => ⟨fun c => (h c).2.2.2.2, funext fun q => by rcases q with ⟨_, q | q⟩ <;> exact q.elim0⟩) (Cert.Reference10Ideal.Value.run (F := Ideal) m ρ)

theorem algebraic10 : Cert.algebraic_Kernel10Ideal_Reference10Ideal := by
  intro m g m' g' _ hag
  refine ⟨fun c => (m (c.tc.loc Cert.Kernel10Ideal.main_arg1)),
    fun c => (fun y : S1024x1024.Idx => aD ((m (c.tc.loc Cert.Kernel10Ideal.main_arg0)) y) ((m (c.tc.loc Cert.Kernel10Ideal.main_arg1)) y) ((m (c.tc.loc Cert.Kernel10Ideal.main_arg2)) y) ((m (c.tc.loc Cert.Kernel10Ideal.main_arg3)) y)),
    fun c => (fun y : S1024x1024.Idx => aM ((m (c.tc.loc Cert.Kernel10Ideal.main_arg1)) y) ((m (c.tc.loc Cert.Kernel10Ideal.main_arg2)) y)),
    fun c => (fun y : S1024x1024.Idx => aV ((m (c.tc.loc Cert.Kernel10Ideal.main_arg1)) y) ((m (c.tc.loc Cert.Kernel10Ideal.main_arg3)) y)), ?_, ?_⟩
  · refine (θ_run Cert.Kernel10Ideal.defs _ _).mono (fun r h c => ?_) (Cert.Kernel10Ideal.Value.run_blocks (F := Ideal) m g)
    obtain ⟨h0, h1, h2, h3, hk⟩ := h c
    exact ⟨h0.trans (Cert.Kernel10Ideal.Hand.res4 m c), h1.trans (Cert.Kernel10Ideal.Hand.res5 m c), h2.trans (Cert.Kernel10Ideal.Hand.res6 m c), h3.trans (Cert.Kernel10Ideal.Hand.res7 m c), hk⟩
  · refine (θ_run Cert.Reference10Ideal.defs _ _).mono (fun r h c => ?_) (Cert.Reference10Ideal.Value.run (F := Ideal) m' g')
    obtain ⟨h0, h1, h2, h3, hk⟩ := h c
    obtain ⟨a0, a1, a2, a3⟩ := hag c
    refine ⟨h0.trans a1, h1.trans ?_, h2.trans ?_, h3.trans ?_, hk⟩
    · have e : (fun y : S1024x1024.Idx => aD ((m' (c.tc.loc Cert.Reference10Ideal.main_arg0)) y) ((m' (c.tc.loc Cert.Reference10Ideal.main_arg1)) y) ((m' (c.tc.loc Cert.Reference10Ideal.main_arg2)) y) ((m' (c.tc.loc Cert.Reference10Ideal.main_arg3)) y))
          = (fun y : S1024x1024.Idx => aD ((m (c.tc.loc Cert.Kernel10Ideal.main_arg0)) y) ((m (c.tc.loc Cert.Kernel10Ideal.main_arg1)) y) ((m (c.tc.loc Cert.Kernel10Ideal.main_arg2)) y) ((m (c.tc.loc Cert.Kernel10Ideal.main_arg3)) y)) := by rw [a0, a1, a2, a3]
      exact ((val_main_v23_eq (F := Ideal) _ _ _ _).trans (refD10 _ _ _ _)).trans e
    · have e : (fun y : S1024x1024.Idx => aM ((m' (c.tc.loc Cert.Reference10Ideal.main_arg1)) y) ((m' (c.tc.loc Cert.Reference10Ideal.main_arg2)) y))
          = (fun y : S1024x1024.Idx => aM ((m (c.tc.loc Cert.Kernel10Ideal.main_arg1)) y) ((m (c.tc.loc Cert.Kernel10Ideal.main_arg2)) y)) := by rw [a1, a2]
      exact ((val_main_v4_eq (F := Ideal) _ _).trans (refM10 _ _)).trans e
    · have e : (fun y : S1024x1024.Idx => aV ((m' (c.tc.loc Cert.Reference10Ideal.main_arg1)) y) ((m' (c.tc.loc Cert.Reference10Ideal.main_arg3)) y))
          = (fun y : S1024x1024.Idx => aV ((m (c.tc.loc Cert.Kernel10Ideal.main_arg1)) y) ((m (c.tc.loc Cert.Kernel10Ideal.main_arg3)) y)) := by rw [a1, a3]
      exact ((val_main_v10_eq (F := Ideal) _ _).trans (refV10 _ _)).trans e

end Cert.Adam

end
-- ==== Proof.Adam11.lean ====
/-
  The optimiser's step on a 1024 by 1024 weight, in blocks of 256 rows.
-/
module

public import proofs.«01_k».proof.Defs
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.AdamSpec
public import Idealize.ShloMosaic.Lib.Pointwise
public import Idealize.ShloMosaic.Lib.Pipeline.ValueKit

@[expose] public section

set_option maxRecDepth 16384

noncomputable section

namespace Cert.Kernel11Ideal.Hand

open Idealize.ShloMosaic Idealize.ShloMosaic.TcCoe Idealize.ShloMosaic.Tactic
open Idealize.SL Idealize.SL.Sem
open Idealize.ShloMosaic.Pipeline (Dat Cfg Window cellOf)
open Cert.Kernel11Ideal.Gen
open Cert.Adam

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])

theorem ltN (t : Fin cfg0.N) : t.val < 4 := t.isLt

/-- Row `r` of block `t`. -/
abbrev gr (t : Fin cfg0.N) (r : Fin 256) : Fin 1024 := ⟨t.val * 256 + r.val, by have := ltN t; omega⟩

theorem blk0 (t : Fin cfg0.N) (r : Fin 256) (q : Fin 1024) : iblk m c 0 t (ix2 r q) = (m ((c : Thread nD τ).loc main_arg0)) (ix2 (gr t r) q) := by
  rw [← V_main_arg0 m c]
  blk_simp [iblk]
  refine congrArg _ ?_
  blk_ext [idx0 t]

theorem blk1 (t : Fin cfg0.N) (r : Fin 256) (q : Fin 1024) : iblk m c 1 t (ix2 r q) = (m ((c : Thread nD τ).loc main_arg1)) (ix2 (gr t r) q) := by
  rw [← V_main_arg1 m c]
  blk_simp [iblk]
  refine congrArg _ ?_
  blk_ext [idx1 t]

theorem blk2 (t : Fin cfg0.N) (r : Fin 256) (q : Fin 1024) : iblk m c 2 t (ix2 r q) = (m ((c : Thread nD τ).loc main_arg2)) (ix2 (gr t r) q) := by
  rw [← V_main_arg2 m c]
  blk_simp [iblk]
  refine congrArg _ ?_
  blk_ext [idx2 t]

theorem blk3 (t : Fin cfg0.N) (r : Fin 256) (q : Fin 1024) : iblk m c 3 t (ix2 r q) = (m ((c : Thread nD τ).loc main_arg3)) (ix2 (gr t r) q) := by
  rw [← V_main_arg3 m c]
  blk_simp [iblk]
  refine congrArg _ ?_
  blk_ext [idx3 t]

theorem out4 (X0 X1 X2 X3 : Vec Ideal S256x1024 .f32) (r : Fin 256) (q : Fin 1024) : out0_4 X0 X1 X2 X3 (ix2 r q) = X1 (ix2 r q) := by
  skip
  skip
  unfold out0_4
  frame_out
  try pointwise []

theorem out5 (X0 X1 X2 X3 : Vec Ideal S256x1024 .f32) (r : Fin 256) (q : Fin 1024) : out0_5 X0 X1 X2 X3 (ix2 r q) = aD (X0 (ix2 r q)) (X1 (ix2 r q)) (X2 (ix2 r q)) (X3 (ix2 r q)) := by
  unfold aD
  unfold aM aV
  unfold out0_5
  frame_out
  pointwise [k0_pay3, k0_pay1, k0_pay2]

theorem out6 (X0 X1 X2 X3 : Vec Ideal S256x1024 .f32) (r : Fin 256) (q : Fin 1024) : out0_6 X0 X1 X2 X3 (ix2 r q) = aM (X1 (ix2 r q)) (X2 (ix2 r q)) := by
  unfold aM
  skip
  unfold out0_6
  frame_out
  pointwise [k0_pay1]

theorem out7 (X0 X1 X2 X3 : Vec Ideal S256x1024 .f32) (r : Fin 256) (q : Fin 1024) : out0_7 X0 X1 X2 X3 (ix2 r q) = aV (X1 (ix2 r q)) (X3 (ix2 r q)) := by
  unfold aV
  skip
  unfold out0_7
  frame_out
  pointwise [k0_pay2]

theorem res4 : (dats m 0 c).arrAt 4 cfg0.N = fun y : S1024x1024.Idx => (m ((c : Thread nD τ).loc main_arg1)) y := by
  refine (dats m 0 c).arrAt_eq_of_covers 4 _ (by decide +kernel) fun t hf y => ?_
  blk_simp
  rw [after0_4]
  idx_vars y
  have e : ((win0_4.blk t).view.emb (ix2 y0 y1) : S1024x1024.Idx) = ix2 (gr t y0) y1 := by blk_ext [idx4 t]
  rw [e]
  refine (out4 _ _ _ _ y0 y1).trans ?_
  simp only [blk1]

theorem res5 : (dats m 0 c).arrAt 5 cfg0.N = fun y : S1024x1024.Idx => aD ((m ((c : Thread nD τ).loc main_arg0)) y) ((m ((c : Thread nD τ).loc main_arg1)) y) ((m ((c : Thread nD τ).loc main_arg2)) y) ((m ((c : Thread nD τ).loc main_arg3)) y) := by
  refine (dats m 0 c).arrAt_eq_of_covers 5 _ (by decide +kernel) fun t hf y => ?_
  blk_simp
  rw [after0_5]
  idx_vars y
  have e : ((win0_5.blk t).view.emb (ix2 y0 y1) : S1024x1024.Idx) = ix2 (gr t y0) y1 := by blk_ext [idx5 t]
  rw [e]
  refine (out5 _ _ _ _ y0 y1).trans ?_
  simp only [blk0, blk1, blk2, blk3]

theorem res6 : (dats m 0 c).arrAt 6 cfg0.N = fun y : S1024x1024.Idx => aM ((m ((c : Thread nD τ).loc main_arg1)) y) ((m ((c : Thread nD τ).loc main_arg2)) y) := by
  refine (dats m 0 c).arrAt_eq_of_covers 6 _ (by decide +kernel) fun t hf y => ?_
  blk_simp
  rw [after0_6]
  idx_vars y
  have e : ((win0_6.blk t).view.emb (ix2 y0 y1) : S1024x1024.Idx) = ix2 (gr t y0) y1 := by blk_ext [idx6 t]
  rw [e]
  refine (out6 _ _ _ _ y0 y1).trans ?_
  simp only [blk1, blk2]

theorem res7 : (dats m 0 c).arrAt 7 cfg0.N = fun y : S1024x1024.Idx => aV ((m ((c : Thread nD τ).loc main_arg1)) y) ((m ((c : Thread nD τ).loc main_arg3)) y) := by
  refine (dats m 0 c).arrAt_eq_of_covers 7 _ (by decide +kernel) fun t hf y => ?_
  blk_simp
  rw [after0_7]
  idx_vars y
  have e : ((win0_7.blk t).view.emb (ix2 y0 y1) : S1024x1024.Idx) = ix2 (gr t y0) y1 := by blk_ext [idx7 t]
  rw [e]
  refine (out7 _ _ _ _ y0 y1).trans ?_
  simp only [blk1, blk3]

end Cert.Kernel11Ideal.Hand

namespace Cert.Adam

open Idealize.ShloMosaic Idealize.ShloMosaic.TcCoe Idealize.ShloMosaic.Tactic Idealize.SL.Sem
open Cert.Reference11Ideal Cert.Reference11Ideal.Read

theorem refD11 (x0 x1 x2 x3) : val_main_v23 (F := Ideal) x0 x1 x2 x3 = fun y : S1024x1024.Idx => aD (x0 y) (x1 y) (x2 y) (x3 y) := by
  funext y
  idx_vars y
  unfold aD aM aV
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem refM11 (x1 x2) : val_main_v4 (F := Ideal) x1 x2 = fun y : S1024x1024.Idx => aM (x1 y) (x2 y) := by
  funext y
  idx_vars y
  unfold aM
  pointwise [val_main_v4, val_main_v3, val_main_v2, val_main_v1, val_main_v0, val_main_cst, val_main_cst_0]

theorem refV11 (x1 x3) : val_main_v10 (F := Ideal) x1 x3 = fun y : S1024x1024.Idx => aV (x1 y) (x3 y) := by
  funext y
  idx_vars y
  unfold aV
  pointwise [val_main_v10, val_main_v9, val_main_v8, val_main_v7, val_main_v6, val_main_v5, val_main_cst_1, val_main_cst_2]

theorem frame_kernel11 : Cert.quiescent_Kernel11 := fun m ρ _ => Cert.Kernel11.Gen.frame m ρ

theorem frame_ideal11 : Cert.quiescent_Kernel11Ideal := fun m ρ _ => Cert.Kernel11Ideal.Gen.frame m ρ

theorem frame_reference11 : Cert.quiescent_Reference11Ideal := fun m ρ _ =>
  (θ_run Cert.Reference11Ideal.defs _ _).mono
    (fun _ h => ⟨fun c => (h c).2.2.2.2, funext fun q => by rcases q with ⟨_, q | q⟩ <;> exact q.elim0⟩) (Cert.Reference11Ideal.Value.run (F := Ideal) m ρ)

theorem algebraic11 : Cert.algebraic_Kernel11Ideal_Reference11Ideal := by
  intro m g m' g' _ hag
  refine ⟨fun c => (m (c.tc.loc Cert.Kernel11Ideal.main_arg1)),
    fun c => (fun y : S1024x1024.Idx => aD ((m (c.tc.loc Cert.Kernel11Ideal.main_arg0)) y) ((m (c.tc.loc Cert.Kernel11Ideal.main_arg1)) y) ((m (c.tc.loc Cert.Kernel11Ideal.main_arg2)) y) ((m (c.tc.loc Cert.Kernel11Ideal.main_arg3)) y)),
    fun c => (fun y : S1024x1024.Idx => aM ((m (c.tc.loc Cert.Kernel11Ideal.main_arg1)) y) ((m (c.tc.loc Cert.Kernel11Ideal.main_arg2)) y)),
    fun c => (fun y : S1024x1024.Idx => aV ((m (c.tc.loc Cert.Kernel11Ideal.main_arg1)) y) ((m (c.tc.loc Cert.Kernel11Ideal.main_arg3)) y)), ?_, ?_⟩
  · refine (θ_run Cert.Kernel11Ideal.defs _ _).mono (fun r h c => ?_) (Cert.Kernel11Ideal.Value.run_blocks (F := Ideal) m g)
    obtain ⟨h0, h1, h2, h3, hk⟩ := h c
    exact ⟨h0.trans (Cert.Kernel11Ideal.Hand.res4 m c), h1.trans (Cert.Kernel11Ideal.Hand.res5 m c), h2.trans (Cert.Kernel11Ideal.Hand.res6 m c), h3.trans (Cert.Kernel11Ideal.Hand.res7 m c), hk⟩
  · refine (θ_run Cert.Reference11Ideal.defs _ _).mono (fun r h c => ?_) (Cert.Reference11Ideal.Value.run (F := Ideal) m' g')
    obtain ⟨h0, h1, h2, h3, hk⟩ := h c
    obtain ⟨a0, a1, a2, a3⟩ := hag c
    refine ⟨h0.trans a1, h1.trans ?_, h2.trans ?_, h3.trans ?_, hk⟩
    · have e : (fun y : S1024x1024.Idx => aD ((m' (c.tc.loc Cert.Reference11Ideal.main_arg0)) y) ((m' (c.tc.loc Cert.Reference11Ideal.main_arg1)) y) ((m' (c.tc.loc Cert.Reference11Ideal.main_arg2)) y) ((m' (c.tc.loc Cert.Reference11Ideal.main_arg3)) y))
          = (fun y : S1024x1024.Idx => aD ((m (c.tc.loc Cert.Kernel11Ideal.main_arg0)) y) ((m (c.tc.loc Cert.Kernel11Ideal.main_arg1)) y) ((m (c.tc.loc Cert.Kernel11Ideal.main_arg2)) y) ((m (c.tc.loc Cert.Kernel11Ideal.main_arg3)) y)) := by rw [a0, a1, a2, a3]
      exact ((val_main_v23_eq (F := Ideal) _ _ _ _).trans (refD11 _ _ _ _)).trans e
    · have e : (fun y : S1024x1024.Idx => aM ((m' (c.tc.loc Cert.Reference11Ideal.main_arg1)) y) ((m' (c.tc.loc Cert.Reference11Ideal.main_arg2)) y))
          = (fun y : S1024x1024.Idx => aM ((m (c.tc.loc Cert.Kernel11Ideal.main_arg1)) y) ((m (c.tc.loc Cert.Kernel11Ideal.main_arg2)) y)) := by rw [a1, a2]
      exact ((val_main_v4_eq (F := Ideal) _ _).trans (refM11 _ _)).trans e
    · have e : (fun y : S1024x1024.Idx => aV ((m' (c.tc.loc Cert.Reference11Ideal.main_arg1)) y) ((m' (c.tc.loc Cert.Reference11Ideal.main_arg3)) y))
          = (fun y : S1024x1024.Idx => aV ((m (c.tc.loc Cert.Kernel11Ideal.main_arg1)) y) ((m (c.tc.loc Cert.Kernel11Ideal.main_arg3)) y)) := by rw [a1, a3]
      exact ((val_main_v10_eq (F := Ideal) _ _).trans (refV11 _ _)).trans e

end Cert.Adam

end
-- ==== Proof.Adam12.lean ====
/-
  The optimiser's step on the modulation's weight, with the weight's gradient computed from the conditioning.
-/
module

public import proofs.«01_k».proof.Defs
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.AdamSpec
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Adam

open Idealize.ShloMosaic

/-- The activation of one entry of the conditioning, and the gradient of the modulation's weight. -/
def act (x : EReal) : EReal := x * Ideal.div (Ideal.ofBits .f32 0x3F800000#32) (Ideal.ofBits .f32 0x3F800000#32 + Ideal.exp (-x))
def gAda (x : (⟨2, ![16, 1024]⟩ : Shape).Idx → EReal) (d : (⟨2, ![16, 1536]⟩ : Shape).Idx → EReal) (k : Fin 1024) (q : Fin 1536) : EReal :=
  ∑ b : Fin 16, act (x (ix2 b k)) * d (ix2 b q)

end Cert.Adam

namespace Cert.Kernel12Ideal.Hand

open Idealize.ShloMosaic Idealize.ShloMosaic.TcCoe Idealize.ShloMosaic.Tactic
open Idealize.SL Idealize.SL.Sem
open Idealize.ShloMosaic.Pipeline (Dat Cfg Window cellOf)
open Cert.Kernel12Ideal.Gen
open Cert.Adam

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])

theorem ltN (t : Fin cfg0.N) : t.val < 4 := t.isLt

/-- Row `r` of block `t`. -/
abbrev gr (t : Fin cfg0.N) (r : Fin 256) : Fin 1024 := ⟨t.val * 256 + r.val, by have := ltN t; omega⟩

theorem host_act (k : Fin 1024) (b : Fin 16) : V m c main_v1 (ix2 k b) = act ((m ((c : Thread nD τ).loc main_arg0)) (ix2 b k)) := by
  unfold act V hostOps0 hostOps0_1
  after_reads_at

theorem blk0 (t : Fin cfg0.N) (r : Fin 256) (b : Fin 16) : iblk m c 0 t (ix2 r b) = act ((m ((c : Thread nD τ).loc main_arg0)) (ix2 b (gr t r))) := by
  rw [← host_act]
  blk_simp [iblk]
  refine congrArg _ ?_
  blk_ext [idx0 t]

theorem blk1 (t : Fin cfg0.N) (b : Fin 16) (q : Fin 1536) : iblk m c 1 t (ix2 b q) = (m ((c : Thread nD τ).loc main_arg1)) (ix2 b q) := by
  rw [← V_main_arg1 m c]
  blk_simp [iblk]
  refine congrArg _ ?_
  blk_ext [idx1 t]

theorem blk2 (t : Fin cfg0.N) (r : Fin 256) (q : Fin 1536) : iblk m c 2 t (ix2 r q) = (m ((c : Thread nD τ).loc main_arg2)) (ix2 (gr t r) q) := by
  rw [← V_main_arg2 m c]
  blk_simp [iblk]
  refine congrArg _ ?_
  blk_ext [idx2 t]

theorem blk3 (t : Fin cfg0.N) (r : Fin 256) (q : Fin 1536) : iblk m c 3 t (ix2 r q) = (m ((c : Thread nD τ).loc main_arg3)) (ix2 (gr t r) q) := by
  rw [← V_main_arg3 m c]
  blk_simp [iblk]
  refine congrArg _ ?_
  blk_ext [idx3 t]

theorem blk4 (t : Fin cfg0.N) (r : Fin 256) (q : Fin 1536) : iblk m c 4 t (ix2 r q) = (m ((c : Thread nD τ).loc main_arg4)) (ix2 (gr t r) q) := by
  rw [← V_main_arg4 m c]
  blk_simp [iblk]
  refine congrArg _ ?_
  blk_ext [idx4 t]

/-- The product of one block of the activations with the gradients. -/
def bg (X0 : Vec Ideal S256x16 .f32) (X1 : Vec Ideal S16x1536 .f32) (r : Fin 256) (q : Fin 1536) : EReal := ∑ b : Fin 16, X0 (ix2 r b) * X1 (ix2 b q)

theorem out5 (X0 : Vec Ideal S256x16 .f32) (X1 : Vec Ideal S16x1536 .f32) (X2 X3 X4 : Vec Ideal S256x1536 .f32) (r : Fin 256) (q : Fin 1536) : out0_5 X0 X1 X2 X3 X4 (ix2 r q) = bg X0 X1 r q := by
  unfold bg out0_5
  frame_out
  pointwise [k0_pay1]

theorem out6 (X0 : Vec Ideal S256x16 .f32) (X1 : Vec Ideal S16x1536 .f32) (X2 X3 X4 : Vec Ideal S256x1536 .f32) (r : Fin 256) (q : Fin 1536) : out0_6 X0 X1 X2 X3 X4 (ix2 r q) = aD (X2 (ix2 r q)) (bg X0 X1 r q) (X3 (ix2 r q)) (X4 (ix2 r q)) := by
  unfold aD aM aV bg out0_6
  frame_out
  pointwise [k0_pay4, k0_pay1, k0_pay2, k0_pay3]

theorem out7 (X0 : Vec Ideal S256x16 .f32) (X1 : Vec Ideal S16x1536 .f32) (X2 X3 X4 : Vec Ideal S256x1536 .f32) (r : Fin 256) (q : Fin 1536) : out0_7 X0 X1 X2 X3 X4 (ix2 r q) = aM (bg X0 X1 r q) (X3 (ix2 r q)) := by
  unfold aM bg out0_7
  frame_out
  pointwise [k0_pay1, k0_pay2]

theorem out8 (X0 : Vec Ideal S256x16 .f32) (X1 : Vec Ideal S16x1536 .f32) (X2 X3 X4 : Vec Ideal S256x1536 .f32) (r : Fin 256) (q : Fin 1536) : out0_8 X0 X1 X2 X3 X4 (ix2 r q) = aV (bg X0 X1 r q) (X4 (ix2 r q)) := by
  unfold aV bg out0_8
  frame_out
  pointwise [k0_pay1, k0_pay3]

theorem bg_blk (t : Fin cfg0.N) (r : Fin 256) (q : Fin 1536) : bg (iblk m c 0 t) (iblk m c 1 t) r q = gAda (m ((c : Thread nD τ).loc main_arg0)) (m ((c : Thread nD τ).loc main_arg1)) (gr t r) q := by
  unfold bg gAda
  exact Finset.sum_congr rfl fun b _ => congrArg₂ (· * ·) (blk0 m c t r b) (blk1 m c t b q)

theorem res5 : (dats m 0 c).arrAt 5 cfg0.N = (fun y : S1024x1536.Idx => gAda (m ((c : Thread nD τ).loc main_arg0)) (m ((c : Thread nD τ).loc main_arg1)) (y 0) (y 1)) := by
  refine (dats m 0 c).arrAt_eq_of_covers 5 _ (by decide +kernel) fun t hf y => ?_
  blk_simp
  rw [after0_5]
  idx_vars y
  have e : ((win0_5.blk t).view.emb (ix2 y0 y1) : S1024x1536.Idx) = ix2 (gr t y0) y1 := by blk_ext [idx5 t]
  rw [e]
  refine (out5 _ _ _ _ _ y0 y1).trans ?_
  exact bg_blk m c t y0 y1

theorem res6 : (dats m 0 c).arrAt 6 cfg0.N = (fun y : S1024x1536.Idx => aD ((m ((c : Thread nD τ).loc main_arg2)) y) (gAda (m ((c : Thread nD τ).loc main_arg0)) (m ((c : Thread nD τ).loc main_arg1)) (y 0) (y 1)) ((m ((c : Thread nD τ).loc main_arg3)) y) ((m ((c : Thread nD τ).loc main_arg4)) y)) := by
  refine (dats m 0 c).arrAt_eq_of_covers 6 _ (by decide +kernel) fun t hf y => ?_
  blk_simp
  rw [after0_6]
  idx_vars y
  have e : ((win0_6.blk t).view.emb (ix2 y0 y1) : S1024x1536.Idx) = ix2 (gr t y0) y1 := by blk_ext [idx6 t]
  rw [e]
  refine (out6 _ _ _ _ _ y0 y1).trans ?_
  simp only [bg_blk, blk2, blk3, blk4]
  rfl

theorem res7 : (dats m 0 c).arrAt 7 cfg0.N = (fun y : S1024x1536.Idx => aM (gAda (m ((c : Thread nD τ).loc main_arg0)) (m ((c : Thread nD τ).loc main_arg1)) (y 0) (y 1)) ((m ((c : Thread nD τ).loc main_arg3)) y)) := by
  refine (dats m 0 c).arrAt_eq_of_covers 7 _ (by decide +kernel) fun t hf y => ?_
  blk_simp
  rw [after0_7]
  idx_vars y
  have e : ((win0_7.blk t).view.emb (ix2 y0 y1) : S1024x1536.Idx) = ix2 (gr t y0) y1 := by blk_ext [idx7 t]
  rw [e]
  refine (out7 _ _ _ _ _ y0 y1).trans ?_
  simp only [bg_blk, blk3]
  rfl

theorem res8 : (dats m 0 c).arrAt 8 cfg0.N = (fun y : S1024x1536.Idx => aV (gAda (m ((c : Thread nD τ).loc main_arg0)) (m ((c : Thread nD τ).loc main_arg1)) (y 0) (y 1)) ((m ((c : Thread nD τ).loc main_arg4)) y)) := by
  refine (dats m 0 c).arrAt_eq_of_covers 8 _ (by decide +kernel) fun t hf y => ?_
  blk_simp
  rw [after0_8]
  idx_vars y
  have e : ((win0_8.blk t).view.emb (ix2 y0 y1) : S1024x1536.Idx) = ix2 (gr t y0) y1 := by blk_ext [idx8 t]
  rw [e]
  refine (out8 _ _ _ _ _ y0 y1).trans ?_
  simp only [bg_blk, blk4]
  rfl

end Cert.Kernel12Ideal.Hand

namespace Cert.Adam

open Idealize.ShloMosaic Idealize.ShloMosaic.TcCoe Idealize.ShloMosaic.Tactic Idealize.SL.Sem
open Cert.Reference12Ideal Cert.Reference12Ideal.Read

theorem refG12 (x0 x1) (k : Fin 1024) (q : Fin 1536) : val_main_v3 (F := Ideal) x0 x1 (ix2 k q) = gAda x0 x1 k q := by
  unfold gAda act
  pointwise [val_main_v3, val_main_v2, val_main_v0, val_main_call0_v0, val_main_call0_v1, val_main_call0_v2, val_main_call0_v3, val_main_call0_v4, val_main_call0_v5, val_main_call0_cst, val_main_call0_cst_0]
  exact Finset.sum_congr rfl fun b _ => mul_comm _ _

theorem refD12 (x0 x1 x2 x3 x4) : val_main_v27 (F := Ideal) x0 x1 x2 x3 x4 = (fun y : S1024x1536.Idx => aD (x2 y) (gAda x0 x1 (y 0) (y 1)) (x3 y) (x4 y)) := by
  funext y
  idx_vars y
  show _ = aD (x2 (ix2 y0 y1)) (gAda x0 x1 y0 y1) (x3 (ix2 y0 y1)) (x4 (ix2 y0 y1))
  rw [← refG12]
  unfold aD aM aV
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7]

theorem refM12 (x0 x1 x3) : val_main_v8 (F := Ideal) x0 x1 x3 = (fun y : S1024x1536.Idx => aM (gAda x0 x1 (y 0) (y 1)) (x3 y)) := by
  funext y
  idx_vars y
  show _ = aM (gAda x0 x1 y0 y1) (x3 (ix2 y0 y1))
  rw [← refG12]
  unfold aM
  pointwise [val_main_v8, val_main_v7, val_main_v6, val_main_v5, val_main_v4, val_main_cst, val_main_cst_0]

theorem refV12 (x0 x1 x4) : val_main_v14 (F := Ideal) x0 x1 x4 = (fun y : S1024x1536.Idx => aV (gAda x0 x1 (y 0) (y 1)) (x4 y)) := by
  funext y
  idx_vars y
  show _ = aV (gAda x0 x1 y0 y1) (x4 (ix2 y0 y1))
  rw [← refG12]
  unfold aV
  pointwise [val_main_v14, val_main_v13, val_main_v12, val_main_v11, val_main_v10, val_main_v9, val_main_cst_1, val_main_cst_2]

theorem frame_kernel12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := fun m ρ _ =>
  (θ_run Cert.Reference12Ideal.defs _ _).mono
    (fun _ h => ⟨fun c => (h c).2.2.2.2, funext fun q => by rcases q with ⟨_, q | q⟩ <;> exact q.elim0⟩) (Cert.Reference12Ideal.Value.run (F := Ideal) m ρ)

theorem algebraic12 : Cert.algebraic_Kernel12Ideal_Reference12Ideal := by
  intro m g m' g' _ hag
  refine ⟨fun c => (fun y : S1024x1536.Idx => gAda (m (c.tc.loc Cert.Kernel12Ideal.main_arg0)) (m (c.tc.loc Cert.Kernel12Ideal.main_arg1)) (y 0) (y 1)),
    fun c => (fun y : S1024x1536.Idx => aD ((m (c.tc.loc Cert.Kernel12Ideal.main_arg2)) y) (gAda (m (c.tc.loc Cert.Kernel12Ideal.main_arg0)) (m (c.tc.loc Cert.Kernel12Ideal.main_arg1)) (y 0) (y 1)) ((m (c.tc.loc Cert.Kernel12Ideal.main_arg3)) y) ((m (c.tc.loc Cert.Kernel12Ideal.main_arg4)) y)),
    fun c => (fun y : S1024x1536.Idx => aM (gAda (m (c.tc.loc Cert.Kernel12Ideal.main_arg0)) (m (c.tc.loc Cert.Kernel12Ideal.main_arg1)) (y 0) (y 1)) ((m (c.tc.loc Cert.Kernel12Ideal.main_arg3)) y)),
    fun c => (fun y : S1024x1536.Idx => aV (gAda (m (c.tc.loc Cert.Kernel12Ideal.main_arg0)) (m (c.tc.loc Cert.Kernel12Ideal.main_arg1)) (y 0) (y 1)) ((m (c.tc.loc Cert.Kernel12Ideal.main_arg4)) y)), ?_, ?_⟩
  · refine (θ_run Cert.Kernel12Ideal.defs _ _).mono (fun r h c => ?_) (Cert.Kernel12Ideal.Value.run_blocks (F := Ideal) m g)
    obtain ⟨h0, h1, h2, h3, hk⟩ := h c
    exact ⟨h0.trans (Cert.Kernel12Ideal.Hand.res5 m c), h1.trans (Cert.Kernel12Ideal.Hand.res6 m c), h2.trans (Cert.Kernel12Ideal.Hand.res7 m c), h3.trans (Cert.Kernel12Ideal.Hand.res8 m c), hk⟩
  · refine (θ_run Cert.Reference12Ideal.defs _ _).mono (fun r h c => ?_) (Cert.Reference12Ideal.Value.run (F := Ideal) m' g')
    obtain ⟨h0, h1, h2, h3, hk⟩ := h c
    obtain ⟨a0, a1, a2, a3, a4⟩ := hag c
    refine ⟨h0.trans ?_, h1.trans ?_, h2.trans ?_, h3.trans ?_, hk⟩
    · have e : (fun y : S1024x1536.Idx => gAda (m' (c.tc.loc Cert.Reference12Ideal.main_arg0)) (m' (c.tc.loc Cert.Reference12Ideal.main_arg1)) (y 0) (y 1))
          = (fun y : S1024x1536.Idx => gAda (m (c.tc.loc Cert.Kernel12Ideal.main_arg0)) (m (c.tc.loc Cert.Kernel12Ideal.main_arg1)) (y 0) (y 1)) := by rw [a0, a1]
      refine Eq.trans ((val_main_v3_eq (F := Ideal) _ _).trans ?_) e
      funext y
      idx_vars y
      exact refG12 _ _ y0 y1
    · have e : (fun y : S1024x1536.Idx => aD ((m' (c.tc.loc Cert.Reference12Ideal.main_arg2)) y) (gAda (m' (c.tc.loc Cert.Reference12Ideal.main_arg0)) (m' (c.tc.loc Cert.Reference12Ideal.main_arg1)) (y 0) (y 1)) ((m' (c.tc.loc Cert.Reference12Ideal.main_arg3)) y) ((m' (c.tc.loc Cert.Reference12Ideal.main_arg4)) y))
          = (fun y : S1024x1536.Idx => aD ((m (c.tc.loc Cert.Kernel12Ideal.main_arg2)) y) (gAda (m (c.tc.loc Cert.Kernel12Ideal.main_arg0)) (m (c.tc.loc Cert.Kernel12Ideal.main_arg1)) (y 0) (y 1)) ((m (c.tc.loc Cert.Kernel12Ideal.main_arg3)) y) ((m (c.tc.loc Cert.Kernel12Ideal.main_arg4)) y)) := by rw [a0, a1, a2, a3, a4]
      exact ((val_main_v27_eq (F := Ideal) _ _ _ _ _).trans (refD12 _ _ _ _ _)).trans e
    · have e : (fun y : S1024x1536.Idx => aM (gAda (m' (c.tc.loc Cert.Reference12Ideal.main_arg0)) (m' (c.tc.loc Cert.Reference12Ideal.main_arg1)) (y 0) (y 1)) ((m' (c.tc.loc Cert.Reference12Ideal.main_arg3)) y))
          = (fun y : S1024x1536.Idx => aM (gAda (m (c.tc.loc Cert.Kernel12Ideal.main_arg0)) (m (c.tc.loc Cert.Kernel12Ideal.main_arg1)) (y 0) (y 1)) ((m (c.tc.loc Cert.Kernel12Ideal.main_arg3)) y)) := by rw [a0, a1, a3]
      exact ((val_main_v8_eq (F := Ideal) _ _ _).trans (refM12 _ _ _)).trans e
    · have e : (fun y : S1024x1536.Idx => aV (gAda (m' (c.tc.loc Cert.Reference12Ideal.main_arg0)) (m' (c.tc.loc Cert.Reference12Ideal.main_arg1)) (y 0) (y 1)) ((m' (c.tc.loc Cert.Reference12Ideal.main_arg4)) y))
          = (fun y : S1024x1536.Idx => aV (gAda (m (c.tc.loc Cert.Kernel12Ideal.main_arg0)) (m (c.tc.loc Cert.Kernel12Ideal.main_arg1)) (y 0) (y 1)) ((m (c.tc.loc Cert.Kernel12Ideal.main_arg4)) y)) := by rw [a0, a1, a4]
      exact ((val_main_v14_eq (F := Ideal) _ _ _).trans (refV12 _ _ _)).trans e

end Cert.Adam

end
-- ==== Proof.SmallRun.lean ====
module

public import proofs.«01_k».proof.Proof.Gen.Kernel13Ideal.Frame.Runs

@[expose] public section

/-! The small parameters' update run once over its whole staging buffers: fifty-one of them, which is why this run takes a
larger budget than the others. -/

set_option maxRecDepth 16384

noncomputable section

namespace Cert.Kernel13Ideal.Hand

open Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stores into each output. -/
structure Stores (F : FTy → Type) where
  p23 : List (View.Piece (Elt F) S1x6144 .f32)
  p24 : List (View.Piece (Elt F) S31x128 .f32)
  p25 : List (View.Piece (Elt F) S1x512 .f32)
  p26 : List (View.Piece (Elt F) S1x512 .f32)
  p27 : List (View.Piece (Elt F) S1x512 .f32)
  p28 : List (View.Piece (Elt F) S3x128 .f32)
  p29 : List (View.Piece (Elt F) S1x1024 .f32)
  p30 : List (View.Piece (Elt F) S1x6144 .f32)
  p31 : List (View.Piece (Elt F) S31x128 .f32)
  p32 : List (View.Piece (Elt F) S1x512 .f32)
  p33 : List (View.Piece (Elt F) S1x512 .f32)
  p34 : List (View.Piece (Elt F) S1x512 .f32)
  p35 : List (View.Piece (Elt F) S3x128 .f32)
  p36 : List (View.Piece (Elt F) S1x1024 .f32)
  p37 : List (View.Piece (Elt F) S1x6144 .f32)
  p38 : List (View.Piece (Elt F) S31x128 .f32)
  p39 : List (View.Piece (Elt F) S1x512 .f32)
  p40 : List (View.Piece (Elt F) S1x512 .f32)
  p41 : List (View.Piece (Elt F) S1x512 .f32)
  p42 : List (View.Piece (Elt F) S3x128 .f32)
  p43 : List (View.Piece (Elt F) S1x1024 .f32)
  p44 : List (View.Piece (Elt F) S1x6144 .f32)
  p45 : List (View.Piece (Elt F) S31x128 .f32)
  p46 : List (View.Piece (Elt F) S1x512 .f32)
  p47 : List (View.Piece (Elt F) S1x512 .f32)
  p48 : List (View.Piece (Elt F) S1x512 .f32)
  p49 : List (View.Piece (Elt F) S3x128 .f32)
  p50 : List (View.Piece (Elt F) S1x1024 .f32)

set_option maxHeartbeats 8000000 in
/-- The body's run from whole buffers: the inputs come back as they were, each output's with its stores written. -/
noncomputable def smallRun (c : Dev nD) (i : grid0.Coords) (arg2 : Memref sig .tc .vmem S40x512 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S31x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x128 .f32) (harg9 : arg9.IsWhole) (arg10 : Memref sig .tc .vmem S1x1024 .f32) (harg10 : arg10.IsWhole) (arg11 : Memref sig .tc .vmem S1x6144 .f32) (harg11 : arg11.IsWhole) (arg12 : Memref sig .tc .vmem S31x128 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x128 .f32) (harg16 : arg16.IsWhole) (arg17 : Memref sig .tc .vmem S1x1024 .f32) (harg17 : arg17.IsWhole) (arg18 : Memref sig .tc .vmem S1x6144 .f32) (harg18 : arg18.IsWhole) (arg19 : Memref sig .tc .vmem S31x128 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S3x128 .f32) (harg23 : arg23.IsWhole) (arg24 : Memref sig .tc .vmem S1x1024 .f32) (harg24 : arg24.IsWhole) (arg25 : Memref sig .tc .vmem S1x6144 .f32) (harg25 : arg25.IsWhole) (arg26 : Memref sig .tc .vmem S31x128 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S3x128 .f32) (harg30 : arg30.IsWhole) (arg31 : Memref sig .tc .vmem S1x1024 .f32) (harg31 : arg31.IsWhole) (arg32 : Memref sig .tc .vmem S1x6144 .f32) (harg32 : arg32.IsWhole) (arg33 : Memref sig .tc .vmem S31x128 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S1x512 .f32) (harg36 : arg36.IsWhole) (arg37 : Memref sig .tc .vmem S3x128 .f32) (harg37 : arg37.IsWhole) (arg38 : Memref sig .tc .vmem S1x1024 .f32) (harg38 : arg38.IsWhole) (arg39 : Memref sig .tc .vmem S1x6144 .f32) (harg39 : arg39.IsWhole) (arg40 : Memref sig .tc .vmem S31x128 .f32) (harg40 : arg40.IsWhole) (arg41 : Memref sig .tc .vmem S1x512 .f32) (harg41 : arg41.IsWhole) (arg42 : Memref sig .tc .vmem S1x512 .f32) (harg42 : arg42.IsWhole) (arg43 : Memref sig .tc .vmem S1x512 .f32) (harg43 : arg43.IsWhole) (arg44 : Memref sig .tc .vmem S3x128 .f32) (harg44 : arg44.IsWhole) (arg45 : Memref sig .tc .vmem S1x1024 .f32) (harg45 : arg45.IsWhole) (arg46 : Memref sig .tc .vmem S1x6144 .f32) (harg46 : arg46.IsWhole) (arg47 : Memref sig .tc .vmem S31x128 .f32) (harg47 : arg47.IsWhole) (arg48 : Memref sig .tc .vmem S1x512 .f32) (harg48 : arg48.IsWhole) (arg49 : Memref sig .tc .vmem S1x512 .f32) (harg49 : arg49.IsWhole) (arg50 : Memref sig .tc .vmem S1x512 .f32) (harg50 : arg50.IsWhole) (arg51 : Memref sig .tc .vmem S3x128 .f32) (harg51 : arg51.IsWhole) (arg52 : Memref sig .tc .vmem S1x1024 .f32) (harg52 : arg52.IsWhole)
    (x0 : Vec F S40x512 .f32) (x1 : Vec F S1x6144 .f32) (x2 : Vec F S1x6144 .f32) (x3 : Vec F S31x128 .f32) (x4 : Vec F S1x512 .f32) (x5 : Vec F S1x512 .f32) (x6 : Vec F S1x512 .f32) (x7 : Vec F S3x128 .f32) (x8 : Vec F S1x1024 .f32) (x9 : Vec F S1x6144 .f32) (x10 : Vec F S31x128 .f32) (x11 : Vec F S1x512 .f32) (x12 : Vec F S1x512 .f32) (x13 : Vec F S1x512 .f32) (x14 : Vec F S3x128 .f32) (x15 : Vec F S1x1024 .f32) (x16 : Vec F S1x6144 .f32) (x17 : Vec F S31x128 .f32) (x18 : Vec F S1x512 .f32) (x19 : Vec F S1x512 .f32) (x20 : Vec F S1x512 .f32) (x21 : Vec F S3x128 .f32) (x22 : Vec F S1x1024 .f32) (xt0 : TbBuf0 (F := F) c tbM0_0) (k0_hw1 : k0_chk1 (tbM0_0.view.readAt (Elt F) (Rect.unit (s := S3) ![0] S1.size inb_S3_S1_0).toLoadRect xt0 (Shape.Idx.first (numel1_S1.symm ▸ Nat.one_pos)))) :
    { L : Stores F //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ f, arg25.view.loc (c : Thread nD τ) ↦[arg25.view.set]{fullShare} arg25.view.writes (Elt F) f L.p23) ∗ (∃ f, arg26.view.loc (c : Thread nD τ) ↦[arg26.view.set]{fullShare} arg26.view.writes (Elt F) f L.p24) ∗ (∃ f, arg27.view.loc (c : Thread nD τ) ↦[arg27.view.set]{fullShare} arg27.view.writes (Elt F) f L.p25) ∗ (∃ f, arg28.view.loc (c : Thread nD τ) ↦[arg28.view.set]{fullShare} arg28.view.writes (Elt F) f L.p26) ∗ (∃ f, arg29.view.loc (c : Thread nD τ) ↦[arg29.view.set]{fullShare} arg29.view.writes (Elt F) f L.p27) ∗ (∃ f, arg30.view.loc (c : Thread nD τ) ↦[arg30.view.set]{fullShare} arg30.view.writes (Elt F) f L.p28) ∗ (∃ f, arg31.view.loc (c : Thread nD τ) ↦[arg31.view.set]{fullShare} arg31.view.writes (Elt F) f L.p29) ∗ (∃ f, arg32.view.loc (c : Thread nD τ) ↦[arg32.view.set]{fullShare} arg32.view.writes (Elt F) f L.p30) ∗ (∃ f, arg33.view.loc (c : Thread nD τ) ↦[arg33.view.set]{fullShare} arg33.view.writes (Elt F) f L.p31) ∗ (∃ f, arg34.view.loc (c : Thread nD τ) ↦[arg34.view.set]{fullShare} arg34.view.writes (Elt F) f L.p32) ∗ (∃ f, arg35.view.loc (c : Thread nD τ) ↦[arg35.view.set]{fullShare} arg35.view.writes (Elt F) f L.p33) ∗ (∃ f, arg36.view.loc (c : Thread nD τ) ↦[arg36.view.set]{fullShare} arg36.view.writes (Elt F) f L.p34) ∗ (∃ f, arg37.view.loc (c : Thread nD τ) ↦[arg37.view.set]{fullShare} arg37.view.writes (Elt F) f L.p35) ∗ (∃ f, arg38.view.loc (c : Thread nD τ) ↦[arg38.view.set]{fullShare} arg38.view.writes (Elt F) f L.p36) ∗ (∃ f, arg39.view.loc (c : Thread nD τ) ↦[arg39.view.set]{fullShare} arg39.view.writes (Elt F) f L.p37) ∗ (∃ f, arg40.view.loc (c : Thread nD τ) ↦[arg40.view.set]{fullShare} arg40.view.writes (Elt F) f L.p38) ∗ (∃ f, arg41.view.loc (c : Thread nD τ) ↦[arg41.view.set]{fullShare} arg41.view.writes (Elt F) f L.p39) ∗ (∃ f, arg42.view.loc (c : Thread nD τ) ↦[arg42.view.set]{fullShare} arg42.view.writes (Elt F) f L.p40) ∗ (∃ f, arg43.view.loc (c : Thread nD τ) ↦[arg43.view.set]{fullShare} arg43.view.writes (Elt F) f L.p41) ∗ (∃ f, arg44.view.loc (c : Thread nD τ) ↦[arg44.view.set]{fullShare} arg44.view.writes (Elt F) f L.p42) ∗ (∃ f, arg45.view.loc (c : Thread nD τ) ↦[arg45.view.set]{fullShare} arg45.view.writes (Elt F) f L.p43) ∗ (∃ f, arg46.view.loc (c : Thread nD τ) ↦[arg46.view.set]{fullShare} arg46.view.writes (Elt F) f L.p44) ∗ (∃ f, arg47.view.loc (c : Thread nD τ) ↦[arg47.view.set]{fullShare} arg47.view.writes (Elt F) f L.p45) ∗ (∃ f, arg48.view.loc (c : Thread nD τ) ↦[arg48.view.set]{fullShare} arg48.view.writes (Elt F) f L.p46) ∗ (∃ f, arg49.view.loc (c : Thread nD τ) ↦[arg49.view.set]{fullShare} arg49.view.writes (Elt F) f L.p47) ∗ (∃ f, arg50.view.loc (c : Thread nD τ) ↦[arg50.view.set]{fullShare} arg50.view.writes (Elt F) f L.p48) ∗ (∃ f, arg51.view.loc (c : Thread nD τ) ↦[arg51.view.set]{fullShare} arg51.view.writes (Elt F) f L.p49) ∗ (∃ f, arg52.view.loc (c : Thread nD τ) ↦[arg52.view.set]{fullShare} arg52.view.writes (Elt F) f L.p50) ∗ tbPt0 c tbM0_0 xt0) -∗ K ⟨⟩))
          ⊢ wp frame (wpE (defs₀ (F := F)) Variants.none c none) E (cc0_adamw_small i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52) K } := by
  refine ⟨⟨?_, ?_, ?_, ?_, ?_, ?_, ?_, ?_, ?_, ?_, ?_, ?_, ?_, ?_, ?_, ?_, ?_, ?_, ?_, ?_, ?_, ?_, ?_, ?_, ?_, ?_, ?_, ?_⟩, fun E K => ?run⟩
  case run =>
    dsimp only
    simp only [cc0_adamw_small_eq_skeleton]; unfold cc0_adamw_small_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
    sl_exec (disch := first | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    iexact HT0

end Cert.Kernel13Ideal.Hand

end
-- ==== Proof.SmallFrame.lean ====
module

public import proofs.«01_k».proof.Proof.SmallRun
public import Idealize.ShloMosaic.Lib.Claim

@[expose] public section

/-! The small parameters' update as a pipeline of one point: the buffers it leaves, its obligation, its run and its frame. -/

set_option maxHeartbeats 16000000
set_option maxRecDepth 16384

noncomputable section

namespace Cert.Kernel13Ideal.Hand

open Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
variable (hO : Ok m) (hH : Hyps m hO) (c : Dev nD) (t : Fin (cfgM m hO).N)

/-- The run at a point of the grid, on the point's buffers and blocks. -/
abbrev runAt :=
  smallRun (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (ms0_38 m hO t) (hs0_38 m hO t) (ms0_39 m hO t) (hs0_39 m hO t) (ms0_40 m hO t) (hs0_40 m hO t) (ms0_41 m hO t) (hs0_41 m hO t) (ms0_42 m hO t) (hs0_42 m hO t) (ms0_43 m hO t) (hs0_43 m hO t) (ms0_44 m hO t) (hs0_44 m hO t) (ms0_45 m hO t) (hs0_45 m hO t) (ms0_46 m hO t) (hs0_46 m hO t) (ms0_47 m hO t) (hs0_47 m hO t) (ms0_48 m hO t) (hs0_48 m hO t) (ms0_49 m hO t) (hs0_49 m hO t) (ms0_50 m hO t) (hs0_50 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (tbl m 0) (Hyps.c0 hH c t)

/-- Output 23's stores cover its buffer. -/
theorem covers23 (y : S1x6144.Idx) :
    ∃ pc ∈ (runAt m hO hH c t).1.p23, y ∈ pc.1.set :=
  View.cover_of_tiledL (runAt m hO hH c t).1.p23 S1x6144.size (by sl_kernel_rfl) y

/-- What output 23's buffer holds after the body. -/
def left23 : Vec F S1x6144 .f32 :=
  VO0_23.read (Elt F) (VO0_23.writes (Elt F) VO0_23.junk (runAt m hO hH c t).1.p23)

/-- Output 24's stores cover its buffer. -/
theorem covers24 (y : S31x128.Idx) :
    ∃ pc ∈ (runAt m hO hH c t).1.p24, y ∈ pc.1.set :=
  View.cover_of_tiledL (runAt m hO hH c t).1.p24 S31x128.size (by sl_kernel_rfl) y

/-- What output 24's buffer holds after the body. -/
def left24 : Vec F S31x128 .f32 :=
  VO0_24.read (Elt F) (VO0_24.writes (Elt F) VO0_24.junk (runAt m hO hH c t).1.p24)

/-- Output 25's stores cover its buffer. -/
theorem covers25 (y : S1x512.Idx) :
    ∃ pc ∈ (runAt m hO hH c t).1.p25, y ∈ pc.1.set :=
  View.cover_of_tiledL (runAt m hO hH c t).1.p25 S1x512.size (by sl_kernel_rfl) y

/-- What output 25's buffer holds after the body. -/
def left25 : Vec F S1x512 .f32 :=
  VO0_25.read (Elt F) (VO0_25.writes (Elt F) VO0_25.junk (runAt m hO hH c t).1.p25)

/-- Output 26's stores cover its buffer. -/
theorem covers26 (y : S1x512.Idx) :
    ∃ pc ∈ (runAt m hO hH c t).1.p26, y ∈ pc.1.set :=
  View.cover_of_tiledL (runAt m hO hH c t).1.p26 S1x512.size (by sl_kernel_rfl) y

/-- What output 26's buffer holds after the body. -/
def left26 : Vec F S1x512 .f32 :=
  VO0_26.read (Elt F) (VO0_26.writes (Elt F) VO0_26.junk (runAt m hO hH c t).1.p26)

/-- Output 27's stores cover its buffer. -/
theorem covers27 (y : S1x512.Idx) :
    ∃ pc ∈ (runAt m hO hH c t).1.p27, y ∈ pc.1.set :=
  View.cover_of_tiledL (runAt m hO hH c t).1.p27 S1x512.size (by sl_kernel_rfl) y

/-- What output 27's buffer holds after the body. -/
def left27 : Vec F S1x512 .f32 :=
  VO0_27.read (Elt F) (VO0_27.writes (Elt F) VO0_27.junk (runAt m hO hH c t).1.p27)

/-- Output 28's stores cover its buffer. -/
theorem covers28 (y : S3x128.Idx) :
    ∃ pc ∈ (runAt m hO hH c t).1.p28, y ∈ pc.1.set :=
  View.cover_of_tiledL (runAt m hO hH c t).1.p28 S3x128.size (by sl_kernel_rfl) y

/-- What output 28's buffer holds after the body. -/
def left28 : Vec F S3x128 .f32 :=
  VO0_28.read (Elt F) (VO0_28.writes (Elt F) VO0_28.junk (runAt m hO hH c t).1.p28)

/-- Output 29's stores cover its buffer. -/
theorem covers29 (y : S1x1024.Idx) :
    ∃ pc ∈ (runAt m hO hH c t).1.p29, y ∈ pc.1.set :=
  View.cover_of_tiledL (runAt m hO hH c t).1.p29 S1x1024.size (by sl_kernel_rfl) y

/-- What output 29's buffer holds after the body. -/
def left29 : Vec F S1x1024 .f32 :=
  VO0_29.read (Elt F) (VO0_29.writes (Elt F) VO0_29.junk (runAt m hO hH c t).1.p29)

/-- Output 30's stores cover its buffer. -/
theorem covers30 (y : S1x6144.Idx) :
    ∃ pc ∈ (runAt m hO hH c t).1.p30, y ∈ pc.1.set :=
  View.cover_of_tiledL (runAt m hO hH c t).1.p30 S1x6144.size (by sl_kernel_rfl) y

/-- What output 30's buffer holds after the body. -/
def left30 : Vec F S1x6144 .f32 :=
  VO0_30.read (Elt F) (VO0_30.writes (Elt F) VO0_30.junk (runAt m hO hH c t).1.p30)

/-- Output 31's stores cover its buffer. -/
theorem covers31 (y : S31x128.Idx) :
    ∃ pc ∈ (runAt m hO hH c t).1.p31, y ∈ pc.1.set :=
  View.cover_of_tiledL (runAt m hO hH c t).1.p31 S31x128.size (by sl_kernel_rfl) y

/-- What output 31's buffer holds after the body. -/
def left31 : Vec F S31x128 .f32 :=
  VO0_31.read (Elt F) (VO0_31.writes (Elt F) VO0_31.junk (runAt m hO hH c t).1.p31)

/-- Output 32's stores cover its buffer. -/
theorem covers32 (y : S1x512.Idx) :
    ∃ pc ∈ (runAt m hO hH c t).1.p32, y ∈ pc.1.set :=
  View.cover_of_tiledL (runAt m hO hH c t).1.p32 S1x512.size (by sl_kernel_rfl) y

/-- What output 32's buffer holds after the body. -/
def left32 : Vec F S1x512 .f32 :=
  VO0_32.read (Elt F) (VO0_32.writes (Elt F) VO0_32.junk (runAt m hO hH c t).1.p32)

/-- Output 33's stores cover its buffer. -/
theorem covers33 (y : S1x512.Idx) :
    ∃ pc ∈ (runAt m hO hH c t).1.p33, y ∈ pc.1.set :=
  View.cover_of_tiledL (runAt m hO hH c t).1.p33 S1x512.size (by sl_kernel_rfl) y

/-- What output 33's buffer holds after the body. -/
def left33 : Vec F S1x512 .f32 :=
  VO0_33.read (Elt F) (VO0_33.writes (Elt F) VO0_33.junk (runAt m hO hH c t).1.p33)

/-- Output 34's stores cover its buffer. -/
theorem covers34 (y : S1x512.Idx) :
    ∃ pc ∈ (runAt m hO hH c t).1.p34, y ∈ pc.1.set :=
  View.cover_of_tiledL (runAt m hO hH c t).1.p34 S1x512.size (by sl_kernel_rfl) y

/-- What output 34's buffer holds after the body. -/
def left34 : Vec F S1x512 .f32 :=
  VO0_34.read (Elt F) (VO0_34.writes (Elt F) VO0_34.junk (runAt m hO hH c t).1.p34)

/-- Output 35's stores cover its buffer. -/
theorem covers35 (y : S3x128.Idx) :
    ∃ pc ∈ (runAt m hO hH c t).1.p35, y ∈ pc.1.set :=
  View.cover_of_tiledL (runAt m hO hH c t).1.p35 S3x128.size (by sl_kernel_rfl) y

/-- What output 35's buffer holds after the body. -/
def left35 : Vec F S3x128 .f32 :=
  VO0_35.read (Elt F) (VO0_35.writes (Elt F) VO0_35.junk (runAt m hO hH c t).1.p35)

/-- Output 36's stores cover its buffer. -/
theorem covers36 (y : S1x1024.Idx) :
    ∃ pc ∈ (runAt m hO hH c t).1.p36, y ∈ pc.1.set :=
  View.cover_of_tiledL (runAt m hO hH c t).1.p36 S1x1024.size (by sl_kernel_rfl) y

/-- What output 36's buffer holds after the body. -/
def left36 : Vec F S1x1024 .f32 :=
  VO0_36.read (Elt F) (VO0_36.writes (Elt F) VO0_36.junk (runAt m hO hH c t).1.p36)

/-- Output 37's stores cover its buffer. -/
theorem covers37 (y : S1x6144.Idx) :
    ∃ pc ∈ (runAt m hO hH c t).1.p37, y ∈ pc.1.set :=
  View.cover_of_tiledL (runAt m hO hH c t).1.p37 S1x6144.size (by sl_kernel_rfl) y

/-- What output 37's buffer holds after the body. -/
def left37 : Vec F S1x6144 .f32 :=
  VO0_37.read (Elt F) (VO0_37.writes (Elt F) VO0_37.junk (runAt m hO hH c t).1.p37)

/-- Output 38's stores cover its buffer. -/
theorem covers38 (y : S31x128.Idx) :
    ∃ pc ∈ (runAt m hO hH c t).1.p38, y ∈ pc.1.set :=
  View.cover_of_tiledL (runAt m hO hH c t).1.p38 S31x128.size (by sl_kernel_rfl) y

/-- What output 38's buffer holds after the body. -/
def left38 : Vec F S31x128 .f32 :=
  VO0_38.read (Elt F) (VO0_38.writes (Elt F) VO0_38.junk (runAt m hO hH c t).1.p38)

/-- Output 39's stores cover its buffer. -/
theorem covers39 (y : S1x512.Idx) :
    ∃ pc ∈ (runAt m hO hH c t).1.p39, y ∈ pc.1.set :=
  View.cover_of_tiledL (runAt m hO hH c t).1.p39 S1x512.size (by sl_kernel_rfl) y

/-- What output 39's buffer holds after the body. -/
def left39 : Vec F S1x512 .f32 :=
  VO0_39.read (Elt F) (VO0_39.writes (Elt F) VO0_39.junk (runAt m hO hH c t).1.p39)

/-- Output 40's stores cover its buffer. -/
theorem covers40 (y : S1x512.Idx) :
    ∃ pc ∈ (runAt m hO hH c t).1.p40, y ∈ pc.1.set :=
  View.cover_of_tiledL (runAt m hO hH c t).1.p40 S1x512.size (by sl_kernel_rfl) y

/-- What output 40's buffer holds after the body. -/
def left40 : Vec F S1x512 .f32 :=
  VO0_40.read (Elt F) (VO0_40.writes (Elt F) VO0_40.junk (runAt m hO hH c t).1.p40)

/-- Output 41's stores cover its buffer. -/
theorem covers41 (y : S1x512.Idx) :
    ∃ pc ∈ (runAt m hO hH c t).1.p41, y ∈ pc.1.set :=
  View.cover_of_tiledL (runAt m hO hH c t).1.p41 S1x512.size (by sl_kernel_rfl) y

/-- What output 41's buffer holds after the body. -/
def left41 : Vec F S1x512 .f32 :=
  VO0_41.read (Elt F) (VO0_41.writes (Elt F) VO0_41.junk (runAt m hO hH c t).1.p41)

/-- Output 42's stores cover its buffer. -/
theorem covers42 (y : S3x128.Idx) :
    ∃ pc ∈ (runAt m hO hH c t).1.p42, y ∈ pc.1.set :=
  View.cover_of_tiledL (runAt m hO hH c t).1.p42 S3x128.size (by sl_kernel_rfl) y

/-- What output 42's buffer holds after the body. -/
def left42 : Vec F S3x128 .f32 :=
  VO0_42.read (Elt F) (VO0_42.writes (Elt F) VO0_42.junk (runAt m hO hH c t).1.p42)

/-- Output 43's stores cover its buffer. -/
theorem covers43 (y : S1x1024.Idx) :
    ∃ pc ∈ (runAt m hO hH c t).1.p43, y ∈ pc.1.set :=
  View.cover_of_tiledL (runAt m hO hH c t).1.p43 S1x1024.size (by sl_kernel_rfl) y

/-- What output 43's buffer holds after the body. -/
def left43 : Vec F S1x1024 .f32 :=
  VO0_43.read (Elt F) (VO0_43.writes (Elt F) VO0_43.junk (runAt m hO hH c t).1.p43)

/-- Output 44's stores cover its buffer. -/
theorem covers44 (y : S1x6144.Idx) :
    ∃ pc ∈ (runAt m hO hH c t).1.p44, y ∈ pc.1.set :=
  View.cover_of_tiledL (runAt m hO hH c t).1.p44 S1x6144.size (by sl_kernel_rfl) y

/-- What output 44's buffer holds after the body. -/
def left44 : Vec F S1x6144 .f32 :=
  VO0_44.read (Elt F) (VO0_44.writes (Elt F) VO0_44.junk (runAt m hO hH c t).1.p44)

/-- Output 45's stores cover its buffer. -/
theorem covers45 (y : S31x128.Idx) :
    ∃ pc ∈ (runAt m hO hH c t).1.p45, y ∈ pc.1.set :=
  View.cover_of_tiledL (runAt m hO hH c t).1.p45 S31x128.size (by sl_kernel_rfl) y

/-- What output 45's buffer holds after the body. -/
def left45 : Vec F S31x128 .f32 :=
  VO0_45.read (Elt F) (VO0_45.writes (Elt F) VO0_45.junk (runAt m hO hH c t).1.p45)

/-- Output 46's stores cover its buffer. -/
theorem covers46 (y : S1x512.Idx) :
    ∃ pc ∈ (runAt m hO hH c t).1.p46, y ∈ pc.1.set :=
  View.cover_of_tiledL (runAt m hO hH c t).1.p46 S1x512.size (by sl_kernel_rfl) y

/-- What output 46's buffer holds after the body. -/
def left46 : Vec F S1x512 .f32 :=
  VO0_46.read (Elt F) (VO0_46.writes (Elt F) VO0_46.junk (runAt m hO hH c t).1.p46)

/-- Output 47's stores cover its buffer. -/
theorem covers47 (y : S1x512.Idx) :
    ∃ pc ∈ (runAt m hO hH c t).1.p47, y ∈ pc.1.set :=
  View.cover_of_tiledL (runAt m hO hH c t).1.p47 S1x512.size (by sl_kernel_rfl) y

/-- What output 47's buffer holds after the body. -/
def left47 : Vec F S1x512 .f32 :=
  VO0_47.read (Elt F) (VO0_47.writes (Elt F) VO0_47.junk (runAt m hO hH c t).1.p47)

/-- Output 48's stores cover its buffer. -/
theorem covers48 (y : S1x512.Idx) :
    ∃ pc ∈ (runAt m hO hH c t).1.p48, y ∈ pc.1.set :=
  View.cover_of_tiledL (runAt m hO hH c t).1.p48 S1x512.size (by sl_kernel_rfl) y

/-- What output 48's buffer holds after the body. -/
def left48 : Vec F S1x512 .f32 :=
  VO0_48.read (Elt F) (VO0_48.writes (Elt F) VO0_48.junk (runAt m hO hH c t).1.p48)

/-- Output 49's stores cover its buffer. -/
theorem covers49 (y : S3x128.Idx) :
    ∃ pc ∈ (runAt m hO hH c t).1.p49, y ∈ pc.1.set :=
  View.cover_of_tiledL (runAt m hO hH c t).1.p49 S3x128.size (by sl_kernel_rfl) y

/-- What output 49's buffer holds after the body. -/
def left49 : Vec F S3x128 .f32 :=
  VO0_49.read (Elt F) (VO0_49.writes (Elt F) VO0_49.junk (runAt m hO hH c t).1.p49)

/-- Output 50's stores cover its buffer. -/
theorem covers50 (y : S1x1024.Idx) :
    ∃ pc ∈ (runAt m hO hH c t).1.p50, y ∈ pc.1.set :=
  View.cover_of_tiledL (runAt m hO hH c t).1.p50 S1x1024.size (by sl_kernel_rfl) y

/-- What output 50's buffer holds after the body. -/
def left50 : Vec F S1x1024 .f32 :=
  VO0_50.read (Elt F) (VO0_50.writes (Elt F) VO0_50.junk (runAt m hO hH c t).1.p50)

/-- The pipeline's data: inputs keep their blocks, outputs hold what the body leaves. -/
def small (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => left23 m hO hH c t
    | ⟨24, _⟩ => left24 m hO hH c t
    | ⟨25, _⟩ => left25 m hO hH c t
    | ⟨26, _⟩ => left26 m hO hH c t
    | ⟨27, _⟩ => left27 m hO hH c t
    | ⟨28, _⟩ => left28 m hO hH c t
    | ⟨29, _⟩ => left29 m hO hH c t
    | ⟨30, _⟩ => left30 m hO hH c t
    | ⟨31, _⟩ => left31 m hO hH c t
    | ⟨32, _⟩ => left32 m hO hH c t
    | ⟨33, _⟩ => left33 m hO hH c t
    | ⟨34, _⟩ => left34 m hO hH c t
    | ⟨35, _⟩ => left35 m hO hH c t
    | ⟨36, _⟩ => left36 m hO hH c t
    | ⟨37, _⟩ => left37 m hO hH c t
    | ⟨38, _⟩ => left38 m hO hH c t
    | ⟨39, _⟩ => left39 m hO hH c t
    | ⟨40, _⟩ => left40 m hO hH c t
    | ⟨41, _⟩ => left41 m hO hH c t
    | ⟨42, _⟩ => left42 m hO hH c t
    | ⟨43, _⟩ => left43 m hO hH c t
    | ⟨44, _⟩ => left44 m hO hH c t
    | ⟨45, _⟩ => left45 m hO hH c t
    | ⟨46, _⟩ => left46 m hO hH c t
    | ⟨47, _⟩ => left47 m hO hH c t
    | ⟨48, _⟩ => left48 m hO hH c t
    | ⟨49, _⟩ => left49 m hO hH c t
    | ⟨50, _⟩ => left50 m hO hH c t
    | ⟨_ + 51, h⟩ => absurd h (Nat.not_lt.2 (Nat.le_add_left _ _))
  Φ _ := iprop(Pipeline.ΦA spec0 c ∗ Pipeline.ΦT pre0 (tbl m) c)
  q _ := fullShare
  owed _ := 0

theorem A_small (hO : Ok m) (hH : Hyps m hO) (c : Dev nD) (w : Fin (cfgM m hO).W) : (small m hO hH 0 c).A w = V m c (Pipeline.arrRef spec0 w) := by
  dsimp only [small]

theorem held0 : (small m hO hH 0 c).after 0 t = iblk m hO c 0 t := by dsimp only [small]; try rfl
theorem held1 : (small m hO hH 0 c).after 1 t = iblk m hO c 1 t := by dsimp only [small]; try rfl
theorem held2 : (small m hO hH 0 c).after 2 t = iblk m hO c 2 t := by dsimp only [small]; try rfl
theorem held3 : (small m hO hH 0 c).after 3 t = iblk m hO c 3 t := by dsimp only [small]; try rfl
theorem held4 : (small m hO hH 0 c).after 4 t = iblk m hO c 4 t := by dsimp only [small]; try rfl
theorem held5 : (small m hO hH 0 c).after 5 t = iblk m hO c 5 t := by dsimp only [small]; try rfl
theorem held6 : (small m hO hH 0 c).after 6 t = iblk m hO c 6 t := by dsimp only [small]; try rfl
theorem held7 : (small m hO hH 0 c).after 7 t = iblk m hO c 7 t := by dsimp only [small]; try rfl
theorem held8 : (small m hO hH 0 c).after 8 t = iblk m hO c 8 t := by dsimp only [small]; try rfl
theorem held9 : (small m hO hH 0 c).after 9 t = iblk m hO c 9 t := by dsimp only [small]; try rfl
theorem held10 : (small m hO hH 0 c).after 10 t = iblk m hO c 10 t := by dsimp only [small]; try rfl
theorem held11 : (small m hO hH 0 c).after 11 t = iblk m hO c 11 t := by dsimp only [small]; try rfl
theorem held12 : (small m hO hH 0 c).after 12 t = iblk m hO c 12 t := by dsimp only [small]; try rfl
theorem held13 : (small m hO hH 0 c).after 13 t = iblk m hO c 13 t := by dsimp only [small]; try rfl
theorem held14 : (small m hO hH 0 c).after 14 t = iblk m hO c 14 t := by dsimp only [small]; try rfl
theorem held15 : (small m hO hH 0 c).after 15 t = iblk m hO c 15 t := by dsimp only [small]; try rfl
theorem held16 : (small m hO hH 0 c).after 16 t = iblk m hO c 16 t := by dsimp only [small]; try rfl
theorem held17 : (small m hO hH 0 c).after 17 t = iblk m hO c 17 t := by dsimp only [small]; try rfl
theorem held18 : (small m hO hH 0 c).after 18 t = iblk m hO c 18 t := by dsimp only [small]; try rfl
theorem held19 : (small m hO hH 0 c).after 19 t = iblk m hO c 19 t := by dsimp only [small]; try rfl
theorem held20 : (small m hO hH 0 c).after 20 t = iblk m hO c 20 t := by dsimp only [small]; try rfl
theorem held21 : (small m hO hH 0 c).after 21 t = iblk m hO c 21 t := by dsimp only [small]; try rfl
theorem held22 : (small m hO hH 0 c).after 22 t = iblk m hO c 22 t := by dsimp only [small]; try rfl
theorem held23 : (small m hO hH 0 c).after 23 t = left23 m hO hH c t := by dsimp only [small]; try rfl
theorem held24 : (small m hO hH 0 c).after 24 t = left24 m hO hH c t := by dsimp only [small]; try rfl
theorem held25 : (small m hO hH 0 c).after 25 t = left25 m hO hH c t := by dsimp only [small]; try rfl
theorem held26 : (small m hO hH 0 c).after 26 t = left26 m hO hH c t := by dsimp only [small]; try rfl
theorem held27 : (small m hO hH 0 c).after 27 t = left27 m hO hH c t := by dsimp only [small]; try rfl
theorem held28 : (small m hO hH 0 c).after 28 t = left28 m hO hH c t := by dsimp only [small]; try rfl
theorem held29 : (small m hO hH 0 c).after 29 t = left29 m hO hH c t := by dsimp only [small]; try rfl
theorem held30 : (small m hO hH 0 c).after 30 t = left30 m hO hH c t := by dsimp only [small]; try rfl
theorem held31 : (small m hO hH 0 c).after 31 t = left31 m hO hH c t := by dsimp only [small]; try rfl
theorem held32 : (small m hO hH 0 c).after 32 t = left32 m hO hH c t := by dsimp only [small]; try rfl
theorem held33 : (small m hO hH 0 c).after 33 t = left33 m hO hH c t := by dsimp only [small]; try rfl
theorem held34 : (small m hO hH 0 c).after 34 t = left34 m hO hH c t := by dsimp only [small]; try rfl
theorem held35 : (small m hO hH 0 c).after 35 t = left35 m hO hH c t := by dsimp only [small]; try rfl
theorem held36 : (small m hO hH 0 c).after 36 t = left36 m hO hH c t := by dsimp only [small]; try rfl
theorem held37 : (small m hO hH 0 c).after 37 t = left37 m hO hH c t := by dsimp only [small]; try rfl
theorem held38 : (small m hO hH 0 c).after 38 t = left38 m hO hH c t := by dsimp only [small]; try rfl
theorem held39 : (small m hO hH 0 c).after 39 t = left39 m hO hH c t := by dsimp only [small]; try rfl
theorem held40 : (small m hO hH 0 c).after 40 t = left40 m hO hH c t := by dsimp only [small]; try rfl
theorem held41 : (small m hO hH 0 c).after 41 t = left41 m hO hH c t := by dsimp only [small]; try rfl
theorem held42 : (small m hO hH 0 c).after 42 t = left42 m hO hH c t := by dsimp only [small]; try rfl
theorem held43 : (small m hO hH 0 c).after 43 t = left43 m hO hH c t := by dsimp only [small]; try rfl
theorem held44 : (small m hO hH 0 c).after 44 t = left44 m hO hH c t := by dsimp only [small]; try rfl
theorem held45 : (small m hO hH 0 c).after 45 t = left45 m hO hH c t := by dsimp only [small]; try rfl
theorem held46 : (small m hO hH 0 c).after 46 t = left46 m hO hH c t := by dsimp only [small]; try rfl
theorem held47 : (small m hO hH 0 c).after 47 t = left47 m hO hH c t := by dsimp only [small]; try rfl
theorem held48 : (small m hO hH 0 c).after 48 t = left48 m hO hH c t := by dsimp only [small]; try rfl
theorem held49 : (small m hO hH 0 c).after 49 t = left49 m hO hH c t := by dsimp only [small]; try rfl
theorem held50 : (small m hO hH 0 c).after 50 t = left50 m hO hH c t := by dsimp only [small]; try rfl
theorem found0 (d) : (small m hO hH 0 c).before 0 t d = iblk m hO c 0 t :=
  before0_0_of m hO (small m hO hH 0 c) (A_small m hO hH c 0) (held0 m hO hH c) t d
theorem found1 (d) : (small m hO hH 0 c).before 1 t d = iblk m hO c 1 t :=
  before0_1_of m hO (small m hO hH 0 c) (A_small m hO hH c 1) (held1 m hO hH c) t d
theorem found2 (d) : (small m hO hH 0 c).before 2 t d = iblk m hO c 2 t :=
  before0_2_of m hO (small m hO hH 0 c) (A_small m hO hH c 2) (held2 m hO hH c) t d
theorem found3 (d) : (small m hO hH 0 c).before 3 t d = iblk m hO c 3 t :=
  before0_3_of m hO (small m hO hH 0 c) (A_small m hO hH c 3) (held3 m hO hH c) t d
theorem found4 (d) : (small m hO hH 0 c).before 4 t d = iblk m hO c 4 t :=
  before0_4_of m hO (small m hO hH 0 c) (A_small m hO hH c 4) (held4 m hO hH c) t d
theorem found5 (d) : (small m hO hH 0 c).before 5 t d = iblk m hO c 5 t :=
  before0_5_of m hO (small m hO hH 0 c) (A_small m hO hH c 5) (held5 m hO hH c) t d
theorem found6 (d) : (small m hO hH 0 c).before 6 t d = iblk m hO c 6 t :=
  before0_6_of m hO (small m hO hH 0 c) (A_small m hO hH c 6) (held6 m hO hH c) t d
theorem found7 (d) : (small m hO hH 0 c).before 7 t d = iblk m hO c 7 t :=
  before0_7_of m hO (small m hO hH 0 c) (A_small m hO hH c 7) (held7 m hO hH c) t d
theorem found8 (d) : (small m hO hH 0 c).before 8 t d = iblk m hO c 8 t :=
  before0_8_of m hO (small m hO hH 0 c) (A_small m hO hH c 8) (held8 m hO hH c) t d
theorem found9 (d) : (small m hO hH 0 c).before 9 t d = iblk m hO c 9 t :=
  before0_9_of m hO (small m hO hH 0 c) (A_small m hO hH c 9) (held9 m hO hH c) t d
theorem found10 (d) : (small m hO hH 0 c).before 10 t d = iblk m hO c 10 t :=
  before0_10_of m hO (small m hO hH 0 c) (A_small m hO hH c 10) (held10 m hO hH c) t d
theorem found11 (d) : (small m hO hH 0 c).before 11 t d = iblk m hO c 11 t :=
  before0_11_of m hO (small m hO hH 0 c) (A_small m hO hH c 11) (held11 m hO hH c) t d
theorem found12 (d) : (small m hO hH 0 c).before 12 t d = iblk m hO c 12 t :=
  before0_12_of m hO (small m hO hH 0 c) (A_small m hO hH c 12) (held12 m hO hH c) t d
theorem found13 (d) : (small m hO hH 0 c).before 13 t d = iblk m hO c 13 t :=
  before0_13_of m hO (small m hO hH 0 c) (A_small m hO hH c 13) (held13 m hO hH c) t d
theorem found14 (d) : (small m hO hH 0 c).before 14 t d = iblk m hO c 14 t :=
  before0_14_of m hO (small m hO hH 0 c) (A_small m hO hH c 14) (held14 m hO hH c) t d
theorem found15 (d) : (small m hO hH 0 c).before 15 t d = iblk m hO c 15 t :=
  before0_15_of m hO (small m hO hH 0 c) (A_small m hO hH c 15) (held15 m hO hH c) t d
theorem found16 (d) : (small m hO hH 0 c).before 16 t d = iblk m hO c 16 t :=
  before0_16_of m hO (small m hO hH 0 c) (A_small m hO hH c 16) (held16 m hO hH c) t d
theorem found17 (d) : (small m hO hH 0 c).before 17 t d = iblk m hO c 17 t :=
  before0_17_of m hO (small m hO hH 0 c) (A_small m hO hH c 17) (held17 m hO hH c) t d
theorem found18 (d) : (small m hO hH 0 c).before 18 t d = iblk m hO c 18 t :=
  before0_18_of m hO (small m hO hH 0 c) (A_small m hO hH c 18) (held18 m hO hH c) t d
theorem found19 (d) : (small m hO hH 0 c).before 19 t d = iblk m hO c 19 t :=
  before0_19_of m hO (small m hO hH 0 c) (A_small m hO hH c 19) (held19 m hO hH c) t d
theorem found20 (d) : (small m hO hH 0 c).before 20 t d = iblk m hO c 20 t :=
  before0_20_of m hO (small m hO hH 0 c) (A_small m hO hH c 20) (held20 m hO hH c) t d
theorem found21 (d) : (small m hO hH 0 c).before 21 t d = iblk m hO c 21 t :=
  before0_21_of m hO (small m hO hH 0 c) (A_small m hO hH c 21) (held21 m hO hH c) t d
theorem found22 (d) : (small m hO hH 0 c).before 22 t d = iblk m hO c 22 t :=
  before0_22_of m hO (small m hO hH 0 c) (A_small m hO hH c 22) (held22 m hO hH c) t d

/-- What the body is called with, -/
def given : sProp (MT nD τ sig Unit (Elt F) ℕ (UR sig nD τ) ℕ) :=
  iprop((small m hO hH 0 c).Φ t.castSucc ∗ (small m hO hH 0 c).owesAt () t.castSucc
    ∗ (∃ d, owns (c : Thread nD τ) (ms0_0 m hO t) fullShare ((small m hO hH 0 c).before 0 t d))
    ∗ (∃ d, owns (c : Thread nD τ) (ms0_1 m hO t) fullShare ((small m hO hH 0 c).before 1 t d))
    ∗ (∃ d, owns (c : Thread nD τ) (ms0_2 m hO t) fullShare ((small m hO hH 0 c).before 2 t d))
    ∗ (∃ d, owns (c : Thread nD τ) (ms0_3 m hO t) fullShare ((small m hO hH 0 c).before 3 t d))
    ∗ (∃ d, owns (c : Thread nD τ) (ms0_4 m hO t) fullShare ((small m hO hH 0 c).before 4 t d))
    ∗ (∃ d, owns (c : Thread nD τ) (ms0_5 m hO t) fullShare ((small m hO hH 0 c).before 5 t d))
    ∗ (∃ d, owns (c : Thread nD τ) (ms0_6 m hO t) fullShare ((small m hO hH 0 c).before 6 t d))
    ∗ (∃ d, owns (c : Thread nD τ) (ms0_7 m hO t) fullShare ((small m hO hH 0 c).before 7 t d))
    ∗ (∃ d, owns (c : Thread nD τ) (ms0_8 m hO t) fullShare ((small m hO hH 0 c).before 8 t d))
    ∗ (∃ d, owns (c : Thread nD τ) (ms0_9 m hO t) fullShare ((small m hO hH 0 c).before 9 t d))
    ∗ (∃ d, owns (c : Thread nD τ) (ms0_10 m hO t) fullShare ((small m hO hH 0 c).before 10 t d))
    ∗ (∃ d, owns (c : Thread nD τ) (ms0_11 m hO t) fullShare ((small m hO hH 0 c).before 11 t d))
    ∗ (∃ d, owns (c : Thread nD τ) (ms0_12 m hO t) fullShare ((small m hO hH 0 c).before 12 t d))
    ∗ (∃ d, owns (c : Thread nD τ) (ms0_13 m hO t) fullShare ((small m hO hH 0 c).before 13 t d))
    ∗ (∃ d, owns (c : Thread nD τ) (ms0_14 m hO t) fullShare ((small m hO hH 0 c).before 14 t d))
    ∗ (∃ d, owns (c : Thread nD τ) (ms0_15 m hO t) fullShare ((small m hO hH 0 c).before 15 t d))
    ∗ (∃ d, owns (c : Thread nD τ) (ms0_16 m hO t) fullShare ((small m hO hH 0 c).before 16 t d))
    ∗ (∃ d, owns (c : Thread nD τ) (ms0_17 m hO t) fullShare ((small m hO hH 0 c).before 17 t d))
    ∗ (∃ d, owns (c : Thread nD τ) (ms0_18 m hO t) fullShare ((small m hO hH 0 c).before 18 t d))
    ∗ (∃ d, owns (c : Thread nD τ) (ms0_19 m hO t) fullShare ((small m hO hH 0 c).before 19 t d))
    ∗ (∃ d, owns (c : Thread nD τ) (ms0_20 m hO t) fullShare ((small m hO hH 0 c).before 20 t d))
    ∗ (∃ d, owns (c : Thread nD τ) (ms0_21 m hO t) fullShare ((small m hO hH 0 c).before 21 t d))
    ∗ (∃ d, owns (c : Thread nD τ) (ms0_22 m hO t) fullShare ((small m hO hH 0 c).before 22 t d))
    ∗ (∃ d, owns (c : Thread nD τ) (ms0_23 m hO t) fullShare ((small m hO hH 0 c).before 23 t d))
    ∗ (∃ d, owns (c : Thread nD τ) (ms0_24 m hO t) fullShare ((small m hO hH 0 c).before 24 t d))
    ∗ (∃ d, owns (c : Thread nD τ) (ms0_25 m hO t) fullShare ((small m hO hH 0 c).before 25 t d))
    ∗ (∃ d, owns (c : Thread nD τ) (ms0_26 m hO t) fullShare ((small m hO hH 0 c).before 26 t d))
    ∗ (∃ d, owns (c : Thread nD τ) (ms0_27 m hO t) fullShare ((small m hO hH 0 c).before 27 t d))
    ∗ (∃ d, owns (c : Thread nD τ) (ms0_28 m hO t) fullShare ((small m hO hH 0 c).before 28 t d))
    ∗ (∃ d, owns (c : Thread nD τ) (ms0_29 m hO t) fullShare ((small m hO hH 0 c).before 29 t d))
    ∗ (∃ d, owns (c : Thread nD τ) (ms0_30 m hO t) fullShare ((small m hO hH 0 c).before 30 t d))
    ∗ (∃ d, owns (c : Thread nD τ) (ms0_31 m hO t) fullShare ((small m hO hH 0 c).before 31 t d))
    ∗ (∃ d, owns (c : Thread nD τ) (ms0_32 m hO t) fullShare ((small m hO hH 0 c).before 32 t d))
    ∗ (∃ d, owns (c : Thread nD τ) (ms0_33 m hO t) fullShare ((small m hO hH 0 c).before 33 t d))
    ∗ (∃ d, owns (c : Thread nD τ) (ms0_34 m hO t) fullShare ((small m hO hH 0 c).before 34 t d))
    ∗ (∃ d, owns (c : Thread nD τ) (ms0_35 m hO t) fullShare ((small m hO hH 0 c).before 35 t d))
    ∗ (∃ d, owns (c : Thread nD τ) (ms0_36 m hO t) fullShare ((small m hO hH 0 c).before 36 t d))
    ∗ (∃ d, owns (c : Thread nD τ) (ms0_37 m hO t) fullShare ((small m hO hH 0 c).before 37 t d))
    ∗ (∃ d, owns (c : Thread nD τ) (ms0_38 m hO t) fullShare ((small m hO hH 0 c).before 38 t d))
    ∗ (∃ d, owns (c : Thread nD τ) (ms0_39 m hO t) fullShare ((small m hO hH 0 c).before 39 t d))
    ∗ (∃ d, owns (c : Thread nD τ) (ms0_40 m hO t) fullShare ((small m hO hH 0 c).before 40 t d))
    ∗ (∃ d, owns (c : Thread nD τ) (ms0_41 m hO t) fullShare ((small m hO hH 0 c).before 41 t d))
    ∗ (∃ d, owns (c : Thread nD τ) (ms0_42 m hO t) fullShare ((small m hO hH 0 c).before 42 t d))
    ∗ (∃ d, owns (c : Thread nD τ) (ms0_43 m hO t) fullShare ((small m hO hH 0 c).before 43 t d))
    ∗ (∃ d, owns (c : Thread nD τ) (ms0_44 m hO t) fullShare ((small m hO hH 0 c).before 44 t d))
    ∗ (∃ d, owns (c : Thread nD τ) (ms0_45 m hO t) fullShare ((small m hO hH 0 c).before 45 t d))
    ∗ (∃ d, owns (c : Thread nD τ) (ms0_46 m hO t) fullShare ((small m hO hH 0 c).before 46 t d))
    ∗ (∃ d, owns (c : Thread nD τ) (ms0_47 m hO t) fullShare ((small m hO hH 0 c).before 47 t d))
    ∗ (∃ d, owns (c : Thread nD τ) (ms0_48 m hO t) fullShare ((small m hO hH 0 c).before 48 t d))
    ∗ (∃ d, owns (c : Thread nD τ) (ms0_49 m hO t) fullShare ((small m hO hH 0 c).before 49 t d))
    ∗ (∃ d, owns (c : Thread nD τ) (ms0_50 m hO t) fullShare ((small m hO hH 0 c).before 50 t d)))

/-- and what it hands back. -/
def handed : sProp (MT nD τ sig Unit (Elt F) ℕ (UR sig nD τ) ℕ) :=
  iprop((small m hO hH 0 c).Φ t.succ ∗ (small m hO hH 0 c).owesAt () t.succ
    ∗ owns (c : Thread nD τ) (ms0_0 m hO t) fullShare ((small m hO hH 0 c).after 0 t)
    ∗ owns (c : Thread nD τ) (ms0_1 m hO t) fullShare ((small m hO hH 0 c).after 1 t)
    ∗ owns (c : Thread nD τ) (ms0_2 m hO t) fullShare ((small m hO hH 0 c).after 2 t)
    ∗ owns (c : Thread nD τ) (ms0_3 m hO t) fullShare ((small m hO hH 0 c).after 3 t)
    ∗ owns (c : Thread nD τ) (ms0_4 m hO t) fullShare ((small m hO hH 0 c).after 4 t)
    ∗ owns (c : Thread nD τ) (ms0_5 m hO t) fullShare ((small m hO hH 0 c).after 5 t)
    ∗ owns (c : Thread nD τ) (ms0_6 m hO t) fullShare ((small m hO hH 0 c).after 6 t)
    ∗ owns (c : Thread nD τ) (ms0_7 m hO t) fullShare ((small m hO hH 0 c).after 7 t)
    ∗ owns (c : Thread nD τ) (ms0_8 m hO t) fullShare ((small m hO hH 0 c).after 8 t)
    ∗ owns (c : Thread nD τ) (ms0_9 m hO t) fullShare ((small m hO hH 0 c).after 9 t)
    ∗ owns (c : Thread nD τ) (ms0_10 m hO t) fullShare ((small m hO hH 0 c).after 10 t)
    ∗ owns (c : Thread nD τ) (ms0_11 m hO t) fullShare ((small m hO hH 0 c).after 11 t)
    ∗ owns (c : Thread nD τ) (ms0_12 m hO t) fullShare ((small m hO hH 0 c).after 12 t)
    ∗ owns (c : Thread nD τ) (ms0_13 m hO t) fullShare ((small m hO hH 0 c).after 13 t)
    ∗ owns (c : Thread nD τ) (ms0_14 m hO t) fullShare ((small m hO hH 0 c).after 14 t)
    ∗ owns (c : Thread nD τ) (ms0_15 m hO t) fullShare ((small m hO hH 0 c).after 15 t)
    ∗ owns (c : Thread nD τ) (ms0_16 m hO t) fullShare ((small m hO hH 0 c).after 16 t)
    ∗ owns (c : Thread nD τ) (ms0_17 m hO t) fullShare ((small m hO hH 0 c).after 17 t)
    ∗ owns (c : Thread nD τ) (ms0_18 m hO t) fullShare ((small m hO hH 0 c).after 18 t)
    ∗ owns (c : Thread nD τ) (ms0_19 m hO t) fullShare ((small m hO hH 0 c).after 19 t)
    ∗ owns (c : Thread nD τ) (ms0_20 m hO t) fullShare ((small m hO hH 0 c).after 20 t)
    ∗ owns (c : Thread nD τ) (ms0_21 m hO t) fullShare ((small m hO hH 0 c).after 21 t)
    ∗ owns (c : Thread nD τ) (ms0_22 m hO t) fullShare ((small m hO hH 0 c).after 22 t)
    ∗ owns (c : Thread nD τ) (ms0_23 m hO t) fullShare ((small m hO hH 0 c).after 23 t)
    ∗ owns (c : Thread nD τ) (ms0_24 m hO t) fullShare ((small m hO hH 0 c).after 24 t)
    ∗ owns (c : Thread nD τ) (ms0_25 m hO t) fullShare ((small m hO hH 0 c).after 25 t)
    ∗ owns (c : Thread nD τ) (ms0_26 m hO t) fullShare ((small m hO hH 0 c).after 26 t)
    ∗ owns (c : Thread nD τ) (ms0_27 m hO t) fullShare ((small m hO hH 0 c).after 27 t)
    ∗ owns (c : Thread nD τ) (ms0_28 m hO t) fullShare ((small m hO hH 0 c).after 28 t)
    ∗ owns (c : Thread nD τ) (ms0_29 m hO t) fullShare ((small m hO hH 0 c).after 29 t)
    ∗ owns (c : Thread nD τ) (ms0_30 m hO t) fullShare ((small m hO hH 0 c).after 30 t)
    ∗ owns (c : Thread nD τ) (ms0_31 m hO t) fullShare ((small m hO hH 0 c).after 31 t)
    ∗ owns (c : Thread nD τ) (ms0_32 m hO t) fullShare ((small m hO hH 0 c).after 32 t)
    ∗ owns (c : Thread nD τ) (ms0_33 m hO t) fullShare ((small m hO hH 0 c).after 33 t)
    ∗ owns (c : Thread nD τ) (ms0_34 m hO t) fullShare ((small m hO hH 0 c).after 34 t)
    ∗ owns (c : Thread nD τ) (ms0_35 m hO t) fullShare ((small m hO hH 0 c).after 35 t)
    ∗ owns (c : Thread nD τ) (ms0_36 m hO t) fullShare ((small m hO hH 0 c).after 36 t)
    ∗ owns (c : Thread nD τ) (ms0_37 m hO t) fullShare ((small m hO hH 0 c).after 37 t)
    ∗ owns (c : Thread nD τ) (ms0_38 m hO t) fullShare ((small m hO hH 0 c).after 38 t)
    ∗ owns (c : Thread nD τ) (ms0_39 m hO t) fullShare ((small m hO hH 0 c).after 39 t)
    ∗ owns (c : Thread nD τ) (ms0_40 m hO t) fullShare ((small m hO hH 0 c).after 40 t)
    ∗ owns (c : Thread nD τ) (ms0_41 m hO t) fullShare ((small m hO hH 0 c).after 41 t)
    ∗ owns (c : Thread nD τ) (ms0_42 m hO t) fullShare ((small m hO hH 0 c).after 42 t)
    ∗ owns (c : Thread nD τ) (ms0_43 m hO t) fullShare ((small m hO hH 0 c).after 43 t)
    ∗ owns (c : Thread nD τ) (ms0_44 m hO t) fullShare ((small m hO hH 0 c).after 44 t)
    ∗ owns (c : Thread nD τ) (ms0_45 m hO t) fullShare ((small m hO hH 0 c).after 45 t)
    ∗ owns (c : Thread nD τ) (ms0_46 m hO t) fullShare ((small m hO hH 0 c).after 46 t)
    ∗ owns (c : Thread nD τ) (ms0_47 m hO t) fullShare ((small m hO hH 0 c).after 47 t)
    ∗ owns (c : Thread nD τ) (ms0_48 m hO t) fullShare ((small m hO hH 0 c).after 48 t)
    ∗ owns (c : Thread nD τ) (ms0_49 m hO t) fullShare ((small m hO hH 0 c).after 49 t)
    ∗ owns (c : Thread nD τ) (ms0_50 m hO t) fullShare ((small m hO hH 0 c).after 50 t))

set_option maxHeartbeats 16000000 in
/-- The body at a point. -/
theorem body_small :
    given m hO hH c t ⊢ wp frame (wpE (defs₀ (F := F)) Variants.none c none) Set.univ (bodyAt0 (adm m hO) t) (fun _ => handed m hO hH c t) := by
  unfold given handed bodyAt0
  simp only [found0, found1, found2, found3, found4, found5, found6, found7, found8, found9, found10, found11, found12, found13, found14, found15, found16, found17, found18, found19, found20, found21, found22]
  rw [show (small m hO hH 0 c).Φ t.succ = (small m hO hH 0 c).Φ t.castSucc from rfl,
    show (small m hO hH 0 c).owesAt () t.succ = (small m hO hH 0 c).owesAt () t.castSucc from rfl,
    held0, held1, held2, held3, held4, held5, held6, held7, held8, held9, held10, held11, held12, held13, held14, held15, held16, held17, held18, held19, held20, held21, held22, held23, held24, held25, held26, held27, held28, held29, held30, held31, held32, held33, held34, held35, held36, held37, held38, held39, held40, held41, held42, held43, held44, held45, held46, held47, held48, held49, held50]
  rw [show (small m hO hH 0 c).Φ t.castSucc = iprop(Pipeline.ΦA spec0 c ∗ Pipeline.ΦT pre0 (tbl m) c) from rfl, PhiT0_eq]
  unfold left23 left24 left25 left26 left27 left28 left29 left30 left31 left32 left33 left34 left35 left36 left37 left38 left39 left40 left41 left42 left43 left44 left45 left46 left47 left48 left49 left50
  have cov23 := covers23 m hO hH c t
  have cov24 := covers24 m hO hH c t
  have cov25 := covers25 m hO hH c t
  have cov26 := covers26 m hO hH c t
  have cov27 := covers27 m hO hH c t
  have cov28 := covers28 m hO hH c t
  have cov29 := covers29 m hO hH c t
  have cov30 := covers30 m hO hH c t
  have cov31 := covers31 m hO hH c t
  have cov32 := covers32 m hO hH c t
  have cov33 := covers33 m hO hH c t
  have cov34 := covers34 m hO hH c t
  have cov35 := covers35 m hO hH c t
  have cov36 := covers36 m hO hH c t
  have cov37 := covers37 m hO hH c t
  have cov38 := covers38 m hO hH c t
  have cov39 := covers39 m hO hH c t
  have cov40 := covers40 m hO hH c t
  have cov41 := covers41 m hO hH c t
  have cov42 := covers42 m hO hH c t
  have cov43 := covers43 m hO hH c t
  have cov44 := covers44 m hO hH c t
  have cov45 := covers45 m hO hH c t
  have cov46 := covers46 m hO hH c t
  have cov47 := covers47 m hO hH c t
  have cov48 := covers48 m hO hH c t
  have cov49 := covers49 m hO hH c t
  have cov50 := covers50 m hO hH c t
  generalize runAt m hO hH c t = R at *
  obtain ⟨L, hrun⟩ := R
  dsimp only at *
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [HT0]; · iexact HT0
  iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩, ⟨%e34, H34⟩, ⟨%e35, H35⟩, ⟨%e36, H36⟩, ⟨%e37, H37⟩, ⟨%e38, H38⟩, ⟨%e39, H39⟩, ⟨%e40, H40⟩, ⟨%e41, H41⟩, ⟨%e42, H42⟩, ⟨%e43, H43⟩, ⟨%e44, H44⟩, ⟨%e45, H45⟩, ⟨%e46, H46⟩, ⟨%e47, H47⟩, ⟨%e48, H48⟩, ⟨%e49, H49⟩, ⟨%e50, H50⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · unfold owns; iexists _; isplitr
    swap; · iexact H23
    ipureintro; exact View.read_writes_of_cover _ _ _ _ _ cov23
  isplitl [H24]
  · unfold owns; iexists _; isplitr
    swap; · iexact H24
    ipureintro; exact View.read_writes_of_cover _ _ _ _ _ cov24
  isplitl [H25]
  · unfold owns; iexists _; isplitr
    swap; · iexact H25
    ipureintro; exact View.read_writes_of_cover _ _ _ _ _ cov25
  isplitl [H26]
  · unfold owns; iexists _; isplitr
    swap; · iexact H26
    ipureintro; exact View.read_writes_of_cover _ _ _ _ _ cov26
  isplitl [H27]
  · unfold owns; iexists _; isplitr
    swap; · iexact H27
    ipureintro; exact View.read_writes_of_cover _ _ _ _ _ cov27
  isplitl [H28]
  · unfold owns; iexists _; isplitr
    swap; · iexact H28
    ipureintro; exact View.read_writes_of_cover _ _ _ _ _ cov28
  isplitl [H29]
  · unfold owns; iexists _; isplitr
    swap; · iexact H29
    ipureintro; exact View.read_writes_of_cover _ _ _ _ _ cov29
  isplitl [H30]
  · unfold owns; iexists _; isplitr
    swap; · iexact H30
    ipureintro; exact View.read_writes_of_cover _ _ _ _ _ cov30
  isplitl [H31]
  · unfold owns; iexists _; isplitr
    swap; · iexact H31
    ipureintro; exact View.read_writes_of_cover _ _ _ _ _ cov31
  isplitl [H32]
  · unfold owns; iexists _; isplitr
    swap; · iexact H32
    ipureintro; exact View.read_writes_of_cover _ _ _ _ _ cov32
  isplitl [H33]
  · unfold owns; iexists _; isplitr
    swap; · iexact H33
    ipureintro; exact View.read_writes_of_cover _ _ _ _ _ cov33
  isplitl [H34]
  · unfold owns; iexists _; isplitr
    swap; · iexact H34
    ipureintro; exact View.read_writes_of_cover _ _ _ _ _ cov34
  isplitl [H35]
  · unfold owns; iexists _; isplitr
    swap; · iexact H35
    ipureintro; exact View.read_writes_of_cover _ _ _ _ _ cov35
  isplitl [H36]
  · unfold owns; iexists _; isplitr
    swap; · iexact H36
    ipureintro; exact View.read_writes_of_cover _ _ _ _ _ cov36
  isplitl [H37]
  · unfold owns; iexists _; isplitr
    swap; · iexact H37
    ipureintro; exact View.read_writes_of_cover _ _ _ _ _ cov37
  isplitl [H38]
  · unfold owns; iexists _; isplitr
    swap; · iexact H38
    ipureintro; exact View.read_writes_of_cover _ _ _ _ _ cov38
  isplitl [H39]
  · unfold owns; iexists _; isplitr
    swap; · iexact H39
    ipureintro; exact View.read_writes_of_cover _ _ _ _ _ cov39
  isplitl [H40]
  · unfold owns; iexists _; isplitr
    swap; · iexact H40
    ipureintro; exact View.read_writes_of_cover _ _ _ _ _ cov40
  isplitl [H41]
  · unfold owns; iexists _; isplitr
    swap; · iexact H41
    ipureintro; exact View.read_writes_of_cover _ _ _ _ _ cov41
  isplitl [H42]
  · unfold owns; iexists _; isplitr
    swap; · iexact H42
    ipureintro; exact View.read_writes_of_cover _ _ _ _ _ cov42
  isplitl [H43]
  · unfold owns; iexists _; isplitr
    swap; · iexact H43
    ipureintro; exact View.read_writes_of_cover _ _ _ _ _ cov43
  isplitl [H44]
  · unfold owns; iexists _; isplitr
    swap; · iexact H44
    ipureintro; exact View.read_writes_of_cover _ _ _ _ _ cov44
  isplitl [H45]
  · unfold owns; iexists _; isplitr
    swap; · iexact H45
    ipureintro; exact View.read_writes_of_cover _ _ _ _ _ cov45
  isplitl [H46]
  · unfold owns; iexists _; isplitr
    swap; · iexact H46
    ipureintro; exact View.read_writes_of_cover _ _ _ _ _ cov46
  isplitl [H47]
  · unfold owns; iexists _; isplitr
    swap; · iexact H47
    ipureintro; exact View.read_writes_of_cover _ _ _ _ _ cov47
  isplitl [H48]
  · unfold owns; iexists _; isplitr
    swap; · iexact H48
    ipureintro; exact View.read_writes_of_cover _ _ _ _ _ cov48
  isplitl [H49]
  · unfold owns; iexists _; isplitr
    swap; · iexact H49
    ipureintro; exact View.read_writes_of_cover _ _ _ _ _ cov49
  unfold owns; iexists _; isplitr
  swap; · iexact H50
  ipureintro; exact View.read_writes_of_cover _ _ _ _ _ cov50

theorem row_small (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem obligation_small (hO : Ok m) (hH : Hyps m hO) (c : Dev nD) : BodyObligation (small (F := F) m hO hH 0 c) (defs₀ (F := F)) Variants.none () Set.univ := fun t => by
  rw [bigSep_W0, bigSep_W0, row_small m hO]
  exact triple_restated (body_small m hO hH c t) rfl .rfl fun _ => .rfl

set_option backward.isDefEq.respectTransparency.types false in
/-- The launch. -/
theorem launch_small (hO : Ok m) (hH : Hyps m hO) : θ_run defs (onTc (τ := τ) (main (F := F))) (s₀ m ρ) (fun r => (Pipeline.FramePost (Pipeline.pin pcfgs fun _ => adm m hO) (small m hO hH) 0 (V m)) r ∧ r.2.sem = fun _ => 0) :=
  Pipeline.θ_run_frameP (Q' := _) pcfgs (fun _ => adm m hO) (small m hO hH) (0 : Fin 1) launch0 defs₀ Variants.none m ρ main
    (hbody := fun c => (obligation_small m hO hH c).loose) (hshare := fun c => (small m hO hH 0 c).share_full fun _ => rfl)
    (howed := fun _ _ => rfl) (V := V m) (hmain := hmain m Variants.none) (hA := A_small m hO hH) (hpf := V_pre m)
    (hΦ := fun _ _ => rfl)

theorem ran (hO : Ok m) (hH : Hyps m hO) : θ_run defs (onTc (τ := τ) (main (F := F))) (s₀ m ρ) (Pipeline.FramePost (Pipeline.pin pcfgs fun _ => adm m hO) (small m hO hH) 0 (V m)) :=
  (θ_run defs _ _).mono (fun _ h => h.1) (launch_small m ρ hO hH)

/-- The frame of the small parameters' update. -/
theorem frame_small (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (frame_of m ρ hO (small m hO hH) (A_small m hO hH) (ran m ρ hO hH)) ((θ_run defs _ _).mono (fun _ h => h.2) (launch_small m ρ hO hH))

end Cert.Kernel13Ideal.Hand

end
-- ==== Proof.SmallRef.lean ====
/-
  What the optimiser's step on the small weights should give, and that the reference gives it: the gradients
  are rows of the packed sums, for two of the weights the chip's own columns of them.
-/
module

public import proofs.«01_k».proof.Defs
public import proofs.«01_k».proof.Proof.Gen.Reference13Ideal.Run
public import proofs.«01_k».proof.Proof.Gen.Reference13Ideal.Read
public import proofs.«01_k».proof.Proof.AdamSpec
public import Idealize.ShloMosaic.Lib.Pointwise
public import Idealize.ShloMosaic.Lib.DynamicIndex

@[expose] public section

set_option maxRecDepth 16384
set_option maxHeartbeats 1000000

noncomputable section

namespace Cert.Small

open Idealize.ShloMosaic Idealize.ShloMosaic.TcCoe Idealize.ShloMosaic.Tactic Idealize.SL.Sem
open Cert.Reference13Ideal Cert.Reference13Ideal.Read
open Cert.Adam

/-- The chip's number. -/
def chip (x0 : (⟨1, ![3]⟩ : Shape).Idx → BitVec 32) : ℕ := (x0 (ix1 0)).toNat

/-- Column `q` of the chip's own. -/
def col (x0 : (⟨1, ![3]⟩ : Shape).Idx → BitVec 32) (q : Fin 128) : Fin 512 := ⟨128 * min (chip x0) 3 + q.val, by omega⟩

/-- The gradients read off the packed sums. -/
def grad1 (x0 : (⟨1, ![3]⟩ : Shape).Idx → BitVec 32) (x1 : (⟨2, ![40, 512]⟩ : Shape).Idx → EReal) : (⟨2, ![31, 128]⟩ : Shape).Idx → EReal :=
  fun y => x1 (ix2 ⟨(y 0).val, lt_trans (y 0).isLt (by decide)⟩ (col x0 (y 1)))
def grad2 (x1 : (⟨2, ![40, 512]⟩ : Shape).Idx → EReal) : (⟨2, ![1, 512]⟩ : Shape).Idx → EReal := fun y => x1 (ix2 31 (y 1))
def grad3 (x1 : (⟨2, ![40, 512]⟩ : Shape).Idx → EReal) : (⟨2, ![1, 512]⟩ : Shape).Idx → EReal := fun y => x1 (ix2 32 (y 1))
def grad4 (x1 : (⟨2, ![40, 512]⟩ : Shape).Idx → EReal) : (⟨2, ![1, 512]⟩ : Shape).Idx → EReal := fun y => x1 (ix2 33 (y 1))
def grad5 (x0 : (⟨1, ![3]⟩ : Shape).Idx → BitVec 32) (x1 : (⟨2, ![40, 512]⟩ : Shape).Idx → EReal) : (⟨2, ![3, 128]⟩ : Shape).Idx → EReal :=
  fun y => x1 (ix2 ⟨34 + (y 0).val, by have := (y 0).isLt; change (y 0).val < 3 at this; omega⟩ (col x0 (y 1)))
def grad6 (x1 : (⟨2, ![40, 512]⟩ : Shape).Idx → EReal) : (⟨2, ![1, 1024]⟩ : Shape).Idx → EReal :=
  fun y => x1 (ix2 ⟨37 + (y 1).val / 512, by have := (y 1).isLt; change (y 1).val < 1024 at this; omega⟩ ⟨(y 1).val % 512, Nat.mod_lt _ (by decide)⟩)

/-- The word `128` times the chip's number, as a whole number. -/
theorem word (x : BitVec 32) (h : x.toNat ≤ 3) : (128#32 * x).toNat = 128 * x.toNat ∧ (128#32 * x).slt 0#32 = false ∧ (128#32 * x).toInt = 128 * x.toNat := by
  have e : (128#32 * x).toNat = 128 * x.toNat := by
    rw [BitVec.toNat_mul]
    show 128 * x.toNat % 2 ^ 32 = _
    omega
  have ei : (128#32 * x).toInt = 128 * x.toNat := by
    rw [BitVec.toInt_eq_toNat_of_lt (by omega), e]
    push_cast
    rfl
  refine ⟨e, ?_, ei⟩
  rw [BitVec.slt, ei]
  exact decide_eq_false (by rw [show (0#32 : BitVec 32).toInt = 0 from rfl]; omega)

theorem start_at (x0 : (⟨S3, .i32⟩ : BufTy).Contents (Elt Ideal)) (h : chip x0 ≤ 3) (i : S_.Idx) : (val_main_v6 (F := Ideal) x0 i).toInt = 128 * chip x0 := by
  have e : val_main_v3 (F := Ideal) x0 i = 128#32 * x0 (ix1 0) := by
    pointwise [val_main_v3, val_main_v2, val_main_v1, val_main_c]
    rfl
  have e' : val_main_v6 (F := Ideal) x0 i = val_main_v3 (F := Ideal) x0 i :=
    select_slt_zero_of_nonneg (val_main_v3 (F := Ideal) x0) _ _ i (by rw [e, (word _ h).2.2]; omega)
  rw [e', e]
  exact (word _ h).2.2

theorem start_at_next (x0 : (⟨S3, .i32⟩ : BufTy).Contents (Elt Ideal)) (h : chip x0 ≤ 3) (i : S_.Idx) : (val_main_v17 (F := Ideal) x0 i).toInt = 128 * chip x0 := by
  have e : val_main_v14 (F := Ideal) x0 i = 128#32 * x0 (ix1 0) := by
    pointwise [val_main_v14, val_main_v13, val_main_v12, val_main_c_3]
    rfl
  have e' : val_main_v17 (F := Ideal) x0 i = val_main_v14 (F := Ideal) x0 i :=
    select_slt_zero_of_nonneg (val_main_v14 (F := Ideal) x0) _ _ i (by rw [e, (word _ h).2.2]; omega)
  rw [e', e]
  exact (word _ h).2.2

theorem own1 (x0 x1) (h : chip x0 ≤ 3) : val_main_v7 (F := Ideal) x0 x1 = grad1 x0 x1 := by
  have hoff : S31x512.Slices ![0, 128 * chip x0] S31x128 := ⟨rfl, fun a => match a with
    | 0 => by show 0 + 31 ≤ 31; omega
    | 1 => by show 128 * chip x0 + 128 ≤ 512; omega⟩
  unfold val_main_v7
  rw [Host.dynamicSlice_eq_extractStridedSlice (s := S31x512) S31x128 _ _ ![0, 128 * chip x0] _ hoff (by
    intro a
    match a with
    | 0 => rfl
    | 1 => exact start_at x0 h _)]
  funext y
  idx_vars y
  unfold grad1
  pointwise [val_main_v0]
  refine congrArg x1 ?_
  funext a
  refine Fin.ext ?_
  match a with
  | 0 => first | rfl | simp
  | 1 => show 128 * chip x0 + y1.val = 128 * min (chip x0) 3 + y1.val; rw [Nat.min_eq_left h]

theorem own5 (x0 x1) (h : chip x0 ≤ 3) : val_main_v18 (F := Ideal) x0 x1 = grad5 x0 x1 := by
  have hoff : S3x512.Slices ![0, 128 * chip x0] S3x128 := ⟨rfl, fun a => match a with
    | 0 => by show 0 + 3 ≤ 3; omega
    | 1 => by show 128 * chip x0 + 128 ≤ 512; omega⟩
  unfold val_main_v18
  rw [Host.dynamicSlice_eq_extractStridedSlice (s := S3x512) S3x128 _ _ ![0, 128 * chip x0] _ hoff (by
    intro a
    match a with
    | 0 => rfl
    | 1 => exact start_at_next x0 h _)]
  funext y
  idx_vars y
  unfold grad5
  pointwise [val_main_v11]
  refine congrArg x1 ?_
  funext a
  refine Fin.ext ?_
  match a with
  | 0 => first | rfl | simp
  | 1 => show 128 * chip x0 + y1.val = 128 * min (chip x0) 3 + y1.val; rw [Nat.min_eq_left h]

theorem own2 (x1) : val_main_v8 (F := Ideal) x1 = grad2 x1 := by
  funext y
  idx_vars y
  unfold grad2
  pointwise [val_main_v8]

theorem own3 (x1) : val_main_v9 (F := Ideal) x1 = grad3 x1 := by
  funext y
  idx_vars y
  unfold grad3
  pointwise [val_main_v9]

theorem own4 (x1) : val_main_v10 (F := Ideal) x1 = grad4 x1 := by
  funext y
  idx_vars y
  unfold grad4
  pointwise [val_main_v10]

theorem own6 (x1) : val_main_v21 (F := Ideal) x1 = grad6 x1 := by
  funext y
  idx_vars y
  unfold grad6
  pointwise [val_main_v21, val_main_v20, val_main_v19]
  by_cases hlt : y1.val < 512
  · rw [dif_pos hlt]
    refine congrArg x1 ?_
    funext a
    refine Fin.ext ?_
    match a with
    | 0 => show 37 = 37 + y1.val / 512; omega
    | 1 => show y1.val = y1.val % 512; omega
  · rw [dif_neg hlt]
    refine congrArg x1 ?_
    funext a
    refine Fin.ext ?_
    match a with
    | 0 => show 38 = 37 + y1.val / 512; omega
    | 1 => show y1.val - 512 = y1.val % 512; omega

theorem refD0 (x2 x3 x10 x17) : val_main_v45 (F := Ideal) x2 x3 x10 x17 = fun y : S1x6144.Idx => aD (x3 y) ((x2) y) (x10 y) (x17 y) := by
  funext y
  idx_vars y
  unfold aD aM aV
  pointwise [val_main_v45, val_main_v43, val_main_v44, val_main_v40, val_main_v42, val_main_cst_14, val_main_v34, val_main_v39, val_main_v41, val_main_v26, val_main_v33, val_main_v37, val_main_v38, val_main_cst_13, val_main_v23, val_main_v25, val_main_cst_10, val_main_v36, val_main_cst_12, val_main_v22, val_main_v24, val_main_v32, val_main_v35, val_main_cst, val_main_cst_7, val_main_v28, val_main_v31, val_main_cst_11, val_main_v27, val_main_v29, val_main_v30, val_main_cst_8, val_main_cst_9]

theorem refM0 (x2 x10) : val_main_v26 (F := Ideal) x2 x10 = fun y : S1x6144.Idx => aM ((x2) y) (x10 y) := by
  funext y
  idx_vars y
  unfold aM
  pointwise [val_main_v26, val_main_v23, val_main_v25, val_main_v22, val_main_v24, val_main_cst, val_main_cst_7]

theorem refV0 (x2 x17) : val_main_v32 (F := Ideal) x2 x17 = fun y : S1x6144.Idx => aV ((x2) y) (x17 y) := by
  funext y
  idx_vars y
  unfold aV
  pointwise [val_main_v32, val_main_v28, val_main_v31, val_main_v27, val_main_v29, val_main_v30, val_main_cst_8, val_main_cst_9]

theorem refD1 (x0 x1 x4 x11 x18) : val_main_v69 (F := Ideal) x0 x1 x4 x11 x18 = fun y : S31x128.Idx => aD (x4 y) ((val_main_v7 (F := Ideal) x0 x1) y) (x11 y) (x18 y) := by
  funext y
  idx_vars y
  unfold aD aM aV
  pointwise [val_main_v69, val_main_v67, val_main_v68, val_main_v64, val_main_v66, val_main_cst_23, val_main_v58, val_main_v63, val_main_v65, val_main_v50, val_main_v57, val_main_v61, val_main_v62, val_main_cst_22, val_main_v47, val_main_v49, val_main_cst_19, val_main_v60, val_main_cst_21, val_main_v46, val_main_v48, val_main_v56, val_main_v59, val_main_cst_15, val_main_cst_16, val_main_v52, val_main_v55, val_main_cst_20, val_main_v51, val_main_v53, val_main_v54, val_main_cst_17, val_main_cst_18]

theorem refM1 (x0 x1 x11) : val_main_v50 (F := Ideal) x0 x1 x11 = fun y : S31x128.Idx => aM ((val_main_v7 (F := Ideal) x0 x1) y) (x11 y) := by
  funext y
  idx_vars y
  unfold aM
  pointwise [val_main_v50, val_main_v47, val_main_v49, val_main_v46, val_main_v48, val_main_cst_15, val_main_cst_16]

theorem refV1 (x0 x1 x18) : val_main_v56 (F := Ideal) x0 x1 x18 = fun y : S31x128.Idx => aV ((val_main_v7 (F := Ideal) x0 x1) y) (x18 y) := by
  funext y
  idx_vars y
  unfold aV
  pointwise [val_main_v56, val_main_v52, val_main_v55, val_main_v51, val_main_v53, val_main_v54, val_main_cst_17, val_main_cst_18]

theorem refD2 (x1 x5 x12 x19) : val_main_v93 (F := Ideal) x1 x5 x12 x19 = fun y : S1x512.Idx => aD (x5 y) ((val_main_v8 (F := Ideal) x1) y) (x12 y) (x19 y) := by
  funext y
  idx_vars y
  unfold aD aM aV
  pointwise [val_main_v93, val_main_v91, val_main_v92, val_main_v88, val_main_v90, val_main_cst_32, val_main_v82, val_main_v87, val_main_v89, val_main_v74, val_main_v81, val_main_v85, val_main_v86, val_main_cst_31, val_main_v71, val_main_v73, val_main_cst_28, val_main_v84, val_main_cst_30, val_main_v70, val_main_v72, val_main_v80, val_main_v83, val_main_cst_24, val_main_cst_25, val_main_v76, val_main_v79, val_main_cst_29, val_main_v75, val_main_v77, val_main_v78, val_main_cst_26, val_main_cst_27]

theorem refM2 (x1 x12) : val_main_v74 (F := Ideal) x1 x12 = fun y : S1x512.Idx => aM ((val_main_v8 (F := Ideal) x1) y) (x12 y) := by
  funext y
  idx_vars y
  unfold aM
  pointwise [val_main_v74, val_main_v71, val_main_v73, val_main_v70, val_main_v72, val_main_cst_24, val_main_cst_25]

theorem refV2 (x1 x19) : val_main_v80 (F := Ideal) x1 x19 = fun y : S1x512.Idx => aV ((val_main_v8 (F := Ideal) x1) y) (x19 y) := by
  funext y
  idx_vars y
  unfold aV
  pointwise [val_main_v80, val_main_v76, val_main_v79, val_main_v75, val_main_v77, val_main_v78, val_main_cst_26, val_main_cst_27]

theorem refD3 (x1 x6 x13 x20) : val_main_v117 (F := Ideal) x1 x6 x13 x20 = fun y : S1x512.Idx => aD (x6 y) ((val_main_v9 (F := Ideal) x1) y) (x13 y) (x20 y) := by
  funext y
  idx_vars y
  unfold aD aM aV
  pointwise [val_main_v117, val_main_v115, val_main_v116, val_main_v112, val_main_v114, val_main_cst_41, val_main_v106, val_main_v111, val_main_v113, val_main_v105, val_main_v98, val_main_v109, val_main_v110, val_main_cst_40, val_main_cst_37, val_main_v95, val_main_v97, val_main_v108, val_main_cst_39, val_main_v94, val_main_v96, val_main_v104, val_main_v107, val_main_cst_33, val_main_cst_34, val_main_v100, val_main_v103, val_main_cst_38, val_main_v99, val_main_v101, val_main_v102, val_main_cst_35, val_main_cst_36]

theorem refM3 (x1 x13) : val_main_v98 (F := Ideal) x1 x13 = fun y : S1x512.Idx => aM ((val_main_v9 (F := Ideal) x1) y) (x13 y) := by
  funext y
  idx_vars y
  unfold aM
  pointwise [val_main_v98, val_main_v95, val_main_v97, val_main_v94, val_main_v96, val_main_cst_33, val_main_cst_34]

theorem refV3 (x1 x20) : val_main_v104 (F := Ideal) x1 x20 = fun y : S1x512.Idx => aV ((val_main_v9 (F := Ideal) x1) y) (x20 y) := by
  funext y
  idx_vars y
  unfold aV
  pointwise [val_main_v104, val_main_v100, val_main_v103, val_main_v99, val_main_v101, val_main_v102, val_main_cst_35, val_main_cst_36]

theorem refD4 (x1 x7 x14 x21) : val_main_v141 (F := Ideal) x1 x7 x14 x21 = fun y : S1x512.Idx => aD (x7 y) ((val_main_v10 (F := Ideal) x1) y) (x14 y) (x21 y) := by
  funext y
  idx_vars y
  unfold aD aM aV
  pointwise [val_main_v141, val_main_v139, val_main_v140, val_main_v136, val_main_v138, val_main_cst_50, val_main_v130, val_main_v135, val_main_v137, val_main_v122, val_main_v129, val_main_v133, val_main_v134, val_main_cst_49, val_main_v119, val_main_v121, val_main_cst_46, val_main_v132, val_main_cst_48, val_main_v118, val_main_v120, val_main_v128, val_main_v131, val_main_cst_42, val_main_cst_43, val_main_v124, val_main_v127, val_main_cst_47, val_main_v123, val_main_v125, val_main_v126, val_main_cst_44, val_main_cst_45]

theorem refM4 (x1 x14) : val_main_v122 (F := Ideal) x1 x14 = fun y : S1x512.Idx => aM ((val_main_v10 (F := Ideal) x1) y) (x14 y) := by
  funext y
  idx_vars y
  unfold aM
  pointwise [val_main_v122, val_main_v119, val_main_v121, val_main_v118, val_main_v120, val_main_cst_42, val_main_cst_43]

theorem refV4 (x1 x21) : val_main_v128 (F := Ideal) x1 x21 = fun y : S1x512.Idx => aV ((val_main_v10 (F := Ideal) x1) y) (x21 y) := by
  funext y
  idx_vars y
  unfold aV
  pointwise [val_main_v128, val_main_v124, val_main_v127, val_main_v123, val_main_v125, val_main_v126, val_main_cst_44, val_main_cst_45]

theorem refD5 (x0 x1 x8 x15 x22) : val_main_v165 (F := Ideal) x0 x1 x8 x15 x22 = fun y : S3x128.Idx => aD (x8 y) ((val_main_v18 (F := Ideal) x0 x1) y) (x15 y) (x22 y) := by
  funext y
  idx_vars y
  unfold aD aM aV
  pointwise [val_main_v165, val_main_v163, val_main_v164, val_main_v160, val_main_v162, val_main_cst_59, val_main_v154, val_main_v159, val_main_v161, val_main_v146, val_main_v153, val_main_v157, val_main_v158, val_main_cst_58, val_main_v143, val_main_v145, val_main_cst_55, val_main_v156, val_main_cst_57, val_main_v142, val_main_v144, val_main_v152, val_main_v155, val_main_cst_51, val_main_cst_52, val_main_v148, val_main_v151, val_main_cst_56, val_main_v147, val_main_v149, val_main_v150, val_main_cst_53, val_main_cst_54]

theorem refM5 (x0 x1 x15) : val_main_v146 (F := Ideal) x0 x1 x15 = fun y : S3x128.Idx => aM ((val_main_v18 (F := Ideal) x0 x1) y) (x15 y) := by
  funext y
  idx_vars y
  unfold aM
  pointwise [val_main_v146, val_main_v143, val_main_v145, val_main_v142, val_main_v144, val_main_cst_51, val_main_cst_52]

theorem refV5 (x0 x1 x22) : val_main_v152 (F := Ideal) x0 x1 x22 = fun y : S3x128.Idx => aV ((val_main_v18 (F := Ideal) x0 x1) y) (x22 y) := by
  funext y
  idx_vars y
  unfold aV
  pointwise [val_main_v152, val_main_v148, val_main_v151, val_main_v147, val_main_v149, val_main_v150, val_main_cst_53, val_main_cst_54]

theorem refD6 (x1 x9 x16 x23) : val_main_v189 (F := Ideal) x1 x9 x16 x23 = fun y : S1x1024.Idx => aD (x9 y) ((val_main_v21 (F := Ideal) x1) y) (x16 y) (x23 y) := by
  funext y
  idx_vars y
  unfold aD aM aV
  pointwise [val_main_v189, val_main_v187, val_main_v188, val_main_v184, val_main_v186, val_main_cst_68, val_main_v178, val_main_v183, val_main_v185, val_main_v170, val_main_v177, val_main_v181, val_main_v182, val_main_cst_67, val_main_v167, val_main_v169, val_main_cst_64, val_main_v180, val_main_cst_66, val_main_v166, val_main_v168, val_main_v176, val_main_v179, val_main_cst_60, val_main_cst_61, val_main_v172, val_main_v175, val_main_cst_65, val_main_v171, val_main_v173, val_main_v174, val_main_cst_62, val_main_cst_63]

theorem refM6 (x1 x16) : val_main_v170 (F := Ideal) x1 x16 = fun y : S1x1024.Idx => aM ((val_main_v21 (F := Ideal) x1) y) (x16 y) := by
  funext y
  idx_vars y
  unfold aM
  pointwise [val_main_v170, val_main_v167, val_main_v169, val_main_v166, val_main_v168, val_main_cst_60, val_main_cst_61]

theorem refV6 (x1 x23) : val_main_v176 (F := Ideal) x1 x23 = fun y : S1x1024.Idx => aV ((val_main_v21 (F := Ideal) x1) y) (x23 y) := by
  funext y
  idx_vars y
  unfold aV
  pointwise [val_main_v176, val_main_v172, val_main_v175, val_main_v171, val_main_v173, val_main_v174, val_main_cst_62, val_main_cst_63]

end Cert.Small

end
-- ==== Proof.SmallWrote.lean ====
module

public import proofs.«01_k».proof.Proof.SmallFrame
public import proofs.«01_k».proof.Proof.SmallRef
public import Idealize.ShloMosaic.Lib.Claim
public import Idealize.ShloMosaic.Lib.Pointwise
public import Idealize.ShloMosaic.Lib.Pipeline.ValueKit

@[expose] public section

/-! What the small parameters' update leaves in its buffers, as the gradients read off the packed sums and the optimiser's
step on them. -/

set_option maxHeartbeats 16000000
set_option maxRecDepth 16384

noncomputable section

namespace Cert.Kernel13Ideal.Hand

open Cert.Kernel13Ideal.Gen
open Idealize.ShloMosaic Idealize.ShloMosaic.TcCoe Idealize.ShloMosaic.Tactic
open Idealize.SL.Sem
open Cert.Adam

open Cert.Small in
theorem at1 (xt0 : (⟨1, ![3]⟩ : Shape).Idx → BitVec 32) (h : chip xt0 ≤ 3) (x0 : S40x512.Idx → EReal) (y0 : Fin 31) (y1 : Fin 128) (p q) :
    x0 (ix2 ⟨k0_off1 (xt0 (ix1 0)) 0 + y0.val, p⟩ ⟨k0_off1 (xt0 (ix1 0)) 1 + y1.val, q⟩) = grad1 xt0 x0 (ix2 y0 y1) := by
  have e : k0_off1 (xt0 (ix1 0)) 1 = 128 * min (chip xt0) 3 := (congrArg BitVec.toNat (BitVec.mul_comm _ _)).trans ((word _ h).1.trans (by rw [min_eq_left h]; rfl))
  have e0 : k0_off1 (xt0 (ix1 0)) 0 = 0 := rfl
  refine congrArg x0 (congrArg₂ ix2 (Fin.ext ?_) (Fin.ext ?_))
  · show k0_off1 (xt0 (ix1 0)) 0 + y0.val = y0.val
    rw [e0, Nat.zero_add]
  · show k0_off1 (xt0 (ix1 0)) 1 + y1.val = 128 * min (chip xt0) 3 + y1.val
    rw [e]

open Cert.Small in
theorem at5 (xt0 : (⟨1, ![3]⟩ : Shape).Idx → BitVec 32) (h : chip xt0 ≤ 3) (x0 : S40x512.Idx → EReal) (y0 : Fin 3) (y1 : Fin 128) (p q) :
    x0 (ix2 ⟨k0_off2 (xt0 (ix1 0)) 0 + y0.val, p⟩ ⟨k0_off2 (xt0 (ix1 0)) 1 + y1.val, q⟩) = grad5 xt0 x0 (ix2 y0 y1) := by
  have e : k0_off2 (xt0 (ix1 0)) 1 = 128 * min (chip xt0) 3 := (congrArg BitVec.toNat (BitVec.mul_comm _ _)).trans ((word _ h).1.trans (by rw [min_eq_left h]; rfl))
  have e0 : k0_off2 (xt0 (ix1 0)) 0 = 34 := rfl
  refine congrArg x0 (congrArg₂ ix2 (Fin.ext ?_) (Fin.ext ?_))
  · show k0_off2 (xt0 (ix1 0)) 0 + y0.val = 34 + y0.val
    rw [e0]
  · show k0_off2 (xt0 (ix1 0)) 1 + y1.val = 128 * min (chip xt0) 3 + y1.val
    rw [e]

open Cert.Small in
theorem at6 (x0 : S40x512.Idx → EReal) (y0 : Fin 1) (y1 : Fin 1024) (p : y1.val < 512 → y1.val < 512) (q : ¬ y1.val < 512 → y1.val - 512 < 512) :
    (if h : y1.val < 512 then x0 (ix2 37 ⟨y1.val, p h⟩) else x0 (ix2 38 ⟨y1.val - 512, q h⟩)) = grad6 x0 (ix2 y0 y1) := by
  have h1 := y1.isLt
  split
  · refine congrArg x0 (congrArg₂ ix2 (Fin.ext ?_) (Fin.ext ?_))
    · show 37 = 37 + y1.val / 512
      omega
    · show y1.val = y1.val % 512
      omega
  · refine congrArg x0 (congrArg₂ ix2 (Fin.ext ?_) (Fin.ext ?_))
    · show 38 = 37 + y1.val / 512
      omega
    · show y1.val - 512 = y1.val % 512
      omega

section

variable {c : Dev nD} {i : grid0.Coords} {arg2 : Memref sig .tc .vmem S40x512 .f32} {harg2 : arg2.IsWhole} {arg3 : Memref sig .tc .vmem S1x6144 .f32} {harg3 : arg3.IsWhole} {arg4 : Memref sig .tc .vmem S1x6144 .f32} {harg4 : arg4.IsWhole} {arg5 : Memref sig .tc .vmem S31x128 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S1x512 .f32} {harg8 : arg8.IsWhole} {arg9 : Memref sig .tc .vmem S3x128 .f32} {harg9 : arg9.IsWhole} {arg10 : Memref sig .tc .vmem S1x1024 .f32} {harg10 : arg10.IsWhole} {arg11 : Memref sig .tc .vmem S1x6144 .f32} {harg11 : arg11.IsWhole} {arg12 : Memref sig .tc .vmem S31x128 .f32} {harg12 : arg12.IsWhole} {arg13 : Memref sig .tc .vmem S1x512 .f32} {harg13 : arg13.IsWhole} {arg14 : Memref sig .tc .vmem S1x512 .f32} {harg14 : arg14.IsWhole} {arg15 : Memref sig .tc .vmem S1x512 .f32} {harg15 : arg15.IsWhole} {arg16 : Memref sig .tc .vmem S3x128 .f32} {harg16 : arg16.IsWhole} {arg17 : Memref sig .tc .vmem S1x1024 .f32} {harg17 : arg17.IsWhole} {arg18 : Memref sig .tc .vmem S1x6144 .f32} {harg18 : arg18.IsWhole} {arg19 : Memref sig .tc .vmem S31x128 .f32} {harg19 : arg19.IsWhole} {arg20 : Memref sig .tc .vmem S1x512 .f32} {harg20 : arg20.IsWhole} {arg21 : Memref sig .tc .vmem S1x512 .f32} {harg21 : arg21.IsWhole} {arg22 : Memref sig .tc .vmem S1x512 .f32} {harg22 : arg22.IsWhole} {arg23 : Memref sig .tc .vmem S3x128 .f32} {harg23 : arg23.IsWhole} {arg24 : Memref sig .tc .vmem S1x1024 .f32} {harg24 : arg24.IsWhole} {arg25 : Memref sig .tc .vmem S1x6144 .f32} {harg25 : arg25.IsWhole} {arg26 : Memref sig .tc .vmem S31x128 .f32} {harg26 : arg26.IsWhole} {arg27 : Memref sig .tc .vmem S1x512 .f32} {harg27 : arg27.IsWhole} {arg28 : Memref sig .tc .vmem S1x512 .f32} {harg28 : arg28.IsWhole} {arg29 : Memref sig .tc .vmem S1x512 .f32} {harg29 : arg29.IsWhole} {arg30 : Memref sig .tc .vmem S3x128 .f32} {harg30 : arg30.IsWhole} {arg31 : Memref sig .tc .vmem S1x1024 .f32} {harg31 : arg31.IsWhole} {arg32 : Memref sig .tc .vmem S1x6144 .f32} {harg32 : arg32.IsWhole} {arg33 : Memref sig .tc .vmem S31x128 .f32} {harg33 : arg33.IsWhole} {arg34 : Memref sig .tc .vmem S1x512 .f32} {harg34 : arg34.IsWhole} {arg35 : Memref sig .tc .vmem S1x512 .f32} {harg35 : arg35.IsWhole} {arg36 : Memref sig .tc .vmem S1x512 .f32} {harg36 : arg36.IsWhole} {arg37 : Memref sig .tc .vmem S3x128 .f32} {harg37 : arg37.IsWhole} {arg38 : Memref sig .tc .vmem S1x1024 .f32} {harg38 : arg38.IsWhole} {arg39 : Memref sig .tc .vmem S1x6144 .f32} {harg39 : arg39.IsWhole} {arg40 : Memref sig .tc .vmem S31x128 .f32} {harg40 : arg40.IsWhole} {arg41 : Memref sig .tc .vmem S1x512 .f32} {harg41 : arg41.IsWhole} {arg42 : Memref sig .tc .vmem S1x512 .f32} {harg42 : arg42.IsWhole} {arg43 : Memref sig .tc .vmem S1x512 .f32} {harg43 : arg43.IsWhole} {arg44 : Memref sig .tc .vmem S3x128 .f32} {harg44 : arg44.IsWhole} {arg45 : Memref sig .tc .vmem S1x1024 .f32} {harg45 : arg45.IsWhole} {arg46 : Memref sig .tc .vmem S1x6144 .f32} {harg46 : arg46.IsWhole} {arg47 : Memref sig .tc .vmem S31x128 .f32} {harg47 : arg47.IsWhole} {arg48 : Memref sig .tc .vmem S1x512 .f32} {harg48 : arg48.IsWhole} {arg49 : Memref sig .tc .vmem S1x512 .f32} {harg49 : arg49.IsWhole} {arg50 : Memref sig .tc .vmem S1x512 .f32} {harg50 : arg50.IsWhole} {arg51 : Memref sig .tc .vmem S3x128 .f32} {harg51 : arg51.IsWhole} {arg52 : Memref sig .tc .vmem S1x1024 .f32} {harg52 : arg52.IsWhole}
    {x0 : Vec Ideal S40x512 .f32} {x1 : Vec Ideal S1x6144 .f32} {x2 : Vec Ideal S1x6144 .f32} {x3 : Vec Ideal S31x128 .f32} {x4 : Vec Ideal S1x512 .f32} {x5 : Vec Ideal S1x512 .f32} {x6 : Vec Ideal S1x512 .f32} {x7 : Vec Ideal S3x128 .f32} {x8 : Vec Ideal S1x1024 .f32} {x9 : Vec Ideal S1x6144 .f32} {x10 : Vec Ideal S31x128 .f32} {x11 : Vec Ideal S1x512 .f32} {x12 : Vec Ideal S1x512 .f32} {x13 : Vec Ideal S1x512 .f32} {x14 : Vec Ideal S3x128 .f32} {x15 : Vec Ideal S1x1024 .f32} {x16 : Vec Ideal S1x6144 .f32} {x17 : Vec Ideal S31x128 .f32} {x18 : Vec Ideal S1x512 .f32} {x19 : Vec Ideal S1x512 .f32} {x20 : Vec Ideal S1x512 .f32} {x21 : Vec Ideal S3x128 .f32} {x22 : Vec Ideal S1x1024 .f32} {xt0 : TbBuf0 (F := Ideal) c tbM0_0} {k0_hw1 : k0_chk1 (tbM0_0.view.readAt (Elt Ideal) (Rect.unit (s := S3) ![0] S1.size inb_S3_S1_0).toLoadRect xt0 (Shape.Idx.first (numel1_S1.symm ▸ Nat.one_pos)))}
  {R : Stores Ideal} (hR : R = (smallRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 x0 x1 x2 x3 x4 x5 x6 x7 x8 x9 x10 x11 x12 x13 x14 x15 x16 x17 x18 x19 x20 x21 x22 xt0 k0_hw1).1)

include hR

theorem stored23 (y : S1x6144.Idx) :
    VO0_23.read (Elt Ideal) (VO0_23.writes (Elt Ideal) VO0_23.junk R.p23) y = x1 y := by
  subst hR
  unfold smallRun
  dsimp only
  idx_vars y
  frame_out

theorem stored24 (hc : Cert.Small.chip xt0 ≤ 3) (y : S31x128.Idx) :
    VO0_24.read (Elt Ideal) (VO0_24.writes (Elt Ideal) VO0_24.junk R.p24) y = Cert.Small.grad1 xt0 x0 y := by
  subst hR
  unfold smallRun
  dsimp only
  idx_vars y
  frame_out
  pointwise [k0_pay7, k0_pay8, k0_pay9, k0_pay10, k0_pay11]
  exact (at1 xt0 hc x0 y0 y1 _ _)

theorem stored25 (y : S1x512.Idx) :
    VO0_25.read (Elt Ideal) (VO0_25.writes (Elt Ideal) VO0_25.junk R.p25) y = Cert.Small.grad2 x0 y := by
  subst hR
  unfold smallRun
  dsimp only
  idx_vars y
  frame_out
  pointwise [k0_pay12, k0_pay13, k0_pay14, k0_pay15, k0_pay16]
  rfl

theorem stored26 (y : S1x512.Idx) :
    VO0_26.read (Elt Ideal) (VO0_26.writes (Elt Ideal) VO0_26.junk R.p26) y = Cert.Small.grad3 x0 y := by
  subst hR
  unfold smallRun
  dsimp only
  idx_vars y
  frame_out
  pointwise [k0_pay17, k0_pay18, k0_pay19, k0_pay20, k0_pay21]
  rfl

theorem stored27 (y : S1x512.Idx) :
    VO0_27.read (Elt Ideal) (VO0_27.writes (Elt Ideal) VO0_27.junk R.p27) y = Cert.Small.grad4 x0 y := by
  subst hR
  unfold smallRun
  dsimp only
  idx_vars y
  frame_out
  pointwise [k0_pay22, k0_pay23, k0_pay24, k0_pay25]
  rfl

theorem stored28 (hc : Cert.Small.chip xt0 ≤ 3) (y : S3x128.Idx) :
    VO0_28.read (Elt Ideal) (VO0_28.writes (Elt Ideal) VO0_28.junk R.p28) y = Cert.Small.grad5 xt0 x0 y := by
  subst hR
  unfold smallRun
  dsimp only
  idx_vars y
  frame_out
  pointwise [k0_pay26, k0_pay27, k0_pay28, k0_pay29, k0_pay30, k0_pay31]
  exact (at5 xt0 hc x0 y0 y1 _ _)

theorem stored29 (y : S1x1024.Idx) :
    VO0_29.read (Elt Ideal) (VO0_29.writes (Elt Ideal) VO0_29.junk R.p29) y = Cert.Small.grad6 x0 y := by
  subst hR
  unfold smallRun
  dsimp only
  idx_vars y
  frame_out
  pointwise [k0_pay1, k0_pay2, k0_pay30, k0_pay31, k0_pay32, k0_pay33]
  exact (at6 x0 y0 y1 (fun h => h) (fun h => by omega))

theorem stored30 (y : S1x6144.Idx) :
    VO0_30.read (Elt Ideal) (VO0_30.writes (Elt Ideal) VO0_30.junk R.p30) y = aD (x2 y) (x1 y) (x9 y) (x16 y) := by
  subst hR
  unfold smallRun
  dsimp only
  idx_vars y
  frame_out
  pointwise [k0_pay3, k0_pay4, k0_pay5, k0_pay6]
  rfl

theorem stored31 (hc : Cert.Small.chip xt0 ≤ 3) (y : S31x128.Idx) :
    VO0_31.read (Elt Ideal) (VO0_31.writes (Elt Ideal) VO0_31.junk R.p31) y = aD (x3 y) (Cert.Small.grad1 xt0 x0 y) (x10 y) (x17 y) := by
  subst hR
  unfold smallRun
  dsimp only
  idx_vars y
  frame_out
  pointwise [k0_pay7, k0_pay8, k0_pay9, k0_pay10, k0_pay11]
  exact congrArg (fun g => aD (x3 (ix2 y0 y1)) (g) (x10 (ix2 y0 y1)) (x17 (ix2 y0 y1))) (at1 xt0 hc x0 y0 y1 _ _)

theorem stored32 (y : S1x512.Idx) :
    VO0_32.read (Elt Ideal) (VO0_32.writes (Elt Ideal) VO0_32.junk R.p32) y = aD (x4 y) (Cert.Small.grad2 x0 y) (x11 y) (x18 y) := by
  subst hR
  unfold smallRun
  dsimp only
  idx_vars y
  frame_out
  pointwise [k0_pay12, k0_pay13, k0_pay14, k0_pay15, k0_pay16]
  rfl

theorem stored33 (y : S1x512.Idx) :
    VO0_33.read (Elt Ideal) (VO0_33.writes (Elt Ideal) VO0_33.junk R.p33) y = aD (x5 y) (Cert.Small.grad3 x0 y) (x12 y) (x19 y) := by
  subst hR
  unfold smallRun
  dsimp only
  idx_vars y
  frame_out
  pointwise [k0_pay17, k0_pay18, k0_pay19, k0_pay20, k0_pay21]
  rfl

theorem stored34 (y : S1x512.Idx) :
    VO0_34.read (Elt Ideal) (VO0_34.writes (Elt Ideal) VO0_34.junk R.p34) y = aD (x6 y) (Cert.Small.grad4 x0 y) (x13 y) (x20 y) := by
  subst hR
  unfold smallRun
  dsimp only
  idx_vars y
  frame_out
  pointwise [k0_pay22, k0_pay23, k0_pay24, k0_pay25]
  rfl

theorem stored35 (hc : Cert.Small.chip xt0 ≤ 3) (y : S3x128.Idx) :
    VO0_35.read (Elt Ideal) (VO0_35.writes (Elt Ideal) VO0_35.junk R.p35) y = aD (x7 y) (Cert.Small.grad5 xt0 x0 y) (x14 y) (x21 y) := by
  subst hR
  unfold smallRun
  dsimp only
  idx_vars y
  frame_out
  pointwise [k0_pay26, k0_pay27, k0_pay28, k0_pay29, k0_pay30, k0_pay31]
  exact congrArg (fun g => aD (x7 (ix2 y0 y1)) (g) (x14 (ix2 y0 y1)) (x21 (ix2 y0 y1))) (at5 xt0 hc x0 y0 y1 _ _)

theorem stored36 (y : S1x1024.Idx) :
    VO0_36.read (Elt Ideal) (VO0_36.writes (Elt Ideal) VO0_36.junk R.p36) y = aD (x8 y) (Cert.Small.grad6 x0 y) (x15 y) (x22 y) := by
  subst hR
  unfold smallRun
  dsimp only
  idx_vars y
  frame_out
  pointwise [k0_pay1, k0_pay2, k0_pay30, k0_pay31, k0_pay32, k0_pay33]
  exact congrArg (fun g => aD (x8 (ix2 y0 y1)) (g) (x15 (ix2 y0 y1)) (x22 (ix2 y0 y1))) (at6 x0 y0 y1 (fun h => h) (fun h => by omega))

theorem stored37 (y : S1x6144.Idx) :
    VO0_37.read (Elt Ideal) (VO0_37.writes (Elt Ideal) VO0_37.junk R.p37) y = aM (x1 y) (x9 y) := by
  subst hR
  unfold smallRun
  dsimp only
  idx_vars y
  frame_out
  pointwise [k0_pay3, k0_pay4, k0_pay5, k0_pay6]
  rfl

theorem stored38 (hc : Cert.Small.chip xt0 ≤ 3) (y : S31x128.Idx) :
    VO0_38.read (Elt Ideal) (VO0_38.writes (Elt Ideal) VO0_38.junk R.p38) y = aM (Cert.Small.grad1 xt0 x0 y) (x10 y) := by
  subst hR
  unfold smallRun
  dsimp only
  idx_vars y
  frame_out
  pointwise [k0_pay7, k0_pay8, k0_pay9, k0_pay10, k0_pay11]
  exact congrArg (fun g => aM (g) (x10 (ix2 y0 y1))) (at1 xt0 hc x0 y0 y1 _ _)

theorem stored39 (y : S1x512.Idx) :
    VO0_39.read (Elt Ideal) (VO0_39.writes (Elt Ideal) VO0_39.junk R.p39) y = aM (Cert.Small.grad2 x0 y) (x11 y) := by
  subst hR
  unfold smallRun
  dsimp only
  idx_vars y
  frame_out
  pointwise [k0_pay12, k0_pay13, k0_pay14, k0_pay15, k0_pay16]
  rfl

theorem stored40 (y : S1x512.Idx) :
    VO0_40.read (Elt Ideal) (VO0_40.writes (Elt Ideal) VO0_40.junk R.p40) y = aM (Cert.Small.grad3 x0 y) (x12 y) := by
  subst hR
  unfold smallRun
  dsimp only
  idx_vars y
  frame_out
  pointwise [k0_pay17, k0_pay18, k0_pay19, k0_pay20, k0_pay21]
  rfl

theorem stored41 (y : S1x512.Idx) :
    VO0_41.read (Elt Ideal) (VO0_41.writes (Elt Ideal) VO0_41.junk R.p41) y = aM (Cert.Small.grad4 x0 y) (x13 y) := by
  subst hR
  unfold smallRun
  dsimp only
  idx_vars y
  frame_out
  pointwise [k0_pay22, k0_pay23, k0_pay24, k0_pay25]
  rfl

theorem stored42 (hc : Cert.Small.chip xt0 ≤ 3) (y : S3x128.Idx) :
    VO0_42.read (Elt Ideal) (VO0_42.writes (Elt Ideal) VO0_42.junk R.p42) y = aM (Cert.Small.grad5 xt0 x0 y) (x14 y) := by
  subst hR
  unfold smallRun
  dsimp only
  idx_vars y
  frame_out
  pointwise [k0_pay26, k0_pay27, k0_pay28, k0_pay29, k0_pay30, k0_pay31]
  exact congrArg (fun g => aM (g) (x14 (ix2 y0 y1))) (at5 xt0 hc x0 y0 y1 _ _)

theorem stored43 (y : S1x1024.Idx) :
    VO0_43.read (Elt Ideal) (VO0_43.writes (Elt Ideal) VO0_43.junk R.p43) y = aM (Cert.Small.grad6 x0 y) (x15 y) := by
  subst hR
  unfold smallRun
  dsimp only
  idx_vars y
  frame_out
  pointwise [k0_pay1, k0_pay2, k0_pay30, k0_pay31, k0_pay32, k0_pay33]
  exact congrArg (fun g => aM (g) (x15 (ix2 y0 y1))) (at6 x0 y0 y1 (fun h => h) (fun h => by omega))

theorem stored44 (y : S1x6144.Idx) :
    VO0_44.read (Elt Ideal) (VO0_44.writes (Elt Ideal) VO0_44.junk R.p44) y = aV (x1 y) (x16 y) := by
  subst hR
  unfold smallRun
  dsimp only
  idx_vars y
  frame_out
  pointwise [k0_pay3, k0_pay4, k0_pay5, k0_pay6]
  rfl

theorem stored45 (hc : Cert.Small.chip xt0 ≤ 3) (y : S31x128.Idx) :
    VO0_45.read (Elt Ideal) (VO0_45.writes (Elt Ideal) VO0_45.junk R.p45) y = aV (Cert.Small.grad1 xt0 x0 y) (x17 y) := by
  subst hR
  unfold smallRun
  dsimp only
  idx_vars y
  frame_out
  pointwise [k0_pay7, k0_pay8, k0_pay9, k0_pay10, k0_pay11]
  exact congrArg (fun g => aV (g) (x17 (ix2 y0 y1))) (at1 xt0 hc x0 y0 y1 _ _)

theorem stored46 (y : S1x512.Idx) :
    VO0_46.read (Elt Ideal) (VO0_46.writes (Elt Ideal) VO0_46.junk R.p46) y = aV (Cert.Small.grad2 x0 y) (x18 y) := by
  subst hR
  unfold smallRun
  dsimp only
  idx_vars y
  frame_out
  pointwise [k0_pay12, k0_pay13, k0_pay14, k0_pay15, k0_pay16]
  rfl

theorem stored47 (y : S1x512.Idx) :
    VO0_47.read (Elt Ideal) (VO0_47.writes (Elt Ideal) VO0_47.junk R.p47) y = aV (Cert.Small.grad3 x0 y) (x19 y) := by
  subst hR
  unfold smallRun
  dsimp only
  idx_vars y
  frame_out
  pointwise [k0_pay17, k0_pay18, k0_pay19, k0_pay20, k0_pay21]
  rfl

theorem stored48 (y : S1x512.Idx) :
    VO0_48.read (Elt Ideal) (VO0_48.writes (Elt Ideal) VO0_48.junk R.p48) y = aV (Cert.Small.grad4 x0 y) (x20 y) := by
  subst hR
  unfold smallRun
  dsimp only
  idx_vars y
  frame_out
  pointwise [k0_pay22, k0_pay23, k0_pay24, k0_pay25]
  rfl

theorem stored49 (hc : Cert.Small.chip xt0 ≤ 3) (y : S3x128.Idx) :
    VO0_49.read (Elt Ideal) (VO0_49.writes (Elt Ideal) VO0_49.junk R.p49) y = aV (Cert.Small.grad5 xt0 x0 y) (x21 y) := by
  subst hR
  unfold smallRun
  dsimp only
  idx_vars y
  frame_out
  pointwise [k0_pay26, k0_pay27, k0_pay28, k0_pay29, k0_pay30, k0_pay31]
  exact congrArg (fun g => aV (g) (x21 (ix2 y0 y1))) (at5 xt0 hc x0 y0 y1 _ _)

theorem stored50 (y : S1x1024.Idx) :
    VO0_50.read (Elt Ideal) (VO0_50.writes (Elt Ideal) VO0_50.junk R.p50) y = aV (Cert.Small.grad6 x0 y) (x22 y) := by
  subst hR
  unfold smallRun
  dsimp only
  idx_vars y
  frame_out
  pointwise [k0_pay1, k0_pay2, k0_pay30, k0_pay31, k0_pay32, k0_pay33]
  exact congrArg (fun g => aV (g) (x22 (ix2 y0 y1))) (at6 x0 y0 y1 (fun h => h) (fun h => by omega))

end

variable (m : (ℓ : Loc nD τ sig) → Buf (Elt Ideal) ℓ) (hO : Ok m) (hH : Hyps m hO) (c : Dev nD) (t : Fin (cfgM m hO).N)

theorem wrote23 (y : S1x6144.Idx) : left23 m hO hH c t y = iblk m hO c 1 t y :=
  stored23 (R := (runAt m hO hH c t).1) rfl y

theorem wrote24 (hc : Cert.Small.chip (tbl m 0) ≤ 3) (y : S31x128.Idx) : left24 m hO hH c t y = Cert.Small.grad1 (tbl m 0) (iblk m hO c 0 t) y :=
  stored24 (R := (runAt m hO hH c t).1) rfl hc y

theorem wrote25 (y : S1x512.Idx) : left25 m hO hH c t y = Cert.Small.grad2 (iblk m hO c 0 t) y :=
  stored25 (R := (runAt m hO hH c t).1) rfl y

theorem wrote26 (y : S1x512.Idx) : left26 m hO hH c t y = Cert.Small.grad3 (iblk m hO c 0 t) y :=
  stored26 (R := (runAt m hO hH c t).1) rfl y

theorem wrote27 (y : S1x512.Idx) : left27 m hO hH c t y = Cert.Small.grad4 (iblk m hO c 0 t) y :=
  stored27 (R := (runAt m hO hH c t).1) rfl y

theorem wrote28 (hc : Cert.Small.chip (tbl m 0) ≤ 3) (y : S3x128.Idx) : left28 m hO hH c t y = Cert.Small.grad5 (tbl m 0) (iblk m hO c 0 t) y :=
  stored28 (R := (runAt m hO hH c t).1) rfl hc y

theorem wrote29 (y : S1x1024.Idx) : left29 m hO hH c t y = Cert.Small.grad6 (iblk m hO c 0 t) y :=
  stored29 (R := (runAt m hO hH c t).1) rfl y

theorem wrote30 (y : S1x6144.Idx) : left30 m hO hH c t y = aD (iblk m hO c 2 t y) (iblk m hO c 1 t y) (iblk m hO c 9 t y) (iblk m hO c 16 t y) :=
  stored30 (R := (runAt m hO hH c t).1) rfl y

theorem wrote31 (hc : Cert.Small.chip (tbl m 0) ≤ 3) (y : S31x128.Idx) : left31 m hO hH c t y = aD (iblk m hO c 3 t y) (Cert.Small.grad1 (tbl m 0) (iblk m hO c 0 t) y) (iblk m hO c 10 t y) (iblk m hO c 17 t y) :=
  stored31 (R := (runAt m hO hH c t).1) rfl hc y

theorem wrote32 (y : S1x512.Idx) : left32 m hO hH c t y = aD (iblk m hO c 4 t y) (Cert.Small.grad2 (iblk m hO c 0 t) y) (iblk m hO c 11 t y) (iblk m hO c 18 t y) :=
  stored32 (R := (runAt m hO hH c t).1) rfl y

theorem wrote33 (y : S1x512.Idx) : left33 m hO hH c t y = aD (iblk m hO c 5 t y) (Cert.Small.grad3 (iblk m hO c 0 t) y) (iblk m hO c 12 t y) (iblk m hO c 19 t y) :=
  stored33 (R := (runAt m hO hH c t).1) rfl y

theorem wrote34 (y : S1x512.Idx) : left34 m hO hH c t y = aD (iblk m hO c 6 t y) (Cert.Small.grad4 (iblk m hO c 0 t) y) (iblk m hO c 13 t y) (iblk m hO c 20 t y) :=
  stored34 (R := (runAt m hO hH c t).1) rfl y

theorem wrote35 (hc : Cert.Small.chip (tbl m 0) ≤ 3) (y : S3x128.Idx) : left35 m hO hH c t y = aD (iblk m hO c 7 t y) (Cert.Small.grad5 (tbl m 0) (iblk m hO c 0 t) y) (iblk m hO c 14 t y) (iblk m hO c 21 t y) :=
  stored35 (R := (runAt m hO hH c t).1) rfl hc y

theorem wrote36 (y : S1x1024.Idx) : left36 m hO hH c t y = aD (iblk m hO c 8 t y) (Cert.Small.grad6 (iblk m hO c 0 t) y) (iblk m hO c 15 t y) (iblk m hO c 22 t y) :=
  stored36 (R := (runAt m hO hH c t).1) rfl y

theorem wrote37 (y : S1x6144.Idx) : left37 m hO hH c t y = aM (iblk m hO c 1 t y) (iblk m hO c 9 t y) :=
  stored37 (R := (runAt m hO hH c t).1) rfl y

theorem wrote38 (hc : Cert.Small.chip (tbl m 0) ≤ 3) (y : S31x128.Idx) : left38 m hO hH c t y = aM (Cert.Small.grad1 (tbl m 0) (iblk m hO c 0 t) y) (iblk m hO c 10 t y) :=
  stored38 (R := (runAt m hO hH c t).1) rfl hc y

theorem wrote39 (y : S1x512.Idx) : left39 m hO hH c t y = aM (Cert.Small.grad2 (iblk m hO c 0 t) y) (iblk m hO c 11 t y) :=
  stored39 (R := (runAt m hO hH c t).1) rfl y

theorem wrote40 (y : S1x512.Idx) : left40 m hO hH c t y = aM (Cert.Small.grad3 (iblk m hO c 0 t) y) (iblk m hO c 12 t y) :=
  stored40 (R := (runAt m hO hH c t).1) rfl y

theorem wrote41 (y : S1x512.Idx) : left41 m hO hH c t y = aM (Cert.Small.grad4 (iblk m hO c 0 t) y) (iblk m hO c 13 t y) :=
  stored41 (R := (runAt m hO hH c t).1) rfl y

theorem wrote42 (hc : Cert.Small.chip (tbl m 0) ≤ 3) (y : S3x128.Idx) : left42 m hO hH c t y = aM (Cert.Small.grad5 (tbl m 0) (iblk m hO c 0 t) y) (iblk m hO c 14 t y) :=
  stored42 (R := (runAt m hO hH c t).1) rfl hc y

theorem wrote43 (y : S1x1024.Idx) : left43 m hO hH c t y = aM (Cert.Small.grad6 (iblk m hO c 0 t) y) (iblk m hO c 15 t y) :=
  stored43 (R := (runAt m hO hH c t).1) rfl y

theorem wrote44 (y : S1x6144.Idx) : left44 m hO hH c t y = aV (iblk m hO c 1 t y) (iblk m hO c 16 t y) :=
  stored44 (R := (runAt m hO hH c t).1) rfl y

theorem wrote45 (hc : Cert.Small.chip (tbl m 0) ≤ 3) (y : S31x128.Idx) : left45 m hO hH c t y = aV (Cert.Small.grad1 (tbl m 0) (iblk m hO c 0 t) y) (iblk m hO c 17 t y) :=
  stored45 (R := (runAt m hO hH c t).1) rfl hc y

theorem wrote46 (y : S1x512.Idx) : left46 m hO hH c t y = aV (Cert.Small.grad2 (iblk m hO c 0 t) y) (iblk m hO c 18 t y) :=
  stored46 (R := (runAt m hO hH c t).1) rfl y

theorem wrote47 (y : S1x512.Idx) : left47 m hO hH c t y = aV (Cert.Small.grad3 (iblk m hO c 0 t) y) (iblk m hO c 19 t y) :=
  stored47 (R := (runAt m hO hH c t).1) rfl y

theorem wrote48 (y : S1x512.Idx) : left48 m hO hH c t y = aV (Cert.Small.grad4 (iblk m hO c 0 t) y) (iblk m hO c 20 t y) :=
  stored48 (R := (runAt m hO hH c t).1) rfl y

theorem wrote49 (hc : Cert.Small.chip (tbl m 0) ≤ 3) (y : S3x128.Idx) : left49 m hO hH c t y = aV (Cert.Small.grad5 (tbl m 0) (iblk m hO c 0 t) y) (iblk m hO c 21 t y) :=
  stored49 (R := (runAt m hO hH c t).1) rfl hc y

theorem wrote50 (y : S1x1024.Idx) : left50 m hO hH c t y = aV (Cert.Small.grad6 (iblk m hO c 0 t) y) (iblk m hO c 22 t y) :=
  stored50 (R := (runAt m hO hH c t).1) rfl y

end Cert.Kernel13Ideal.Hand

end
-- ==== Proof.SmallValue.lean ====
module

public import proofs.«01_k».proof.Proof.SmallWrote
public import Idealize.ShloMosaic.Lib.Pointwise
public import Idealize.ShloMosaic.Lib.Pipeline.ValueKit

@[expose] public section

/-! The arrays after the small parameters' update, as functions of its arguments. -/

set_option maxHeartbeats 4000000
set_option maxRecDepth 16384

noncomputable section

namespace Cert.Kernel13Ideal.Hand

open Cert.Kernel13Ideal.Gen
open Idealize.ShloMosaic Idealize.ShloMosaic.TcCoe Idealize.ShloMosaic.Tactic
open Idealize.SL.Sem

variable (m : (ℓ : Loc nD τ sig) → Buf (Elt Ideal) ℓ) (hO : Ok m) (hH : Hyps m hO) (c : Dev nD) (t : Fin (cfgM m hO).N)

/-- The table is the first argument. -/
theorem table : (tbl m 0 : (⟨1, ![3]⟩ : Shape).Idx → BitVec 32) = (m ((c : Thread nD τ).loc main_arg0)) := by
  obtain rfl : c = 0 := Subsingleton.elim _ _
  exact V_main_arg0 m 0

theorem idx0 : ((cfgM m hO).win 0).index t = ![0, 0] := rfl
theorem idx1 : ((cfgM m hO).win 1).index t = ![0, 0] := rfl
theorem idx2 : ((cfgM m hO).win 2).index t = ![0, 0] := rfl
theorem idx3 : ((cfgM m hO).win 3).index t = ![0, 0] := rfl
theorem idx4 : ((cfgM m hO).win 4).index t = ![0, 0] := rfl
theorem idx5 : ((cfgM m hO).win 5).index t = ![0, 0] := rfl
theorem idx6 : ((cfgM m hO).win 6).index t = ![0, 0] := rfl
theorem idx7 : ((cfgM m hO).win 7).index t = ![0, 0] := rfl
theorem idx8 : ((cfgM m hO).win 8).index t = ![0, 0] := rfl
theorem idx9 : ((cfgM m hO).win 9).index t = ![0, 0] := rfl
theorem idx10 : ((cfgM m hO).win 10).index t = ![0, 0] := rfl
theorem idx11 : ((cfgM m hO).win 11).index t = ![0, 0] := rfl
theorem idx12 : ((cfgM m hO).win 12).index t = ![0, 0] := rfl
theorem idx13 : ((cfgM m hO).win 13).index t = ![0, 0] := rfl
theorem idx14 : ((cfgM m hO).win 14).index t = ![0, 0] := rfl
theorem idx15 : ((cfgM m hO).win 15).index t = ![0, 0] := rfl
theorem idx16 : ((cfgM m hO).win 16).index t = ![0, 0] := rfl
theorem idx17 : ((cfgM m hO).win 17).index t = ![0, 0] := rfl
theorem idx18 : ((cfgM m hO).win 18).index t = ![0, 0] := rfl
theorem idx19 : ((cfgM m hO).win 19).index t = ![0, 0] := rfl
theorem idx20 : ((cfgM m hO).win 20).index t = ![0, 0] := rfl
theorem idx21 : ((cfgM m hO).win 21).index t = ![0, 0] := rfl
theorem idx22 : ((cfgM m hO).win 22).index t = ![0, 0] := rfl
theorem idx23 : ((cfgM m hO).win 23).index t = ![0, 0] := rfl
theorem idx24 : ((cfgM m hO).win 24).index t = ![0, 0] := rfl
theorem idx25 : ((cfgM m hO).win 25).index t = ![0, 0] := rfl
theorem idx26 : ((cfgM m hO).win 26).index t = ![0, 0] := rfl
theorem idx27 : ((cfgM m hO).win 27).index t = ![0, 0] := rfl
theorem idx28 : ((cfgM m hO).win 28).index t = ![0, 0] := rfl
theorem idx29 : ((cfgM m hO).win 29).index t = ![0, 0] := rfl
theorem idx30 : ((cfgM m hO).win 30).index t = ![0, 0] := rfl
theorem idx31 : ((cfgM m hO).win 31).index t = ![0, 0] := rfl
theorem idx32 : ((cfgM m hO).win 32).index t = ![0, 0] := rfl
theorem idx33 : ((cfgM m hO).win 33).index t = ![0, 0] := rfl
theorem idx34 : ((cfgM m hO).win 34).index t = ![0, 0] := rfl
theorem idx35 : ((cfgM m hO).win 35).index t = ![0, 0] := rfl
theorem idx36 : ((cfgM m hO).win 36).index t = ![0, 0] := rfl
theorem idx37 : ((cfgM m hO).win 37).index t = ![0, 0] := rfl
theorem idx38 : ((cfgM m hO).win 38).index t = ![0, 0] := rfl
theorem idx39 : ((cfgM m hO).win 39).index t = ![0, 0] := rfl
theorem idx40 : ((cfgM m hO).win 40).index t = ![0, 0] := rfl
theorem idx41 : ((cfgM m hO).win 41).index t = ![0, 0] := rfl
theorem idx42 : ((cfgM m hO).win 42).index t = ![0, 0] := rfl
theorem idx43 : ((cfgM m hO).win 43).index t = ![0, 0] := rfl
theorem idx44 : ((cfgM m hO).win 44).index t = ![0, 0] := rfl
theorem idx45 : ((cfgM m hO).win 45).index t = ![0, 0] := rfl
theorem idx46 : ((cfgM m hO).win 46).index t = ![0, 0] := rfl
theorem idx47 : ((cfgM m hO).win 47).index t = ![0, 0] := rfl
theorem idx48 : ((cfgM m hO).win 48).index t = ![0, 0] := rfl
theorem idx49 : ((cfgM m hO).win 49).index t = ![0, 0] := rfl
theorem idx50 : ((cfgM m hO).win 50).index t = ![0, 0] := rfl

theorem blk0 : iblk m hO c 0 t = (m ((c : Thread nD τ).loc main_arg1)) := by
  refine funext fun (y : S40x512.Idx) => ?_
  rw [← V_main_arg1 m c]
  idx_vars y
  blk_simp [iblk]
  refine congrArg _ ?_
  blk_ext [idx0 m hO t]

theorem blk1 : iblk m hO c 1 t = (m ((c : Thread nD τ).loc main_arg2)) := by
  refine funext fun (y : S1x6144.Idx) => ?_
  rw [← V_main_arg2 m c]
  idx_vars y
  blk_simp [iblk]
  refine congrArg _ ?_
  blk_ext [idx1 m hO t]

theorem blk2 : iblk m hO c 2 t = (m ((c : Thread nD τ).loc main_arg3)) := by
  refine funext fun (y : S1x6144.Idx) => ?_
  rw [← V_main_arg3 m c]
  idx_vars y
  blk_simp [iblk]
  refine congrArg _ ?_
  blk_ext [idx2 m hO t]

theorem blk3 : iblk m hO c 3 t = (m ((c : Thread nD τ).loc main_arg4)) := by
  refine funext fun (y : S31x128.Idx) => ?_
  rw [← V_main_arg4 m c]
  idx_vars y
  blk_simp [iblk]
  refine congrArg _ ?_
  blk_ext [idx3 m hO t]

theorem blk4 : iblk m hO c 4 t = (m ((c : Thread nD τ).loc main_arg5)) := by
  refine funext fun (y : S1x512.Idx) => ?_
  rw [← V_main_arg5 m c]
  idx_vars y
  blk_simp [iblk]
  refine congrArg _ ?_
  blk_ext [idx4 m hO t]

theorem blk5 : iblk m hO c 5 t = (m ((c : Thread nD τ).loc main_arg6)) := by
  refine funext fun (y : S1x512.Idx) => ?_
  rw [← V_main_arg6 m c]
  idx_vars y
  blk_simp [iblk]
  refine congrArg _ ?_
  blk_ext [idx5 m hO t]

theorem blk6 : iblk m hO c 6 t = (m ((c : Thread nD τ).loc main_arg7)) := by
  refine funext fun (y : S1x512.Idx) => ?_
  rw [← V_main_arg7 m c]
  idx_vars y
  blk_simp [iblk]
  refine congrArg _ ?_
  blk_ext [idx6 m hO t]

theorem blk7 : iblk m hO c 7 t = (m ((c : Thread nD τ).loc main_arg8)) := by
  refine funext fun (y : S3x128.Idx) => ?_
  rw [← V_main_arg8 m c]
  idx_vars y
  blk_simp [iblk]
  refine congrArg _ ?_
  blk_ext [idx7 m hO t]

theorem blk8 : iblk m hO c 8 t = (m ((c : Thread nD τ).loc main_arg9)) := by
  refine funext fun (y : S1x1024.Idx) => ?_
  rw [← V_main_arg9 m c]
  idx_vars y
  blk_simp [iblk]
  refine congrArg _ ?_
  blk_ext [idx8 m hO t]

theorem blk9 : iblk m hO c 9 t = (m ((c : Thread nD τ).loc main_arg10)) := by
  refine funext fun (y : S1x6144.Idx) => ?_
  rw [← V_main_arg10 m c]
  idx_vars y
  blk_simp [iblk]
  refine congrArg _ ?_
  blk_ext [idx9 m hO t]

theorem blk10 : iblk m hO c 10 t = (m ((c : Thread nD τ).loc main_arg11)) := by
  refine funext fun (y : S31x128.Idx) => ?_
  rw [← V_main_arg11 m c]
  idx_vars y
  blk_simp [iblk]
  refine congrArg _ ?_
  blk_ext [idx10 m hO t]

theorem blk11 : iblk m hO c 11 t = (m ((c : Thread nD τ).loc main_arg12)) := by
  refine funext fun (y : S1x512.Idx) => ?_
  rw [← V_main_arg12 m c]
  idx_vars y
  blk_simp [iblk]
  refine congrArg _ ?_
  blk_ext [idx11 m hO t]

theorem blk12 : iblk m hO c 12 t = (m ((c : Thread nD τ).loc main_arg13)) := by
  refine funext fun (y : S1x512.Idx) => ?_
  rw [← V_main_arg13 m c]
  idx_vars y
  blk_simp [iblk]
  refine congrArg _ ?_
  blk_ext [idx12 m hO t]

theorem blk13 : iblk m hO c 13 t = (m ((c : Thread nD τ).loc main_arg14)) := by
  refine funext fun (y : S1x512.Idx) => ?_
  rw [← V_main_arg14 m c]
  idx_vars y
  blk_simp [iblk]
  refine congrArg _ ?_
  blk_ext [idx13 m hO t]

theorem blk14 : iblk m hO c 14 t = (m ((c : Thread nD τ).loc main_arg15)) := by
  refine funext fun (y : S3x128.Idx) => ?_
  rw [← V_main_arg15 m c]
  idx_vars y
  blk_simp [iblk]
  refine congrArg _ ?_
  blk_ext [idx14 m hO t]

theorem blk15 : iblk m hO c 15 t = (m ((c : Thread nD τ).loc main_arg16)) := by
  refine funext fun (y : S1x1024.Idx) => ?_
  rw [← V_main_arg16 m c]
  idx_vars y
  blk_simp [iblk]
  refine congrArg _ ?_
  blk_ext [idx15 m hO t]

theorem blk16 : iblk m hO c 16 t = (m ((c : Thread nD τ).loc main_arg17)) := by
  refine funext fun (y : S1x6144.Idx) => ?_
  rw [← V_main_arg17 m c]
  idx_vars y
  blk_simp [iblk]
  refine congrArg _ ?_
  blk_ext [idx16 m hO t]

theorem blk17 : iblk m hO c 17 t = (m ((c : Thread nD τ).loc main_arg18)) := by
  refine funext fun (y : S31x128.Idx) => ?_
  rw [← V_main_arg18 m c]
  idx_vars y
  blk_simp [iblk]
  refine congrArg _ ?_
  blk_ext [idx17 m hO t]

theorem blk18 : iblk m hO c 18 t = (m ((c : Thread nD τ).loc main_arg19)) := by
  refine funext fun (y : S1x512.Idx) => ?_
  rw [← V_main_arg19 m c]
  idx_vars y
  blk_simp [iblk]
  refine congrArg _ ?_
  blk_ext [idx18 m hO t]

theorem blk19 : iblk m hO c 19 t = (m ((c : Thread nD τ).loc main_arg20)) := by
  refine funext fun (y : S1x512.Idx) => ?_
  rw [← V_main_arg20 m c]
  idx_vars y
  blk_simp [iblk]
  refine congrArg _ ?_
  blk_ext [idx19 m hO t]

theorem blk20 : iblk m hO c 20 t = (m ((c : Thread nD τ).loc main_arg21)) := by
  refine funext fun (y : S1x512.Idx) => ?_
  rw [← V_main_arg21 m c]
  idx_vars y
  blk_simp [iblk]
  refine congrArg _ ?_
  blk_ext [idx20 m hO t]

theorem blk21 : iblk m hO c 21 t = (m ((c : Thread nD τ).loc main_arg22)) := by
  refine funext fun (y : S3x128.Idx) => ?_
  rw [← V_main_arg22 m c]
  idx_vars y
  blk_simp [iblk]
  refine congrArg _ ?_
  blk_ext [idx21 m hO t]

theorem blk22 : iblk m hO c 22 t = (m ((c : Thread nD τ).loc main_arg23)) := by
  refine funext fun (y : S1x1024.Idx) => ?_
  rw [← V_main_arg23 m c]
  idx_vars y
  blk_simp [iblk]
  refine congrArg _ ?_
  blk_ext [idx22 m hO t]

theorem cov23 : ((cfgM m hO).win 23).Covers := by
  refine ⟨(by decide : ∀ a : Fin 2, 0 < S1x6144.size a), fun β => ⟨⟨0, Nat.one_pos⟩, flush0_23 _ _, fun (a : Fin 2) => ⟨?_, Or.inl rfl⟩⟩⟩
  have hb : (β a).val < 1 := lt_of_lt_of_eq (β a).isLt ((by decide : ∀ a : Fin 2, (S1x6144.size a + S1x6144.size a - 1) / S1x6144.size a = 1) a)
  exact ((by decide : ∀ a : Fin 2, (![0, 0] : Fin 2 → ℕ) a = 0) a).trans (by omega)

theorem res23 : (small m hO hH 0 c).arrAt 23 (cfgM m hO).N = fun y : S1x6144.Idx => (m ((c : Thread nD τ).loc main_arg2)) y := by
  refine (small m hO hH 0 c).arrAt_eq_of_covers 23 _ (cov23 m hO) fun t hf (y : S1x6144.Idx) => ?_
  blk_simp
  have h : (small m hO hH 0 c).after 23 t = left23 m hO hH c t := by dsimp only [small]; rfl
  rw [h]
  idx_vars y
  have e : ((((cfgM m hO).win 23).blk t).view.emb (ix2 y0 y1) : S1x6144.Idx) = ix2 y0 y1 := by blk_ext [idx23 m hO t]
  rw [e]
  refine (wrote23 m hO hH c t (ix2 y0 y1)).trans ?_
  rw [blk1 m hO c t]

theorem cov24 : ((cfgM m hO).win 24).Covers := by
  refine ⟨(by decide : ∀ a : Fin 2, 0 < S31x128.size a), fun β => ⟨⟨0, Nat.one_pos⟩, flush0_24 _ _, fun (a : Fin 2) => ⟨?_, Or.inl rfl⟩⟩⟩
  have hb : (β a).val < 1 := lt_of_lt_of_eq (β a).isLt ((by decide : ∀ a : Fin 2, (S31x128.size a + S31x128.size a - 1) / S31x128.size a = 1) a)
  exact ((by decide : ∀ a : Fin 2, (![0, 0] : Fin 2 → ℕ) a = 0) a).trans (by omega)

theorem res24 (hc : Cert.Small.chip (m ((c : Thread nD τ).loc main_arg0)) ≤ 3) : (small m hO hH 0 c).arrAt 24 (cfgM m hO).N = fun y : S31x128.Idx => Cert.Small.grad1 (m ((c : Thread nD τ).loc main_arg0)) (m ((c : Thread nD τ).loc main_arg1)) y := by
  refine (small m hO hH 0 c).arrAt_eq_of_covers 24 _ (cov24 m hO) fun t hf (y : S31x128.Idx) => ?_
  blk_simp
  have h : (small m hO hH 0 c).after 24 t = left24 m hO hH c t := by dsimp only [small]; rfl
  rw [h]
  idx_vars y
  have e : ((((cfgM m hO).win 24).blk t).view.emb (ix2 y0 y1) : S31x128.Idx) = ix2 y0 y1 := by blk_ext [idx24 m hO t]
  rw [e]
  refine (wrote24 m hO hH c t (by rw [table m c]; exact hc) (ix2 y0 y1)).trans ?_
  rw [blk0 m hO c t, table m c]

theorem cov25 : ((cfgM m hO).win 25).Covers := by
  refine ⟨(by decide : ∀ a : Fin 2, 0 < S1x512.size a), fun β => ⟨⟨0, Nat.one_pos⟩, flush0_25 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res25 : (small m hO hH 0 c).arrAt 25 (cfgM m hO).N = fun y : S1x512.Idx => Cert.Small.grad2 (m ((c : Thread nD τ).loc main_arg1)) y := by
  refine (small m hO hH 0 c).arrAt_eq_of_covers 25 _ (cov25 m hO) fun t hf (y : S1x512.Idx) => ?_
  blk_simp
  have h : (small m hO hH 0 c).after 25 t = left25 m hO hH c t := by dsimp only [small]; rfl
  rw [h]
  idx_vars y
  have e : ((((cfgM m hO).win 25).blk t).view.emb (ix2 y0 y1) : S1x512.Idx) = ix2 y0 y1 := by blk_ext [idx25 m hO t]
  rw [e]
  refine (wrote25 m hO hH c t (ix2 y0 y1)).trans ?_
  rw [blk0 m hO c t]

theorem cov26 : ((cfgM m hO).win 26).Covers := by
  refine ⟨(by decide : ∀ a : Fin 2, 0 < S1x512.size a), fun β => ⟨⟨0, Nat.one_pos⟩, flush0_26 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res26 : (small m hO hH 0 c).arrAt 26 (cfgM m hO).N = fun y : S1x512.Idx => Cert.Small.grad3 (m ((c : Thread nD τ).loc main_arg1)) y := by
  refine (small m hO hH 0 c).arrAt_eq_of_covers 26 _ (cov26 m hO) fun t hf (y : S1x512.Idx) => ?_
  blk_simp
  have h : (small m hO hH 0 c).after 26 t = left26 m hO hH c t := by dsimp only [small]; rfl
  rw [h]
  idx_vars y
  have e : ((((cfgM m hO).win 26).blk t).view.emb (ix2 y0 y1) : S1x512.Idx) = ix2 y0 y1 := by blk_ext [idx26 m hO t]
  rw [e]
  refine (wrote26 m hO hH c t (ix2 y0 y1)).trans ?_
  rw [blk0 m hO c t]

theorem cov27 : ((cfgM m hO).win 27).Covers := by
  refine ⟨(by decide : ∀ a : Fin 2, 0 < S1x512.size a), fun β => ⟨⟨0, Nat.one_pos⟩, flush0_27 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res27 : (small m hO hH 0 c).arrAt 27 (cfgM m hO).N = fun y : S1x512.Idx => Cert.Small.grad4 (m ((c : Thread nD τ).loc main_arg1)) y := by
  refine (small m hO hH 0 c).arrAt_eq_of_covers 27 _ (cov27 m hO) fun t hf (y : S1x512.Idx) => ?_
  blk_simp
  have h : (small m hO hH 0 c).after 27 t = left27 m hO hH c t := by dsimp only [small]; rfl
  rw [h]
  idx_vars y
  have e : ((((cfgM m hO).win 27).blk t).view.emb (ix2 y0 y1) : S1x512.Idx) = ix2 y0 y1 := by blk_ext [idx27 m hO t]
  rw [e]
  refine (wrote27 m hO hH c t (ix2 y0 y1)).trans ?_
  rw [blk0 m hO c t]

theorem cov28 : ((cfgM m hO).win 28).Covers := by
  refine ⟨(by decide : ∀ a : Fin 2, 0 < S3x128.size a), fun β => ⟨⟨0, Nat.one_pos⟩, flush0_28 _ _, fun (a : Fin 2) => ⟨?_, Or.inl rfl⟩⟩⟩
  have hb : (β a).val < 1 := lt_of_lt_of_eq (β a).isLt ((by decide : ∀ a : Fin 2, (S3x128.size a + S3x128.size a - 1) / S3x128.size a = 1) a)
  exact ((by decide : ∀ a : Fin 2, (![0, 0] : Fin 2 → ℕ) a = 0) a).trans (by omega)

theorem res28 (hc : Cert.Small.chip (m ((c : Thread nD τ).loc main_arg0)) ≤ 3) : (small m hO hH 0 c).arrAt 28 (cfgM m hO).N = fun y : S3x128.Idx => Cert.Small.grad5 (m ((c : Thread nD τ).loc main_arg0)) (m ((c : Thread nD τ).loc main_arg1)) y := by
  refine (small m hO hH 0 c).arrAt_eq_of_covers 28 _ (cov28 m hO) fun t hf (y : S3x128.Idx) => ?_
  blk_simp
  have h : (small m hO hH 0 c).after 28 t = left28 m hO hH c t := by dsimp only [small]; rfl
  rw [h]
  idx_vars y
  have e : ((((cfgM m hO).win 28).blk t).view.emb (ix2 y0 y1) : S3x128.Idx) = ix2 y0 y1 := by blk_ext [idx28 m hO t]
  rw [e]
  refine (wrote28 m hO hH c t (by rw [table m c]; exact hc) (ix2 y0 y1)).trans ?_
  rw [blk0 m hO c t, table m c]

theorem cov29 : ((cfgM m hO).win 29).Covers := by
  refine ⟨(by decide : ∀ a : Fin 2, 0 < S1x1024.size a), fun β => ⟨⟨0, Nat.one_pos⟩, flush0_29 _ _, fun (a : Fin 2) => ⟨?_, Or.inl rfl⟩⟩⟩
  have hb : (β a).val < 1 := lt_of_lt_of_eq (β a).isLt ((by decide : ∀ a : Fin 2, (S1x1024.size a + S1x1024.size a - 1) / S1x1024.size a = 1) a)
  exact ((by decide : ∀ a : Fin 2, (![0, 0] : Fin 2 → ℕ) a = 0) a).trans (by omega)

theorem res29 : (small m hO hH 0 c).arrAt 29 (cfgM m hO).N = fun y : S1x1024.Idx => Cert.Small.grad6 (m ((c : Thread nD τ).loc main_arg1)) y := by
  refine (small m hO hH 0 c).arrAt_eq_of_covers 29 _ (cov29 m hO) fun t hf (y : S1x1024.Idx) => ?_
  blk_simp
  have h : (small m hO hH 0 c).after 29 t = left29 m hO hH c t := by dsimp only [small]; rfl
  rw [h]
  idx_vars y
  have e : ((((cfgM m hO).win 29).blk t).view.emb (ix2 y0 y1) : S1x1024.Idx) = ix2 y0 y1 := by blk_ext [idx29 m hO t]
  rw [e]
  refine (wrote29 m hO hH c t (ix2 y0 y1)).trans ?_
  rw [blk0 m hO c t]

theorem cov30 : ((cfgM m hO).win 30).Covers := by
  refine ⟨(by decide : ∀ a : Fin 2, 0 < S1x6144.size a), fun β => ⟨⟨0, Nat.one_pos⟩, flush0_30 _ _, fun (a : Fin 2) => ⟨?_, Or.inl rfl⟩⟩⟩
  have hb : (β a).val < 1 := lt_of_lt_of_eq (β a).isLt ((by decide : ∀ a : Fin 2, (S1x6144.size a + S1x6144.size a - 1) / S1x6144.size a = 1) a)
  exact ((by decide : ∀ a : Fin 2, (![0, 0] : Fin 2 → ℕ) a = 0) a).trans (by omega)

theorem res30 : (small m hO hH 0 c).arrAt 30 (cfgM m hO).N = fun y : S1x6144.Idx => Cert.Adam.aD ((m ((c : Thread nD τ).loc main_arg3)) y) ((m ((c : Thread nD τ).loc main_arg2)) y) ((m ((c : Thread nD τ).loc main_arg10)) y) ((m ((c : Thread nD τ).loc main_arg17)) y) := by
  refine (small m hO hH 0 c).arrAt_eq_of_covers 30 _ (cov30 m hO) fun t hf (y : S1x6144.Idx) => ?_
  blk_simp
  have h : (small m hO hH 0 c).after 30 t = left30 m hO hH c t := by dsimp only [small]; rfl
  rw [h]
  idx_vars y
  have e : ((((cfgM m hO).win 30).blk t).view.emb (ix2 y0 y1) : S1x6144.Idx) = ix2 y0 y1 := by blk_ext [idx30 m hO t]
  rw [e]
  refine (wrote30 m hO hH c t (ix2 y0 y1)).trans ?_
  rw [blk1 m hO c t, blk2 m hO c t, blk9 m hO c t, blk16 m hO c t]

theorem cov31 : ((cfgM m hO).win 31).Covers := by
  refine ⟨(by decide : ∀ a : Fin 2, 0 < S31x128.size a), fun β => ⟨⟨0, Nat.one_pos⟩, flush0_31 _ _, fun (a : Fin 2) => ⟨?_, Or.inl rfl⟩⟩⟩
  have hb : (β a).val < 1 := lt_of_lt_of_eq (β a).isLt ((by decide : ∀ a : Fin 2, (S31x128.size a + S31x128.size a - 1) / S31x128.size a = 1) a)
  exact ((by decide : ∀ a : Fin 2, (![0, 0] : Fin 2 → ℕ) a = 0) a).trans (by omega)

theorem res31 (hc : Cert.Small.chip (m ((c : Thread nD τ).loc main_arg0)) ≤ 3) : (small m hO hH 0 c).arrAt 31 (cfgM m hO).N = fun y : S31x128.Idx => Cert.Adam.aD ((m ((c : Thread nD τ).loc main_arg4)) y) (Cert.Small.grad1 (m ((c : Thread nD τ).loc main_arg0)) (m ((c : Thread nD τ).loc main_arg1)) y) ((m ((c : Thread nD τ).loc main_arg11)) y) ((m ((c : Thread nD τ).loc main_arg18)) y) := by
  refine (small m hO hH 0 c).arrAt_eq_of_covers 31 _ (cov31 m hO) fun t hf (y : S31x128.Idx) => ?_
  blk_simp
  have h : (small m hO hH 0 c).after 31 t = left31 m hO hH c t := by dsimp only [small]; rfl
  rw [h]
  idx_vars y
  have e : ((((cfgM m hO).win 31).blk t).view.emb (ix2 y0 y1) : S31x128.Idx) = ix2 y0 y1 := by blk_ext [idx31 m hO t]
  rw [e]
  refine (wrote31 m hO hH c t (by rw [table m c]; exact hc) (ix2 y0 y1)).trans ?_
  rw [blk0 m hO c t, blk3 m hO c t, blk10 m hO c t, blk17 m hO c t, table m c]

theorem cov32 : ((cfgM m hO).win 32).Covers := by
  refine ⟨(by decide : ∀ a : Fin 2, 0 < S1x512.size a), fun β => ⟨⟨0, Nat.one_pos⟩, flush0_32 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res32 : (small m hO hH 0 c).arrAt 32 (cfgM m hO).N = fun y : S1x512.Idx => Cert.Adam.aD ((m ((c : Thread nD τ).loc main_arg5)) y) (Cert.Small.grad2 (m ((c : Thread nD τ).loc main_arg1)) y) ((m ((c : Thread nD τ).loc main_arg12)) y) ((m ((c : Thread nD τ).loc main_arg19)) y) := by
  refine (small m hO hH 0 c).arrAt_eq_of_covers 32 _ (cov32 m hO) fun t hf (y : S1x512.Idx) => ?_
  blk_simp
  have h : (small m hO hH 0 c).after 32 t = left32 m hO hH c t := by dsimp only [small]; rfl
  rw [h]
  idx_vars y
  have e : ((((cfgM m hO).win 32).blk t).view.emb (ix2 y0 y1) : S1x512.Idx) = ix2 y0 y1 := by blk_ext [idx32 m hO t]
  rw [e]
  refine (wrote32 m hO hH c t (ix2 y0 y1)).trans ?_
  rw [blk0 m hO c t, blk4 m hO c t, blk11 m hO c t, blk18 m hO c t]

theorem cov33 : ((cfgM m hO).win 33).Covers := by
  refine ⟨(by decide : ∀ a : Fin 2, 0 < S1x512.size a), fun β => ⟨⟨0, Nat.one_pos⟩, flush0_33 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res33 : (small m hO hH 0 c).arrAt 33 (cfgM m hO).N = fun y : S1x512.Idx => Cert.Adam.aD ((m ((c : Thread nD τ).loc main_arg6)) y) (Cert.Small.grad3 (m ((c : Thread nD τ).loc main_arg1)) y) ((m ((c : Thread nD τ).loc main_arg13)) y) ((m ((c : Thread nD τ).loc main_arg20)) y) := by
  refine (small m hO hH 0 c).arrAt_eq_of_covers 33 _ (cov33 m hO) fun t hf (y : S1x512.Idx) => ?_
  blk_simp
  have h : (small m hO hH 0 c).after 33 t = left33 m hO hH c t := by dsimp only [small]; rfl
  rw [h]
  idx_vars y
  have e : ((((cfgM m hO).win 33).blk t).view.emb (ix2 y0 y1) : S1x512.Idx) = ix2 y0 y1 := by blk_ext [idx33 m hO t]
  rw [e]
  refine (wrote33 m hO hH c t (ix2 y0 y1)).trans ?_
  rw [blk0 m hO c t, blk5 m hO c t, blk12 m hO c t, blk19 m hO c t]

theorem cov34 : ((cfgM m hO).win 34).Covers := by
  refine ⟨(by decide : ∀ a : Fin 2, 0 < S1x512.size a), fun β => ⟨⟨0, Nat.one_pos⟩, flush0_34 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res34 : (small m hO hH 0 c).arrAt 34 (cfgM m hO).N = fun y : S1x512.Idx => Cert.Adam.aD ((m ((c : Thread nD τ).loc main_arg7)) y) (Cert.Small.grad4 (m ((c : Thread nD τ).loc main_arg1)) y) ((m ((c : Thread nD τ).loc main_arg14)) y) ((m ((c : Thread nD τ).loc main_arg21)) y) := by
  refine (small m hO hH 0 c).arrAt_eq_of_covers 34 _ (cov34 m hO) fun t hf (y : S1x512.Idx) => ?_
  blk_simp
  have h : (small m hO hH 0 c).after 34 t = left34 m hO hH c t := by dsimp only [small]; rfl
  rw [h]
  idx_vars y
  have e : ((((cfgM m hO).win 34).blk t).view.emb (ix2 y0 y1) : S1x512.Idx) = ix2 y0 y1 := by blk_ext [idx34 m hO t]
  rw [e]
  refine (wrote34 m hO hH c t (ix2 y0 y1)).trans ?_
  rw [blk0 m hO c t, blk6 m hO c t, blk13 m hO c t, blk20 m hO c t]

theorem cov35 : ((cfgM m hO).win 35).Covers := by
  refine ⟨(by decide : ∀ a : Fin 2, 0 < S3x128.size a), fun β => ⟨⟨0, Nat.one_pos⟩, flush0_35 _ _, fun (a : Fin 2) => ⟨?_, Or.inl rfl⟩⟩⟩
  have hb : (β a).val < 1 := lt_of_lt_of_eq (β a).isLt ((by decide : ∀ a : Fin 2, (S3x128.size a + S3x128.size a - 1) / S3x128.size a = 1) a)
  exact ((by decide : ∀ a : Fin 2, (![0, 0] : Fin 2 → ℕ) a = 0) a).trans (by omega)

theorem res35 (hc : Cert.Small.chip (m ((c : Thread nD τ).loc main_arg0)) ≤ 3) : (small m hO hH 0 c).arrAt 35 (cfgM m hO).N = fun y : S3x128.Idx => Cert.Adam.aD ((m ((c : Thread nD τ).loc main_arg8)) y) (Cert.Small.grad5 (m ((c : Thread nD τ).loc main_arg0)) (m ((c : Thread nD τ).loc main_arg1)) y) ((m ((c : Thread nD τ).loc main_arg15)) y) ((m ((c : Thread nD τ).loc main_arg22)) y) := by
  refine (small m hO hH 0 c).arrAt_eq_of_covers 35 _ (cov35 m hO) fun t hf (y : S3x128.Idx) => ?_
  blk_simp
  have h : (small m hO hH 0 c).after 35 t = left35 m hO hH c t := by dsimp only [small]; rfl
  rw [h]
  idx_vars y
  have e : ((((cfgM m hO).win 35).blk t).view.emb (ix2 y0 y1) : S3x128.Idx) = ix2 y0 y1 := by blk_ext [idx35 m hO t]
  rw [e]
  refine (wrote35 m hO hH c t (by rw [table m c]; exact hc) (ix2 y0 y1)).trans ?_
  rw [blk0 m hO c t, blk7 m hO c t, blk14 m hO c t, blk21 m hO c t, table m c]

theorem cov36 : ((cfgM m hO).win 36).Covers := by
  refine ⟨(by decide : ∀ a : Fin 2, 0 < S1x1024.size a), fun β => ⟨⟨0, Nat.one_pos⟩, flush0_36 _ _, fun (a : Fin 2) => ⟨?_, Or.inl rfl⟩⟩⟩
  have hb : (β a).val < 1 := lt_of_lt_of_eq (β a).isLt ((by decide : ∀ a : Fin 2, (S1x1024.size a + S1x1024.size a - 1) / S1x1024.size a = 1) a)
  exact ((by decide : ∀ a : Fin 2, (![0, 0] : Fin 2 → ℕ) a = 0) a).trans (by omega)

theorem res36 : (small m hO hH 0 c).arrAt 36 (cfgM m hO).N = fun y : S1x1024.Idx => Cert.Adam.aD ((m ((c : Thread nD τ).loc main_arg9)) y) (Cert.Small.grad6 (m ((c : Thread nD τ).loc main_arg1)) y) ((m ((c : Thread nD τ).loc main_arg16)) y) ((m ((c : Thread nD τ).loc main_arg23)) y) := by
  refine (small m hO hH 0 c).arrAt_eq_of_covers 36 _ (cov36 m hO) fun t hf (y : S1x1024.Idx) => ?_
  blk_simp
  have h : (small m hO hH 0 c).after 36 t = left36 m hO hH c t := by dsimp only [small]; rfl
  rw [h]
  idx_vars y
  have e : ((((cfgM m hO).win 36).blk t).view.emb (ix2 y0 y1) : S1x1024.Idx) = ix2 y0 y1 := by blk_ext [idx36 m hO t]
  rw [e]
  refine (wrote36 m hO hH c t (ix2 y0 y1)).trans ?_
  rw [blk0 m hO c t, blk8 m hO c t, blk15 m hO c t, blk22 m hO c t]

theorem cov37 : ((cfgM m hO).win 37).Covers := by
  refine ⟨(by decide : ∀ a : Fin 2, 0 < S1x6144.size a), fun β => ⟨⟨0, Nat.one_pos⟩, flush0_37 _ _, fun (a : Fin 2) => ⟨?_, Or.inl rfl⟩⟩⟩
  have hb : (β a).val < 1 := lt_of_lt_of_eq (β a).isLt ((by decide : ∀ a : Fin 2, (S1x6144.size a + S1x6144.size a - 1) / S1x6144.size a = 1) a)
  exact ((by decide : ∀ a : Fin 2, (![0, 0] : Fin 2 → ℕ) a = 0) a).trans (by omega)

theorem res37 : (small m hO hH 0 c).arrAt 37 (cfgM m hO).N = fun y : S1x6144.Idx => Cert.Adam.aM ((m ((c : Thread nD τ).loc main_arg2)) y) ((m ((c : Thread nD τ).loc main_arg10)) y) := by
  refine (small m hO hH 0 c).arrAt_eq_of_covers 37 _ (cov37 m hO) fun t hf (y : S1x6144.Idx) => ?_
  blk_simp
  have h : (small m hO hH 0 c).after 37 t = left37 m hO hH c t := by dsimp only [small]; rfl
  rw [h]
  idx_vars y
  have e : ((((cfgM m hO).win 37).blk t).view.emb (ix2 y0 y1) : S1x6144.Idx) = ix2 y0 y1 := by blk_ext [idx37 m hO t]
  rw [e]
  refine (wrote37 m hO hH c t (ix2 y0 y1)).trans ?_
  rw [blk1 m hO c t, blk9 m hO c t]

theorem cov38 : ((cfgM m hO).win 38).Covers := by
  refine ⟨(by decide : ∀ a : Fin 2, 0 < S31x128.size a), fun β => ⟨⟨0, Nat.one_pos⟩, flush0_38 _ _, fun (a : Fin 2) => ⟨?_, Or.inl rfl⟩⟩⟩
  have hb : (β a).val < 1 := lt_of_lt_of_eq (β a).isLt ((by decide : ∀ a : Fin 2, (S31x128.size a + S31x128.size a - 1) / S31x128.size a = 1) a)
  exact ((by decide : ∀ a : Fin 2, (![0, 0] : Fin 2 → ℕ) a = 0) a).trans (by omega)

theorem res38 (hc : Cert.Small.chip (m ((c : Thread nD τ).loc main_arg0)) ≤ 3) : (small m hO hH 0 c).arrAt 38 (cfgM m hO).N = fun y : S31x128.Idx => Cert.Adam.aM (Cert.Small.grad1 (m ((c : Thread nD τ).loc main_arg0)) (m ((c : Thread nD τ).loc main_arg1)) y) ((m ((c : Thread nD τ).loc main_arg11)) y) := by
  refine (small m hO hH 0 c).arrAt_eq_of_covers 38 _ (cov38 m hO) fun t hf (y : S31x128.Idx) => ?_
  blk_simp
  have h : (small m hO hH 0 c).after 38 t = left38 m hO hH c t := by dsimp only [small]; rfl
  rw [h]
  idx_vars y
  have e : ((((cfgM m hO).win 38).blk t).view.emb (ix2 y0 y1) : S31x128.Idx) = ix2 y0 y1 := by blk_ext [idx38 m hO t]
  rw [e]
  refine (wrote38 m hO hH c t (by rw [table m c]; exact hc) (ix2 y0 y1)).trans ?_
  rw [blk0 m hO c t, blk10 m hO c t, table m c]

theorem cov39 : ((cfgM m hO).win 39).Covers := by
  refine ⟨(by decide : ∀ a : Fin 2, 0 < S1x512.size a), fun β => ⟨⟨0, Nat.one_pos⟩, flush0_39 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res39 : (small m hO hH 0 c).arrAt 39 (cfgM m hO).N = fun y : S1x512.Idx => Cert.Adam.aM (Cert.Small.grad2 (m ((c : Thread nD τ).loc main_arg1)) y) ((m ((c : Thread nD τ).loc main_arg12)) y) := by
  refine (small m hO hH 0 c).arrAt_eq_of_covers 39 _ (cov39 m hO) fun t hf (y : S1x512.Idx) => ?_
  blk_simp
  have h : (small m hO hH 0 c).after 39 t = left39 m hO hH c t := by dsimp only [small]; rfl
  rw [h]
  idx_vars y
  have e : ((((cfgM m hO).win 39).blk t).view.emb (ix2 y0 y1) : S1x512.Idx) = ix2 y0 y1 := by blk_ext [idx39 m hO t]
  rw [e]
  refine (wrote39 m hO hH c t (ix2 y0 y1)).trans ?_
  rw [blk0 m hO c t, blk11 m hO c t]

theorem cov40 : ((cfgM m hO).win 40).Covers := by
  refine ⟨(by decide : ∀ a : Fin 2, 0 < S1x512.size a), fun β => ⟨⟨0, Nat.one_pos⟩, flush0_40 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res40 : (small m hO hH 0 c).arrAt 40 (cfgM m hO).N = fun y : S1x512.Idx => Cert.Adam.aM (Cert.Small.grad3 (m ((c : Thread nD τ).loc main_arg1)) y) ((m ((c : Thread nD τ).loc main_arg13)) y) := by
  refine (small m hO hH 0 c).arrAt_eq_of_covers 40 _ (cov40 m hO) fun t hf (y : S1x512.Idx) => ?_
  blk_simp
  have h : (small m hO hH 0 c).after 40 t = left40 m hO hH c t := by dsimp only [small]; rfl
  rw [h]
  idx_vars y
  have e : ((((cfgM m hO).win 40).blk t).view.emb (ix2 y0 y1) : S1x512.Idx) = ix2 y0 y1 := by blk_ext [idx40 m hO t]
  rw [e]
  refine (wrote40 m hO hH c t (ix2 y0 y1)).trans ?_
  rw [blk0 m hO c t, blk12 m hO c t]

theorem cov41 : ((cfgM m hO).win 41).Covers := by
  refine ⟨(by decide : ∀ a : Fin 2, 0 < S1x512.size a), fun β => ⟨⟨0, Nat.one_pos⟩, flush0_41 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res41 : (small m hO hH 0 c).arrAt 41 (cfgM m hO).N = fun y : S1x512.Idx => Cert.Adam.aM (Cert.Small.grad4 (m ((c : Thread nD τ).loc main_arg1)) y) ((m ((c : Thread nD τ).loc main_arg14)) y) := by
  refine (small m hO hH 0 c).arrAt_eq_of_covers 41 _ (cov41 m hO) fun t hf (y : S1x512.Idx) => ?_
  blk_simp
  have h : (small m hO hH 0 c).after 41 t = left41 m hO hH c t := by dsimp only [small]; rfl
  rw [h]
  idx_vars y
  have e : ((((cfgM m hO).win 41).blk t).view.emb (ix2 y0 y1) : S1x512.Idx) = ix2 y0 y1 := by blk_ext [idx41 m hO t]
  rw [e]
  refine (wrote41 m hO hH c t (ix2 y0 y1)).trans ?_
  rw [blk0 m hO c t, blk13 m hO c t]

theorem cov42 : ((cfgM m hO).win 42).Covers := by
  refine ⟨(by decide : ∀ a : Fin 2, 0 < S3x128.size a), fun β => ⟨⟨0, Nat.one_pos⟩, flush0_42 _ _, fun (a : Fin 2) => ⟨?_, Or.inl rfl⟩⟩⟩
  have hb : (β a).val < 1 := lt_of_lt_of_eq (β a).isLt ((by decide : ∀ a : Fin 2, (S3x128.size a + S3x128.size a - 1) / S3x128.size a = 1) a)
  exact ((by decide : ∀ a : Fin 2, (![0, 0] : Fin 2 → ℕ) a = 0) a).trans (by omega)

theorem res42 (hc : Cert.Small.chip (m ((c : Thread nD τ).loc main_arg0)) ≤ 3) : (small m hO hH 0 c).arrAt 42 (cfgM m hO).N = fun y : S3x128.Idx => Cert.Adam.aM (Cert.Small.grad5 (m ((c : Thread nD τ).loc main_arg0)) (m ((c : Thread nD τ).loc main_arg1)) y) ((m ((c : Thread nD τ).loc main_arg15)) y) := by
  refine (small m hO hH 0 c).arrAt_eq_of_covers 42 _ (cov42 m hO) fun t hf (y : S3x128.Idx) => ?_
  blk_simp
  have h : (small m hO hH 0 c).after 42 t = left42 m hO hH c t := by dsimp only [small]; rfl
  rw [h]
  idx_vars y
  have e : ((((cfgM m hO).win 42).blk t).view.emb (ix2 y0 y1) : S3x128.Idx) = ix2 y0 y1 := by blk_ext [idx42 m hO t]
  rw [e]
  refine (wrote42 m hO hH c t (by rw [table m c]; exact hc) (ix2 y0 y1)).trans ?_
  rw [blk0 m hO c t, blk14 m hO c t, table m c]

theorem cov43 : ((cfgM m hO).win 43).Covers := by
  refine ⟨(by decide : ∀ a : Fin 2, 0 < S1x1024.size a), fun β => ⟨⟨0, Nat.one_pos⟩, flush0_43 _ _, fun (a : Fin 2) => ⟨?_, Or.inl rfl⟩⟩⟩
  have hb : (β a).val < 1 := lt_of_lt_of_eq (β a).isLt ((by decide : ∀ a : Fin 2, (S1x1024.size a + S1x1024.size a - 1) / S1x1024.size a = 1) a)
  exact ((by decide : ∀ a : Fin 2, (![0, 0] : Fin 2 → ℕ) a = 0) a).trans (by omega)

theorem res43 : (small m hO hH 0 c).arrAt 43 (cfgM m hO).N = fun y : S1x1024.Idx => Cert.Adam.aM (Cert.Small.grad6 (m ((c : Thread nD τ).loc main_arg1)) y) ((m ((c : Thread nD τ).loc main_arg16)) y) := by
  refine (small m hO hH 0 c).arrAt_eq_of_covers 43 _ (cov43 m hO) fun t hf (y : S1x1024.Idx) => ?_
  blk_simp
  have h : (small m hO hH 0 c).after 43 t = left43 m hO hH c t := by dsimp only [small]; rfl
  rw [h]
  idx_vars y
  have e : ((((cfgM m hO).win 43).blk t).view.emb (ix2 y0 y1) : S1x1024.Idx) = ix2 y0 y1 := by blk_ext [idx43 m hO t]
  rw [e]
  refine (wrote43 m hO hH c t (ix2 y0 y1)).trans ?_
  rw [blk0 m hO c t, blk15 m hO c t]

theorem cov44 : ((cfgM m hO).win 44).Covers := by
  refine ⟨(by decide : ∀ a : Fin 2, 0 < S1x6144.size a), fun β => ⟨⟨0, Nat.one_pos⟩, flush0_44 _ _, fun (a : Fin 2) => ⟨?_, Or.inl rfl⟩⟩⟩
  have hb : (β a).val < 1 := lt_of_lt_of_eq (β a).isLt ((by decide : ∀ a : Fin 2, (S1x6144.size a + S1x6144.size a - 1) / S1x6144.size a = 1) a)
  exact ((by decide : ∀ a : Fin 2, (![0, 0] : Fin 2 → ℕ) a = 0) a).trans (by omega)

theorem res44 : (small m hO hH 0 c).arrAt 44 (cfgM m hO).N = fun y : S1x6144.Idx => Cert.Adam.aV ((m ((c : Thread nD τ).loc main_arg2)) y) ((m ((c : Thread nD τ).loc main_arg17)) y) := by
  refine (small m hO hH 0 c).arrAt_eq_of_covers 44 _ (cov44 m hO) fun t hf (y : S1x6144.Idx) => ?_
  blk_simp
  have h : (small m hO hH 0 c).after 44 t = left44 m hO hH c t := by dsimp only [small]; rfl
  rw [h]
  idx_vars y
  have e : ((((cfgM m hO).win 44).blk t).view.emb (ix2 y0 y1) : S1x6144.Idx) = ix2 y0 y1 := by blk_ext [idx44 m hO t]
  rw [e]
  refine (wrote44 m hO hH c t (ix2 y0 y1)).trans ?_
  rw [blk1 m hO c t, blk16 m hO c t]

theorem cov45 : ((cfgM m hO).win 45).Covers := by
  refine ⟨(by decide : ∀ a : Fin 2, 0 < S31x128.size a), fun β => ⟨⟨0, Nat.one_pos⟩, flush0_45 _ _, fun (a : Fin 2) => ⟨?_, Or.inl rfl⟩⟩⟩
  have hb : (β a).val < 1 := lt_of_lt_of_eq (β a).isLt ((by decide : ∀ a : Fin 2, (S31x128.size a + S31x128.size a - 1) / S31x128.size a = 1) a)
  exact ((by decide : ∀ a : Fin 2, (![0, 0] : Fin 2 → ℕ) a = 0) a).trans (by omega)

theorem res45 (hc : Cert.Small.chip (m ((c : Thread nD τ).loc main_arg0)) ≤ 3) : (small m hO hH 0 c).arrAt 45 (cfgM m hO).N = fun y : S31x128.Idx => Cert.Adam.aV (Cert.Small.grad1 (m ((c : Thread nD τ).loc main_arg0)) (m ((c : Thread nD τ).loc main_arg1)) y) ((m ((c : Thread nD τ).loc main_arg18)) y) := by
  refine (small m hO hH 0 c).arrAt_eq_of_covers 45 _ (cov45 m hO) fun t hf (y : S31x128.Idx) => ?_
  blk_simp
  have h : (small m hO hH 0 c).after 45 t = left45 m hO hH c t := by dsimp only [small]; rfl
  rw [h]
  idx_vars y
  have e : ((((cfgM m hO).win 45).blk t).view.emb (ix2 y0 y1) : S31x128.Idx) = ix2 y0 y1 := by blk_ext [idx45 m hO t]
  rw [e]
  refine (wrote45 m hO hH c t (by rw [table m c]; exact hc) (ix2 y0 y1)).trans ?_
  rw [blk0 m hO c t, blk17 m hO c t, table m c]

theorem cov46 : ((cfgM m hO).win 46).Covers := by
  refine ⟨(by decide : ∀ a : Fin 2, 0 < S1x512.size a), fun β => ⟨⟨0, Nat.one_pos⟩, flush0_46 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res46 : (small m hO hH 0 c).arrAt 46 (cfgM m hO).N = fun y : S1x512.Idx => Cert.Adam.aV (Cert.Small.grad2 (m ((c : Thread nD τ).loc main_arg1)) y) ((m ((c : Thread nD τ).loc main_arg19)) y) := by
  refine (small m hO hH 0 c).arrAt_eq_of_covers 46 _ (cov46 m hO) fun t hf (y : S1x512.Idx) => ?_
  blk_simp
  have h : (small m hO hH 0 c).after 46 t = left46 m hO hH c t := by dsimp only [small]; rfl
  rw [h]
  idx_vars y
  have e : ((((cfgM m hO).win 46).blk t).view.emb (ix2 y0 y1) : S1x512.Idx) = ix2 y0 y1 := by blk_ext [idx46 m hO t]
  rw [e]
  refine (wrote46 m hO hH c t (ix2 y0 y1)).trans ?_
  rw [blk0 m hO c t, blk18 m hO c t]

theorem cov47 : ((cfgM m hO).win 47).Covers := by
  refine ⟨(by decide : ∀ a : Fin 2, 0 < S1x512.size a), fun β => ⟨⟨0, Nat.one_pos⟩, flush0_47 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res47 : (small m hO hH 0 c).arrAt 47 (cfgM m hO).N = fun y : S1x512.Idx => Cert.Adam.aV (Cert.Small.grad3 (m ((c : Thread nD τ).loc main_arg1)) y) ((m ((c : Thread nD τ).loc main_arg20)) y) := by
  refine (small m hO hH 0 c).arrAt_eq_of_covers 47 _ (cov47 m hO) fun t hf (y : S1x512.Idx) => ?_
  blk_simp
  have h : (small m hO hH 0 c).after 47 t = left47 m hO hH c t := by dsimp only [small]; rfl
  rw [h]
  idx_vars y
  have e : ((((cfgM m hO).win 47).blk t).view.emb (ix2 y0 y1) : S1x512.Idx) = ix2 y0 y1 := by blk_ext [idx47 m hO t]
  rw [e]
  refine (wrote47 m hO hH c t (ix2 y0 y1)).trans ?_
  rw [blk0 m hO c t, blk19 m hO c t]

theorem cov48 : ((cfgM m hO).win 48).Covers := by
  refine ⟨(by decide : ∀ a : Fin 2, 0 < S1x512.size a), fun β => ⟨⟨0, Nat.one_pos⟩, flush0_48 _ _, fun (a : Fin 2) => ⟨?_, Or.inl rfl⟩⟩⟩
  have hb : (β a).val < 1 := lt_of_lt_of_eq (β a).isLt ((by decide : ∀ a : Fin 2, (S1x512.size a + S1x512.size a - 1) / S1x512.size a = 1) a)
  exact ((by decide : ∀ a : Fin 2, (![0, 0] : Fin 2 → ℕ) a = 0) a).trans (by omega)

theorem res48 : (small m hO hH 0 c).arrAt 48 (cfgM m hO).N = fun y : S1x512.Idx => Cert.Adam.aV (Cert.Small.grad4 (m ((c : Thread nD τ).loc main_arg1)) y) ((m ((c : Thread nD τ).loc main_arg21)) y) := by
  refine (small m hO hH 0 c).arrAt_eq_of_covers 48 _ (cov48 m hO) fun t hf (y : S1x512.Idx) => ?_
  blk_simp
  have h : (small m hO hH 0 c).after 48 t = left48 m hO hH c t := by dsimp only [small]; rfl
  rw [h]
  idx_vars y
  have e : ((((cfgM m hO).win 48).blk t).view.emb (ix2 y0 y1) : S1x512.Idx) = ix2 y0 y1 := by blk_ext [idx48 m hO t]
  rw [e]
  refine (wrote48 m hO hH c t (ix2 y0 y1)).trans ?_
  rw [blk0 m hO c t, blk20 m hO c t]

theorem cov49 : ((cfgM m hO).win 49).Covers := by
  refine ⟨(by decide : ∀ a : Fin 2, 0 < S3x128.size a), fun β => ⟨⟨0, Nat.one_pos⟩, flush0_49 _ _, fun (a : Fin 2) => ⟨?_, Or.inl rfl⟩⟩⟩
  have hb : (β a).val < 1 := lt_of_lt_of_eq (β a).isLt ((by decide : ∀ a : Fin 2, (S3x128.size a + S3x128.size a - 1) / S3x128.size a = 1) a)
  exact ((by decide : ∀ a : Fin 2, (![0, 0] : Fin 2 → ℕ) a = 0) a).trans (by omega)

theorem res49 (hc : Cert.Small.chip (m ((c : Thread nD τ).loc main_arg0)) ≤ 3) : (small m hO hH 0 c).arrAt 49 (cfgM m hO).N = fun y : S3x128.Idx => Cert.Adam.aV (Cert.Small.grad5 (m ((c : Thread nD τ).loc main_arg0)) (m ((c : Thread nD τ).loc main_arg1)) y) ((m ((c : Thread nD τ).loc main_arg22)) y) := by
  refine (small m hO hH 0 c).arrAt_eq_of_covers 49 _ (cov49 m hO) fun t hf (y : S3x128.Idx) => ?_
  blk_simp
  have h : (small m hO hH 0 c).after 49 t = left49 m hO hH c t := by dsimp only [small]; rfl
  rw [h]
  idx_vars y
  have e : ((((cfgM m hO).win 49).blk t).view.emb (ix2 y0 y1) : S3x128.Idx) = ix2 y0 y1 := by blk_ext [idx49 m hO t]
  rw [e]
  refine (wrote49 m hO hH c t (by rw [table m c]; exact hc) (ix2 y0 y1)).trans ?_
  rw [blk0 m hO c t, blk21 m hO c t, table m c]

theorem cov50 : ((cfgM m hO).win 50).Covers := by
  refine ⟨(by decide : ∀ a : Fin 2, 0 < S1x1024.size a), fun β => ⟨⟨0, Nat.one_pos⟩, flush0_50 _ _, fun (a : Fin 2) => ⟨?_, Or.inl rfl⟩⟩⟩
  have hb : (β a).val < 1 := lt_of_lt_of_eq (β a).isLt ((by decide : ∀ a : Fin 2, (S1x1024.size a + S1x1024.size a - 1) / S1x1024.size a = 1) a)
  exact ((by decide : ∀ a : Fin 2, (![0, 0] : Fin 2 → ℕ) a = 0) a).trans (by omega)

theorem res50 : (small m hO hH 0 c).arrAt 50 (cfgM m hO).N = fun y : S1x1024.Idx => Cert.Adam.aV (Cert.Small.grad6 (m ((c : Thread nD τ).loc main_arg1)) y) ((m ((c : Thread nD τ).loc main_arg23)) y) := by
  refine (small m hO hH 0 c).arrAt_eq_of_covers 50 _ (cov50 m hO) fun t hf (y : S1x1024.Idx) => ?_
  blk_simp
  have h : (small m hO hH 0 c).after 50 t = left50 m hO hH c t := by dsimp only [small]; rfl
  rw [h]
  idx_vars y
  have e : ((((cfgM m hO).win 50).blk t).view.emb (ix2 y0 y1) : S1x1024.Idx) = ix2 y0 y1 := by blk_ext [idx50 m hO t]
  rw [e]
  refine (wrote50 m hO hH c t (ix2 y0 y1)).trans ?_
  rw [blk0 m hO c t, blk22 m hO c t]

include hO hH in
/-- The run, with every array after it. -/
theorem arrays (ρ : Dev nD → PrngReg) (hc : ∀ c : Dev nD, Cert.Small.chip (m ((c : Thread nD τ).loc main_arg0)) ≤ 3) : θ_run defs (onTc (τ := τ) (main (F := Ideal))) ⟨m, fun _ => 0, ρ⟩ fun r => ∀ c : Dev nD,
      (r.2.mem ((c : Thread nD τ).loc main_v0_0) = fun y : S1x6144.Idx => (m ((c : Thread nD τ).loc main_arg2)) y)
      ∧ (r.2.mem ((c : Thread nD τ).loc main_v0_1) = fun y : S31x128.Idx => Cert.Small.grad1 (m ((c : Thread nD τ).loc main_arg0)) (m ((c : Thread nD τ).loc main_arg1)) y)
      ∧ (r.2.mem ((c : Thread nD τ).loc main_v0_2) = fun y : S1x512.Idx => Cert.Small.grad2 (m ((c : Thread nD τ).loc main_arg1)) y)
      ∧ (r.2.mem ((c : Thread nD τ).loc main_v0_3) = fun y : S1x512.Idx => Cert.Small.grad3 (m ((c : Thread nD τ).loc main_arg1)) y)
      ∧ (r.2.mem ((c : Thread nD τ).loc main_v0_4) = fun y : S1x512.Idx => Cert.Small.grad4 (m ((c : Thread nD τ).loc main_arg1)) y)
      ∧ (r.2.mem ((c : Thread nD τ).loc main_v0_5) = fun y : S3x128.Idx => Cert.Small.grad5 (m ((c : Thread nD τ).loc main_arg0)) (m ((c : Thread nD τ).loc main_arg1)) y)
      ∧ (r.2.mem ((c : Thread nD τ).loc main_v0_6) = fun y : S1x1024.Idx => Cert.Small.grad6 (m ((c : Thread nD τ).loc main_arg1)) y)
      ∧ (r.2.mem ((c : Thread nD τ).loc main_v0_7) = fun y : S1x6144.Idx => Cert.Adam.aD ((m ((c : Thread nD τ).loc main_arg3)) y) ((m ((c : Thread nD τ).loc main_arg2)) y) ((m ((c : Thread nD τ).loc main_arg10)) y) ((m ((c : Thread nD τ).loc main_arg17)) y))
      ∧ (r.2.mem ((c : Thread nD τ).loc main_v0_8) = fun y : S31x128.Idx => Cert.Adam.aD ((m ((c : Thread nD τ).loc main_arg4)) y) (Cert.Small.grad1 (m ((c : Thread nD τ).loc main_arg0)) (m ((c : Thread nD τ).loc main_arg1)) y) ((m ((c : Thread nD τ).loc main_arg11)) y) ((m ((c : Thread nD τ).loc main_arg18)) y))
      ∧ (r.2.mem ((c : Thread nD τ).loc main_v0_9) = fun y : S1x512.Idx => Cert.Adam.aD ((m ((c : Thread nD τ).loc main_arg5)) y) (Cert.Small.grad2 (m ((c : Thread nD τ).loc main_arg1)) y) ((m ((c : Thread nD τ).loc main_arg12)) y) ((m ((c : Thread nD τ).loc main_arg19)) y))
      ∧ (r.2.mem ((c : Thread nD τ).loc main_v0_10) = fun y : S1x512.Idx => Cert.Adam.aD ((m ((c : Thread nD τ).loc main_arg6)) y) (Cert.Small.grad3 (m ((c : Thread nD τ).loc main_arg1)) y) ((m ((c : Thread nD τ).loc main_arg13)) y) ((m ((c : Thread nD τ).loc main_arg20)) y))
      ∧ (r.2.mem ((c : Thread nD τ).loc main_v0_11) = fun y : S1x512.Idx => Cert.Adam.aD ((m ((c : Thread nD τ).loc main_arg7)) y) (Cert.Small.grad4 (m ((c : Thread nD τ).loc main_arg1)) y) ((m ((c : Thread nD τ).loc main_arg14)) y) ((m ((c : Thread nD τ).loc main_arg21)) y))
      ∧ (r.2.mem ((c : Thread nD τ).loc main_v0_12) = fun y : S3x128.Idx => Cert.Adam.aD ((m ((c : Thread nD τ).loc main_arg8)) y) (Cert.Small.grad5 (m ((c : Thread nD τ).loc main_arg0)) (m ((c : Thread nD τ).loc main_arg1)) y) ((m ((c : Thread nD τ).loc main_arg15)) y) ((m ((c : Thread nD τ).loc main_arg22)) y))
      ∧ (r.2.mem ((c : Thread nD τ).loc main_v0_13) = fun y : S1x1024.Idx => Cert.Adam.aD ((m ((c : Thread nD τ).loc main_arg9)) y) (Cert.Small.grad6 (m ((c : Thread nD τ).loc main_arg1)) y) ((m ((c : Thread nD τ).loc main_arg16)) y) ((m ((c : Thread nD τ).loc main_arg23)) y))
      ∧ (r.2.mem ((c : Thread nD τ).loc main_v0_14) = fun y : S1x6144.Idx => Cert.Adam.aM ((m ((c : Thread nD τ).loc main_arg2)) y) ((m ((c : Thread nD τ).loc main_arg10)) y))
      ∧ (r.2.mem ((c : Thread nD τ).loc main_v0_15) = fun y : S31x128.Idx => Cert.Adam.aM (Cert.Small.grad1 (m ((c : Thread nD τ).loc main_arg0)) (m ((c : Thread nD τ).loc main_arg1)) y) ((m ((c : Thread nD τ).loc main_arg11)) y))
      ∧ (r.2.mem ((c : Thread nD τ).loc main_v0_16) = fun y : S1x512.Idx => Cert.Adam.aM (Cert.Small.grad2 (m ((c : Thread nD τ).loc main_arg1)) y) ((m ((c : Thread nD τ).loc main_arg12)) y))
      ∧ (r.2.mem ((c : Thread nD τ).loc main_v0_17) = fun y : S1x512.Idx => Cert.Adam.aM (Cert.Small.grad3 (m ((c : Thread nD τ).loc main_arg1)) y) ((m ((c : Thread nD τ).loc main_arg13)) y))
      ∧ (r.2.mem ((c : Thread nD τ).loc main_v0_18) = fun y : S1x512.Idx => Cert.Adam.aM (Cert.Small.grad4 (m ((c : Thread nD τ).loc main_arg1)) y) ((m ((c : Thread nD τ).loc main_arg14)) y))
      ∧ (r.2.mem ((c : Thread nD τ).loc main_v0_19) = fun y : S3x128.Idx => Cert.Adam.aM (Cert.Small.grad5 (m ((c : Thread nD τ).loc main_arg0)) (m ((c : Thread nD τ).loc main_arg1)) y) ((m ((c : Thread nD τ).loc main_arg15)) y))
      ∧ (r.2.mem ((c : Thread nD τ).loc main_v0_20) = fun y : S1x1024.Idx => Cert.Adam.aM (Cert.Small.grad6 (m ((c : Thread nD τ).loc main_arg1)) y) ((m ((c : Thread nD τ).loc main_arg16)) y))
      ∧ (r.2.mem ((c : Thread nD τ).loc main_v0_21) = fun y : S1x6144.Idx => Cert.Adam.aV ((m ((c : Thread nD τ).loc main_arg2)) y) ((m ((c : Thread nD τ).loc main_arg17)) y))
      ∧ (r.2.mem ((c : Thread nD τ).loc main_v0_22) = fun y : S31x128.Idx => Cert.Adam.aV (Cert.Small.grad1 (m ((c : Thread nD τ).loc main_arg0)) (m ((c : Thread nD τ).loc main_arg1)) y) ((m ((c : Thread nD τ).loc main_arg18)) y))
      ∧ (r.2.mem ((c : Thread nD τ).loc main_v0_23) = fun y : S1x512.Idx => Cert.Adam.aV (Cert.Small.grad2 (m ((c : Thread nD τ).loc main_arg1)) y) ((m ((c : Thread nD τ).loc main_arg19)) y))
      ∧ (r.2.mem ((c : Thread nD τ).loc main_v0_24) = fun y : S1x512.Idx => Cert.Adam.aV (Cert.Small.grad3 (m ((c : Thread nD τ).loc main_arg1)) y) ((m ((c : Thread nD τ).loc main_arg20)) y))
      ∧ (r.2.mem ((c : Thread nD τ).loc main_v0_25) = fun y : S1x512.Idx => Cert.Adam.aV (Cert.Small.grad4 (m ((c : Thread nD τ).loc main_arg1)) y) ((m ((c : Thread nD τ).loc main_arg21)) y))
      ∧ (r.2.mem ((c : Thread nD τ).loc main_v0_26) = fun y : S3x128.Idx => Cert.Adam.aV (Cert.Small.grad5 (m ((c : Thread nD τ).loc main_arg0)) (m ((c : Thread nD τ).loc main_arg1)) y) ((m ((c : Thread nD τ).loc main_arg22)) y))
      ∧ (r.2.mem ((c : Thread nD τ).loc main_v0_27) = fun y : S1x1024.Idx => Cert.Adam.aV (Cert.Small.grad6 (m ((c : Thread nD τ).loc main_arg1)) y) ((m ((c : Thread nD τ).loc main_arg23)) y)) :=
  (θ_run defs _ _).mono (fun r h c => ⟨((h c).1 23).trans (res23 m hO hH c),
    ((h c).1 24).trans (res24 m hO hH c (hc c)),
    ((h c).1 25).trans (res25 m hO hH c),
    ((h c).1 26).trans (res26 m hO hH c),
    ((h c).1 27).trans (res27 m hO hH c),
    ((h c).1 28).trans (res28 m hO hH c (hc c)),
    ((h c).1 29).trans (res29 m hO hH c),
    ((h c).1 30).trans (res30 m hO hH c),
    ((h c).1 31).trans (res31 m hO hH c (hc c)),
    ((h c).1 32).trans (res32 m hO hH c),
    ((h c).1 33).trans (res33 m hO hH c),
    ((h c).1 34).trans (res34 m hO hH c),
    ((h c).1 35).trans (res35 m hO hH c (hc c)),
    ((h c).1 36).trans (res36 m hO hH c),
    ((h c).1 37).trans (res37 m hO hH c),
    ((h c).1 38).trans (res38 m hO hH c (hc c)),
    ((h c).1 39).trans (res39 m hO hH c),
    ((h c).1 40).trans (res40 m hO hH c),
    ((h c).1 41).trans (res41 m hO hH c),
    ((h c).1 42).trans (res42 m hO hH c (hc c)),
    ((h c).1 43).trans (res43 m hO hH c),
    ((h c).1 44).trans (res44 m hO hH c),
    ((h c).1 45).trans (res45 m hO hH c (hc c)),
    ((h c).1 46).trans (res46 m hO hH c),
    ((h c).1 47).trans (res47 m hO hH c),
    ((h c).1 48).trans (res48 m hO hH c),
    ((h c).1 49).trans (res49 m hO hH c (hc c)),
    ((h c).1 50).trans (res50 m hO hH c)⟩)
    (ran m ρ hO hH)

end Cert.Kernel13Ideal.Hand

end
-- ==== Proof.SmallPre.lean ====
module

public import proofs.«01_k».proof.Defs
public import proofs.«01_k».proof.Proof.Gen.Kernel13Ideal.Frame.Runs
public import proofs.«01_k».proof.Proof.Gen.Kernel13.Frame.Runs
public import Idealize.ShloMosaic.Lib.Pointwise

@[expose] public section

set_option maxRecDepth 16384

noncomputable section

namespace Cert.Small

open Idealize.ShloMosaic Idealize.ShloMosaic.TcCoe Idealize.ShloMosaic.Tactic Idealize.SL.Sem

/-- A word at least zero and at most three, read signed, is at most three. -/
theorem le_of_word (x : BitVec 32) (h0 : (0#32).sle x = true) (h3 : x.sle 3#32 = true) : x.toNat ≤ 3 := by
  rw [BitVec.sle, decide_eq_true_iff] at h0 h3
  have e0 : (0#32 : BitVec 32).toInt = 0 := rfl
  have e3 : (3#32 : BitVec 32).toInt = 3 := rfl
  rw [e0] at h0
  rw [e3] at h3
  have := BitVec.toInt_eq_toNat_cond x
  split_ifs at this <;> omega

theorem le_of_and (x : BitVec 32) (h : IntOp.andi (IntOp.cmpi .sge x 0#32) (IntOp.cmpi .sle x 3#32) = 1#1) : x.toNat ≤ 3 := by
  have key : ∀ p q : Bool, BitVec.ofBool p &&& BitVec.ofBool q = 1#1 → p = true ∧ q = true := by decide
  obtain ⟨h0, h3⟩ := key _ _ h
  exact le_of_word x h0 h3

end Cert.Small

namespace Cert.Kernel13Ideal.Hand

open Idealize.ShloMosaic Idealize.ShloMosaic.TcCoe Idealize.ShloMosaic.Tactic Idealize.SL.Sem
open Cert.Kernel13Ideal.Gen
variable [Cert.Pre_chip_named.Facts]

theorem chip_le (m : (ℓ : Loc nD τ sig) → Buf (Elt Ideal) ℓ) (h : Cert.Pre_Kernel13Ideal m) (c : Dev nD) :
    (((m ((c.tc : Thread nD τ).loc main_arg0)) : (⟨1, ![3]⟩ : Shape).Idx → BitVec 32) (ix1 0)).toNat ≤ 3 := by
  refine Cert.Small.le_of_and _ ?_
  have e := congrFun (h c) (ix1 0)
  rw [← e]
  unfold Cert.Pre_chip_named.fn
  pointwise []

theorem word_eq (m : (ℓ : Loc nD τ sig) → Buf (Elt Ideal) ℓ) (c : Dev nD) :
    tbM0_0.view.readAt (Elt Ideal) (Rect.unit (s := S3) ![0] S1.size inb_S3_S1_0).toLoadRect (tbl m 0) (Shape.Idx.first (numel1_S1.symm ▸ Nat.one_pos))
      = (m ((c.tc : Thread nD τ).loc main_arg0) : (⟨1, ![3]⟩ : Shape).Idx → BitVec 32) (ix1 0) := by
  obtain rfl : c = 0 := Subsingleton.elim _ _
  refine Eq.trans (b := (V m 0 main_arg0 : (⟨1, ![3]⟩ : Shape).Idx → BitVec 32) (ix1 0)) ?_ (congrFun (V_main_arg0 m 0) _)
  refine congrArg (V m 0 main_arg0 : (⟨1, ![3]⟩ : Shape).Idx → BitVec 32) ?_
  funext a
  fin_cases a
  rfl

theorem chk_of_le (w : BitVec 32) (h : w.toNat ≤ 3) : k0_chk1 w := by
  have key : ∀ k : Fin 4, k0_chk1 (BitVec.ofNat 32 k.1) := by decide +kernel
  have := key ⟨w.toNat, by omega⟩
  simpa using this

/-- The side conditions on the table's word hold under the precondition. -/
theorem hyps (m : (ℓ : Loc nD τ sig) → Buf (Elt Ideal) ℓ) (h : Cert.Pre_Kernel13Ideal m) (hO : Ok m) : Hyps m hO :=
  fun _ _ => (word_eq m 0).symm ▸ chk_of_le _ (chip_le m h 0)

end Cert.Kernel13Ideal.Hand

namespace Cert.Kernel13.Hand

open Idealize.ShloMosaic Idealize.ShloMosaic.TcCoe Idealize.ShloMosaic.Tactic Idealize.SL.Sem
open Cert.Kernel13.Gen
variable [Cert.Pre_chip_named.Facts]

theorem chip_le (m : (ℓ : Loc nD τ sig) → Buf (Elt Bits) ℓ) (h : Cert.Pre_Kernel13 m) (c : Dev nD) :
    (((m ((c.tc : Thread nD τ).loc main_arg0)) : (⟨1, ![3]⟩ : Shape).Idx → BitVec 32) (ix1 0)).toNat ≤ 3 := by
  refine Cert.Small.le_of_and _ ?_
  have e := congrFun (h c) (ix1 0)
  rw [← e]
  unfold Cert.Pre_chip_named.fn
  pointwise []

theorem word_eq (m : (ℓ : Loc nD τ sig) → Buf (Elt Bits) ℓ) (c : Dev nD) :
    tbM0_0.view.readAt (Elt Bits) (Rect.unit (s := S3) ![0] S1.size inb_S3_S1_0).toLoadRect (tbl m 0) (Shape.Idx.first (numel1_S1.symm ▸ Nat.one_pos))
      = (m ((c.tc : Thread nD τ).loc main_arg0) : (⟨1, ![3]⟩ : Shape).Idx → BitVec 32) (ix1 0) := by
  obtain rfl : c = 0 := Subsingleton.elim _ _
  refine Eq.trans (b := (V m 0 main_arg0 : (⟨1, ![3]⟩ : Shape).Idx → BitVec 32) (ix1 0)) ?_ (congrFun (V_main_arg0 m 0) _)
  refine congrArg (V m 0 main_arg0 : (⟨1, ![3]⟩ : Shape).Idx → BitVec 32) ?_
  funext a
  fin_cases a
  rfl

theorem chk_of_le (w : BitVec 32) (h : w.toNat ≤ 3) : k0_chk1 w := by
  have key : ∀ k : Fin 4, k0_chk1 (BitVec.ofNat 32 k.1) := by decide +kernel
  have := key ⟨w.toNat, by omega⟩
  simpa using this

/-- The side conditions on the table's word hold under the precondition. -/
theorem hyps (m : (ℓ : Loc nD τ sig) → Buf (Elt Bits) ℓ) (h : Cert.Pre_Kernel13 m) (hO : Ok m) : Hyps m hO :=
  fun _ _ => (word_eq m 0).symm ▸ chk_of_le _ (chip_le m h 0)

end Cert.Kernel13.Hand

end
-- ==== Proof.SmallRunBits.lean ====
module

public import proofs.«01_k».proof.Proof.Gen.Kernel13.Frame.Runs

@[expose] public section

/-! The small parameters' update run once over its whole staging buffers, in machine arithmetic; fifty-one buffers take a larger budget. -/

set_option maxRecDepth 16384

noncomputable section

namespace Cert.Kernel13.Hand

open Cert.Kernel13.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
theorem smallRun (c : Dev nD) (i : grid0.Coords) (arg2 : Memref sig .tc .vmem S40x512 .f32) (harg2 : arg2.IsWhole) (arg3 : Memref sig .tc .vmem S1x6144 .f32) (harg3 : arg3.IsWhole) (arg4 : Memref sig .tc .vmem S1x6144 .f32) (harg4 : arg4.IsWhole) (arg5 : Memref sig .tc .vmem S31x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S3x128 .f32) (harg9 : arg9.IsWhole) (arg10 : Memref sig .tc .vmem S1x1024 .f32) (harg10 : arg10.IsWhole) (arg11 : Memref sig .tc .vmem S1x6144 .f32) (harg11 : arg11.IsWhole) (arg12 : Memref sig .tc .vmem S31x128 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S3x128 .f32) (harg16 : arg16.IsWhole) (arg17 : Memref sig .tc .vmem S1x1024 .f32) (harg17 : arg17.IsWhole) (arg18 : Memref sig .tc .vmem S1x6144 .f32) (harg18 : arg18.IsWhole) (arg19 : Memref sig .tc .vmem S31x128 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S3x128 .f32) (harg23 : arg23.IsWhole) (arg24 : Memref sig .tc .vmem S1x1024 .f32) (harg24 : arg24.IsWhole) (arg25 : Memref sig .tc .vmem S1x6144 .f32) (harg25 : arg25.IsWhole) (arg26 : Memref sig .tc .vmem S31x128 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S3x128 .f32) (harg30 : arg30.IsWhole) (arg31 : Memref sig .tc .vmem S1x1024 .f32) (harg31 : arg31.IsWhole) (arg32 : Memref sig .tc .vmem S1x6144 .f32) (harg32 : arg32.IsWhole) (arg33 : Memref sig .tc .vmem S31x128 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S1x512 .f32) (harg36 : arg36.IsWhole) (arg37 : Memref sig .tc .vmem S3x128 .f32) (harg37 : arg37.IsWhole) (arg38 : Memref sig .tc .vmem S1x1024 .f32) (harg38 : arg38.IsWhole) (arg39 : Memref sig .tc .vmem S1x6144 .f32) (harg39 : arg39.IsWhole) (arg40 : Memref sig .tc .vmem S31x128 .f32) (harg40 : arg40.IsWhole) (arg41 : Memref sig .tc .vmem S1x512 .f32) (harg41 : arg41.IsWhole) (arg42 : Memref sig .tc .vmem S1x512 .f32) (harg42 : arg42.IsWhole) (arg43 : Memref sig .tc .vmem S1x512 .f32) (harg43 : arg43.IsWhole) (arg44 : Memref sig .tc .vmem S3x128 .f32) (harg44 : arg44.IsWhole) (arg45 : Memref sig .tc .vmem S1x1024 .f32) (harg45 : arg45.IsWhole) (arg46 : Memref sig .tc .vmem S1x6144 .f32) (harg46 : arg46.IsWhole) (arg47 : Memref sig .tc .vmem S31x128 .f32) (harg47 : arg47.IsWhole) (arg48 : Memref sig .tc .vmem S1x512 .f32) (harg48 : arg48.IsWhole) (arg49 : Memref sig .tc .vmem S1x512 .f32) (harg49 : arg49.IsWhole) (arg50 : Memref sig .tc .vmem S1x512 .f32) (harg50 : arg50.IsWhole) (arg51 : Memref sig .tc .vmem S3x128 .f32) (harg51 : arg51.IsWhole) (arg52 : Memref sig .tc .vmem S1x1024 .f32) (harg52 : arg52.IsWhole)
    (x0 : Vec F S40x512 .f32) (x1 : Vec F S1x6144 .f32) (x2 : Vec F S1x6144 .f32) (x3 : Vec F S31x128 .f32) (x4 : Vec F S1x512 .f32) (x5 : Vec F S1x512 .f32) (x6 : Vec F S1x512 .f32) (x7 : Vec F S3x128 .f32) (x8 : Vec F S1x1024 .f32) (x9 : Vec F S1x6144 .f32) (x10 : Vec F S31x128 .f32) (x11 : Vec F S1x512 .f32) (x12 : Vec F S1x512 .f32) (x13 : Vec F S1x512 .f32) (x14 : Vec F S3x128 .f32) (x15 : Vec F S1x1024 .f32) (x16 : Vec F S1x6144 .f32) (x17 : Vec F S31x128 .f32) (x18 : Vec F S1x512 .f32) (x19 : Vec F S1x512 .f32) (x20 : Vec F S1x512 .f32) (x21 : Vec F S3x128 .f32) (x22 : Vec F S1x1024 .f32) (xt0 : TbBuf0 (F := F) c tbM0_0) (k0_hw1 : k0_chk1 (tbM0_0.view.readAt (Elt F) (Rect.unit (s := S3) ![0] S1.size inb_S3_S1_0).toLoadRect xt0 (Shape.Idx.first (numel1_S1.symm ▸ Nat.one_pos)))) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ tbPt0 c tbM0_0 xt0) -∗ K ⟨⟩))
          ⊢ wp frame (wpE (defs₀ (F := F)) Variants.none c none) E (cc0_adamw_small i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52) K := by
    intro E K
    simp only [cc0_adamw_small_eq_skeleton]; unfold cc0_adamw_small_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
    sl_exec (disch := first | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [H34]
    · iexists _, _; isplitr; swap; · iexact H34
      ipureintro; rfl
    isplitl [H35]
    · iexists _, _; isplitr; swap; · iexact H35
      ipureintro; rfl
    isplitl [H36]
    · iexists _, _; isplitr; swap; · iexact H36
      ipureintro; rfl
    isplitl [H37]
    · iexists _, _; isplitr; swap; · iexact H37
      ipureintro; rfl
    isplitl [H38]
    · iexists _, _; isplitr; swap; · iexact H38
      ipureintro; rfl
    isplitl [H39]
    · iexists _, _; isplitr; swap; · iexact H39
      ipureintro; rfl
    isplitl [H40]
    · iexists _, _; isplitr; swap; · iexact H40
      ipureintro; rfl
    isplitl [H41]
    · iexists _, _; isplitr; swap; · iexact H41
      ipureintro; rfl
    isplitl [H42]
    · iexists _, _; isplitr; swap; · iexact H42
      ipureintro; rfl
    isplitl [H43]
    · iexists _, _; isplitr; swap; · iexact H43
      ipureintro; rfl
    isplitl [H44]
    · iexists _, _; isplitr; swap; · iexact H44
      ipureintro; rfl
    isplitl [H45]
    · iexists _, _; isplitr; swap; · iexact H45
      ipureintro; rfl
    isplitl [H46]
    · iexists _, _; isplitr; swap; · iexact H46
      ipureintro; rfl
    isplitl [H47]
    · iexists _, _; isplitr; swap; · iexact H47
      ipureintro; rfl
    isplitl [H48]
    · iexists _, _; isplitr; swap; · iexact H48
      ipureintro; rfl
    isplitl [H49]
    · iexists _, _; isplitr; swap; · iexact H49
      ipureintro; rfl
    isplitl [H50]
    · iexists _, _; isplitr; swap; · iexact H50
      ipureintro; rfl
    iexact HT0

end Cert.Kernel13.Hand

end
-- ==== Proof.SmallFrameBits.lean ====
module

public import proofs.«01_k».proof.Proof.SmallRunBits
public import Idealize.ShloMosaic.Lib.Claim

@[expose] public section

/-! The small parameters' update as a pipeline of one point, in machine arithmetic: its obligation, its run and its frame. What it leaves is not named here. -/

set_option maxHeartbeats 16000000
set_option maxRecDepth 16384

noncomputable section

namespace Cert.Kernel13.Hand

open Cert.Kernel13.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
variable (hO : Ok m) (hH : Hyps m hO) (c : Dev nD) (t : Fin (cfgM m hO).N)
def unread : Fin 51 → Bool := fun w => w.val == 23 || w.val == 24 || w.val == 25 || w.val == 26 || w.val == 27 || w.val == 28 || w.val == 29 || w.val == 30 || w.val == 31 || w.val == 32 || w.val == 33 || w.val == 34 || w.val == 35 || w.val == 36 || w.val == 37 || w.val == 38 || w.val == 39 || w.val == 40 || w.val == 41 || w.val == 42 || w.val == 43 || w.val == 44 || w.val == 45 || w.val == 46 || w.val == 47 || w.val == 48 || w.val == 49 || w.val == 50

def small (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, h⟩ => Pipeline.Dat.unnamed (cfg := (cfgM m hO)) ⟨23, h⟩ t
    | ⟨24, h⟩ => Pipeline.Dat.unnamed (cfg := (cfgM m hO)) ⟨24, h⟩ t
    | ⟨25, h⟩ => Pipeline.Dat.unnamed (cfg := (cfgM m hO)) ⟨25, h⟩ t
    | ⟨26, h⟩ => Pipeline.Dat.unnamed (cfg := (cfgM m hO)) ⟨26, h⟩ t
    | ⟨27, h⟩ => Pipeline.Dat.unnamed (cfg := (cfgM m hO)) ⟨27, h⟩ t
    | ⟨28, h⟩ => Pipeline.Dat.unnamed (cfg := (cfgM m hO)) ⟨28, h⟩ t
    | ⟨29, h⟩ => Pipeline.Dat.unnamed (cfg := (cfgM m hO)) ⟨29, h⟩ t
    | ⟨30, h⟩ => Pipeline.Dat.unnamed (cfg := (cfgM m hO)) ⟨30, h⟩ t
    | ⟨31, h⟩ => Pipeline.Dat.unnamed (cfg := (cfgM m hO)) ⟨31, h⟩ t
    | ⟨32, h⟩ => Pipeline.Dat.unnamed (cfg := (cfgM m hO)) ⟨32, h⟩ t
    | ⟨33, h⟩ => Pipeline.Dat.unnamed (cfg := (cfgM m hO)) ⟨33, h⟩ t
    | ⟨34, h⟩ => Pipeline.Dat.unnamed (cfg := (cfgM m hO)) ⟨34, h⟩ t
    | ⟨35, h⟩ => Pipeline.Dat.unnamed (cfg := (cfgM m hO)) ⟨35, h⟩ t
    | ⟨36, h⟩ => Pipeline.Dat.unnamed (cfg := (cfgM m hO)) ⟨36, h⟩ t
    | ⟨37, h⟩ => Pipeline.Dat.unnamed (cfg := (cfgM m hO)) ⟨37, h⟩ t
    | ⟨38, h⟩ => Pipeline.Dat.unnamed (cfg := (cfgM m hO)) ⟨38, h⟩ t
    | ⟨39, h⟩ => Pipeline.Dat.unnamed (cfg := (cfgM m hO)) ⟨39, h⟩ t
    | ⟨40, h⟩ => Pipeline.Dat.unnamed (cfg := (cfgM m hO)) ⟨40, h⟩ t
    | ⟨41, h⟩ => Pipeline.Dat.unnamed (cfg := (cfgM m hO)) ⟨41, h⟩ t
    | ⟨42, h⟩ => Pipeline.Dat.unnamed (cfg := (cfgM m hO)) ⟨42, h⟩ t
    | ⟨43, h⟩ => Pipeline.Dat.unnamed (cfg := (cfgM m hO)) ⟨43, h⟩ t
    | ⟨44, h⟩ => Pipeline.Dat.unnamed (cfg := (cfgM m hO)) ⟨44, h⟩ t
    | ⟨45, h⟩ => Pipeline.Dat.unnamed (cfg := (cfgM m hO)) ⟨45, h⟩ t
    | ⟨46, h⟩ => Pipeline.Dat.unnamed (cfg := (cfgM m hO)) ⟨46, h⟩ t
    | ⟨47, h⟩ => Pipeline.Dat.unnamed (cfg := (cfgM m hO)) ⟨47, h⟩ t
    | ⟨48, h⟩ => Pipeline.Dat.unnamed (cfg := (cfgM m hO)) ⟨48, h⟩ t
    | ⟨49, h⟩ => Pipeline.Dat.unnamed (cfg := (cfgM m hO)) ⟨49, h⟩ t
    | ⟨50, h⟩ => Pipeline.Dat.unnamed (cfg := (cfgM m hO)) ⟨50, h⟩ t
    | ⟨_ + 51, h⟩ => absurd h (Nat.not_lt.2 (Nat.le_add_left _ _))
  Φ _ := iprop(Pipeline.ΦA spec0 c ∗ Pipeline.ΦT pre0 (tbl m) c)
  q _ := fullShare
  owed _ := 0

theorem A_small (hO : Ok m) (hH : Hyps m hO) (c : Dev nD) (w : Fin (cfgM m hO).W) : (small m hO hH 0 c).A w = V m c (Pipeline.arrRef spec0 w) := by
  dsimp only [small]

theorem held0 : (small m hO hH 0 c).after 0 t = iblk m hO c 0 t := by dsimp only [small]; try rfl
theorem held1 : (small m hO hH 0 c).after 1 t = iblk m hO c 1 t := by dsimp only [small]; try rfl
theorem held2 : (small m hO hH 0 c).after 2 t = iblk m hO c 2 t := by dsimp only [small]; try rfl
theorem held3 : (small m hO hH 0 c).after 3 t = iblk m hO c 3 t := by dsimp only [small]; try rfl
theorem held4 : (small m hO hH 0 c).after 4 t = iblk m hO c 4 t := by dsimp only [small]; try rfl
theorem held5 : (small m hO hH 0 c).after 5 t = iblk m hO c 5 t := by dsimp only [small]; try rfl
theorem held6 : (small m hO hH 0 c).after 6 t = iblk m hO c 6 t := by dsimp only [small]; try rfl
theorem held7 : (small m hO hH 0 c).after 7 t = iblk m hO c 7 t := by dsimp only [small]; try rfl
theorem held8 : (small m hO hH 0 c).after 8 t = iblk m hO c 8 t := by dsimp only [small]; try rfl
theorem held9 : (small m hO hH 0 c).after 9 t = iblk m hO c 9 t := by dsimp only [small]; try rfl
theorem held10 : (small m hO hH 0 c).after 10 t = iblk m hO c 10 t := by dsimp only [small]; try rfl
theorem held11 : (small m hO hH 0 c).after 11 t = iblk m hO c 11 t := by dsimp only [small]; try rfl
theorem held12 : (small m hO hH 0 c).after 12 t = iblk m hO c 12 t := by dsimp only [small]; try rfl
theorem held13 : (small m hO hH 0 c).after 13 t = iblk m hO c 13 t := by dsimp only [small]; try rfl
theorem held14 : (small m hO hH 0 c).after 14 t = iblk m hO c 14 t := by dsimp only [small]; try rfl
theorem held15 : (small m hO hH 0 c).after 15 t = iblk m hO c 15 t := by dsimp only [small]; try rfl
theorem held16 : (small m hO hH 0 c).after 16 t = iblk m hO c 16 t := by dsimp only [small]; try rfl
theorem held17 : (small m hO hH 0 c).after 17 t = iblk m hO c 17 t := by dsimp only [small]; try rfl
theorem held18 : (small m hO hH 0 c).after 18 t = iblk m hO c 18 t := by dsimp only [small]; try rfl
theorem held19 : (small m hO hH 0 c).after 19 t = iblk m hO c 19 t := by dsimp only [small]; try rfl
theorem held20 : (small m hO hH 0 c).after 20 t = iblk m hO c 20 t := by dsimp only [small]; try rfl
theorem held21 : (small m hO hH 0 c).after 21 t = iblk m hO c 21 t := by dsimp only [small]; try rfl
theorem held22 : (small m hO hH 0 c).after 22 t = iblk m hO c 22 t := by dsimp only [small]; try rfl

theorem found0 (d) : (small m hO hH 0 c).before 0 t d = iblk m hO c 0 t :=
  before0_0_of m hO (small m hO hH 0 c) (A_small m hO hH c 0) (held0 m hO hH c) t d
theorem found1 (d) : (small m hO hH 0 c).before 1 t d = iblk m hO c 1 t :=
  before0_1_of m hO (small m hO hH 0 c) (A_small m hO hH c 1) (held1 m hO hH c) t d
theorem found2 (d) : (small m hO hH 0 c).before 2 t d = iblk m hO c 2 t :=
  before0_2_of m hO (small m hO hH 0 c) (A_small m hO hH c 2) (held2 m hO hH c) t d
theorem found3 (d) : (small m hO hH 0 c).before 3 t d = iblk m hO c 3 t :=
  before0_3_of m hO (small m hO hH 0 c) (A_small m hO hH c 3) (held3 m hO hH c) t d
theorem found4 (d) : (small m hO hH 0 c).before 4 t d = iblk m hO c 4 t :=
  before0_4_of m hO (small m hO hH 0 c) (A_small m hO hH c 4) (held4 m hO hH c) t d
theorem found5 (d) : (small m hO hH 0 c).before 5 t d = iblk m hO c 5 t :=
  before0_5_of m hO (small m hO hH 0 c) (A_small m hO hH c 5) (held5 m hO hH c) t d
theorem found6 (d) : (small m hO hH 0 c).before 6 t d = iblk m hO c 6 t :=
  before0_6_of m hO (small m hO hH 0 c) (A_small m hO hH c 6) (held6 m hO hH c) t d
theorem found7 (d) : (small m hO hH 0 c).before 7 t d = iblk m hO c 7 t :=
  before0_7_of m hO (small m hO hH 0 c) (A_small m hO hH c 7) (held7 m hO hH c) t d
theorem found8 (d) : (small m hO hH 0 c).before 8 t d = iblk m hO c 8 t :=
  before0_8_of m hO (small m hO hH 0 c) (A_small m hO hH c 8) (held8 m hO hH c) t d
theorem found9 (d) : (small m hO hH 0 c).before 9 t d = iblk m hO c 9 t :=
  before0_9_of m hO (small m hO hH 0 c) (A_small m hO hH c 9) (held9 m hO hH c) t d
theorem found10 (d) : (small m hO hH 0 c).before 10 t d = iblk m hO c 10 t :=
  before0_10_of m hO (small m hO hH 0 c) (A_small m hO hH c 10) (held10 m hO hH c) t d
theorem found11 (d) : (small m hO hH 0 c).before 11 t d = iblk m hO c 11 t :=
  before0_11_of m hO (small m hO hH 0 c) (A_small m hO hH c 11) (held11 m hO hH c) t d
theorem found12 (d) : (small m hO hH 0 c).before 12 t d = iblk m hO c 12 t :=
  before0_12_of m hO (small m hO hH 0 c) (A_small m hO hH c 12) (held12 m hO hH c) t d
theorem found13 (d) : (small m hO hH 0 c).before 13 t d = iblk m hO c 13 t :=
  before0_13_of m hO (small m hO hH 0 c) (A_small m hO hH c 13) (held13 m hO hH c) t d
theorem found14 (d) : (small m hO hH 0 c).before 14 t d = iblk m hO c 14 t :=
  before0_14_of m hO (small m hO hH 0 c) (A_small m hO hH c 14) (held14 m hO hH c) t d
theorem found15 (d) : (small m hO hH 0 c).before 15 t d = iblk m hO c 15 t :=
  before0_15_of m hO (small m hO hH 0 c) (A_small m hO hH c 15) (held15 m hO hH c) t d
theorem found16 (d) : (small m hO hH 0 c).before 16 t d = iblk m hO c 16 t :=
  before0_16_of m hO (small m hO hH 0 c) (A_small m hO hH c 16) (held16 m hO hH c) t d
theorem found17 (d) : (small m hO hH 0 c).before 17 t d = iblk m hO c 17 t :=
  before0_17_of m hO (small m hO hH 0 c) (A_small m hO hH c 17) (held17 m hO hH c) t d
theorem found18 (d) : (small m hO hH 0 c).before 18 t d = iblk m hO c 18 t :=
  before0_18_of m hO (small m hO hH 0 c) (A_small m hO hH c 18) (held18 m hO hH c) t d
theorem found19 (d) : (small m hO hH 0 c).before 19 t d = iblk m hO c 19 t :=
  before0_19_of m hO (small m hO hH 0 c) (A_small m hO hH c 19) (held19 m hO hH c) t d
theorem found20 (d) : (small m hO hH 0 c).before 20 t d = iblk m hO c 20 t :=
  before0_20_of m hO (small m hO hH 0 c) (A_small m hO hH c 20) (held20 m hO hH c) t d
theorem found21 (d) : (small m hO hH 0 c).before 21 t d = iblk m hO c 21 t :=
  before0_21_of m hO (small m hO hH 0 c) (A_small m hO hH c 21) (held21 m hO hH c) t d
theorem found22 (d) : (small m hO hH 0 c).before 22 t d = iblk m hO c 22 t :=
  before0_22_of m hO (small m hO hH 0 c) (A_small m hO hH c 22) (held22 m hO hH c) t d

def given : sProp (MT nD τ sig Unit (Elt F) ℕ (UR sig nD τ) ℕ) :=
  iprop((small m hO hH 0 c).Φ t.castSucc ∗ (small m hO hH 0 c).owesAt () t.castSucc
    ∗ (∃ d, owns (c : Thread nD τ) (ms0_0 m hO t) fullShare ((small m hO hH 0 c).before 0 t d))
    ∗ (∃ d, owns (c : Thread nD τ) (ms0_1 m hO t) fullShare ((small m hO hH 0 c).before 1 t d))
    ∗ (∃ d, owns (c : Thread nD τ) (ms0_2 m hO t) fullShare ((small m hO hH 0 c).before 2 t d))
    ∗ (∃ d, owns (c : Thread nD τ) (ms0_3 m hO t) fullShare ((small m hO hH 0 c).before 3 t d))
    ∗ (∃ d, owns (c : Thread nD τ) (ms0_4 m hO t) fullShare ((small m hO hH 0 c).before 4 t d))
    ∗ (∃ d, owns (c : Thread nD τ) (ms0_5 m hO t) fullShare ((small m hO hH 0 c).before 5 t d))
    ∗ (∃ d, owns (c : Thread nD τ) (ms0_6 m hO t) fullShare ((small m hO hH 0 c).before 6 t d))
    ∗ (∃ d, owns (c : Thread nD τ) (ms0_7 m hO t) fullShare ((small m hO hH 0 c).before 7 t d))
    ∗ (∃ d, owns (c : Thread nD τ) (ms0_8 m hO t) fullShare ((small m hO hH 0 c).before 8 t d))
    ∗ (∃ d, owns (c : Thread nD τ) (ms0_9 m hO t) fullShare ((small m hO hH 0 c).before 9 t d))
    ∗ (∃ d, owns (c : Thread nD τ) (ms0_10 m hO t) fullShare ((small m hO hH 0 c).before 10 t d))
    ∗ (∃ d, owns (c : Thread nD τ) (ms0_11 m hO t) fullShare ((small m hO hH 0 c).before 11 t d))
    ∗ (∃ d, owns (c : Thread nD τ) (ms0_12 m hO t) fullShare ((small m hO hH 0 c).before 12 t d))
    ∗ (∃ d, owns (c : Thread nD τ) (ms0_13 m hO t) fullShare ((small m hO hH 0 c).before 13 t d))
    ∗ (∃ d, owns (c : Thread nD τ) (ms0_14 m hO t) fullShare ((small m hO hH 0 c).before 14 t d))
    ∗ (∃ d, owns (c : Thread nD τ) (ms0_15 m hO t) fullShare ((small m hO hH 0 c).before 15 t d))
    ∗ (∃ d, owns (c : Thread nD τ) (ms0_16 m hO t) fullShare ((small m hO hH 0 c).before 16 t d))
    ∗ (∃ d, owns (c : Thread nD τ) (ms0_17 m hO t) fullShare ((small m hO hH 0 c).before 17 t d))
    ∗ (∃ d, owns (c : Thread nD τ) (ms0_18 m hO t) fullShare ((small m hO hH 0 c).before 18 t d))
    ∗ (∃ d, owns (c : Thread nD τ) (ms0_19 m hO t) fullShare ((small m hO hH 0 c).before 19 t d))
    ∗ (∃ d, owns (c : Thread nD τ) (ms0_20 m hO t) fullShare ((small m hO hH 0 c).before 20 t d))
    ∗ (∃ d, owns (c : Thread nD τ) (ms0_21 m hO t) fullShare ((small m hO hH 0 c).before 21 t d))
    ∗ (∃ d, owns (c : Thread nD τ) (ms0_22 m hO t) fullShare ((small m hO hH 0 c).before 22 t d))
    ∗ (∃ d, owns (c : Thread nD τ) (ms0_23 m hO t) fullShare d)
    ∗ (∃ d, owns (c : Thread nD τ) (ms0_24 m hO t) fullShare d)
    ∗ (∃ d, owns (c : Thread nD τ) (ms0_25 m hO t) fullShare d)
    ∗ (∃ d, owns (c : Thread nD τ) (ms0_26 m hO t) fullShare d)
    ∗ (∃ d, owns (c : Thread nD τ) (ms0_27 m hO t) fullShare d)
    ∗ (∃ d, owns (c : Thread nD τ) (ms0_28 m hO t) fullShare d)
    ∗ (∃ d, owns (c : Thread nD τ) (ms0_29 m hO t) fullShare d)
    ∗ (∃ d, owns (c : Thread nD τ) (ms0_30 m hO t) fullShare d)
    ∗ (∃ d, owns (c : Thread nD τ) (ms0_31 m hO t) fullShare d)
    ∗ (∃ d, owns (c : Thread nD τ) (ms0_32 m hO t) fullShare d)
    ∗ (∃ d, owns (c : Thread nD τ) (ms0_33 m hO t) fullShare d)
    ∗ (∃ d, owns (c : Thread nD τ) (ms0_34 m hO t) fullShare d)
    ∗ (∃ d, owns (c : Thread nD τ) (ms0_35 m hO t) fullShare d)
    ∗ (∃ d, owns (c : Thread nD τ) (ms0_36 m hO t) fullShare d)
    ∗ (∃ d, owns (c : Thread nD τ) (ms0_37 m hO t) fullShare d)
    ∗ (∃ d, owns (c : Thread nD τ) (ms0_38 m hO t) fullShare d)
    ∗ (∃ d, owns (c : Thread nD τ) (ms0_39 m hO t) fullShare d)
    ∗ (∃ d, owns (c : Thread nD τ) (ms0_40 m hO t) fullShare d)
    ∗ (∃ d, owns (c : Thread nD τ) (ms0_41 m hO t) fullShare d)
    ∗ (∃ d, owns (c : Thread nD τ) (ms0_42 m hO t) fullShare d)
    ∗ (∃ d, owns (c : Thread nD τ) (ms0_43 m hO t) fullShare d)
    ∗ (∃ d, owns (c : Thread nD τ) (ms0_44 m hO t) fullShare d)
    ∗ (∃ d, owns (c : Thread nD τ) (ms0_45 m hO t) fullShare d)
    ∗ (∃ d, owns (c : Thread nD τ) (ms0_46 m hO t) fullShare d)
    ∗ (∃ d, owns (c : Thread nD τ) (ms0_47 m hO t) fullShare d)
    ∗ (∃ d, owns (c : Thread nD τ) (ms0_48 m hO t) fullShare d)
    ∗ (∃ d, owns (c : Thread nD τ) (ms0_49 m hO t) fullShare d)
    ∗ (∃ d, owns (c : Thread nD τ) (ms0_50 m hO t) fullShare d))

def handed : sProp (MT nD τ sig Unit (Elt F) ℕ (UR sig nD τ) ℕ) :=
  iprop((small m hO hH 0 c).Φ t.succ ∗ (small m hO hH 0 c).owesAt () t.succ
    ∗ owns (c : Thread nD τ) (ms0_0 m hO t) fullShare ((small m hO hH 0 c).after 0 t)
    ∗ owns (c : Thread nD τ) (ms0_1 m hO t) fullShare ((small m hO hH 0 c).after 1 t)
    ∗ owns (c : Thread nD τ) (ms0_2 m hO t) fullShare ((small m hO hH 0 c).after 2 t)
    ∗ owns (c : Thread nD τ) (ms0_3 m hO t) fullShare ((small m hO hH 0 c).after 3 t)
    ∗ owns (c : Thread nD τ) (ms0_4 m hO t) fullShare ((small m hO hH 0 c).after 4 t)
    ∗ owns (c : Thread nD τ) (ms0_5 m hO t) fullShare ((small m hO hH 0 c).after 5 t)
    ∗ owns (c : Thread nD τ) (ms0_6 m hO t) fullShare ((small m hO hH 0 c).after 6 t)
    ∗ owns (c : Thread nD τ) (ms0_7 m hO t) fullShare ((small m hO hH 0 c).after 7 t)
    ∗ owns (c : Thread nD τ) (ms0_8 m hO t) fullShare ((small m hO hH 0 c).after 8 t)
    ∗ owns (c : Thread nD τ) (ms0_9 m hO t) fullShare ((small m hO hH 0 c).after 9 t)
    ∗ owns (c : Thread nD τ) (ms0_10 m hO t) fullShare ((small m hO hH 0 c).after 10 t)
    ∗ owns (c : Thread nD τ) (ms0_11 m hO t) fullShare ((small m hO hH 0 c).after 11 t)
    ∗ owns (c : Thread nD τ) (ms0_12 m hO t) fullShare ((small m hO hH 0 c).after 12 t)
    ∗ owns (c : Thread nD τ) (ms0_13 m hO t) fullShare ((small m hO hH 0 c).after 13 t)
    ∗ owns (c : Thread nD τ) (ms0_14 m hO t) fullShare ((small m hO hH 0 c).after 14 t)
    ∗ owns (c : Thread nD τ) (ms0_15 m hO t) fullShare ((small m hO hH 0 c).after 15 t)
    ∗ owns (c : Thread nD τ) (ms0_16 m hO t) fullShare ((small m hO hH 0 c).after 16 t)
    ∗ owns (c : Thread nD τ) (ms0_17 m hO t) fullShare ((small m hO hH 0 c).after 17 t)
    ∗ owns (c : Thread nD τ) (ms0_18 m hO t) fullShare ((small m hO hH 0 c).after 18 t)
    ∗ owns (c : Thread nD τ) (ms0_19 m hO t) fullShare ((small m hO hH 0 c).after 19 t)
    ∗ owns (c : Thread nD τ) (ms0_20 m hO t) fullShare ((small m hO hH 0 c).after 20 t)
    ∗ owns (c : Thread nD τ) (ms0_21 m hO t) fullShare ((small m hO hH 0 c).after 21 t)
    ∗ owns (c : Thread nD τ) (ms0_22 m hO t) fullShare ((small m hO hH 0 c).after 22 t)
    ∗ (∃ d, owns (c : Thread nD τ) (ms0_23 m hO t) fullShare d)
    ∗ (∃ d, owns (c : Thread nD τ) (ms0_24 m hO t) fullShare d)
    ∗ (∃ d, owns (c : Thread nD τ) (ms0_25 m hO t) fullShare d)
    ∗ (∃ d, owns (c : Thread nD τ) (ms0_26 m hO t) fullShare d)
    ∗ (∃ d, owns (c : Thread nD τ) (ms0_27 m hO t) fullShare d)
    ∗ (∃ d, owns (c : Thread nD τ) (ms0_28 m hO t) fullShare d)
    ∗ (∃ d, owns (c : Thread nD τ) (ms0_29 m hO t) fullShare d)
    ∗ (∃ d, owns (c : Thread nD τ) (ms0_30 m hO t) fullShare d)
    ∗ (∃ d, owns (c : Thread nD τ) (ms0_31 m hO t) fullShare d)
    ∗ (∃ d, owns (c : Thread nD τ) (ms0_32 m hO t) fullShare d)
    ∗ (∃ d, owns (c : Thread nD τ) (ms0_33 m hO t) fullShare d)
    ∗ (∃ d, owns (c : Thread nD τ) (ms0_34 m hO t) fullShare d)
    ∗ (∃ d, owns (c : Thread nD τ) (ms0_35 m hO t) fullShare d)
    ∗ (∃ d, owns (c : Thread nD τ) (ms0_36 m hO t) fullShare d)
    ∗ (∃ d, owns (c : Thread nD τ) (ms0_37 m hO t) fullShare d)
    ∗ (∃ d, owns (c : Thread nD τ) (ms0_38 m hO t) fullShare d)
    ∗ (∃ d, owns (c : Thread nD τ) (ms0_39 m hO t) fullShare d)
    ∗ (∃ d, owns (c : Thread nD τ) (ms0_40 m hO t) fullShare d)
    ∗ (∃ d, owns (c : Thread nD τ) (ms0_41 m hO t) fullShare d)
    ∗ (∃ d, owns (c : Thread nD τ) (ms0_42 m hO t) fullShare d)
    ∗ (∃ d, owns (c : Thread nD τ) (ms0_43 m hO t) fullShare d)
    ∗ (∃ d, owns (c : Thread nD τ) (ms0_44 m hO t) fullShare d)
    ∗ (∃ d, owns (c : Thread nD τ) (ms0_45 m hO t) fullShare d)
    ∗ (∃ d, owns (c : Thread nD τ) (ms0_46 m hO t) fullShare d)
    ∗ (∃ d, owns (c : Thread nD τ) (ms0_47 m hO t) fullShare d)
    ∗ (∃ d, owns (c : Thread nD τ) (ms0_48 m hO t) fullShare d)
    ∗ (∃ d, owns (c : Thread nD τ) (ms0_49 m hO t) fullShare d)
    ∗ (∃ d, owns (c : Thread nD τ) (ms0_50 m hO t) fullShare d))

set_option maxHeartbeats 16000000 in
theorem body_small :
    given m hO hH c t ⊢ wp frame (wpE (defs₀ (F := F)) Variants.none c none) Set.univ (bodyAt0 (adm m hO) t) (fun _ => handed m hO hH c t) := by
  unfold given handed bodyAt0
  simp only [found0, found1, found2, found3, found4, found5, found6, found7, found8, found9, found10, found11, found12, found13, found14, found15, found16, found17, found18, found19, found20, found21, found22]
  rw [show (small m hO hH 0 c).Φ t.succ = (small m hO hH 0 c).Φ t.castSucc from rfl,
    show (small m hO hH 0 c).owesAt () t.succ = (small m hO hH 0 c).owesAt () t.castSucc from rfl,
    held0, held1, held2, held3, held4, held5, held6, held7, held8, held9, held10, held11, held12, held13, held14, held15, held16, held17, held18, held19, held20, held21, held22]
  rw [show (small m hO hH 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩⟩
  iapply ((smallRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (tbl m 0) (Hyps.c0 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  iexact H50

theorem row_small (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem obligation_small (hO : Ok m) (hH : Hyps m hO) (c : Dev nD) : BodyObligation (small (F := F) m hO hH 0 c) (defs₀ (F := F)) Variants.none () Set.univ unread := fun t => by
  rw [bigSep_W0, bigSep_W0, row_small m hO]
  exact triple_restated (body_small m hO hH c t) rfl .rfl fun _ => .rfl

set_option backward.isDefEq.respectTransparency.types false in
theorem launch_small (hO : Ok m) (hH : Hyps m hO) : θ_run defs (onTc (τ := τ) (main (F := F))) (s₀ m ρ) (fun r => (Pipeline.RDat.FramePost ((Pipeline.pin pcfgs fun _ => adm m hO) 0) (fun c => (small m hO hH 0 c).toRForget unread) (V m)) r ∧ r.2.sem = fun _ => 0) :=
  Pipeline.θ_run_frameP_forget (Q' := _) pcfgs (fun _ => adm m hO) (small m hO hH) (0 : Fin 1) launch0 defs₀ Variants.none unread m ρ main
    (hbody := fun c => (obligation_small m hO hH c).loose) (hshare := fun c => (small m hO hH 0 c).share_full fun _ => rfl)
    (howed := fun _ _ => rfl) (V := V m) (hmain := hmain m Variants.none) (hA := A_small m hO hH) (hpf := V_pre m) (hΦ := fun _ _ => rfl)

theorem ran (hO : Ok m) (hH : Hyps m hO) : θ_run defs (onTc (τ := τ) (main (F := F))) (s₀ m ρ) (Pipeline.RDat.FramePost ((Pipeline.pin pcfgs fun _ => adm m hO) 0) (fun c => (small m hO hH 0 c).toRForget unread) (V m)) :=
  (θ_run defs _ _).mono (fun _ h => h.1) (launch_small m ρ hO hH)

theorem kept_small (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨((h c).2 main_arg0 (by decide : main_arg0 ∈ Pipeline.restRefs sig spec0)).trans (V_main_arg0 m c),
      (h.arr_in c 0 rfl).trans ((A_small m hO hH c 0).trans (V_main_arg1 m c)),
      (h.arr_in c 1 rfl).trans ((A_small m hO hH c 1).trans (V_main_arg2 m c)),
      (h.arr_in c 2 rfl).trans ((A_small m hO hH c 2).trans (V_main_arg3 m c)),
      (h.arr_in c 3 rfl).trans ((A_small m hO hH c 3).trans (V_main_arg4 m c)),
      (h.arr_in c 4 rfl).trans ((A_small m hO hH c 4).trans (V_main_arg5 m c)),
      (h.arr_in c 5 rfl).trans ((A_small m hO hH c 5).trans (V_main_arg6 m c)),
      (h.arr_in c 6 rfl).trans ((A_small m hO hH c 6).trans (V_main_arg7 m c)),
      (h.arr_in c 7 rfl).trans ((A_small m hO hH c 7).trans (V_main_arg8 m c)),
      (h.arr_in c 8 rfl).trans ((A_small m hO hH c 8).trans (V_main_arg9 m c)),
      (h.arr_in c 9 rfl).trans ((A_small m hO hH c 9).trans (V_main_arg10 m c)),
      (h.arr_in c 10 rfl).trans ((A_small m hO hH c 10).trans (V_main_arg11 m c)),
      (h.arr_in c 11 rfl).trans ((A_small m hO hH c 11).trans (V_main_arg12 m c)),
      (h.arr_in c 12 rfl).trans ((A_small m hO hH c 12).trans (V_main_arg13 m c)),
      (h.arr_in c 13 rfl).trans ((A_small m hO hH c 13).trans (V_main_arg14 m c)),
      (h.arr_in c 14 rfl).trans ((A_small m hO hH c 14).trans (V_main_arg15 m c)),
      (h.arr_in c 15 rfl).trans ((A_small m hO hH c 15).trans (V_main_arg16 m c)),
      (h.arr_in c 16 rfl).trans ((A_small m hO hH c 16).trans (V_main_arg17 m c)),
      (h.arr_in c 17 rfl).trans ((A_small m hO hH c 17).trans (V_main_arg18 m c)),
      (h.arr_in c 18 rfl).trans ((A_small m hO hH c 18).trans (V_main_arg19 m c)),
      (h.arr_in c 19 rfl).trans ((A_small m hO hH c 19).trans (V_main_arg20 m c)),
      (h.arr_in c 20 rfl).trans ((A_small m hO hH c 20).trans (V_main_arg21 m c)),
      (h.arr_in c 21 rfl).trans ((A_small m hO hH c 21).trans (V_main_arg22 m c)),
      (h.arr_in c 22 rfl).trans ((A_small m hO hH c 22).trans (V_main_arg23 m c))⟩) (ran m ρ hO hH)

theorem frame_small (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (kept_small m ρ hO hH) ((θ_run defs _ _).mono (fun _ h => h.2) (launch_small m ρ hO hH))

end Cert.Kernel13.Hand

end
-- ==== Proof.SmallClaim.lean ====
module

public import proofs.«01_k».proof.Defs
public import proofs.«01_k».proof.Proof.Gen.Kernel13
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_chip_named
public import proofs.«01_k».proof.Proof.SmallValue
public import proofs.«01_k».proof.Proof.SmallPre
public import proofs.«01_k».proof.Proof.SmallFrameBits
public import Idealize.ShloMosaic.Lib.Claim

@[expose] public section

/-! The claims about the small parameters' update. -/

set_option maxHeartbeats 4000000
set_option maxRecDepth 16384

noncomputable section

namespace Cert.Small

open Idealize.ShloMosaic Idealize.ShloMosaic.TcCoe Idealize.ShloMosaic.Tactic Idealize.SL.Sem
open Cert Cert.Reference13Ideal Cert.Reference13Ideal.Read

theorem frame_kernel13 : Cert.quiescent_Kernel13 := fun m ρ hp =>
  Cert.Kernel13.Hand.frame_small m ρ trivial (Cert.Kernel13.Hand.hyps m hp trivial)

theorem frame_ideal13 : Cert.quiescent_Kernel13Ideal := fun m ρ hp =>
  Cert.Kernel13Ideal.Hand.frame_small m ρ trivial (Cert.Kernel13Ideal.Hand.hyps m hp trivial)

/-- The last conjuncts of the reference's run. -/
theorem frame_reference13 : Cert.quiescent_Reference13Ideal := fun m ρ _ =>
  (θ_run Cert.Reference13Ideal.defs _ _).mono
    (fun _ h => ⟨fun c => (h c).2.2.2.2.2.2.2.2.2.2.2.2.2.2.2.2.2.2.2.2.2.2.2.2.2.2.2.2, funext fun q => by rcases q with ⟨_, q | q⟩ <;> exact q.elim0⟩) (Cert.Reference13Ideal.Value.run (F := Ideal) m ρ)

theorem frame_reference_pre13 : Cert.quiescent_Reference13Ideal_pre_chip_named := fun m ρ _ => frame_reference13 m ρ trivial

theorem algebraic13 : Cert.algebraic_Kernel13Ideal_Reference13Ideal := by
  intro m g m' g' hp hag
  have hc := Cert.Kernel13Ideal.Hand.chip_le m hp
  have hH := Cert.Kernel13Ideal.Hand.hyps m hp trivial
  refine ⟨fun c => (fun y : S1x6144.Idx => (m (c.tc.loc Cert.Kernel13Ideal.main_arg2)) y),
    fun c => (fun y : S31x128.Idx => Cert.Small.grad1 (m (c.tc.loc Cert.Kernel13Ideal.main_arg0)) (m (c.tc.loc Cert.Kernel13Ideal.main_arg1)) y),
    fun c => (fun y : S1x512.Idx => Cert.Small.grad2 (m (c.tc.loc Cert.Kernel13Ideal.main_arg1)) y),
    fun c => (fun y : S1x512.Idx => Cert.Small.grad3 (m (c.tc.loc Cert.Kernel13Ideal.main_arg1)) y),
    fun c => (fun y : S1x512.Idx => Cert.Small.grad4 (m (c.tc.loc Cert.Kernel13Ideal.main_arg1)) y),
    fun c => (fun y : S3x128.Idx => Cert.Small.grad5 (m (c.tc.loc Cert.Kernel13Ideal.main_arg0)) (m (c.tc.loc Cert.Kernel13Ideal.main_arg1)) y),
    fun c => (fun y : S1x1024.Idx => Cert.Small.grad6 (m (c.tc.loc Cert.Kernel13Ideal.main_arg1)) y),
    fun c => (fun y : S1x6144.Idx => Cert.Adam.aD ((m (c.tc.loc Cert.Kernel13Ideal.main_arg3)) y) ((m (c.tc.loc Cert.Kernel13Ideal.main_arg2)) y) ((m (c.tc.loc Cert.Kernel13Ideal.main_arg10)) y) ((m (c.tc.loc Cert.Kernel13Ideal.main_arg17)) y)),
    fun c => (fun y : S31x128.Idx => Cert.Adam.aD ((m (c.tc.loc Cert.Kernel13Ideal.main_arg4)) y) (Cert.Small.grad1 (m (c.tc.loc Cert.Kernel13Ideal.main_arg0)) (m (c.tc.loc Cert.Kernel13Ideal.main_arg1)) y) ((m (c.tc.loc Cert.Kernel13Ideal.main_arg11)) y) ((m (c.tc.loc Cert.Kernel13Ideal.main_arg18)) y)),
    fun c => (fun y : S1x512.Idx => Cert.Adam.aD ((m (c.tc.loc Cert.Kernel13Ideal.main_arg5)) y) (Cert.Small.grad2 (m (c.tc.loc Cert.Kernel13Ideal.main_arg1)) y) ((m (c.tc.loc Cert.Kernel13Ideal.main_arg12)) y) ((m (c.tc.loc Cert.Kernel13Ideal.main_arg19)) y)),
    fun c => (fun y : S1x512.Idx => Cert.Adam.aD ((m (c.tc.loc Cert.Kernel13Ideal.main_arg6)) y) (Cert.Small.grad3 (m (c.tc.loc Cert.Kernel13Ideal.main_arg1)) y) ((m (c.tc.loc Cert.Kernel13Ideal.main_arg13)) y) ((m (c.tc.loc Cert.Kernel13Ideal.main_arg20)) y)),
    fun c => (fun y : S1x512.Idx => Cert.Adam.aD ((m (c.tc.loc Cert.Kernel13Ideal.main_arg7)) y) (Cert.Small.grad4 (m (c.tc.loc Cert.Kernel13Ideal.main_arg1)) y) ((m (c.tc.loc Cert.Kernel13Ideal.main_arg14)) y) ((m (c.tc.loc Cert.Kernel13Ideal.main_arg21)) y)),
    fun c => (fun y : S3x128.Idx => Cert.Adam.aD ((m (c.tc.loc Cert.Kernel13Ideal.main_arg8)) y) (Cert.Small.grad5 (m (c.tc.loc Cert.Kernel13Ideal.main_arg0)) (m (c.tc.loc Cert.Kernel13Ideal.main_arg1)) y) ((m (c.tc.loc Cert.Kernel13Ideal.main_arg15)) y) ((m (c.tc.loc Cert.Kernel13Ideal.main_arg22)) y)),
    fun c => (fun y : S1x1024.Idx => Cert.Adam.aD ((m (c.tc.loc Cert.Kernel13Ideal.main_arg9)) y) (Cert.Small.grad6 (m (c.tc.loc Cert.Kernel13Ideal.main_arg1)) y) ((m (c.tc.loc Cert.Kernel13Ideal.main_arg16)) y) ((m (c.tc.loc Cert.Kernel13Ideal.main_arg23)) y)),
    fun c => (fun y : S1x6144.Idx => Cert.Adam.aM ((m (c.tc.loc Cert.Kernel13Ideal.main_arg2)) y) ((m (c.tc.loc Cert.Kernel13Ideal.main_arg10)) y)),
    fun c => (fun y : S31x128.Idx => Cert.Adam.aM (Cert.Small.grad1 (m (c.tc.loc Cert.Kernel13Ideal.main_arg0)) (m (c.tc.loc Cert.Kernel13Ideal.main_arg1)) y) ((m (c.tc.loc Cert.Kernel13Ideal.main_arg11)) y)),
    fun c => (fun y : S1x512.Idx => Cert.Adam.aM (Cert.Small.grad2 (m (c.tc.loc Cert.Kernel13Ideal.main_arg1)) y) ((m (c.tc.loc Cert.Kernel13Ideal.main_arg12)) y)),
    fun c => (fun y : S1x512.Idx => Cert.Adam.aM (Cert.Small.grad3 (m (c.tc.loc Cert.Kernel13Ideal.main_arg1)) y) ((m (c.tc.loc Cert.Kernel13Ideal.main_arg13)) y)),
    fun c => (fun y : S1x512.Idx => Cert.Adam.aM (Cert.Small.grad4 (m (c.tc.loc Cert.Kernel13Ideal.main_arg1)) y) ((m (c.tc.loc Cert.Kernel13Ideal.main_arg14)) y)),
    fun c => (fun y : S3x128.Idx => Cert.Adam.aM (Cert.Small.grad5 (m (c.tc.loc Cert.Kernel13Ideal.main_arg0)) (m (c.tc.loc Cert.Kernel13Ideal.main_arg1)) y) ((m (c.tc.loc Cert.Kernel13Ideal.main_arg15)) y)),
    fun c => (fun y : S1x1024.Idx => Cert.Adam.aM (Cert.Small.grad6 (m (c.tc.loc Cert.Kernel13Ideal.main_arg1)) y) ((m (c.tc.loc Cert.Kernel13Ideal.main_arg16)) y)),
    fun c => (fun y : S1x6144.Idx => Cert.Adam.aV ((m (c.tc.loc Cert.Kernel13Ideal.main_arg2)) y) ((m (c.tc.loc Cert.Kernel13Ideal.main_arg17)) y)),
    fun c => (fun y : S31x128.Idx => Cert.Adam.aV (Cert.Small.grad1 (m (c.tc.loc Cert.Kernel13Ideal.main_arg0)) (m (c.tc.loc Cert.Kernel13Ideal.main_arg1)) y) ((m (c.tc.loc Cert.Kernel13Ideal.main_arg18)) y)),
    fun c => (fun y : S1x512.Idx => Cert.Adam.aV (Cert.Small.grad2 (m (c.tc.loc Cert.Kernel13Ideal.main_arg1)) y) ((m (c.tc.loc Cert.Kernel13Ideal.main_arg19)) y)),
    fun c => (fun y : S1x512.Idx => Cert.Adam.aV (Cert.Small.grad3 (m (c.tc.loc Cert.Kernel13Ideal.main_arg1)) y) ((m (c.tc.loc Cert.Kernel13Ideal.main_arg20)) y)),
    fun c => (fun y : S1x512.Idx => Cert.Adam.aV (Cert.Small.grad4 (m (c.tc.loc Cert.Kernel13Ideal.main_arg1)) y) ((m (c.tc.loc Cert.Kernel13Ideal.main_arg21)) y)),
    fun c => (fun y : S3x128.Idx => Cert.Adam.aV (Cert.Small.grad5 (m (c.tc.loc Cert.Kernel13Ideal.main_arg0)) (m (c.tc.loc Cert.Kernel13Ideal.main_arg1)) y) ((m (c.tc.loc Cert.Kernel13Ideal.main_arg22)) y)),
    fun c => (fun y : S1x1024.Idx => Cert.Adam.aV (Cert.Small.grad6 (m (c.tc.loc Cert.Kernel13Ideal.main_arg1)) y) ((m (c.tc.loc Cert.Kernel13Ideal.main_arg23)) y)), ?_, ?_⟩
  · refine (θ_run Cert.Kernel13Ideal.defs _ _).mono (fun r h c => ?_) (θ_run_and (Cert.Kernel13Ideal.Hand.arrays m trivial hH g hc) (Cert.Kernel13Ideal.Hand.frame_small m g trivial hH))
    obtain ⟨h23, h24, h25, h26, h27, h28, h29, h30, h31, h32, h33, h34, h35, h36, h37, h38, h39, h40, h41, h42, h43, h44, h45, h46, h47, h48, h49, h50⟩ := h.1 c
    exact ⟨h23, h24, h25, h26, h27, h28, h29, h30, h31, h32, h33, h34, h35, h36, h37, h38, h39, h40, h41, h42, h43, h44, h45, h46, h47, h48, h49, h50, h.2.1 c⟩
  · refine (θ_run Cert.Reference13Ideal.defs _ _).mono (fun r h c => ?_) (Cert.Reference13Ideal.Value.run (F := Ideal) m' g')
    obtain ⟨h23, h24, h25, h26, h27, h28, h29, h30, h31, h32, h33, h34, h35, h36, h37, h38, h39, h40, h41, h42, h43, h44, h45, h46, h47, h48, h49, h50, hk⟩ := h c
    obtain ⟨a0, a1, a2, a3, a4, a5, a6, a7, a8, a9, a10, a11, a12, a13, a14, a15, a16, a17, a18, a19, a20, a21, a22, a23⟩ := hag c
    have b0 : StableHlo.launchContents m' c (Proc.devRef .tc Cert.Reference13Ideal.main_arg0) = m (c.tc.loc Cert.Kernel13Ideal.main_arg0) := a0
    have b1 : StableHlo.launchContents m' c (Proc.devRef .tc Cert.Reference13Ideal.main_arg1) = m (c.tc.loc Cert.Kernel13Ideal.main_arg1) := a1
    have b2 : StableHlo.launchContents m' c (Proc.devRef .tc Cert.Reference13Ideal.main_arg2) = m (c.tc.loc Cert.Kernel13Ideal.main_arg2) := a2
    have b3 : StableHlo.launchContents m' c (Proc.devRef .tc Cert.Reference13Ideal.main_arg3) = m (c.tc.loc Cert.Kernel13Ideal.main_arg3) := a3
    have b4 : StableHlo.launchContents m' c (Proc.devRef .tc Cert.Reference13Ideal.main_arg4) = m (c.tc.loc Cert.Kernel13Ideal.main_arg4) := a4
    have b5 : StableHlo.launchContents m' c (Proc.devRef .tc Cert.Reference13Ideal.main_arg5) = m (c.tc.loc Cert.Kernel13Ideal.main_arg5) := a5
    have b6 : StableHlo.launchContents m' c (Proc.devRef .tc Cert.Reference13Ideal.main_arg6) = m (c.tc.loc Cert.Kernel13Ideal.main_arg6) := a6
    have b7 : StableHlo.launchContents m' c (Proc.devRef .tc Cert.Reference13Ideal.main_arg7) = m (c.tc.loc Cert.Kernel13Ideal.main_arg7) := a7
    have b8 : StableHlo.launchContents m' c (Proc.devRef .tc Cert.Reference13Ideal.main_arg8) = m (c.tc.loc Cert.Kernel13Ideal.main_arg8) := a8
    have b9 : StableHlo.launchContents m' c (Proc.devRef .tc Cert.Reference13Ideal.main_arg9) = m (c.tc.loc Cert.Kernel13Ideal.main_arg9) := a9
    have b10 : StableHlo.launchContents m' c (Proc.devRef .tc Cert.Reference13Ideal.main_arg10) = m (c.tc.loc Cert.Kernel13Ideal.main_arg10) := a10
    have b11 : StableHlo.launchContents m' c (Proc.devRef .tc Cert.Reference13Ideal.main_arg11) = m (c.tc.loc Cert.Kernel13Ideal.main_arg11) := a11
    have b12 : StableHlo.launchContents m' c (Proc.devRef .tc Cert.Reference13Ideal.main_arg12) = m (c.tc.loc Cert.Kernel13Ideal.main_arg12) := a12
    have b13 : StableHlo.launchContents m' c (Proc.devRef .tc Cert.Reference13Ideal.main_arg13) = m (c.tc.loc Cert.Kernel13Ideal.main_arg13) := a13
    have b14 : StableHlo.launchContents m' c (Proc.devRef .tc Cert.Reference13Ideal.main_arg14) = m (c.tc.loc Cert.Kernel13Ideal.main_arg14) := a14
    have b15 : StableHlo.launchContents m' c (Proc.devRef .tc Cert.Reference13Ideal.main_arg15) = m (c.tc.loc Cert.Kernel13Ideal.main_arg15) := a15
    have b16 : StableHlo.launchContents m' c (Proc.devRef .tc Cert.Reference13Ideal.main_arg16) = m (c.tc.loc Cert.Kernel13Ideal.main_arg16) := a16
    have b17 : StableHlo.launchContents m' c (Proc.devRef .tc Cert.Reference13Ideal.main_arg17) = m (c.tc.loc Cert.Kernel13Ideal.main_arg17) := a17
    have b18 : StableHlo.launchContents m' c (Proc.devRef .tc Cert.Reference13Ideal.main_arg18) = m (c.tc.loc Cert.Kernel13Ideal.main_arg18) := a18
    have b19 : StableHlo.launchContents m' c (Proc.devRef .tc Cert.Reference13Ideal.main_arg19) = m (c.tc.loc Cert.Kernel13Ideal.main_arg19) := a19
    have b20 : StableHlo.launchContents m' c (Proc.devRef .tc Cert.Reference13Ideal.main_arg20) = m (c.tc.loc Cert.Kernel13Ideal.main_arg20) := a20
    have b21 : StableHlo.launchContents m' c (Proc.devRef .tc Cert.Reference13Ideal.main_arg21) = m (c.tc.loc Cert.Kernel13Ideal.main_arg21) := a21
    have b22 : StableHlo.launchContents m' c (Proc.devRef .tc Cert.Reference13Ideal.main_arg22) = m (c.tc.loc Cert.Kernel13Ideal.main_arg22) := a22
    have b23 : StableHlo.launchContents m' c (Proc.devRef .tc Cert.Reference13Ideal.main_arg23) = m (c.tc.loc Cert.Kernel13Ideal.main_arg23) := a23
    have hc' : chip (StableHlo.launchContents m' c (Proc.devRef .tc Cert.Reference13Ideal.main_arg0)) ≤ 3 := by rw [b0]; exact hc c
    refine ⟨h23.trans ?_, h24.trans ?_, h25.trans ?_, h26.trans ?_, h27.trans ?_, h28.trans ?_, h29.trans ?_, h30.trans ?_, h31.trans ?_, h32.trans ?_, h33.trans ?_, h34.trans ?_, h35.trans ?_, h36.trans ?_, h37.trans ?_, h38.trans ?_, h39.trans ?_, h40.trans ?_, h41.trans ?_, h42.trans ?_, h43.trans ?_, h44.trans ?_, h45.trans ?_, h46.trans ?_, h47.trans ?_, h48.trans ?_, h49.trans ?_, h50.trans ?_, hk⟩
    · exact b2
    · exact ((val_main_v7_eq (F := Ideal) _).trans (own1 _ _ hc')).trans (by rw [b0, b1])
    · exact ((val_main_v8_eq (F := Ideal) _).trans (own2 _)).trans (by rw [b1])
    · exact ((val_main_v9_eq (F := Ideal) _).trans (own3 _)).trans (by rw [b1])
    · exact ((val_main_v10_eq (F := Ideal) _).trans (own4 _)).trans (by rw [b1])
    · exact ((val_main_v18_eq (F := Ideal) _).trans (own5 _ _ hc')).trans (by rw [b0, b1])
    · exact ((val_main_v21_eq (F := Ideal) _).trans (own6 _)).trans (by rw [b1])
    · refine ((val_main_v45_eq (F := Ideal) _).trans (refD0 _ _ _ _)).trans ?_
      rw [b2, b3, b10, b17]
    · refine ((val_main_v69_eq (F := Ideal) _).trans (refD1 _ _ _ _ _)).trans ?_
      rw [own1 _ _ hc', b0, b1, b4, b11, b18]
    · refine ((val_main_v93_eq (F := Ideal) _).trans (refD2 _ _ _ _)).trans ?_
      rw [own2 _, b1, b5, b12, b19]
    · refine ((val_main_v117_eq (F := Ideal) _).trans (refD3 _ _ _ _)).trans ?_
      rw [own3 _, b1, b6, b13, b20]
    · refine ((val_main_v141_eq (F := Ideal) _).trans (refD4 _ _ _ _)).trans ?_
      rw [own4 _, b1, b7, b14, b21]
    · refine ((val_main_v165_eq (F := Ideal) _).trans (refD5 _ _ _ _ _)).trans ?_
      rw [own5 _ _ hc', b0, b1, b8, b15, b22]
    · refine ((val_main_v189_eq (F := Ideal) _).trans (refD6 _ _ _ _)).trans ?_
      rw [own6 _, b1, b9, b16, b23]
    · refine ((val_main_v26_eq (F := Ideal) _).trans (refM0 _ _)).trans ?_
      rw [b2, b10]
    · refine ((val_main_v50_eq (F := Ideal) _).trans (refM1 _ _ _)).trans ?_
      rw [own1 _ _ hc', b0, b1, b11]
    · refine ((val_main_v74_eq (F := Ideal) _).trans (refM2 _ _)).trans ?_
      rw [own2 _, b1, b12]
    · refine ((val_main_v98_eq (F := Ideal) _).trans (refM3 _ _)).trans ?_
      rw [own3 _, b1, b13]
    · refine ((val_main_v122_eq (F := Ideal) _).trans (refM4 _ _)).trans ?_
      rw [own4 _, b1, b14]
    · refine ((val_main_v146_eq (F := Ideal) _).trans (refM5 _ _ _)).trans ?_
      rw [own5 _ _ hc', b0, b1, b15]
    · refine ((val_main_v170_eq (F := Ideal) _).trans (refM6 _ _)).trans ?_
      rw [own6 _, b1, b16]
    · refine ((val_main_v32_eq (F := Ideal) _).trans (refV0 _ _)).trans ?_
      rw [b2, b17]
    · refine ((val_main_v56_eq (F := Ideal) _).trans (refV1 _ _ _)).trans ?_
      rw [own1 _ _ hc', b0, b1, b18]
    · refine ((val_main_v80_eq (F := Ideal) _).trans (refV2 _ _)).trans ?_
      rw [own2 _, b1, b19]
    · refine ((val_main_v104_eq (F := Ideal) _).trans (refV3 _ _)).trans ?_
      rw [own3 _, b1, b20]
    · refine ((val_main_v128_eq (F := Ideal) _).trans (refV4 _ _)).trans ?_
      rw [own4 _, b1, b21]
    · refine ((val_main_v152_eq (F := Ideal) _).trans (refV5 _ _ _)).trans ?_
      rw [own5 _ _ hc', b0, b1, b22]
    · refine ((val_main_v176_eq (F := Ideal) _).trans (refV6 _ _)).trans ?_
      rw [own6 _, b1, b23]

end Cert.Small

end
-- ==== Proof.Reduce14.lean ====
/-
  The sums over the devices of the packed small gradients and of the gradients of the modulation.
-/
module

public import proofs.«01_k».proof.Defs
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Pipeline.ValueKit

@[expose] public section

set_option maxRecDepth 16384
set_option maxHeartbeats 1000000

noncomputable section

namespace Cert.Kernel14Ideal.Hand

open Idealize.ShloMosaic Idealize.ShloMosaic.TcCoe Idealize.ShloMosaic.Tactic
open Idealize.SL Idealize.SL.Sem
open Idealize.ShloMosaic.Pipeline (Dat Cfg Window cellOf)
open Cert.Kernel14Ideal.Gen

variable (m : (ℓ : Loc nD τ sig) → Buf (Elt Ideal) ℓ) (c : Dev nD)

/-- The sum over the eight devices of one entry of the packed gradients. -/
def red (X : (⟨3, ![8, 40, 512]⟩ : Shape).Idx → EReal) (r : Fin 40) (q : Fin 512) : EReal := ∑ k : Fin 8, X (ix3 k r q)

/-- Row `R` of the modulation's gradient: four lines of device `R / 2` laid one after the other. -/
def dm (X : (⟨3, ![8, 8, 1536]⟩ : Shape).Idx → EReal) (R : Fin 16) (C : Fin 6144) : EReal :=
  X (ix3 ⟨R.val / 2, by omega⟩ ⟨4 * (R.val % 2) + C.val / 1536, by omega⟩ ⟨C.val % 1536, by omega⟩)

/-- Its sum over the rows. -/
def gb (X : (⟨3, ![8, 8, 1536]⟩ : Shape).Idx → EReal) (C : Fin 6144) : EReal := ∑ R : Fin 16, dm X R C

theorem sum16 (f : Fin 16 → EReal) : ∑ R : Fin 16, f R = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

theorem dm_at (X : (⟨3, ![8, 8, 1536]⟩ : Shape).Idx → EReal) (R : Fin 16) (j o : ℕ) (hj : j < 4) (ho : o = j * 1536) (d r : Fin 8) (k : Fin 1536)
    (C : Fin 6144) (hC : C.val = o + k.val) (hd : d.val = R.val / 2) (hr : r.val = 4 * (R.val % 2) + j) : dm X R C = X (ix3 d r k) := by
  unfold dm
  congr 1
  have e0 : (⟨R.val / 2, by omega⟩ : Fin 8) = d := Fin.ext hd.symm
  have e1 : (⟨4 * (R.val % 2) + C.val / 1536, by omega⟩ : Fin 8) = r := Fin.ext (by show 4 * (R.val % 2) + C.val / 1536 = r.val; omega)
  have e2 : (⟨C.val % 1536, by omega⟩ : Fin 1536) = k := Fin.ext (by show C.val % 1536 = k.val; omega)
  rw [e0, e1, e2]

theorem gb_at (X : (⟨3, ![8, 8, 1536]⟩ : Shape).Idx → EReal) (j o : ℕ) (hj : j < 4) (ho : o = j * 1536) (r0 r1 : Fin 8) (k : Fin 1536)
    (C : Fin 6144) (hC : C.val = o + k.val) (h0 : r0.val = j) (h1 : r1.val = 4 + j) :
    gb X C = X (ix3 0 r0 k) + X (ix3 0 r1 k) + X (ix3 1 r0 k) + X (ix3 1 r1 k) + X (ix3 2 r0 k) + X (ix3 2 r1 k) + X (ix3 3 r0 k) + X (ix3 3 r1 k) + X (ix3 4 r0 k) + X (ix3 4 r1 k) + X (ix3 5 r0 k) + X (ix3 5 r1 k) + X (ix3 6 r0 k) + X (ix3 6 r1 k) + X (ix3 7 r0 k) + X (ix3 7 r1 k) := by
  unfold gb
  rw [sum16, dm_at X 0 j o hj ho 0 r0 k C hC rfl (by rw [h0]; show _ = 4 * 0 + j; omega), dm_at X 1 j o hj ho 0 r1 k C hC rfl (by rw [h1]; show _ = 4 * 1 + j; omega), dm_at X 2 j o hj ho 1 r0 k C hC rfl (by rw [h0]; show _ = 4 * 0 + j; omega), dm_at X 3 j o hj ho 1 r1 k C hC rfl (by rw [h1]; show _ = 4 * 1 + j; omega), dm_at X 4 j o hj ho 2 r0 k C hC rfl (by rw [h0]; show _ = 4 * 0 + j; omega), dm_at X 5 j o hj ho 2 r1 k C hC rfl (by rw [h1]; show _ = 4 * 1 + j; omega), dm_at X 6 j o hj ho 3 r0 k C hC rfl (by rw [h0]; show _ = 4 * 0 + j; omega), dm_at X 7 j o hj ho 3 r1 k C hC rfl (by rw [h1]; show _ = 4 * 1 + j; omega), dm_at X 8 j o hj ho 4 r0 k C hC rfl (by rw [h0]; show _ = 4 * 0 + j; omega), dm_at X 9 j o hj ho 4 r1 k C hC rfl (by rw [h1]; show _ = 4 * 1 + j; omega), dm_at X 10 j o hj ho 5 r0 k C hC rfl (by rw [h0]; show _ = 4 * 0 + j; omega), dm_at X 11 j o hj ho 5 r1 k C hC rfl (by rw [h1]; show _ = 4 * 1 + j; omega), dm_at X 12 j o hj ho 6 r0 k C hC rfl (by rw [h0]; show _ = 4 * 0 + j; omega), dm_at X 13 j o hj ho 6 r1 k C hC rfl (by rw [h1]; show _ = 4 * 1 + j; omega), dm_at X 14 j o hj ho 7 r0 k C hC rfl (by rw [h0]; show _ = 4 * 0 + j; omega), dm_at X 15 j o hj ho 7 r1 k C hC rfl (by rw [h1]; show _ = 4 * 1 + j; omega)]

/-- A row and a column of a rectangle with unit strides. -/
theorem emb_row (n k a b o0 o1 : ℕ) (h) (i : Fin a) (j : Fin b) (y0 : Fin n) (y1 : Fin k) (h0 : y0.val = o0 + i.val) (h1 : y1.val = o1 + j.val) :
    (Rect.unit (s := (⟨2, ![n, k]⟩ : Shape)) ![o0, o1] ![a, b] h).emb (ix2 i j) = ix2 y0 y1 := by
  funext x
  refine Fin.ext ?_
  match x with
  | 0 => exact (congrArg (o0 + ·) (Nat.one_mul _)).trans h0.symm
  | 1 => exact (congrArg (o1 + ·) (Nat.one_mul _)).trans h1.symm

theorem sum8 (t : Fin cfg0.N) (r : Fin 40) (q : Fin 512) : (outsAt0 m c t).1 (ix2 r q) = red (iblk m c 0 t) r q := by
  unfold red
  rw [Fin.sum_univ_eight]
  unfold outsAt0 out0_A_2
  frame_out
  pointwise [k0_pay2]
  have e := (hs0_0 t).read_unread (iblk m c 0 t)
  simp only [e]

theorem rows (t : Fin cfg0.N) : (outsAt0 m c t).2.1 = fun y => dm (iblk m c 1 t) (y 0) (y 1) := by
  funext y
  frame_out
  have e := (hs0_1 t).read_unread (iblk m c 1 t)
  refine View.canon_apply_of_pieces (Val := Elt Ideal) (S := S16x6144) (e := .f32) (fun y => dm (iblk m c 1 t) (y 0) (y 1)) _ (fun p hp j => ?_) y ?_
  swap
  · exact View.cover_of_tiledL (s := S16x6144) _ S1x1536.size (by sl_kernel_rfl) y
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    (dsimp only; idx_vars j; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81]; refine (congrFun e _).trans ?_)
  · rw [emb_row 16 6144 1 1536 15 4608 _ j0 j1 ⟨15, by omega⟩ ⟨4608 + j1.val, by omega⟩ (by show 15 = 15 + j0.val; omega) rfl]
    exact (dm_at _ 15 3 4608 (by omega) rfl _ _ j1 _ rfl rfl rfl).symm
  · rw [emb_row 16 6144 1 1536 14 4608 _ j0 j1 ⟨14, by omega⟩ ⟨4608 + j1.val, by omega⟩ (by show 14 = 14 + j0.val; omega) rfl]
    exact (dm_at _ 14 3 4608 (by omega) rfl _ _ j1 _ rfl rfl rfl).symm
  · rw [emb_row 16 6144 1 1536 13 4608 _ j0 j1 ⟨13, by omega⟩ ⟨4608 + j1.val, by omega⟩ (by show 13 = 13 + j0.val; omega) rfl]
    exact (dm_at _ 13 3 4608 (by omega) rfl _ _ j1 _ rfl rfl rfl).symm
  · rw [emb_row 16 6144 1 1536 12 4608 _ j0 j1 ⟨12, by omega⟩ ⟨4608 + j1.val, by omega⟩ (by show 12 = 12 + j0.val; omega) rfl]
    exact (dm_at _ 12 3 4608 (by omega) rfl _ _ j1 _ rfl rfl rfl).symm
  · rw [emb_row 16 6144 1 1536 11 4608 _ j0 j1 ⟨11, by omega⟩ ⟨4608 + j1.val, by omega⟩ (by show 11 = 11 + j0.val; omega) rfl]
    exact (dm_at _ 11 3 4608 (by omega) rfl _ _ j1 _ rfl rfl rfl).symm
  · rw [emb_row 16 6144 1 1536 10 4608 _ j0 j1 ⟨10, by omega⟩ ⟨4608 + j1.val, by omega⟩ (by show 10 = 10 + j0.val; omega) rfl]
    exact (dm_at _ 10 3 4608 (by omega) rfl _ _ j1 _ rfl rfl rfl).symm
  · rw [emb_row 16 6144 1 1536 9 4608 _ j0 j1 ⟨9, by omega⟩ ⟨4608 + j1.val, by omega⟩ (by show 9 = 9 + j0.val; omega) rfl]
    exact (dm_at _ 9 3 4608 (by omega) rfl _ _ j1 _ rfl rfl rfl).symm
  · rw [emb_row 16 6144 1 1536 8 4608 _ j0 j1 ⟨8, by omega⟩ ⟨4608 + j1.val, by omega⟩ (by show 8 = 8 + j0.val; omega) rfl]
    exact (dm_at _ 8 3 4608 (by omega) rfl _ _ j1 _ rfl rfl rfl).symm
  · rw [emb_row 16 6144 1 1536 7 4608 _ j0 j1 ⟨7, by omega⟩ ⟨4608 + j1.val, by omega⟩ (by show 7 = 7 + j0.val; omega) rfl]
    exact (dm_at _ 7 3 4608 (by omega) rfl _ _ j1 _ rfl rfl rfl).symm
  · rw [emb_row 16 6144 1 1536 6 4608 _ j0 j1 ⟨6, by omega⟩ ⟨4608 + j1.val, by omega⟩ (by show 6 = 6 + j0.val; omega) rfl]
    exact (dm_at _ 6 3 4608 (by omega) rfl _ _ j1 _ rfl rfl rfl).symm
  · rw [emb_row 16 6144 1 1536 5 4608 _ j0 j1 ⟨5, by omega⟩ ⟨4608 + j1.val, by omega⟩ (by show 5 = 5 + j0.val; omega) rfl]
    exact (dm_at _ 5 3 4608 (by omega) rfl _ _ j1 _ rfl rfl rfl).symm
  · rw [emb_row 16 6144 1 1536 4 4608 _ j0 j1 ⟨4, by omega⟩ ⟨4608 + j1.val, by omega⟩ (by show 4 = 4 + j0.val; omega) rfl]
    exact (dm_at _ 4 3 4608 (by omega) rfl _ _ j1 _ rfl rfl rfl).symm
  · rw [emb_row 16 6144 1 1536 3 4608 _ j0 j1 ⟨3, by omega⟩ ⟨4608 + j1.val, by omega⟩ (by show 3 = 3 + j0.val; omega) rfl]
    exact (dm_at _ 3 3 4608 (by omega) rfl _ _ j1 _ rfl rfl rfl).symm
  · rw [emb_row 16 6144 1 1536 2 4608 _ j0 j1 ⟨2, by omega⟩ ⟨4608 + j1.val, by omega⟩ (by show 2 = 2 + j0.val; omega) rfl]
    exact (dm_at _ 2 3 4608 (by omega) rfl _ _ j1 _ rfl rfl rfl).symm
  · rw [emb_row 16 6144 1 1536 1 4608 _ j0 j1 ⟨1, by omega⟩ ⟨4608 + j1.val, by omega⟩ (by show 1 = 1 + j0.val; omega) rfl]
    exact (dm_at _ 1 3 4608 (by omega) rfl _ _ j1 _ rfl rfl rfl).symm
  · rw [emb_row 16 6144 1 1536 0 4608 _ j0 j1 ⟨0, by omega⟩ ⟨4608 + j1.val, by omega⟩ (by show 0 = 0 + j0.val; omega) rfl]
    exact (dm_at _ 0 3 4608 (by omega) rfl _ _ j1 _ rfl rfl rfl).symm
  · rw [emb_row 16 6144 1 1536 15 3072 _ j0 j1 ⟨15, by omega⟩ ⟨3072 + j1.val, by omega⟩ (by show 15 = 15 + j0.val; omega) rfl]
    exact (dm_at _ 15 2 3072 (by omega) rfl _ _ j1 _ rfl rfl rfl).symm
  · rw [emb_row 16 6144 1 1536 14 3072 _ j0 j1 ⟨14, by omega⟩ ⟨3072 + j1.val, by omega⟩ (by show 14 = 14 + j0.val; omega) rfl]
    exact (dm_at _ 14 2 3072 (by omega) rfl _ _ j1 _ rfl rfl rfl).symm
  · rw [emb_row 16 6144 1 1536 13 3072 _ j0 j1 ⟨13, by omega⟩ ⟨3072 + j1.val, by omega⟩ (by show 13 = 13 + j0.val; omega) rfl]
    exact (dm_at _ 13 2 3072 (by omega) rfl _ _ j1 _ rfl rfl rfl).symm
  · rw [emb_row 16 6144 1 1536 12 3072 _ j0 j1 ⟨12, by omega⟩ ⟨3072 + j1.val, by omega⟩ (by show 12 = 12 + j0.val; omega) rfl]
    exact (dm_at _ 12 2 3072 (by omega) rfl _ _ j1 _ rfl rfl rfl).symm
  · rw [emb_row 16 6144 1 1536 11 3072 _ j0 j1 ⟨11, by omega⟩ ⟨3072 + j1.val, by omega⟩ (by show 11 = 11 + j0.val; omega) rfl]
    exact (dm_at _ 11 2 3072 (by omega) rfl _ _ j1 _ rfl rfl rfl).symm
  · rw [emb_row 16 6144 1 1536 10 3072 _ j0 j1 ⟨10, by omega⟩ ⟨3072 + j1.val, by omega⟩ (by show 10 = 10 + j0.val; omega) rfl]
    exact (dm_at _ 10 2 3072 (by omega) rfl _ _ j1 _ rfl rfl rfl).symm
  · rw [emb_row 16 6144 1 1536 9 3072 _ j0 j1 ⟨9, by omega⟩ ⟨3072 + j1.val, by omega⟩ (by show 9 = 9 + j0.val; omega) rfl]
    exact (dm_at _ 9 2 3072 (by omega) rfl _ _ j1 _ rfl rfl rfl).symm
  · rw [emb_row 16 6144 1 1536 8 3072 _ j0 j1 ⟨8, by omega⟩ ⟨3072 + j1.val, by omega⟩ (by show 8 = 8 + j0.val; omega) rfl]
    exact (dm_at _ 8 2 3072 (by omega) rfl _ _ j1 _ rfl rfl rfl).symm
  · rw [emb_row 16 6144 1 1536 7 3072 _ j0 j1 ⟨7, by omega⟩ ⟨3072 + j1.val, by omega⟩ (by show 7 = 7 + j0.val; omega) rfl]
    exact (dm_at _ 7 2 3072 (by omega) rfl _ _ j1 _ rfl rfl rfl).symm
  · rw [emb_row 16 6144 1 1536 6 3072 _ j0 j1 ⟨6, by omega⟩ ⟨3072 + j1.val, by omega⟩ (by show 6 = 6 + j0.val; omega) rfl]
    exact (dm_at _ 6 2 3072 (by omega) rfl _ _ j1 _ rfl rfl rfl).symm
  · rw [emb_row 16 6144 1 1536 5 3072 _ j0 j1 ⟨5, by omega⟩ ⟨3072 + j1.val, by omega⟩ (by show 5 = 5 + j0.val; omega) rfl]
    exact (dm_at _ 5 2 3072 (by omega) rfl _ _ j1 _ rfl rfl rfl).symm
  · rw [emb_row 16 6144 1 1536 4 3072 _ j0 j1 ⟨4, by omega⟩ ⟨3072 + j1.val, by omega⟩ (by show 4 = 4 + j0.val; omega) rfl]
    exact (dm_at _ 4 2 3072 (by omega) rfl _ _ j1 _ rfl rfl rfl).symm
  · rw [emb_row 16 6144 1 1536 3 3072 _ j0 j1 ⟨3, by omega⟩ ⟨3072 + j1.val, by omega⟩ (by show 3 = 3 + j0.val; omega) rfl]
    exact (dm_at _ 3 2 3072 (by omega) rfl _ _ j1 _ rfl rfl rfl).symm
  · rw [emb_row 16 6144 1 1536 2 3072 _ j0 j1 ⟨2, by omega⟩ ⟨3072 + j1.val, by omega⟩ (by show 2 = 2 + j0.val; omega) rfl]
    exact (dm_at _ 2 2 3072 (by omega) rfl _ _ j1 _ rfl rfl rfl).symm
  · rw [emb_row 16 6144 1 1536 1 3072 _ j0 j1 ⟨1, by omega⟩ ⟨3072 + j1.val, by omega⟩ (by show 1 = 1 + j0.val; omega) rfl]
    exact (dm_at _ 1 2 3072 (by omega) rfl _ _ j1 _ rfl rfl rfl).symm
  · rw [emb_row 16 6144 1 1536 0 3072 _ j0 j1 ⟨0, by omega⟩ ⟨3072 + j1.val, by omega⟩ (by show 0 = 0 + j0.val; omega) rfl]
    exact (dm_at _ 0 2 3072 (by omega) rfl _ _ j1 _ rfl rfl rfl).symm
  · rw [emb_row 16 6144 1 1536 15 1536 _ j0 j1 ⟨15, by omega⟩ ⟨1536 + j1.val, by omega⟩ (by show 15 = 15 + j0.val; omega) rfl]
    exact (dm_at _ 15 1 1536 (by omega) rfl _ _ j1 _ rfl rfl rfl).symm
  · rw [emb_row 16 6144 1 1536 14 1536 _ j0 j1 ⟨14, by omega⟩ ⟨1536 + j1.val, by omega⟩ (by show 14 = 14 + j0.val; omega) rfl]
    exact (dm_at _ 14 1 1536 (by omega) rfl _ _ j1 _ rfl rfl rfl).symm
  · rw [emb_row 16 6144 1 1536 13 1536 _ j0 j1 ⟨13, by omega⟩ ⟨1536 + j1.val, by omega⟩ (by show 13 = 13 + j0.val; omega) rfl]
    exact (dm_at _ 13 1 1536 (by omega) rfl _ _ j1 _ rfl rfl rfl).symm
  · rw [emb_row 16 6144 1 1536 12 1536 _ j0 j1 ⟨12, by omega⟩ ⟨1536 + j1.val, by omega⟩ (by show 12 = 12 + j0.val; omega) rfl]
    exact (dm_at _ 12 1 1536 (by omega) rfl _ _ j1 _ rfl rfl rfl).symm
  · rw [emb_row 16 6144 1 1536 11 1536 _ j0 j1 ⟨11, by omega⟩ ⟨1536 + j1.val, by omega⟩ (by show 11 = 11 + j0.val; omega) rfl]
    exact (dm_at _ 11 1 1536 (by omega) rfl _ _ j1 _ rfl rfl rfl).symm
  · rw [emb_row 16 6144 1 1536 10 1536 _ j0 j1 ⟨10, by omega⟩ ⟨1536 + j1.val, by omega⟩ (by show 10 = 10 + j0.val; omega) rfl]
    exact (dm_at _ 10 1 1536 (by omega) rfl _ _ j1 _ rfl rfl rfl).symm
  · rw [emb_row 16 6144 1 1536 9 1536 _ j0 j1 ⟨9, by omega⟩ ⟨1536 + j1.val, by omega⟩ (by show 9 = 9 + j0.val; omega) rfl]
    exact (dm_at _ 9 1 1536 (by omega) rfl _ _ j1 _ rfl rfl rfl).symm
  · rw [emb_row 16 6144 1 1536 8 1536 _ j0 j1 ⟨8, by omega⟩ ⟨1536 + j1.val, by omega⟩ (by show 8 = 8 + j0.val; omega) rfl]
    exact (dm_at _ 8 1 1536 (by omega) rfl _ _ j1 _ rfl rfl rfl).symm
  · rw [emb_row 16 6144 1 1536 7 1536 _ j0 j1 ⟨7, by omega⟩ ⟨1536 + j1.val, by omega⟩ (by show 7 = 7 + j0.val; omega) rfl]
    exact (dm_at _ 7 1 1536 (by omega) rfl _ _ j1 _ rfl rfl rfl).symm
  · rw [emb_row 16 6144 1 1536 6 1536 _ j0 j1 ⟨6, by omega⟩ ⟨1536 + j1.val, by omega⟩ (by show 6 = 6 + j0.val; omega) rfl]
    exact (dm_at _ 6 1 1536 (by omega) rfl _ _ j1 _ rfl rfl rfl).symm
  · rw [emb_row 16 6144 1 1536 5 1536 _ j0 j1 ⟨5, by omega⟩ ⟨1536 + j1.val, by omega⟩ (by show 5 = 5 + j0.val; omega) rfl]
    exact (dm_at _ 5 1 1536 (by omega) rfl _ _ j1 _ rfl rfl rfl).symm
  · rw [emb_row 16 6144 1 1536 4 1536 _ j0 j1 ⟨4, by omega⟩ ⟨1536 + j1.val, by omega⟩ (by show 4 = 4 + j0.val; omega) rfl]
    exact (dm_at _ 4 1 1536 (by omega) rfl _ _ j1 _ rfl rfl rfl).symm
  · rw [emb_row 16 6144 1 1536 3 1536 _ j0 j1 ⟨3, by omega⟩ ⟨1536 + j1.val, by omega⟩ (by show 3 = 3 + j0.val; omega) rfl]
    exact (dm_at _ 3 1 1536 (by omega) rfl _ _ j1 _ rfl rfl rfl).symm
  · rw [emb_row 16 6144 1 1536 2 1536 _ j0 j1 ⟨2, by omega⟩ ⟨1536 + j1.val, by omega⟩ (by show 2 = 2 + j0.val; omega) rfl]
    exact (dm_at _ 2 1 1536 (by omega) rfl _ _ j1 _ rfl rfl rfl).symm
  · rw [emb_row 16 6144 1 1536 1 1536 _ j0 j1 ⟨1, by omega⟩ ⟨1536 + j1.val, by omega⟩ (by show 1 = 1 + j0.val; omega) rfl]
    exact (dm_at _ 1 1 1536 (by omega) rfl _ _ j1 _ rfl rfl rfl).symm
  · rw [emb_row 16 6144 1 1536 0 1536 _ j0 j1 ⟨0, by omega⟩ ⟨1536 + j1.val, by omega⟩ (by show 0 = 0 + j0.val; omega) rfl]
    exact (dm_at _ 0 1 1536 (by omega) rfl _ _ j1 _ rfl rfl rfl).symm
  · rw [emb_row 16 6144 1 1536 15 0 _ j0 j1 ⟨15, by omega⟩ ⟨0 + j1.val, by omega⟩ (by show 15 = 15 + j0.val; omega) rfl]
    exact (dm_at _ 15 0 0 (by omega) rfl _ _ j1 _ rfl rfl rfl).symm
  · rw [emb_row 16 6144 1 1536 14 0 _ j0 j1 ⟨14, by omega⟩ ⟨0 + j1.val, by omega⟩ (by show 14 = 14 + j0.val; omega) rfl]
    exact (dm_at _ 14 0 0 (by omega) rfl _ _ j1 _ rfl rfl rfl).symm
  · rw [emb_row 16 6144 1 1536 13 0 _ j0 j1 ⟨13, by omega⟩ ⟨0 + j1.val, by omega⟩ (by show 13 = 13 + j0.val; omega) rfl]
    exact (dm_at _ 13 0 0 (by omega) rfl _ _ j1 _ rfl rfl rfl).symm
  · rw [emb_row 16 6144 1 1536 12 0 _ j0 j1 ⟨12, by omega⟩ ⟨0 + j1.val, by omega⟩ (by show 12 = 12 + j0.val; omega) rfl]
    exact (dm_at _ 12 0 0 (by omega) rfl _ _ j1 _ rfl rfl rfl).symm
  · rw [emb_row 16 6144 1 1536 11 0 _ j0 j1 ⟨11, by omega⟩ ⟨0 + j1.val, by omega⟩ (by show 11 = 11 + j0.val; omega) rfl]
    exact (dm_at _ 11 0 0 (by omega) rfl _ _ j1 _ rfl rfl rfl).symm
  · rw [emb_row 16 6144 1 1536 10 0 _ j0 j1 ⟨10, by omega⟩ ⟨0 + j1.val, by omega⟩ (by show 10 = 10 + j0.val; omega) rfl]
    exact (dm_at _ 10 0 0 (by omega) rfl _ _ j1 _ rfl rfl rfl).symm
  · rw [emb_row 16 6144 1 1536 9 0 _ j0 j1 ⟨9, by omega⟩ ⟨0 + j1.val, by omega⟩ (by show 9 = 9 + j0.val; omega) rfl]
    exact (dm_at _ 9 0 0 (by omega) rfl _ _ j1 _ rfl rfl rfl).symm
  · rw [emb_row 16 6144 1 1536 8 0 _ j0 j1 ⟨8, by omega⟩ ⟨0 + j1.val, by omega⟩ (by show 8 = 8 + j0.val; omega) rfl]
    exact (dm_at _ 8 0 0 (by omega) rfl _ _ j1 _ rfl rfl rfl).symm
  · rw [emb_row 16 6144 1 1536 7 0 _ j0 j1 ⟨7, by omega⟩ ⟨0 + j1.val, by omega⟩ (by show 7 = 7 + j0.val; omega) rfl]
    exact (dm_at _ 7 0 0 (by omega) rfl _ _ j1 _ rfl rfl rfl).symm
  · rw [emb_row 16 6144 1 1536 6 0 _ j0 j1 ⟨6, by omega⟩ ⟨0 + j1.val, by omega⟩ (by show 6 = 6 + j0.val; omega) rfl]
    exact (dm_at _ 6 0 0 (by omega) rfl _ _ j1 _ rfl rfl rfl).symm
  · rw [emb_row 16 6144 1 1536 5 0 _ j0 j1 ⟨5, by omega⟩ ⟨0 + j1.val, by omega⟩ (by show 5 = 5 + j0.val; omega) rfl]
    exact (dm_at _ 5 0 0 (by omega) rfl _ _ j1 _ rfl rfl rfl).symm
  · rw [emb_row 16 6144 1 1536 4 0 _ j0 j1 ⟨4, by omega⟩ ⟨0 + j1.val, by omega⟩ (by show 4 = 4 + j0.val; omega) rfl]
    exact (dm_at _ 4 0 0 (by omega) rfl _ _ j1 _ rfl rfl rfl).symm
  · rw [emb_row 16 6144 1 1536 3 0 _ j0 j1 ⟨3, by omega⟩ ⟨0 + j1.val, by omega⟩ (by show 3 = 3 + j0.val; omega) rfl]
    exact (dm_at _ 3 0 0 (by omega) rfl _ _ j1 _ rfl rfl rfl).symm
  · rw [emb_row 16 6144 1 1536 2 0 _ j0 j1 ⟨2, by omega⟩ ⟨0 + j1.val, by omega⟩ (by show 2 = 2 + j0.val; omega) rfl]
    exact (dm_at _ 2 0 0 (by omega) rfl _ _ j1 _ rfl rfl rfl).symm
  · rw [emb_row 16 6144 1 1536 1 0 _ j0 j1 ⟨1, by omega⟩ ⟨0 + j1.val, by omega⟩ (by show 1 = 1 + j0.val; omega) rfl]
    exact (dm_at _ 1 0 0 (by omega) rfl _ _ j1 _ rfl rfl rfl).symm
  · rw [emb_row 16 6144 1 1536 0 0 _ j0 j1 ⟨0, by omega⟩ ⟨0 + j1.val, by omega⟩ (by show 0 = 0 + j0.val; omega) rfl]
    exact (dm_at _ 0 0 0 (by omega) rfl _ _ j1 _ rfl rfl rfl).symm

theorem bias (t : Fin cfg0.N) : (outsAt0 m c t).2.2 = fun y => gb (iblk m c 1 t) (y 1) := by
  funext y
  frame_out
  have e := (hs0_1 t).read_unread (iblk m c 1 t)
  refine View.canon_apply_of_pieces (Val := Elt Ideal) (S := S1x6144) (e := .f32) (fun y => gb (iblk m c 1 t) (y 1)) _ (fun p hp j => ?_) y ?_
  swap
  · exact View.cover_of_tiledL (s := S1x6144) _ S1x1536.size (by sl_kernel_rfl) y
  simp only [List.mem_cons, List.mem_nil_iff, or_false] at hp
  rcases hp with rfl | rfl | rfl | rfl <;>
    (dsimp only; idx_vars j; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81]; simp only [e])
  · rw [emb_row 1 6144 1 1536 0 4608 _ j0 j1 0 ⟨4608 + j1.val, by omega⟩ (by show 0 = 0 + j0.val; omega) rfl]
    exact (gb_at _ 3 4608 (by omega) rfl 3 7 j1 _ rfl rfl rfl).symm
  · rw [emb_row 1 6144 1 1536 0 3072 _ j0 j1 0 ⟨3072 + j1.val, by omega⟩ (by show 0 = 0 + j0.val; omega) rfl]
    exact (gb_at _ 2 3072 (by omega) rfl 2 6 j1 _ rfl rfl rfl).symm
  · rw [emb_row 1 6144 1 1536 0 1536 _ j0 j1 0 ⟨1536 + j1.val, by omega⟩ (by show 0 = 0 + j0.val; omega) rfl]
    exact (gb_at _ 1 1536 (by omega) rfl 1 5 j1 _ rfl rfl rfl).symm
  · rw [emb_row 1 6144 1 1536 0 0 _ j0 j1 0 ⟨0 + j1.val, by omega⟩ (by show 0 = 0 + j0.val; omega) rfl]
    exact (gb_at _ 0 0 (by omega) rfl 0 4 j1 _ rfl rfl rfl).symm

theorem idx0 : ∀ t : Fin cfg0.N, win0_0.index t = ![0, 0, 0] := (by decide +kernel : ∀ t : Fin grid0.N, win0_0.index t = ![0, 0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])

theorem blk0 (t : Fin cfg0.N) : iblk m c 0 t = (m ((c : Thread nD τ).loc main_arg0)) := by
  funext y
  rw [← V_main_arg0 m c]
  idx_vars y
  blk_simp [iblk]
  refine congrArg _ ?_
  blk_ext [idx0 t]

theorem blk1 (t : Fin cfg0.N) : iblk m c 1 t = (m ((c : Thread nD τ).loc main_arg1)) := by
  funext y
  rw [← V_main_arg1 m c]
  idx_vars y
  blk_simp [iblk]
  refine congrArg _ ?_
  blk_ext [idx1 t]

theorem res2 : (dats m 0 c).arrAt 2 cfg0.N = fun y : S40x512.Idx => red (m ((c : Thread nD τ).loc main_arg0)) (y 0) (y 1) := by
  refine (dats m 0 c).arrAt_eq_of_covers 2 _ (by decide +kernel) fun t hf y => ?_
  blk_simp
  rw [after0_2]
  idx_vars y
  have e : ((win0_2.blk t).view.emb (ix2 y0 y1) : S40x512.Idx) = ix2 y0 y1 := by blk_ext [idx2 t]
  rw [e]
  refine (sum8 m c t y0 y1).trans ?_
  rw [blk0]
  rfl

theorem res3 : (dats m 0 c).arrAt 3 cfg0.N = fun y : S16x6144.Idx => dm (m ((c : Thread nD τ).loc main_arg1)) (y 0) (y 1) := by
  refine (dats m 0 c).arrAt_eq_of_covers 3 _ (by decide +kernel) fun t hf y => ?_
  blk_simp
  rw [after0_3]
  idx_vars y
  have e : ((win0_3.blk t).view.emb (ix2 y0 y1) : S16x6144.Idx) = ix2 y0 y1 := by blk_ext [idx3 t]
  rw [e]
  refine (congrFun (rows m c t) (ix2 y0 y1)).trans ?_
  rw [blk1]

theorem res4 : (dats m 0 c).arrAt 4 cfg0.N = fun y : S1x6144.Idx => gb (m ((c : Thread nD τ).loc main_arg1)) (y 1) := by
  refine (dats m 0 c).arrAt_eq_of_covers 4 _ (by decide +kernel) fun t hf y => ?_
  blk_simp
  rw [after0_4]
  idx_vars y
  have e : ((win0_4.blk t).view.emb (ix2 y0 y1) : S1x6144.Idx) = ix2 y0 y1 := by blk_ext [idx4 t]
  rw [e]
  refine (congrFun (bias m c t) (ix2 y0 y1)).trans ?_
  rw [blk1]

end Cert.Kernel14Ideal.Hand

namespace Cert.Reduce

open Idealize.ShloMosaic Idealize.ShloMosaic.TcCoe Idealize.ShloMosaic.Tactic Idealize.SL.Sem
open Cert Cert.Reference14Ideal Cert.Reference14Ideal.Read
open Cert.Kernel14Ideal.Hand (red dm gb)

theorem first (x0) : val_main_v0 (F := Ideal) x0 = fun y : S40x512.Idx => red x0 (y 0) (y 1) := by
  funext y
  idx_vars y
  rw [val_main_v0_apply, val_main_cst_apply]
  exact (congrArg (· + _) Ideal.ofBits_zero_f32).trans (zero_add _) |>.trans (Finset.sum_congr rfl fun k _ => congrArg x0 (by funext a; match a with | 0 => rfl | 1 => rfl | 2 => rfl))

theorem second (x1) : val_main_v1 (F := Ideal) x1 = fun y : S16x6144.Idx => dm x1 (y 0) (y 1) := by
  funext y
  idx_vars y
  rw [val_main_v1_apply]
  unfold dm
  refine congrArg x1 ?_
  funext a
  refine Fin.ext ?_
  match a with
  | 0 => show (y0.val * 6144 + y1.val) / 12288 = y0.val / 2; omega
  | 1 => show (y0.val * 6144 + y1.val) / 1536 % 8 = 4 * (y0.val % 2) + y1.val / 1536; omega
  | 2 => show (y0.val * 6144 + y1.val) % 1536 = y1.val % 1536; omega

theorem third (x1) : val_main_v3 (F := Ideal) x1 = fun y : S1x6144.Idx => gb x1 (y 1) := by
  funext y
  idx_vars y
  rw [val_main_v3_apply, val_main_v2_apply, val_main_cst_0_apply, second]
  unfold gb
  exact (congrArg (· + _) Ideal.ofBits_zero_f32).trans (zero_add _)

theorem frame_kernel14 : Cert.quiescent_Kernel14 := fun m ρ _ => Cert.Kernel14.Gen.frame m ρ

theorem frame_ideal14 : Cert.quiescent_Kernel14Ideal := fun m ρ _ => Cert.Kernel14Ideal.Gen.frame m ρ

theorem frame_reference14 : Cert.quiescent_Reference14Ideal := fun m ρ _ =>
  (θ_run Cert.Reference14Ideal.defs _ _).mono
    (fun _ h => ⟨fun c => (h c).2.2.2, funext fun q => by rcases q with ⟨_, q | q⟩ <;> exact q.elim0⟩) (Cert.Reference14Ideal.Value.run (F := Ideal) m ρ)

theorem algebraic14 : Cert.algebraic_Kernel14Ideal_Reference14Ideal := by
  intro m g m' g' _ hag
  refine ⟨fun c => (fun y : S40x512.Idx => red (m (c.tc.loc Cert.Kernel14Ideal.main_arg0)) (y 0) (y 1)),
    fun c => (fun y : S16x6144.Idx => dm (m (c.tc.loc Cert.Kernel14Ideal.main_arg1)) (y 0) (y 1)),
    fun c => (fun y : S1x6144.Idx => gb (m (c.tc.loc Cert.Kernel14Ideal.main_arg1)) (y 1)), ?_, ?_⟩
  · refine (θ_run Cert.Kernel14Ideal.defs _ _).mono (fun r h c => ?_) (Cert.Kernel14Ideal.Value.run_blocks (F := Ideal) m g)
    obtain ⟨h0, h1, h2, hk⟩ := h c
    exact ⟨h0.trans (Cert.Kernel14Ideal.Hand.res2 m c), h1.trans (Cert.Kernel14Ideal.Hand.res3 m c), h2.trans (Cert.Kernel14Ideal.Hand.res4 m c), hk⟩
  · refine (θ_run Cert.Reference14Ideal.defs _ _).mono (fun r h c => ?_) (Cert.Reference14Ideal.Value.run (F := Ideal) m' g')
    obtain ⟨h0, h1, h2, hk⟩ := h c
    obtain ⟨a0, a1⟩ := hag c
    refine ⟨h0.trans ?_, h1.trans ?_, h2.trans ?_, hk⟩
    · exact ((val_main_v0_eq (F := Ideal) _).trans (first _)).trans (by rw [a0])
    · exact ((val_main_v1_eq (F := Ideal) _).trans (second _)).trans (by rw [a1])
    · exact ((val_main_v3_eq (F := Ideal) _).trans (third _)).trans (by rw [a1])

end Cert.Reduce

end
-- ==== Proof.lean ====
module

public import proofs.«01_k».proof.Defs
public import proofs.«01_k».proof.Proof.Gen.Kernel10
public import proofs.«01_k».proof.Proof.Gen.Kernel10Ideal
public import proofs.«01_k».proof.Proof.Gen.Kernel11
public import proofs.«01_k».proof.Proof.Gen.Kernel11Ideal
public import proofs.«01_k».proof.Proof.Gen.Kernel12
public import proofs.«01_k».proof.Proof.Gen.Kernel12Ideal
public import proofs.«01_k».proof.Proof.Gen.Kernel13
public import proofs.«01_k».proof.Proof.Gen.Kernel13Ideal
public import proofs.«01_k».proof.Proof.Gen.Kernel14
public import proofs.«01_k».proof.Proof.Gen.Kernel14Ideal
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal
public import proofs.«01_k».proof.Proof.Gen.Kernel7
public import proofs.«01_k».proof.Proof.Gen.Kernel7Ideal
public import proofs.«01_k».proof.Proof.Gen.Kernel8
public import proofs.«01_k».proof.Proof.Gen.Kernel8Ideal
public import proofs.«01_k».proof.Proof.Gen.Kernel9
public import proofs.«01_k».proof.Proof.Gen.Kernel9Ideal
public import proofs.«01_k».proof.Proof.Gen.Pre_chip_named
public import proofs.«01_k».proof.Proof.Gen.Pre_finite2
public import proofs.«01_k».proof.Proof.Gen.Pre_finite7
public import proofs.«01_k».proof.Proof.Gen.Reference10Ideal
public import proofs.«01_k».proof.Proof.Gen.Reference11Ideal
public import proofs.«01_k».proof.Proof.Gen.Reference12Ideal
public import proofs.«01_k».proof.Proof.Gen.Reference13Ideal
public import proofs.«01_k».proof.Proof.Gen.Reference14Ideal
public import proofs.«01_k».proof.Proof.Gen.Reference2Ideal
public import proofs.«01_k».proof.Proof.Gen.Reference3Ideal
public import proofs.«01_k».proof.Proof.Gen.Reference4Ideal
public import proofs.«01_k».proof.Proof.Gen.Reference5Ideal
public import proofs.«01_k».proof.Proof.Gen.Reference6Ideal
public import proofs.«01_k».proof.Proof.Gen.Reference7Ideal
public import proofs.«01_k».proof.Proof.Gen.Reference8Ideal
public import proofs.«01_k».proof.Proof.Gen.Reference9Ideal
public import proofs.«01_k».proof.Proof.Gen.Kernel10.Frame
public import proofs.«01_k».proof.Proof.Gen.Kernel10.Launch
public import proofs.«01_k».proof.Proof.Gen.Kernel10.Points
public import proofs.«01_k».proof.Proof.Gen.Kernel10.Skeleton
public import proofs.«01_k».proof.Proof.Gen.Kernel10Ideal.Frame
public import proofs.«01_k».proof.Proof.Gen.Kernel10Ideal.Launch
public import proofs.«01_k».proof.Proof.Gen.Kernel10Ideal.Points
public import proofs.«01_k».proof.Proof.Gen.Kernel10Ideal.Skeleton
public import proofs.«01_k».proof.Proof.Gen.Kernel10Ideal.Value
public import proofs.«01_k».proof.Proof.Gen.Kernel11.Frame
public import proofs.«01_k».proof.Proof.Gen.Kernel11.Launch
public import proofs.«01_k».proof.Proof.Gen.Kernel11.Points
public import proofs.«01_k».proof.Proof.Gen.Kernel11.Skeleton
public import proofs.«01_k».proof.Proof.Gen.Kernel11Ideal.Frame
public import proofs.«01_k».proof.Proof.Gen.Kernel11Ideal.Launch
public import proofs.«01_k».proof.Proof.Gen.Kernel11Ideal.Points
public import proofs.«01_k».proof.Proof.Gen.Kernel11Ideal.Skeleton
public import proofs.«01_k».proof.Proof.Gen.Kernel11Ideal.Value
public import proofs.«01_k».proof.Proof.Gen.Kernel12.Frame
public import proofs.«01_k».proof.Proof.Gen.Kernel12.Launch
public import proofs.«01_k».proof.Proof.Gen.Kernel12.Points
public import proofs.«01_k».proof.Proof.Gen.Kernel12.Skeleton
public import proofs.«01_k».proof.Proof.Gen.Kernel12Ideal.Frame
public import proofs.«01_k».proof.Proof.Gen.Kernel12Ideal.Launch
public import proofs.«01_k».proof.Proof.Gen.Kernel12Ideal.Points
public import proofs.«01_k».proof.Proof.Gen.Kernel12Ideal.Skeleton
public import proofs.«01_k».proof.Proof.Gen.Kernel12Ideal.Value
public import proofs.«01_k».proof.Proof.Gen.Kernel13.Launch
public import proofs.«01_k».proof.Proof.Gen.Kernel13.Points
public import proofs.«01_k».proof.Proof.Gen.Kernel13.Skeleton
public import proofs.«01_k».proof.Proof.Gen.Kernel13Ideal.Launch
public import proofs.«01_k».proof.Proof.Gen.Kernel13Ideal.Points
public import proofs.«01_k».proof.Proof.Gen.Kernel13Ideal.Skeleton
public import proofs.«01_k».proof.Proof.Gen.Kernel14.Frame
public import proofs.«01_k».proof.Proof.Gen.Kernel14.Launch
public import proofs.«01_k».proof.Proof.Gen.Kernel14.Points
public import proofs.«01_k».proof.Proof.Gen.Kernel14.Skeleton
public import proofs.«01_k».proof.Proof.Gen.Kernel14Ideal.Frame
public import proofs.«01_k».proof.Proof.Gen.Kernel14Ideal.Launch
public import proofs.«01_k».proof.Proof.Gen.Kernel14Ideal.Points
public import proofs.«01_k».proof.Proof.Gen.Kernel14Ideal.Skeleton
public import proofs.«01_k».proof.Proof.Gen.Kernel14Ideal.Value
public import proofs.«01_k».proof.Proof.Gen.Kernel2.Frame
public import proofs.«01_k».proof.Proof.Gen.Kernel2.Launch
public import proofs.«01_k».proof.Proof.Gen.Kernel2.Points
public import proofs.«01_k».proof.Proof.Gen.Kernel2.Skeleton
public import proofs.«01_k».proof.Proof.Gen.Kernel2Ideal.Frame
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Value
public import proofs.«01_k».proof.Proof.Gen.Kernel3.Frame
public import proofs.«01_k».proof.Proof.Gen.Kernel3.Launch
public import proofs.«01_k».proof.Proof.Gen.Kernel3.Points
public import proofs.«01_k».proof.Proof.Gen.Kernel3.Skeleton
public import proofs.«01_k».proof.Proof.Gen.Kernel3Ideal.Frame
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3Ideal.Value
public import proofs.«01_k».proof.Proof.Gen.Kernel4.Frame
public import proofs.«01_k».proof.Proof.Gen.Kernel4.Launch
public import proofs.«01_k».proof.Proof.Gen.Kernel4.Points
public import proofs.«01_k».proof.Proof.Gen.Kernel4.Skeleton
public import proofs.«01_k».proof.Proof.Gen.Kernel4Ideal.Frame
public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Kernel4Ideal.Value
public import proofs.«01_k».proof.Proof.Gen.Kernel5.Frame
public import proofs.«01_k».proof.Proof.Gen.Kernel5.Launch
public import proofs.«01_k».proof.Proof.Gen.Kernel5.Points
public import proofs.«01_k».proof.Proof.Gen.Kernel5.Skeleton
public import proofs.«01_k».proof.Proof.Gen.Kernel5Ideal.Frame
public import proofs.«01_k».proof.Proof.Gen.Kernel5Ideal.Launch
public import proofs.«01_k».proof.Proof.Gen.Kernel5Ideal.Points
public import proofs.«01_k».proof.Proof.Gen.Kernel5Ideal.Skeleton
public import proofs.«01_k».proof.Proof.Gen.Kernel5Ideal.Value
public import proofs.«01_k».proof.Proof.Gen.Kernel6.Frame
public import proofs.«01_k».proof.Proof.Gen.Kernel6.Launch
public import proofs.«01_k».proof.Proof.Gen.Kernel6.Points
public import proofs.«01_k».proof.Proof.Gen.Kernel6.Skeleton
public import proofs.«01_k».proof.Proof.Gen.Kernel6Ideal.Frame
public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Value
public import proofs.«01_k».proof.Proof.Gen.Kernel7.Frame
public import proofs.«01_k».proof.Proof.Gen.Kernel7.Launch
public import proofs.«01_k».proof.Proof.Gen.Kernel7.Points
public import proofs.«01_k».proof.Proof.Gen.Kernel7.Skeleton
public import proofs.«01_k».proof.Proof.Gen.Kernel7Ideal.Frame
public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Gen.Kernel7Ideal.Value
public import proofs.«01_k».proof.Proof.Gen.Kernel8.Frame
public import proofs.«01_k».proof.Proof.Gen.Kernel8.Launch
public import proofs.«01_k».proof.Proof.Gen.Kernel8.Points
public import proofs.«01_k».proof.Proof.Gen.Kernel8.Skeleton
public import proofs.«01_k».proof.Proof.Gen.Kernel8Ideal.Frame
public import proofs.«01_k».proof.Proof.Gen.Kernel8Ideal.Launch
public import proofs.«01_k».proof.Proof.Gen.Kernel8Ideal.Points
public import proofs.«01_k».proof.Proof.Gen.Kernel8Ideal.Skeleton
public import proofs.«01_k».proof.Proof.Gen.Kernel8Ideal.Value
public import proofs.«01_k».proof.Proof.Gen.Kernel9.Frame
public import proofs.«01_k».proof.Proof.Gen.Kernel9.Launch
public import proofs.«01_k».proof.Proof.Gen.Kernel9.Points
public import proofs.«01_k».proof.Proof.Gen.Kernel9.Skeleton
public import proofs.«01_k».proof.Proof.Gen.Kernel9Ideal.Frame
public import proofs.«01_k».proof.Proof.Gen.Kernel9Ideal.Launch
public import proofs.«01_k».proof.Proof.Gen.Kernel9Ideal.Points
public import proofs.«01_k».proof.Proof.Gen.Kernel9Ideal.Skeleton
public import proofs.«01_k».proof.Proof.Gen.Kernel9Ideal.Value
public import proofs.«01_k».proof.Proof.Gen.Reference10Ideal.Read
public import proofs.«01_k».proof.Proof.Gen.Reference10Ideal.Run
public import proofs.«01_k».proof.Proof.Gen.Reference11Ideal.Read
public import proofs.«01_k».proof.Proof.Gen.Reference11Ideal.Run
public import proofs.«01_k».proof.Proof.Gen.Reference12Ideal.Read
public import proofs.«01_k».proof.Proof.Gen.Reference12Ideal.Run
public import proofs.«01_k».proof.Proof.Gen.Reference13Ideal.Read
public import proofs.«01_k».proof.Proof.Gen.Reference13Ideal.Run
public import proofs.«01_k».proof.Proof.Gen.Reference14Ideal.Read
public import proofs.«01_k».proof.Proof.Gen.Reference14Ideal.Run
public import proofs.«01_k».proof.Proof.Gen.Reference2Ideal.Read
public import proofs.«01_k».proof.Proof.Gen.Reference2Ideal.Run
public import proofs.«01_k».proof.Proof.Gen.Reference3Ideal.Read
public import proofs.«01_k».proof.Proof.Gen.Reference3Ideal.Run
public import proofs.«01_k».proof.Proof.Gen.Reference4Ideal.Read
public import proofs.«01_k».proof.Proof.Gen.Reference4Ideal.Run
public import proofs.«01_k».proof.Proof.Gen.Reference5Ideal.Read
public import proofs.«01_k».proof.Proof.Gen.Reference5Ideal.Run
public import proofs.«01_k».proof.Proof.Gen.Reference6Ideal.Read
public import proofs.«01_k».proof.Proof.Gen.Reference6Ideal.Run
public import proofs.«01_k».proof.Proof.Gen.Reference7Ideal.Read
public import proofs.«01_k».proof.Proof.Gen.Reference7Ideal.Run
public import proofs.«01_k».proof.Proof.Gen.Reference8Ideal.Read
public import proofs.«01_k».proof.Proof.Gen.Reference8Ideal.Run
public import proofs.«01_k».proof.Proof.Gen.Reference9Ideal.Read
public import proofs.«01_k».proof.Proof.Gen.Reference9Ideal.Run
public import proofs.«01_k».proof.Proof.MlpClaim
public import proofs.«01_k».proof.Proof.Wgrad3
public import proofs.«01_k».proof.Proof.Wgrad4
public import proofs.«01_k».proof.Proof.Wgrad5
public import proofs.«01_k».proof.Proof.Wgrad6
public import proofs.«01_k».proof.Proof.FwdClaim
public import proofs.«01_k».proof.Proof.Adam8
public import proofs.«01_k».proof.Proof.Adam9
public import proofs.«01_k».proof.Proof.Adam10
public import proofs.«01_k».proof.Proof.Adam11
public import proofs.«01_k».proof.Proof.Adam12
public import proofs.«01_k».proof.Proof.SmallClaim
public import proofs.«01_k».proof.Proof.Reduce14
public import Idealize.ShloMosaic.Adequacy
public import Idealize.ShloMosaic.Init

@[expose] public section

noncomputable section

namespace Cert.Proof

open Idealize.ShloMosaic Idealize.SL.Sem

theorem claim : Cert.Claim :=
  ⟨Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel14.Gen.facts,
    Cert.Kernel14Ideal.Gen.facts,
    Cert.Reference14Ideal.Gen.facts,
    Cert.Kernel13.Gen.facts,
    Cert.Kernel13Ideal.Gen.facts,
    Cert.Reference13Ideal.Gen.facts,
    Cert.Pre_finite2.Gen.facts,
    Cert.Pre_finite7.Gen.facts,
    Cert.Pre_chip_named.Gen.facts,
    Cert.MlpBwd.frame_kernel,
    Cert.MlpBwd.frame_ideal,
    Cert.MlpBwd.frame_ideal_pre,
    Cert.MlpBwd.frame_reference,
    Cert.MlpBwd.frame_reference_pre,
    Cert.Wgrad.frame_kernel3,
    Cert.Wgrad.frame_ideal3,
    Cert.Wgrad.frame_reference3,
    Cert.Wgrad.frame_kernel4,
    Cert.Wgrad.frame_ideal4,
    Cert.Wgrad.frame_reference4,
    Cert.Wgrad.frame_kernel5,
    Cert.Wgrad.frame_ideal5,
    Cert.Wgrad.frame_reference5,
    Cert.Wgrad.frame_kernel6,
    Cert.Wgrad.frame_ideal6,
    Cert.Wgrad.frame_reference6,
    Cert.MlpFwd.frame_kernel,
    Cert.MlpFwd.frame_ideal,
    Cert.MlpFwd.frame_ideal_pre,
    Cert.MlpFwd.frame_reference,
    Cert.MlpFwd.frame_reference_pre,
    Cert.Adam.frame_kernel8,
    Cert.Adam.frame_ideal8,
    Cert.Adam.frame_reference8,
    Cert.Adam.frame_kernel9,
    Cert.Adam.frame_ideal9,
    Cert.Adam.frame_reference9,
    Cert.Adam.frame_kernel10,
    Cert.Adam.frame_ideal10,
    Cert.Adam.frame_reference10,
    Cert.Adam.frame_kernel11,
    Cert.Adam.frame_ideal11,
    Cert.Adam.frame_reference11,
    Cert.Adam.frame_kernel12,
    Cert.Adam.frame_ideal12,
    Cert.Adam.frame_reference12,
    Cert.Reduce.frame_kernel14,
    Cert.Reduce.frame_ideal14,
    Cert.Reduce.frame_reference14,
    Cert.Small.frame_kernel13,
    Cert.Small.frame_ideal13,
    Cert.Small.frame_reference13,
    Cert.Small.frame_reference_pre13,
    trivial,
    Cert.MlpBwd.algebraic,
    trivial,
    Cert.Wgrad.algebraic3,
    trivial,
    Cert.Wgrad.algebraic4,
    trivial,
    Cert.Wgrad.algebraic5,
    trivial,
    Cert.Wgrad.algebraic6,
    trivial,
    Cert.MlpFwd.algebraic,
    trivial,
    Cert.Adam.algebraic8,
    trivial,
    Cert.Adam.algebraic9,
    trivial,
    Cert.Adam.algebraic10,
    trivial,
    Cert.Adam.algebraic11,
    trivial,
    Cert.Adam.algebraic12,
    trivial,
    Cert.Reduce.algebraic14,
    trivial,
    Cert.Small.algebraic13⟩

end Cert.Proof

end
